-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v50)) (v3 : (c : Dev Cert.KernelIdeal.nD) → Buf (Elt Ideal) ((c.tc : Thread Cert.KernelIdeal.nD Cert.KernelIdeal.τ).loc Cert.KernelIdeal.main_v52)) (v4 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_v52) = v3 c
          ∧ r.2.mem ((c.tc : Thread Cert.KernelIdeal.nD Cert.KernelIdeal.τ).loc Cert.KernelIdeal.main_v47) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_v27) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v23) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_Kernel_pre_finite (hKernel := hKernel) (hPre_finite := hPre_finite)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x4096x8x128 : Shape := ⟨4, ![2, 4096, 8, 128]⟩
abbrev S2x4096x1024 : Shape := ⟨3, ![2, 4096, 1024]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x8x32 : S_.BroadcastsInDim S2x4096x8x32 (![] : Fin 0 → Fin S2x4096x8x32.rank)
  reducesTo_S2x4096x8x32_S_d0_1_2_3 : S2x4096x8x32.ReducesTo [0, 1, 2, 3] S_
  bcast_S_S2x4096x32 : S_.BroadcastsInDim S2x4096x32 (![] : Fin 0 → Fin S2x4096x32.rank)
  reducesTo_S2x4096x32_S_d0_1_2 : S2x4096x32.ReducesTo [0, 1, 2] S_
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part1 {F : FTy → Type} [FloatOps F] (main_arg4 : FVec F S2x4096x8x128 .f32) (main_arg5 : FVec F S2x4096x1024 .f32) (main_v3 : IVec S_ 1) (main_v7 : IVec S_ 1) (main_v11 : IVec S_ 1) (main_v15 : IVec S_ 1) : IVec S_ 1 :=
  let main_v16 : FVec F S2x4096x8x128 .f32 := Host.absf main_arg4
  let main_cst_6 : FVec F S_ .f32 := constant S_ .f32 0x7F800000#32
  let main_v17 : FVec F S2x4096x8x128 .f32 := broadcastInDim S2x4096x8x128 ![] bcast_S_S2x4096x8x128 main_cst_6
  let main_v18 : IVec S2x4096x8x128 1 := cmpf .olt main_v16 main_v17
  let main_c_7 : IVec S_ 1 := constantI S_ 1 1#1
  let main_v19 : IVec S_ 1 := (fun x v => Host.reduce IntOp.andi x v reducesTo_S2x4096x8x128_S_d0_1_2_3 h_S_) main_v18 main_c_7
  let main_v20 : FVec F S2x4096x1024 .f32 := Host.absf main_arg5
  let main_cst_8 : FVec F S_ .f32 := constant S_ .f32 0x7F800000#32
  let main_v21 : FVec F S2x4096x1024 .f32 := broadcastInDim S2x4096x1024 ![] bcast_S_S2x4096x1024 main_cst_8
  let main_v22 : IVec S2x4096x1024 1 := cmpf .olt main_v20 main_v21
  let main_c_9 : IVec S_ 1 := constantI S_ 1 1#1
  let main_v23 : IVec S_ 1 := (fun x v => Host.reduce IntOp.andi x v reducesTo_S2x4096x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x4096x8x64 .f32) (main_arg1 : FVec F S2x4096x8x32 .f32) (main_arg2 : FVec F S2x4096x8x64 .f32) (main_arg3 : FVec F S2x4096x32 .f32) (main_arg4 : FVec F S2x4096x8x128 .f32) (main_arg5 : FVec F S2x4096x1024 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x32 .f32 := Host.absf main_arg1
  let main_cst_0 : FVec F S_ .f32 := constant S_ .f32 0x7F800000#32
  let main_v5 : FVec F S2x4096x8x32 .f32 := broadcastInDim S2x4096x8x32 ![] bcast_S_S2x4096x8x32 main_cst_0
  let main_v6 : IVec S2x4096x8x32 1 := cmpf .olt main_v4 main_v5
  let main_c_1 : IVec S_ 1 := constantI S_ 1 1#1
  let main_v7 : IVec S_ 1 := (fun x v => Host.reduce IntOp.andi x v reducesTo_S2x4096x8x32_S_d0_1_2_3 h_S_) main_v6 main_c_1
  let main_v8 : FVec F S2x4096x8x64 .f32 := Host.absf main_arg2
  let main_cst_2 : FVec F S_ .f32 := constant S_ .f32 0x7F800000#32
  let main_v9 : FVec F S2x4096x8x64 .f32 := broadcastInDim S2x4096x8x64 ![] bcast_S_S2x4096x8x64 main_cst_2
  let main_v10 : IVec S2x4096x8x64 1 := cmpf .olt main_v8 main_v9
  let main_c_3 : IVec S_ 1 := constantI S_ 1 1#1
  let main_v11 : IVec S_ 1 := (fun x v => Host.reduce IntOp.andi x v reducesTo_S2x4096x8x64_S_d0_1_2_3 h_S_) main_v10 main_c_3
  let main_v12 : FVec F S2x4096x32 .f32 := Host.absf main_arg3
  let main_cst_4 : FVec F S_ .f32 := constant S_ .f32 0x7F800000#32
  let main_v13 : FVec F S2x4096x32 .f32 := broadcastInDim S2x4096x32 ![] bcast_S_S2x4096x32 main_cst_4
  let main_v14 : IVec S2x4096x32 1 := cmpf .olt main_v12 main_v13
  let main_c_5 : IVec S_ 1 := constantI S_ 1 1#1
  let main_v15 : IVec S_ 1 := (fun x v => Host.reduce IntOp.andi x v reducesTo_S2x4096x32_S_d0_1_2 h_S_) main_v14 main_c_5
  fn_part1 (F := F) main_arg4 main_arg5 main_v3 main_v7 main_v11 main_v15
-- ==== Kernel.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x4096x8x128 : Shape := ⟨4, ![2, 4096, 8, 128]⟩
abbrev S2x4096x1024 : Shape := ⟨3, ![2, 4096, 1024]⟩
abbrev S_ : Shape := ⟨0, ![]⟩
abbrev S2x4096x1x32 : Shape := ⟨4, ![2, 4096, 1, 32]⟩
abbrev S2x8x4096x4096 : Shape := ⟨4, ![2, 8, 4096, 4096]⟩
abbrev S2x4096x4096x8 : Shape := ⟨4, ![2, 4096, 4096, 8]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S1x4096x256 : Shape := ⟨3, ![1, 4096, 256]⟩
abbrev S1x1024x256 : Shape := ⟨3, ![1, 1024, 256]⟩
abbrev S1x2x4096x1 : Shape := ⟨4, ![1, 2, 4096, 1]⟩
abbrev S4096x256 : Shape := ⟨2, ![4096, 256]⟩
abbrev S1024x128 : Shape := ⟨2, ![1024, 128]⟩
abbrev S1x1024x128 : Shape := ⟨3, ![1, 1024, 128]⟩
abbrev S1024x1024 : Shape := ⟨2, ![1024, 1024]⟩
abbrev S1x1x1024x1 : Shape := ⟨4, ![1, 1, 1024, 1]⟩
abbrev S1024x1 : Shape := ⟨2, ![1024, 1]⟩
abbrev S1024 : Shape := ⟨1, ![1024]⟩

abbrev nBuf : Space → Nat
  | .hbm => 71
  | .vmem => 19
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x32, .f32⟩
  | .hbm, ⟨4, _⟩ => ⟨S2x4096x8x128, .f32⟩
  | .hbm, ⟨5, _⟩ => ⟨S2x4096x1024, .f32⟩
  | .hbm, ⟨6, _⟩ => ⟨S_, .f32⟩
  | .hbm, ⟨7, _⟩ => ⟨S2x4096x8x32, .f32⟩
  | .hbm, ⟨8, _⟩ => ⟨S2x4096x1x32, .f32⟩
  | .hbm, ⟨9, _⟩ => ⟨S2x4096x8x32, .f32⟩
  | .hbm, ⟨10, _⟩ => ⟨S2x4096x8x128, .f32⟩
  | .hbm, ⟨11, _⟩ => ⟨S_, .f32⟩
  | .hbm, ⟨12, _⟩ => ⟨S2x4096x8x128, .f32⟩
  | .hbm, ⟨13, _⟩ => ⟨S2x4096x8x128, .f32⟩
  | .hbm, ⟨14, _⟩ => ⟨S2x4096x1024, .f32⟩
  | .hbm, ⟨15, _⟩ => ⟨S2x4096x1024, .bf16⟩
  | .hbm, ⟨16, _⟩ => ⟨S2x4096x8x128, .f32⟩
  | .hbm, ⟨17, _⟩ => ⟨S2x4096x1024, .f32⟩
  | .hbm, ⟨18, _⟩ => ⟨S2x4096x1024, .bf16⟩
  | .hbm, ⟨19, _⟩ => ⟨S2x8x4096x4096, .f32⟩
  | .hbm, ⟨20, _⟩ => ⟨S2x4096x4096x8, .f32⟩
  | .hbm, ⟨21, _⟩ => ⟨S2x8x4096x4096, .f32⟩
  | .hbm, ⟨22, _⟩ => ⟨S2x8x4096x4096, .f32⟩
  | .hbm, ⟨23, _⟩ => ⟨S_, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .i32⟩
  | .hbm, ⟨27, _⟩ => ⟨S2x8x4096x4096, .i32⟩
  | .hbm, ⟨28, _⟩ => ⟨S2x8x4096x4096, .i1⟩
  | .hbm, ⟨29, _⟩ => ⟨S_, .f32⟩
  | .hbm, ⟨30, _⟩ => ⟨S_, .f32⟩
  | .hbm, ⟨31, _⟩ => ⟨S2x8x4096x4096, .f32⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S2x8x4096x1, .f32⟩
  | .hbm, ⟨42, _⟩ => ⟨S2x8x4096x1, .f32⟩
  | .hbm, ⟨43, _⟩ => ⟨S2x8x4096x1, .f32⟩
  | .hbm, ⟨44, _⟩ => ⟨S2x8x4096x4096, .f32⟩
  | .hbm, ⟨45, _⟩ => ⟨S2x8x4096x4096, .f32⟩
  | .hbm, ⟨46, _⟩ => ⟨S2x8x128x4096, .f32⟩
  | .hbm, ⟨47, _⟩ => ⟨S2x4096x8x128, .f32⟩
  | .hbm, ⟨48, _⟩ => ⟨S2x4096x1024, .f32⟩
  | .hbm, ⟨49, _⟩ => ⟨S2x4096x1024, .bf16⟩
  | .hbm, ⟨50, _⟩ => ⟨S2x4096x1024, .f32⟩
  | .hbm, ⟨51, _⟩ => ⟨S2x4096x1024, .bf16⟩
  | .hbm, ⟨52, _⟩ => ⟨S2x4096x1024, .bf16⟩
  | .hbm, ⟨53, _⟩ => ⟨S2x4096x1024, .bf16⟩
  | .hbm, ⟨54, _⟩ => ⟨S2x4096x1024, .bf16⟩
  | .hbm, ⟨55, _⟩ => ⟨S2x4096x1024, .bf16⟩
  | .hbm, ⟨56, _⟩ => ⟨S2x4096x1024, .f32⟩
  | .hbm, ⟨57, _⟩ => ⟨S2x4096x8x128, .f32⟩
  | .hbm, ⟨58, _⟩ => ⟨S_, .f32⟩
  | .hbm, ⟨59, _⟩ => ⟨S2x4096x8x128, .f32⟩
  | .hbm, ⟨60, _⟩ => ⟨S2x4096x8x128, .f32⟩
  | .hbm, ⟨61, _⟩ => ⟨S2x4096x1024, .f32⟩
  | .hbm, ⟨62, _⟩ => ⟨S2x4096x8x128, .f32⟩
  | .hbm, ⟨63, _⟩ => ⟨S2x4096x1024, .f32⟩
  | .hbm, ⟨64, _⟩ => ⟨S2x4096x8x128, .f32⟩
  | .hbm, ⟨65, _⟩ => ⟨S2x4096x8x64, .f32⟩
  | .hbm, ⟨66, _⟩ => ⟨S2x4096x8x32, .f32⟩
  | .hbm, ⟨67, _⟩ => ⟨S2x4096x8x64, .f32⟩
  | .hbm, ⟨68, _⟩ => ⟨S2x4096x8x32, .f32⟩
  | .hbm, ⟨69, _⟩ => ⟨S_, .f32⟩
  | .hbm, ⟨70, _⟩ => ⟨S2x4096x32, .f32⟩
  | .local _ .vmem, ⟨0, _⟩ => ⟨S1x4096x256, .bf16⟩
  | .local _ .vmem, ⟨1, _⟩ => ⟨S1x4096x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x2x4096x1, .f32⟩
  | .local _ .vmem, ⟨11, _⟩ => ⟨S1x2x4096x1, .f32⟩
  | .local _ .vmem, ⟨12, _⟩ => ⟨S1x4096x256, .bf16⟩
  | .local _ .vmem, ⟨13, _⟩ => ⟨S1x4096x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S4096x256, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 4], ![false, false, false]⟩

def k0_mult1 (i : grid0.Coords) : BitVec 32 :=
  let arg2 : BitVec 32 := BitVec.ofNat 32 (i 2).val
  let c1024_i32 : BitVec 32 := 1024#32
  let v4 : BitVec 32 := Scalar.muli arg2 c1024_i32
  v4
def k0_off1 (i : grid0.Coords) : Fin 3 → Nat :=
  let c0_3 : Index := 0#32
  let arg2 : BitVec 32 := BitVec.ofNat 32 (i 2).val
  let c1024_i32 : BitVec 32 := 1024#32
  let v4 : BitVec 32 := Scalar.muli arg2 c1024_i32
  let v5 : BitVec 32 := v4
  let v8 : Index := Scalar.indexCast v5
  let c0_4 : Index := 0#32
  ![0, v8.toNat, 0]
def k0_off2 (i : grid0.Coords) : Fin 4 → Nat :=
  let c0_9 : Index := 0#32
  let c0_10 : Index := 0#32
  let arg2 : BitVec 32 := BitVec.ofNat 32 (i 2).val
  let c1024_i32 : BitVec 32 := 1024#32
  let v4 : BitVec 32 := Scalar.muli arg2 c1024_i32
  let v5 : BitVec 32 := v4
  let v20 : Index := Scalar.indexCast v5
  let c0_11 : Index := 0#32
  ![0, 0, v20.toNat, 0]
def k0_off3 (i : grid0.Coords) : Fin 2 → Nat :=
  let arg2 : BitVec 32 := BitVec.ofNat 32 (i 2).val
  let c1024_i32 : BitVec 32 := 1024#32
  let v4 : BitVec 32 := Scalar.muli arg2 c1024_i32
  let v5 : BitVec 32 := v4
  let v46 : Index := Scalar.indexCast v5
  let c0_21 : Index := 0#32
  ![v46.toNat, 0]
def k0_off4 (i : grid0.Coords) : Fin 3 → Nat :=
  let c0_26 : Index := 0#32
  let arg2 : BitVec 32 := BitVec.ofNat 32 (i 2).val
  let c1024_i32 : BitVec 32 := 1024#32
  let v4 : BitVec 32 := Scalar.muli arg2 c1024_i32
  let v5 : BitVec 32 := v4
  let v56 : Index := Scalar.indexCast v5
  let c128_27 : Index := 128#32
  ![0, v56.toNat, 128]
def k0_off5 (i : grid0.Coords) : Fin 4 → Nat :=
  let c0_32 : Index := 0#32
  let c1 : Index := 1#32
  let arg2 : BitVec 32 := BitVec.ofNat 32 (i 2).val
  let c1024_i32 : BitVec 32 := 1024#32
  let v4 : BitVec 32 := Scalar.muli arg2 c1024_i32
  let v5 : BitVec 32 := v4
  let v68 : Index := Scalar.indexCast v5
  let c0_33 : Index := 0#32
  ![0, 1, v68.toNat, 0]
def k0_off6 (i : grid0.Coords) : Fin 2 → Nat :=
  let arg2 : BitVec 32 := BitVec.ofNat 32 (i 2).val
  let c1024_i32 : BitVec 32 := 1024#32
  let v4 : BitVec 32 := Scalar.muli arg2 c1024_i32
  let v5 : BitVec 32 := v4
  let v94 : Index := Scalar.indexCast v5
  let c128_43 : Index := 128#32
  ![v94.toNat, 128]
@[reducible] def k0_t1_loop (i : grid0.Coords) : Scf.Loop 32 :=
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_47 : BitVec 32 := 1#32
  ⟨v102, v107, c1_i32_47⟩
def k0_mult2 (i : grid0.Coords) (k0_t1 : Fin (k0_t1_loop i).trips) : BitVec 32 :=
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  v129
def k0_off7 (i : grid0.Coords) (k0_t1 : Fin (k0_t1_loop i).trips) : Fin 3 → Nat :=
  let c0_66 : Index := 0#32
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  let v130 : BitVec 32 := v129
  let v133 : Index := Scalar.indexCast v130
  let c0_67 : Index := 0#32
  ![0, v133.toNat, 0]
def k0_off8 (i : grid0.Coords) (k0_t1 : Fin (k0_t1_loop i).trips) : Fin 4 → Nat :=
  let c0_71 : Index := 0#32
  let c0_72 : Index := 0#32
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  let v130 : BitVec 32 := v129
  let v140 : Index := Scalar.indexCast v130
  let c0_73 : Index := 0#32
  ![0, 0, v140.toNat, 0]
def k0_off9 (i : grid0.Coords) (k0_t1 : Fin (k0_t1_loop i).trips) : Fin 2 → Nat :=
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  let v130 : BitVec 32 := v129
  let v166 : Index := Scalar.indexCast v130
  let c0_83 : Index := 0#32
  ![v166.toNat, 0]
def k0_off10 (i : grid0.Coords) (k0_t1 : Fin (k0_t1_loop i).trips) : Fin 3 → Nat :=
  let c0_89 : Index := 0#32
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  let v130 : BitVec 32 := v129
  let v176 : Index := Scalar.indexCast v130
  let c128_90 : Index := 128#32
  ![0, v176.toNat, 128]
def k0_off11 (i : grid0.Coords) (k0_t1 : Fin (k0_t1_loop i).trips) : Fin 4 → Nat :=
  let c0_94 : Index := 0#32
  let c1_95 : Index := 1#32
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  let v130 : BitVec 32 := v129
  let v183 : Index := Scalar.indexCast v130
  let c0_96 : Index := 0#32
  ![0, 1, v183.toNat, 0]
def k0_off12 (i : grid0.Coords) (k0_t1 : Fin (k0_t1_loop i).trips) : Fin 2 → Nat :=
  let arg2 : BitVec 32 := BitVec.ofNat 32 (i 2).val
  let c1_i32 : BitVec 32 := 1#32
  let v102 : BitVec 32 := Scalar.addi arg2 c1_i32
  let c1_i32_47 : BitVec 32 := 1#32
  let arg13 : BitVec 32 := Scf.iv v102 c1_i32_47 k0_t1
  let c1024_i32_62 : BitVec 32 := 1024#32
  let v129 : BitVec 32 := Scalar.muli arg13 c1024_i32_62
  let v130 : BitVec 32 := v129
  let v209 : Index := Scalar.indexCast v130
  let c128_106 : Index := 128#32
  ![v209.toNat, 128]
@[reducible] def k0_t2_loop (i : grid0.Coords) : Scf.Loop 32 :=
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let v104 : BitVec 32 := Scalar.addi v102 v103
  let c1_i32_48 : BitVec 32 := 1#32
  ⟨v107, v104, c1_i32_48⟩
def k0_mult3 (i : grid0.Coords) (k0_t2 : Fin (k0_t2_loop i).trips) : BitVec 32 :=
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  v129
def k0_off13 (i : grid0.Coords) (k0_t2 : Fin (k0_t2_loop i).trips) : Fin 3 → Nat :=
  let c0_66 : Index := 0#32
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  let v130 : BitVec 32 := v129
  let v133 : Index := Scalar.indexCast v130
  let c0_67 : Index := 0#32
  ![0, v133.toNat, 0]
def k0_off14 (i : grid0.Coords) (k0_t2 : Fin (k0_t2_loop i).trips) : Fin 4 → Nat :=
  let c0_71 : Index := 0#32
  let c0_72 : Index := 0#32
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  let v130 : BitVec 32 := v129
  let v140 : Index := Scalar.indexCast v130
  let c0_73 : Index := 0#32
  ![0, 0, v140.toNat, 0]
def k0_off15 (i : grid0.Coords) (k0_t2 : Fin (k0_t2_loop i).trips) : Fin 2 → Nat :=
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  let v130 : BitVec 32 := v129
  let v166 : Index := Scalar.indexCast v130
  let c0_83 : Index := 0#32
  ![v166.toNat, 0]
def k0_off16 (i : grid0.Coords) (k0_t2 : Fin (k0_t2_loop i).trips) : Fin 3 → Nat :=
  let c0_89 : Index := 0#32
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  let v130 : BitVec 32 := v129
  let v176 : Index := Scalar.indexCast v130
  let c128_90 : Index := 128#32
  ![0, v176.toNat, 128]
def k0_off17 (i : grid0.Coords) (k0_t2 : Fin (k0_t2_loop i).trips) : Fin 4 → Nat :=
  let c0_94 : Index := 0#32
  let c1_95 : Index := 1#32
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  let v130 : BitVec 32 := v129
  let v183 : Index := Scalar.indexCast v130
  let c0_96 : Index := 0#32
  ![0, 1, v183.toNat, 0]
def k0_off18 (i : grid0.Coords) (k0_t2 : Fin (k0_t2_loop i).trips) : Fin 2 → Nat :=
  let arg2 : BitVec 32 := BitVec.ofNat 32 (i 2).val
  let c1_i32 : BitVec 32 := 1#32
  let v102 : BitVec 32 := Scalar.addi arg2 c1_i32
  let c4_i32 : BitVec 32 := 4#32
  let v103 : BitVec 32 := Scalar.subi c4_i32 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg13 : BitVec 32 := Scf.iv v107 c1_i32_48 k0_t2
  let c1024_i32_62 : BitVec 32 := 1024#32
  let v129 : BitVec 32 := Scalar.muli arg13 c1024_i32_62
  let v130 : BitVec 32 := v129
  let v209 : Index := Scalar.indexCast v130
  let c128_106 : Index := 128#32
  ![v209.toNat, 128]
def k0_cond2 (i : grid0.Coords) : BitVec 1 :=
  let arg2 : BitVec 32 := BitVec.ofNat 32 (i 2).val
  let c3_i32 : BitVec 32 := 3#32
  let v126 : BitVec 1 := Scalar.cmpi .eq arg2 c3_i32
  let v127 : BitVec 32 := Scalar.extui v126
  let c0_i32_61 : BitVec 32 := 0#32
  let v128 : BitVec 1 := Scalar.cmpi .ne v127 c0_i32_61
  v128

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x4096x8x128 : Shape := ⟨4, ![2, 4096, 8, 128]⟩
abbrev S2x4096x1024 : Shape := ⟨3, ![2, 4096, 1024]⟩
abbrev S2x8x4096x4096 : Shape := ⟨4, ![2, 8, 4096, 4096]⟩
abbrev S2x4096x4096x8 : Shape := ⟨4, ![2, 4096, 4096, 8]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x8x4096x64 : Shape := ⟨4, ![2, 8, 4096, 64]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x32, .f32⟩
  | .hbm, ⟨4, _⟩ => ⟨S2x4096x8x128, .f32⟩
  | .hbm, ⟨5, _⟩ => ⟨S2x4096x1024, .f32⟩
  | .hbm, ⟨6, _⟩ => ⟨S2x8x4096x4096, .f32⟩
  | .hbm, ⟨7, _⟩ => ⟨S2x4096x4096x8, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S2x8x4096x4096, .i32⟩
  | .hbm, ⟨14, _⟩ => ⟨S2x8x4096x4096, .i32⟩
  | .hbm, ⟨15, _⟩ => ⟨S2x8x4096x4096, .i1⟩
  | .hbm, ⟨16, _⟩ => ⟨S_, .f32⟩
  | .hbm, ⟨17, _⟩ => ⟨S_, .f32⟩
  | .hbm, ⟨18, _⟩ => ⟨S2x8x4096x4096, .f32⟩
  | .hbm, ⟨19, _⟩ => ⟨S2x8x4096x4096, .f32⟩
  | .hbm, ⟨20, _⟩ => ⟨S_, .f32⟩
  | .hbm, ⟨21, _⟩ => ⟨S2x8x4096x4096, .f32⟩
  | .hbm, ⟨22, _⟩ => ⟨S_, .f32⟩
  | .hbm, ⟨23, _⟩ => ⟨S2x8x4096, .f32⟩
  | .hbm, ⟨24, _⟩ => ⟨S2x8x4096x1, .f32⟩
  | .hbm, ⟨25, _⟩ => ⟨S2x8x4096x4096, .f32⟩
  | .hbm, ⟨26, _⟩ => ⟨S2x8x4096x4096, .i1⟩
  | .hbm, ⟨27, _⟩ => ⟨S2x8x4096x4096, .f32⟩
  | .hbm, ⟨28, _⟩ => ⟨S_, .f32⟩
  | .hbm, ⟨29, _⟩ => ⟨S2x8x4096, .f32⟩
  | .hbm, ⟨30, _⟩ => ⟨S_, .f32⟩
  | .hbm, ⟨31, _⟩ => ⟨S2x8x4096, .f32⟩
  | .hbm, ⟨32, _⟩ => ⟨S2x8x4096, .f32⟩
  | .hbm, ⟨33, _⟩ => ⟨S_, .f32⟩
  | .hbm, ⟨34, _⟩ => ⟨S2x8x4096, .f32⟩
  | .hbm, ⟨35, _⟩ => ⟨S2x8x4096, .i1⟩
  | .hbm, ⟨36, _⟩ => ⟨S_, .f32⟩
  | .hbm, ⟨37, _⟩ => ⟨S2x8x4096, .f32⟩
  | .hbm, ⟨38, _⟩ => ⟨S2x8x4096, .i1⟩
  | .hbm, ⟨39, _⟩ => ⟨S_, .f32⟩
  | .hbm, ⟨40, _⟩ => ⟨S2x8x4096, .f32⟩
  | .hbm, ⟨41, _⟩ => ⟨S_, .f32⟩
  | .hbm, ⟨42, _⟩ => ⟨S2x8x4096, .f32⟩
  | .hbm, ⟨43, _⟩ => ⟨S_, .f32⟩
  | .hbm, ⟨44, _⟩ => ⟨S2x8x4096, .f32⟩
  | .hbm, ⟨45, _⟩ => ⟨S2x8x4096, .f32⟩
  | .hbm, ⟨46, _⟩ => ⟨S2x8x4096, .f32⟩
  | .hbm, ⟨47, _⟩ => ⟨S2x8x4096x1, .f32⟩
  | .hbm, ⟨48, _⟩ => ⟨S2x8x4096x4096, .f32⟩
  | .hbm, ⟨49, _⟩ => ⟨S2x8x4096x4096, .f32⟩
  | .hbm, ⟨50, _⟩ => ⟨S2x8x4096x4096, .f32⟩
  | .hbm, ⟨51, _⟩ => ⟨S_, .f32⟩
  | .hbm, ⟨52, _⟩ => ⟨S2x8x4096, .f32⟩
  | .hbm, ⟨53, _⟩ => ⟨S2x8x4096x1, .f32⟩
  | .hbm, ⟨54, _⟩ => ⟨S2x8x4096x4096, .f32⟩
  | .hbm, ⟨55, _⟩ => ⟨S2x8x4096x4096, .f32⟩
  | .hbm, ⟨56, _⟩ => ⟨S2x8x4096x1, .f32⟩
  | .hbm, ⟨57, _⟩ => ⟨S_, .f32⟩
  | .hbm, ⟨58, _⟩ => ⟨S2x8x4096x1, .f32⟩
  | .hbm, ⟨59, _⟩ => ⟨S2x8x4096x1, .f32⟩
  | .hbm, ⟨60, _⟩ => ⟨S2x8x128x4096, .f32⟩
  | .hbm, ⟨61, _⟩ => ⟨S2x4096x8x128, .f32⟩
  | .hbm, ⟨62, _⟩ => ⟨S2x4096x1024, .f32⟩
  | .hbm, ⟨63, _⟩ => ⟨S2x4096x8x128, .f32⟩
  | .hbm, ⟨64, _⟩ => ⟨S2x8x128x4096, .f32⟩
  | .hbm, ⟨65, _⟩ => ⟨S2x8x4096x4096, .f32⟩
  | .hbm, ⟨66, _⟩ => ⟨S2x8x128x4096, .f32⟩
  | .hbm, ⟨67, _⟩ => ⟨S2x4096x8x128, .f32⟩
  | .hbm, ⟨68, _⟩ => ⟨S2x8x4096x4096, .f32⟩
  | .hbm, ⟨69, _⟩ => ⟨S2x8x4096x4096, .f32⟩
  | .hbm, ⟨70, _⟩ => ⟨S2x8x4096x4096, .f32⟩
  | .hbm, ⟨71, _⟩ => ⟨S_, .f32⟩
  | .hbm, ⟨72, _⟩ => ⟨S2x8x4096, .f32⟩
  | .hbm, ⟨73, _⟩ => ⟨S2x8x4096x1, .f32⟩
  | .hbm, ⟨74, _⟩ => ⟨S2x8x4096x1, .f32⟩
  | .hbm, ⟨75, _⟩ => ⟨S2x8x4096x4096, .f32⟩
  | .hbm, ⟨76, _⟩ => ⟨S2x8x4096x4096, .f32⟩
  | .hbm, ⟨77, _⟩ => ⟨S_, .f32⟩
  | .hbm, ⟨78, _⟩ => ⟨S2x8x4096, .f32⟩
  | .hbm, ⟨79, _⟩ => ⟨S2x8x4096x4096, .f32⟩
  | .hbm, ⟨80, _⟩ => ⟨S2x8x4096x4096, .f32⟩
  | .hbm, ⟨81, _⟩ => ⟨S2x8x4096x4096, .f32⟩
  | .hbm, ⟨82, _⟩ => ⟨S_, .f32⟩
  | .hbm, ⟨83, _⟩ => ⟨S2x8x4096x4096, .f32⟩
  | .hbm, ⟨84, _⟩ => ⟨S2x8x4096x4096, .f32⟩
  | .hbm, ⟨85, _⟩ => ⟨S_, .f32⟩
  | .hbm, ⟨86, _⟩ => ⟨S2x8x4096x4096, .f32⟩
  | .hbm, ⟨87, _⟩ => ⟨S2x8x4096x4096, .f32⟩
  | .hbm, ⟨88, _⟩ => ⟨S2x4096x4096x8, .f32⟩
  | .hbm, ⟨89, _⟩ => ⟨S2x4096x8x32, .f32⟩
  | .hbm, ⟨90, _⟩ => ⟨S2x4096x32, .f32⟩
  | .hbm, ⟨91, _⟩ => ⟨S2x8x4096x64, .f32⟩
  | .hbm, ⟨92, _⟩ => ⟨S2x4096x8x64, .f32⟩
  | .hbm, ⟨93, _⟩ => ⟨S2x8x4096x64, .f32⟩
  | .hbm, ⟨94, _⟩ => ⟨S2x4096x8x64, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v9_0 : Ref sig .tc := ⟨.hbm, 19, rfl⟩
abbrev main_call0_cst : Ref sig .tc := ⟨.hbm, 20, rfl⟩
abbrev main_v9_1 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x4096x2816 : Shape := ⟨3, ![2, 4096, 2816]⟩
abbrev S_ : Shape := ⟨0, ![]⟩
abbrev S2x1x1024 : Shape := ⟨3, ![2, 1, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 23
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2816, .f32⟩
  | .hbm, ⟨2, _⟩ => ⟨S2x4096x1024, .f32⟩
  | .hbm, ⟨3, _⟩ => ⟨S2x4096x2816, .f32⟩
  | .hbm, ⟨4, _⟩ => ⟨S2x4096x2816, .f32⟩
  | .hbm, ⟨5, _⟩ => ⟨S_, .f32⟩
  | .hbm, ⟨6, _⟩ => ⟨S2x1x1024, .f32⟩
  | .hbm, ⟨7, _⟩ => ⟨S8192x1024, .f32⟩
  | .hbm, ⟨8, _⟩ => ⟨S8192x1024, .bf16⟩
  | .hbm, ⟨9, _⟩ => ⟨S8192x4x704, .f32⟩
  | .hbm, ⟨10, _⟩ => ⟨S4x8192x704, .f32⟩
  | .hbm, ⟨11, _⟩ => ⟨S4x8192x704, .bf16⟩
  | .hbm, ⟨12, _⟩ => ⟨S8192x1024, .f32⟩
  | .hbm, ⟨13, _⟩ => ⟨S8192x1024, .bf16⟩
  | .hbm, ⟨14, _⟩ => ⟨S8192x4x704, .f32⟩
  | .hbm, ⟨15, _⟩ => ⟨S4x8192x704, .f32⟩
  | .hbm, ⟨16, _⟩ => ⟨S4x8192x704, .bf16⟩
  | .hbm, ⟨17, _⟩ => ⟨S8192x4x704, .f32⟩
  | .hbm, ⟨18, _⟩ => ⟨S4x8192x704, .f32⟩
  | .hbm, ⟨19, _⟩ => ⟨S4x8192x704, .bf16⟩
  | .hbm, ⟨20, _⟩ => ⟨S4x704x1024, .bf16⟩
  | .hbm, ⟨21, _⟩ => ⟨S4x704x1024, .bf16⟩
  | .hbm, ⟨22, _⟩ => ⟨S4x704x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S2048x1024, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S704x1024, .f32⟩
  | .local _ .vmem, ⟨17, _⟩ => ⟨S704x1024, .f32⟩
  | .local _ .vmem, ⟨18, _⟩ => ⟨S704x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_27 : BitVec 32 := 0#32
  let v33 : BitVec 1 := Scalar.cmpi .ne v32 c0_i32_27
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x4096x1024 : Shape := ⟨3, ![2, 4096, 1024]⟩
abbrev S2x4096x2816 : Shape := ⟨3, ![2, 4096, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2816, .f32⟩
  | .hbm, ⟨2, _⟩ => ⟨S2x4096x1024, .f32⟩
  | .hbm, ⟨3, _⟩ => ⟨S2x4096x2816, .f32⟩
  | .hbm, ⟨4, _⟩ => ⟨S2x4096x2816, .f32⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S2816x1024, .f32⟩
  | .hbm, ⟨9, _⟩ => ⟨S2x4096x2816, .f32⟩
  | .hbm, ⟨10, _⟩ => ⟨S2x4096x2816, .f32⟩
  | .hbm, ⟨11, _⟩ => ⟨S2x4096x1024, .f32⟩
  | .hbm, ⟨12, _⟩ => ⟨S1024x2816, .f32⟩
  | .hbm, ⟨13, _⟩ => ⟨S2816x1024, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S2816x1024, .f32⟩
  | .hbm, ⟨20, _⟩ => ⟨S4x704x1024, .f32⟩
  | .hbm, ⟨21, _⟩ => ⟨S4x704x1024, .bf16⟩
  | .hbm, ⟨22, _⟩ => ⟨S4x704x1024, .f32⟩
  | .hbm, ⟨23, _⟩ => ⟨S4x704x1024, .bf16⟩
  | .hbm, ⟨24, _⟩ => ⟨S4x704x1024, .f32⟩
  | .hbm, ⟨25, _⟩ => ⟨S4x704x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S2x4096x1024 : Shape := ⟨3, ![2, 4096, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S8192x1024 : Shape := ⟨2, ![8192, 1024]⟩
abbrev S1x1024 : Shape := ⟨2, ![1, 1024]⟩
abbrev S2x1x1024 : Shape := ⟨3, ![2, 1, 1024]⟩
abbrev S4x704x1024 : Shape := ⟨3, ![4, 704, 1024]⟩
abbrev S4x8192x704 : Shape := ⟨3, ![4, 8192, 704]⟩
abbrev S512x1024 : Shape := ⟨2, ![512, 1024]⟩
abbrev S1x1x1024 : Shape := ⟨3, ![1, 1, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 25
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S4x704x1024, .f32⟩
  | .hbm, ⟨20, _⟩ => ⟨S4x704x1024, .bf16⟩
  | .hbm, ⟨21, _⟩ => ⟨S8192x1024, .f32⟩
  | .hbm, ⟨22, _⟩ => ⟨S4x8192x704, .bf16⟩
  | .hbm, ⟨23, _⟩ => ⟨S4x8192x704, .bf16⟩
  | .hbm, ⟨24, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S512x1024, .f32⟩
  | .local _ .vmem, ⟨13, _⟩ => ⟨S512x1024, .f32⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S4x512x704, .bf16⟩
  | .local _ .vmem, ⟨18, _⟩ => ⟨S512x1024, .bf16⟩
  | .local _ .vmem, ⟨19, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S2x4096x1024 : Shape := ⟨3, ![2, 4096, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S2x4096x2816 : Shape := ⟨3, ![2, 4096, 2816]⟩
abbrev S8192x1024 : Shape := ⟨2, ![8192, 1024]⟩
abbrev S8192x4x704 : Shape := ⟨3, ![8192, 4, 704]⟩
abbrev S4x8192x704 : Shape := ⟨3, ![4, 8192, 704]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x4096x2816, .f32⟩
  | .hbm, ⟨34, _⟩ => ⟨S2x4096x2816, .f32⟩
  | .hbm, ⟨35, _⟩ => ⟨S2x4096x2816, .f32⟩
  | .hbm, ⟨36, _⟩ => ⟨S2x4096x2816, .f32⟩
  | .hbm, ⟨37, _⟩ => ⟨S_, .f32⟩
  | .hbm, ⟨38, _⟩ => ⟨S2x4096x2816, .f32⟩
  | .hbm, ⟨39, _⟩ => ⟨S2x4096x2816, .f32⟩
  | .hbm, ⟨40, _⟩ => ⟨S_, .f32⟩
  | .hbm, ⟨41, _⟩ => ⟨S2x4096x2816, .f32⟩
  | .hbm, ⟨42, _⟩ => ⟨S2x4096x2816, .f32⟩
  | .hbm, ⟨43, _⟩ => ⟨S2x4096x2816, .f32⟩
  | .hbm, ⟨44, _⟩ => ⟨S2x4096x2816, .f32⟩
  | .hbm, ⟨45, _⟩ => ⟨S2x4096x1024, .f32⟩
  | .hbm, ⟨46, _⟩ => ⟨S2x1x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S8192x1024, .f32⟩
  | .hbm, ⟨54, _⟩ => ⟨S8192x4x704, .f32⟩
  | .hbm, ⟨55, _⟩ => ⟨S4x8192x704, .f32⟩
  | .hbm, ⟨56, _⟩ => ⟨S4x8192x704, .bf16⟩
  | .hbm, ⟨57, _⟩ => ⟨S8192x4x704, .f32⟩
  | .hbm, ⟨58, _⟩ => ⟨S4x8192x704, .f32⟩
  | .hbm, ⟨59, _⟩ => ⟨S4x8192x704, .bf16⟩
  | .hbm, ⟨60, _⟩ => ⟨S8192x1024, .f32⟩
  | .hbm, ⟨61, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel4.lean ====
abbrev S2x4096x3248 : Shape := ⟨3, ![2, 4096, 3248]⟩
abbrev S2x4096x1024 : Shape := ⟨3, ![2, 4096, 1024]⟩
abbrev S2x4096x2560 : Shape := ⟨3, ![2, 4096, 2560]⟩
abbrev S2x4096x640 : Shape := ⟨3, ![2, 4096, 640]⟩
abbrev S2x4096x16 : Shape := ⟨3, ![2, 4096, 16]⟩
abbrev S_ : Shape := ⟨0, ![]⟩
abbrev S2x4096x48 : Shape := ⟨3, ![2, 4096, 48]⟩
abbrev S2x4096x32 : Shape := ⟨3, ![2, 4096, 32]⟩
abbrev S2x4096x3328 : Shape := ⟨3, ![2, 4096, 3328]⟩
abbrev S8192x3328 : Shape := ⟨2, ![8192, 3328]⟩
abbrev S8192x1024 : Shape := ⟨2, ![8192, 1024]⟩
abbrev S3328x1024 : Shape := ⟨2, ![3328, 1024]⟩
abbrev S2048x3328 : Shape := ⟨2, ![2048, 3328]⟩
abbrev S2048x512 : Shape := ⟨2, ![2048, 512]⟩
abbrev S3328x512 : Shape := ⟨2, ![3328, 512]⟩

abbrev nBuf : Space → Nat
  | .hbm => 16
  | .vmem => 7
  | .smem => 0
  | _ => 0

abbrev bufTy : (tb : Table) → Fin (tcTables nBuf tb) → BufTy
  | .hbm, ⟨0, _⟩ => ⟨S2x4096x3248, .f32⟩
  | .hbm, ⟨1, _⟩ => ⟨S2x4096x1024, .f32⟩
  | .hbm, ⟨2, _⟩ => ⟨S2x4096x2560, .f32⟩
  | .hbm, ⟨3, _⟩ => ⟨S2x4096x640, .f32⟩
  | .hbm, ⟨4, _⟩ => ⟨S2x4096x16, .f32⟩
  | .hbm, ⟨5, _⟩ => ⟨S_, .f32⟩
  | .hbm, ⟨6, _⟩ => ⟨S2x4096x48, .f32⟩
  | .hbm, ⟨7, _⟩ => ⟨S2x4096x32, .f32⟩
  | .hbm, ⟨8, _⟩ => ⟨S_, .f32⟩
  | .hbm, ⟨9, _⟩ => ⟨S2x4096x32, .f32⟩
  | .hbm, ⟨10, _⟩ => ⟨S2x4096x3328, .f32⟩
  | .hbm, ⟨11, _⟩ => ⟨S8192x3328, .f32⟩
  | .hbm, ⟨12, _⟩ => ⟨S8192x3328, .bf16⟩
  | .hbm, ⟨13, _⟩ => ⟨S8192x1024, .f32⟩
  | .hbm, ⟨14, _⟩ => ⟨S8192x1024, .bf16⟩
  | .hbm, ⟨15, _⟩ => ⟨S3328x1024, .bf16⟩
  | .local _ .vmem, ⟨0, _⟩ => ⟨S2048x3328, .bf16⟩
  | .local _ .vmem, ⟨1, _⟩ => ⟨S2048x3328, .bf16⟩
  | .local _ .vmem, ⟨2, _⟩ => ⟨S2048x512, .bf16⟩
  | .local _ .vmem, ⟨3, _⟩ => ⟨S2048x512, .bf16⟩
  | .local _ .vmem, ⟨4, _⟩ => ⟨S3328x512, .bf16⟩
  | .local _ .vmem, ⟨5, _⟩ => ⟨S3328x512, .bf16⟩
  | .local _ .vmem, ⟨6, _⟩ => ⟨S3328x512, .f32⟩
  | _, _ => ⟨S2x4096x3248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3328x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2x4096x3248 : Shape := ⟨3, ![2, 4096, 3248]⟩
abbrev S2x4096x1024 : Shape := ⟨3, ![2, 4096, 1024]⟩
abbrev S_ : Shape := ⟨0, ![]⟩
abbrev S1024x3248 : Shape := ⟨2, ![1024, 3248]⟩
abbrev S3248x1024 : Shape := ⟨2, ![3248, 1024]⟩
abbrev S2560x1024 : Shape := ⟨2, ![2560, 1024]⟩
abbrev S640x1024 : Shape := ⟨2, ![640, 1024]⟩
abbrev S16x1024 : Shape := ⟨2, ![16, 1024]⟩
abbrev S48x1024 : Shape := ⟨2, ![48, 1024]⟩
abbrev S32x1024 : Shape := ⟨2, ![32, 1024]⟩
abbrev S3328x1024 : Shape := ⟨2, ![3328, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x3248, .f32⟩
  | .hbm, ⟨1, _⟩ => ⟨S2x4096x1024, .f32⟩
  | .hbm, ⟨2, _⟩ => ⟨S_, .f32⟩
  | .hbm, ⟨3, _⟩ => ⟨S1024x3248, .f32⟩
  | .hbm, ⟨4, _⟩ => ⟨S2x4096x3248, .f32⟩
  | .hbm, ⟨5, _⟩ => ⟨S3248x1024, .f32⟩
  | .hbm, ⟨6, _⟩ => ⟨S1024x3248, .f32⟩
  | .hbm, ⟨7, _⟩ => ⟨S3248x1024, .f32⟩
  | .hbm, ⟨8, _⟩ => ⟨S3248x1024, .bf16⟩
  | .hbm, ⟨9, _⟩ => ⟨S2560x1024, .bf16⟩
  | .hbm, ⟨10, _⟩ => ⟨S640x1024, .bf16⟩
  | .hbm, ⟨11, _⟩ => ⟨S16x1024, .bf16⟩
  | .hbm, ⟨12, _⟩ => ⟨S_, .bf16⟩
  | .hbm, ⟨13, _⟩ => ⟨S48x1024, .bf16⟩
  | .hbm, ⟨14, _⟩ => ⟨S32x1024, .bf16⟩
  | .hbm, ⟨15, _⟩ => ⟨S_, .bf16⟩
  | .hbm, ⟨16, _⟩ => ⟨S32x1024, .bf16⟩
  | .hbm, ⟨17, _⟩ => ⟨S3328x1024, .bf16⟩
  | _, _ => ⟨S2x4096x3248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S2x4096x1024 : Shape := ⟨3, ![2, 4096, 1024]⟩
abbrev S1024 : Shape := ⟨1, ![1024]⟩
abbrev S2x1024 : Shape := ⟨2, ![2, 1024]⟩
abbrev S1024x3248 : Shape := ⟨2, ![1024, 3248]⟩
abbrev S8192x1024 : Shape := ⟨2, ![8192, 1024]⟩
abbrev S1x1024 : Shape := ⟨2, ![1, 1024]⟩
abbrev S2x1x1024 : Shape := ⟨3, ![2, 1, 1024]⟩
abbrev S3248x1024 : Shape := ⟨2, ![3248, 1024]⟩
abbrev S_ : Shape := ⟨0, ![]⟩
abbrev S48x1024 : Shape := ⟨2, ![48, 1024]⟩
abbrev S32x1024 : Shape := ⟨2, ![32, 1024]⟩
abbrev S2560x1024 : Shape := ⟨2, ![2560, 1024]⟩
abbrev S640x1024 : Shape := ⟨2, ![640, 1024]⟩
abbrev S16x1024 : Shape := ⟨2, ![16, 1024]⟩
abbrev S3328x1024 : Shape := ⟨2, ![3328, 1024]⟩
abbrev S8192x1536 : Shape := ⟨2, ![8192, 1536]⟩
abbrev S8192x384 : Shape := ⟨2, ![8192, 384]⟩
abbrev S8192x256 : Shape := ⟨2, ![8192, 256]⟩
abbrev S8192x128 : Shape := ⟨2, ![8192, 128]⟩
abbrev S1024x1024 : Shape := ⟨2, ![1024, 1024]⟩
abbrev S1x1x1024 : Shape := ⟨3, ![1, 1, 1024]⟩
abbrev S1024x1536 : Shape := ⟨2, ![1024, 1536]⟩
abbrev S1024x384 : Shape := ⟨2, ![1024, 384]⟩
abbrev S1024x256 : Shape := ⟨2, ![1024, 256]⟩
abbrev S1024x128 : Shape := ⟨2, ![1024, 128]⟩
abbrev S1024x1 : Shape := ⟨2, ![1024, 1]⟩
abbrev S1024x3328 : Shape := ⟨2, ![1024, 3328]⟩

abbrev nBuf : Space → Nat
  | .hbm => 25
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3248, .f32⟩
  | .hbm, ⟨5, _⟩ => ⟨S8192x1024, .f32⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S3248x1024, .f32⟩
  | .hbm, ⟨10, _⟩ => ⟨S_, .f32⟩
  | .hbm, ⟨11, _⟩ => ⟨S48x1024, .f32⟩
  | .hbm, ⟨12, _⟩ => ⟨S_, .f32⟩
  | .hbm, ⟨13, _⟩ => ⟨S32x1024, .f32⟩
  | .hbm, ⟨14, _⟩ => ⟨S2560x1024, .f32⟩
  | .hbm, ⟨15, _⟩ => ⟨S640x1024, .f32⟩
  | .hbm, ⟨16, _⟩ => ⟨S16x1024, .f32⟩
  | .hbm, ⟨17, _⟩ => ⟨S32x1024, .f32⟩
  | .hbm, ⟨18, _⟩ => ⟨S3328x1024, .f32⟩
  | .hbm, ⟨19, _⟩ => ⟨S3328x1024, .bf16⟩
  | .hbm, ⟨20, _⟩ => ⟨S8192x1024, .bf16⟩
  | .hbm, ⟨21, _⟩ => ⟨S8192x1536, .bf16⟩
  | .hbm, ⟨22, _⟩ => ⟨S8192x384, .f32⟩
  | .hbm, ⟨23, _⟩ => ⟨S8192x256, .f32⟩
  | .hbm, ⟨24, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S3328x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1536, .bf16⟩
  | .local _ .vmem, ⟨11, _⟩ => ⟨S1024x1536, .bf16⟩
  | .local _ .vmem, ⟨12, _⟩ => ⟨S1024x384, .f32⟩
  | .local _ .vmem, ⟨13, _⟩ => ⟨S1024x384, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3328x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x4096x1024 : Shape := ⟨3, ![2, 4096, 1024]⟩
abbrev S1024 : Shape := ⟨1, ![1024]⟩
abbrev S2x1024 : Shape := ⟨2, ![2, 1024]⟩
abbrev S1024x3248 : Shape := ⟨2, ![1024, 3248]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S2x4096x3248 : Shape := ⟨3, ![2, 4096, 3248]⟩
abbrev S8192x3248 : Shape := ⟨2, ![8192, 3248]⟩
abbrev S8192x16 : Shape := ⟨2, ![8192, 16]⟩
abbrev S8192x48 : Shape := ⟨2, ![8192, 48]⟩
abbrev S8192x32 : Shape := ⟨2, ![8192, 32]⟩
abbrev S8192x128 : Shape := ⟨2, ![8192, 128]⟩
abbrev S8192x1024 : Shape := ⟨2, ![8192, 1024]⟩
abbrev S8192x1536 : Shape := ⟨2, ![8192, 1536]⟩
abbrev S8192x384 : Shape := ⟨2, ![8192, 384]⟩
abbrev S8192x256 : Shape := ⟨2, ![8192, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3248, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x4096x1024, .f32⟩
  | .hbm, ⟨26, _⟩ => ⟨S2x4096x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x4096x3248, .f32⟩
  | .hbm, ⟨31, _⟩ => ⟨S8192x3248, .f32⟩
  | .hbm, ⟨32, _⟩ => ⟨S8192x16, .f32⟩
  | .hbm, ⟨33, _⟩ => ⟨S_, .f32⟩
  | .hbm, ⟨34, _⟩ => ⟨S8192x48, .f32⟩
  | .hbm, ⟨35, _⟩ => ⟨S8192x32, .f32⟩
  | .hbm, ⟨36, _⟩ => ⟨S_, .f32⟩
  | .hbm, ⟨37, _⟩ => ⟨S8192x32, .f32⟩
  | .hbm, ⟨38, _⟩ => ⟨S8192x128, .f32⟩
  | .hbm, ⟨39, _⟩ => ⟨S8192x1024, .f32⟩
  | .hbm, ⟨40, _⟩ => ⟨S8192x1024, .bf16⟩
  | .hbm, ⟨41, _⟩ => ⟨S8192x1536, .f32⟩
  | .hbm, ⟨42, _⟩ => ⟨S8192x1536, .bf16⟩
  | .hbm, ⟨43, _⟩ => ⟨S8192x384, .f32⟩
  | .hbm, ⟨44, _⟩ => ⟨S8192x256, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel6.lean ====
abbrev S2x4096x2048 : Shape := ⟨3, ![2, 4096, 2048]⟩
abbrev S2x4096x1024 : Shape := ⟨3, ![2, 4096, 1024]⟩
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S8192x2048, .f32⟩
  | .hbm, ⟨3, _⟩ => ⟨S8192x2048, .bf16⟩
  | .hbm, ⟨4, _⟩ => ⟨S8192x1024, .f32⟩
  | .hbm, ⟨5, _⟩ => ⟨S8192x1024, .bf16⟩
  | .hbm, ⟨6, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2x4096x2048 : Shape := ⟨3, ![2, 4096, 2048]⟩
abbrev S2x4096x1024 : Shape := ⟨3, ![2, 4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S_, .f32⟩
  | .hbm, ⟨3, _⟩ => ⟨S2048x1024, .f32⟩
  | .hbm, ⟨4, _⟩ => ⟨S2x4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2x4096x1024 : Shape := ⟨3, ![2, 4096, 1024]⟩
abbrev S1024 : Shape := ⟨1, ![1024]⟩
abbrev S2048x1024 : Shape := ⟨2, ![2048, 1024]⟩
abbrev S2x1024 : Shape := ⟨2, ![2, 1024]⟩
abbrev S8192x1024 : Shape := ⟨2, ![8192, 1024]⟩
abbrev S1x1024 : Shape := ⟨2, ![1, 1024]⟩
abbrev S2x1x1024 : Shape := ⟨3, ![2, 1, 1024]⟩
abbrev S8192x2048 : Shape := ⟨2, ![8192, 2048]⟩
abbrev S1024x1024 : Shape := ⟨2, ![1024, 1024]⟩
abbrev S1x1x1024 : Shape := ⟨3, ![1, 1, 1024]⟩
abbrev S1024x2048 : Shape := ⟨2, ![1024, 2048]⟩
abbrev S1024x1 : Shape := ⟨2, ![1024, 1]⟩

abbrev nBuf : Space → Nat
  | .hbm => 17
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S1024, .f32⟩
  | .hbm, ⟨4, _⟩ => ⟨S2048x1024, .f32⟩
  | .hbm, ⟨5, _⟩ => ⟨S2x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S2048x1024, .bf16⟩
  | .hbm, ⟨13, _⟩ => ⟨S2x1x1024, .f32⟩
  | .hbm, ⟨14, _⟩ => ⟨S8192x1024, .f32⟩
  | .hbm, ⟨15, _⟩ => ⟨S8192x1024, .bf16⟩
  | .hbm, ⟨16, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S2048x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S2x4096x1024 : Shape := ⟨3, ![2, 4096, 1024]⟩
abbrev S1024 : Shape := ⟨1, ![1024]⟩
abbrev S2048x1024 : Shape := ⟨2, ![2048, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S2x1x1024 : Shape := ⟨3, ![2, 1, 1024]⟩
abbrev S8192x1024 : Shape := ⟨2, ![8192, 1024]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S1024, .f32⟩
  | .hbm, ⟨4, _⟩ => ⟨S2048x1024, .f32⟩
  | .hbm, ⟨5, _⟩ => ⟨S2x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x2048, .f32⟩
  | .hbm, ⟨23, _⟩ => ⟨S2x4096x1024, .f32⟩
  | .hbm, ⟨24, _⟩ => ⟨S2x1x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x2048, .f32⟩
  | .hbm, ⟨32, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first condition: the grid's last coordinate is zero, so the block of keys is the first one. -/
abbrev condFirst (i : grid0.Coords) : Prop := (Scalar.cmpi .ne (Scalar.extui (Scalar.cmpi .eq (BitVec.ofNat 32 (i 2).val) 0#32)) 0#32) = 1#1

set_option maxHeartbeats 4000000 in
def runB (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : ¬ k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) :
    Σ' (L10 : List (View.Piece (Elt F) S1x1024x256 .bf16)) (L11 : List (View.Piece (Elt F) S1x1024x256 .bf16)), { L12 : List (View.Piece (Elt F) S4096x256 .f32) //
      ∀ (E : Set ℕ) (f9 : BufTy.Contents (Elt F) arg9.view.ty) (f10 : BufTy.Contents (Elt F) arg10.view.ty) (f11 : BufTy.Contents (Elt F) arg11.view.ty),
        (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} g12)) : sProp 𝕄)
        ⊢ wp frame (wpE (defs₀ (F := F)) Variants.none (c : Thread nD τ) none) E (cc0_attn_bwd i arg3 harg3 arg4 harg4 arg5 harg5 arg6 harg6 arg7 harg7 arg8 harg8 arg9 harg9 arg10 harg10 arg11 harg11 arg12 harg12)
          (fun _ => (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) g12 L12)) : sProp 𝕄)) } := by
  refine ⟨?_, ?_, ?_, fun E f9 f10 f11 => ?run⟩
  case run =>
    simp only [cc0_attn_bwd_eq_skeleton]; unfold cc0_attn_bwd_skel
    simp only [k0_part5_eq_skeleton, k0_part6_eq_skeleton, k0_part7_eq_skeleton]
    iintro ⟨H3, H4, H5, H6, H7, H8, H9, H10, H11, H12⟩
    sl_exec (disch := first | sl_exact hc0 | sl_exact hc1)
    sl_step
    sl_close

set_option maxHeartbeats 4000000 in
def runA (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : condFirst i) (hc1 : ¬ k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32)  :
    Σ' (L10 : List (View.Piece (Elt F) S1x1024x256 .bf16)) (L11 : List (View.Piece (Elt F) S1x1024x256 .bf16)), { L12 : List (View.Piece (Elt F) S4096x256 .f32) //
      ∀ (E : Set ℕ) (f9 : BufTy.Contents (Elt F) arg9.view.ty) (f10 : BufTy.Contents (Elt F) arg10.view.ty) (f11 : BufTy.Contents (Elt F) arg11.view.ty) (g12 : BufTy.Contents (Elt F) arg12.view.ty),
        (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} g12)) : sProp 𝕄)
        ⊢ wp frame (wpE (defs₀ (F := F)) Variants.none (c : Thread nD τ) none) E (cc0_attn_bwd i arg3 harg3 arg4 harg4 arg5 harg5 arg6 harg6 arg7 harg7 arg8 harg8 arg9 harg9 arg10 harg10 arg11 harg11 arg12 harg12)
          (fun _ => (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) arg12.view.junk L12)) : sProp 𝕄)) } := by
  refine ⟨?_, ?_, ?_, fun E f9 f10 f11 g12 => ?run⟩
  case run =>
    simp only [cc0_attn_bwd_eq_skeleton]; unfold cc0_attn_bwd_skel
    simp only [k0_part5_eq_skeleton, k0_part6_eq_skeleton, k0_part7_eq_skeleton]
    iintro ⟨H3, H4, H5, H6, H7, H8, H9, H10, H11, H12⟩
    sl_exec (disch := first | sl_exact hc0 | sl_exact hc1)
    sl_step
    sl_close

set_option maxHeartbeats 4000000 in
def runC (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) :
    Σ' (L9 : List (View.Piece (Elt F) S1x4096x256 .bf16)) (L10 : List (View.Piece (Elt F) S1x1024x256 .bf16)) (L11 : List (View.Piece (Elt F) S1x1024x256 .bf16)), { L12 : List (View.Piece (Elt F) S4096x256 .f32) //
      ∀ (E : Set ℕ) (f9 : BufTy.Contents (Elt F) arg9.view.ty) (f10 : BufTy.Contents (Elt F) arg10.view.ty) (f11 : BufTy.Contents (Elt F) arg11.view.ty),
        (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} g12)) : sProp 𝕄)
        ⊢ wp frame (wpE (defs₀ (F := F)) Variants.none (c : Thread nD τ) none) E (cc0_attn_bwd i arg3 harg3 arg4 harg4 arg5 harg5 arg6 harg6 arg7 harg7 arg8 harg8 arg9 harg9 arg10 harg10 arg11 harg11 arg12 harg12)
          (fun _ => (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} arg9.view.writes (Elt F) f9 L9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) g12 L12)) : sProp 𝕄)) } := by
  refine ⟨?_, ?_, ?_, ?_, fun E f9 f10 f11 => ?run⟩
  case run =>
    simp only [cc0_attn_bwd_eq_skeleton]; unfold cc0_attn_bwd_skel
    simp only [k0_part5_eq_skeleton, k0_part6_eq_skeleton, k0_part7_eq_skeleton]
    iintro ⟨H3, H4, H5, H6, H7, H8, H9, H10, H11, H12⟩
    sl_exec (disch := first | sl_exact hc0 | sl_exact hc1)
    sl_step
    sl_close

end Cert.KernelIdeal.Attn

end
-- ==== Proof.Run.lean ====
module

public import proofs.«01_k».proof.Proof.Body
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's scratch: the running gradient of the queries. -/
abbrev scrM : Memref sig .tc .vmem S4096x256 .f32 := Memref.whole cc0_scratch0

/-! ## The body's results at a point of the grid -/

theorem hcond0 : ∀ t : Fin cfg0.N, condFirst (grid0.coords t) ↔ t.val % 4 = 0 :=
  (by decide +kernel : ∀ t : Fin grid0.N, condFirst (grid0.coords t) ↔ t.val % 4 = 0)
theorem hcond1 : ∀ t : Fin cfg0.N, k0_cond2 (grid0.coords t) = 1#1 ↔ t.val % 4 = 3 :=
  (by decide +kernel : ∀ t : Fin grid0.N, k0_cond2 (grid0.coords t) = 1#1 ↔ t.val % 4 = 3)

/-- A point whose block of keys is the first: the run that begins by clearing the scratch. -/
abbrev atA (c : Dev nD) (t : Fin cfg0.N) (h : t.val % 4 = 0) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) ((hcond0 t).mpr h) (fun h' => by have := (hcond1 t).mp h'; omega) (iblk m c 0 t) (iblk m c 1 t) (iblk m c 2 t) (iblk m c 3 t) (iblk m c 4 t) (iblk m c 5 t)
/-- A point whose block of keys is neither the first nor the last. -/
abbrev atB (c : Dev nD) (t : Fin cfg0.N) (h : ¬ t.val % 4 = 0) (h' : ¬ t.val % 4 = 3) (S : BufTy.Contents (Elt F) scrM.view.ty) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (fun e => h ((hcond0 t).mp e)) (fun e => h' ((hcond1 t).mp e)) (iblk m c 0 t) (iblk m c 1 t) (iblk m c 2 t) (iblk m c 3 t) (iblk m c 4 t) (iblk m c 5 t) S
/-- A point whose block of keys is the last: the run that ends by writing the gradient of the queries. -/
abbrev atC (c : Dev nD) (t : Fin cfg0.N) (h' : t.val % 4 = 3) (S : BufTy.Contents (Elt F) scrM.view.ty) :=
  runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (fun e => by have := (hcond0 t).mp e; omega) ((hcond1 t).mpr h') (iblk m c 0 t) (iblk m c 1 t) (iblk m c 2 t) (iblk m c 3 t) (iblk m c 4 t) (iblk m c 5 t) S

/-- The scratch after point `t`, from the scratch before it. -/
def scrStep (c : Dev nD) (t : Fin cfg0.N) (S : BufTy.Contents (Elt F) scrM.view.ty) :
    BufTy.Contents (Elt F) scrM.view.ty :=
  if h : t.val % 4 = 0 then scrM.view.writes (Elt F) scrM.view.junk (atA m c t h).2.2.1
  else if h' : t.val % 4 = 3 then scrM.view.writes (Elt F) S (atC m c t h' S).2.2.2.1
  else scrM.view.writes (Elt F) S (atB m c t h h' S).2.2.1

/-- The scratch before point `n`. -/
def scrAt (c : Dev nD) : ℕ → BufTy.Contents (Elt F) scrM.view.ty
  | 0 => scrM.view.junk
  | n + 1 => if h : n < cfg0.N then scrStep m c ⟨n, h⟩ (scrAt c n) else scrM.view.junk

theorem scrAt_succ (c : Dev nD) (t : Fin cfg0.N) : scrAt m c (t.val + 1) = scrStep m c t (scrAt m c t.val) := by
  conv_lhs => unfold scrAt
  exact dif_pos t.isLt

/-- The block of the keys' gradient the body leaves at point `t`. -/
def dkAt (c : Dev nD) (t : Fin cfg0.N) : Vec F S1x1024x256 .bf16 :=
  if h : t.val % 4 = 0 then View.canon (atA m c t h).1
  else if h' : t.val % 4 = 3 then View.canon (atC m c t h' (scrAt m c t.val)).2.1
  else View.canon (atB m c t h h' (scrAt m c t.val)).1
/-- The block of the values' gradient the body leaves at point `t`. -/
def dvAt (c : Dev nD) (t : Fin cfg0.N) : Vec F S1x1024x256 .bf16 :=
  if h : t.val % 4 = 0 then View.canon (atA m c t h).2.1
  else if h' : t.val % 4 = 3 then View.canon (atC m c t h' (scrAt m c t.val)).2.2.1
  else View.canon (atB m c t h h' (scrAt m c t.val)).2.1
/-- The block of the queries' gradient the body leaves at the last of the points that share it. -/
def dqAt (c : Dev nD) (t : Fin cfg0.N) : Vec F S1x4096x256 .bf16 :=
  if h' : t.val % 4 = 3 then View.canon (atC m c t h' (scrAt m c t.val)).1
  else View.canon []

/-! ## Each list of stores covers its buffer -/
theorem cover_dkA (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : condFirst i) (hc1 : ¬ k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32)  (y : S1x1024x256.Idx) : ∃ p ∈ (runA (F := F) c i arg3 harg3 arg4 harg4 arg5 harg5 arg6 harg6 arg7 harg7 arg8 harg8 arg9 harg9 arg10 harg10 arg11 harg11 arg12 harg12 hc0 hc1 x0 x1 x2 x3 x4 x5).1, y ∈ p.1.set :=
  View.cover_of_tiledL (runA (F := F) c i arg3 harg3 arg4 harg4 arg5 harg5 arg6 harg6 arg7 harg7 arg8 harg8 arg9 harg9 arg10 harg10 arg11 harg11 arg12 harg12 hc0 hc1 x0 x1 x2 x3 x4 x5).1 S1x1024x128.size (by sl_kernel_rfl) y
theorem cover_dvA (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : condFirst i) (hc1 : ¬ k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32)  (y : S1x1024x256.Idx) : ∃ p ∈ (runA (F := F) c i arg3 harg3 arg4 harg4 arg5 harg5 arg6 harg6 arg7 harg7 arg8 harg8 arg9 harg9 arg10 harg10 arg11 harg11 arg12 harg12 hc0 hc1 x0 x1 x2 x3 x4 x5).2.1, y ∈ p.1.set :=
  View.cover_of_tiledL (runA (F := F) c i arg3 harg3 arg4 harg4 arg5 harg5 arg6 harg6 arg7 harg7 arg8 harg8 arg9 harg9 arg10 harg10 arg11 harg11 arg12 harg12 hc0 hc1 x0 x1 x2 x3 x4 x5).2.1 S1x1024x128.size (by sl_kernel_rfl) y
theorem cover_dkB (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : ¬ k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) (y : S1x1024x256.Idx) : ∃ p ∈ (runB (F := F) c i arg3 harg3 arg4 harg4 arg5 harg5 arg6 harg6 arg7 harg7 arg8 harg8 arg9 harg9 arg10 harg10 arg11 harg11 arg12 harg12 hc0 hc1 x0 x1 x2 x3 x4 x5 g12).1, y ∈ p.1.set :=
  View.cover_of_tiledL (runB (F := F) c i arg3 harg3 arg4 harg4 arg5 harg5 arg6 harg6 arg7 harg7 arg8 harg8 arg9 harg9 arg10 harg10 arg11 harg11 arg12 harg12 hc0 hc1 x0 x1 x2 x3 x4 x5 g12).1 S1x1024x128.size (by sl_kernel_rfl) y
theorem cover_dvB (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : ¬ k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) (y : S1x1024x256.Idx) : ∃ p ∈ (runB (F := F) c i arg3 harg3 arg4 harg4 arg5 harg5 arg6 harg6 arg7 harg7 arg8 harg8 arg9 harg9 arg10 harg10 arg11 harg11 arg12 harg12 hc0 hc1 x0 x1 x2 x3 x4 x5 g12).2.1, y ∈ p.1.set :=
  View.cover_of_tiledL (runB (F := F) c i arg3 harg3 arg4 harg4 arg5 harg5 arg6 harg6 arg7 harg7 arg8 harg8 arg9 harg9 arg10 harg10 arg11 harg11 arg12 harg12 hc0 hc1 x0 x1 x2 x3 x4 x5 g12).2.1 S1x1024x128.size (by sl_kernel_rfl) y
theorem cover_dqC (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) (y : S1x4096x256.Idx) : ∃ p ∈ (runC (F := F) c i arg3 harg3 arg4 harg4 arg5 harg5 arg6 harg6 arg7 harg7 arg8 harg8 arg9 harg9 arg10 harg10 arg11 harg11 arg12 harg12 hc0 hc1 x0 x1 x2 x3 x4 x5 g12).1, y ∈ p.1.set :=
  View.cover_of_tiledL (runC (F := F) c i arg3 harg3 arg4 harg4 arg5 harg5 arg6 harg6 arg7 harg7 arg8 harg8 arg9 harg9 arg10 harg10 arg11 harg11 arg12 harg12 hc0 hc1 x0 x1 x2 x3 x4 x5 g12).1 S1x4096x256.size (by sl_kernel_rfl) y
theorem cover_dkC (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) (y : S1x1024x256.Idx) : ∃ p ∈ (runC (F := F) c i arg3 harg3 arg4 harg4 arg5 harg5 arg6 harg6 arg7 harg7 arg8 harg8 arg9 harg9 arg10 harg10 arg11 harg11 arg12 harg12 hc0 hc1 x0 x1 x2 x3 x4 x5 g12).2.1, y ∈ p.1.set :=
  View.cover_of_tiledL (runC (F := F) c i arg3 harg3 arg4 harg4 arg5 harg5 arg6 harg6 arg7 harg7 arg8 harg8 arg9 harg9 arg10 harg10 arg11 harg11 arg12 harg12 hc0 hc1 x0 x1 x2 x3 x4 x5 g12).2.1 S1x1024x128.size (by sl_kernel_rfl) y
theorem cover_dvC (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : k0_cond2 i = 1#1) (x0 : Vec F S1x4096x256 .bf16) (x1 : Vec F S1x1024x256 .bf16) (x2 : Vec F S1x1024x256 .bf16) (x3 : Vec F S1x4096x256 .bf16) (x4 : Vec F S1x4096x256 .bf16) (x5 : Vec F S1x2x4096x1 .f32) (g12 : BufTy.Contents (Elt F) arg12.view.ty) (y : S1x1024x256.Idx) : ∃ p ∈ (runC (F := F) c i arg3 harg3 arg4 harg4 arg5 harg5 arg6 harg6 arg7 harg7 arg8 harg8 arg9 harg9 arg10 harg10 arg11 harg11 arg12 harg12 hc0 hc1 x0 x1 x2 x3 x4 x5 g12).2.2.1, y ∈ p.1.set :=
  View.cover_of_tiledL (runC (F := F) c i arg3 harg3 arg4 harg4 arg5 harg5 arg6 harg6 arg7 harg7 arg8 harg8 arg9 harg9 arg10 harg10 arg11 harg11 arg12 harg12 hc0 hc1 x0 x1 x2 x3 x4 x5 g12).2.2.1 S1x1024x128.size (by sl_kernel_rfl) y

/-! ## The pipeline's proof data -/

/-- The scratch carried from point to point: what the points before left, unless the next point clears it. -/
def carried (c : Dev nD) (n : ℕ) : sProp 𝕄 :=
  iprop((∃ f, ⌜¬ n % 4 = 0 → f = scrAt m c n⌝ ∗ (scrM.view.loc (c : Thread nD τ) ↦[scrM.view.set]{fullShare} f))
    ∗ ∃ r, prngReg c r)

/-- The proof data: the arrays as the region finds them, every input's buffer at its block, the outputs' at the
    body's results, the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t
    | ⟨8, _⟩ => dvAt m c t
    | ⟨_ + 9, h⟩ => absurd h (Nat.not_lt.2 (Nat.le_add_left _ _))
  Φ t := carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t := by dsimp only [dats]
theorem after0_7 (c : Dev nD) (t : Fin cfg0.N) : (dats m 0 c).after 7 t = dkAt m c t := by dsimp only [dats]
theorem after0_8 (c : Dev nD) (t : Fin cfg0.N) : (dats m 0 c).after 8 t = dvAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation -/

def bodyPre (c : Dev nD) (t : Fin cfg0.N) : sProp 𝕄 :=
  iprop(carried m c t.val ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))

def bodyPost (c : Dev nD) (t : Fin cfg0.N) : sProp 𝕄 :=
  iprop(carried m c (t.val + 1) ∗ (dats m 0 c).owesAt () t.castSucc
    ∗ owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ (if t.val % 4 = 3 then owns (c : Thread nD τ) ((cfg0.win 6).stage (cfg0.slots t 6)) fullShare (dqAt m c t)
        else iprop(∃ d, owns (c : Thread nD τ) ((cfg0.win 6).stage (cfg0.slots t 6)) fullShare ((dats m 0 c).before 6 t d)))
    ∗ owns (c : Thread nD τ) ((cfg0.win 7).stage (cfg0.slots t 7)) fullShare (dkAt m c t)
    ∗ owns (c : Thread nD τ) ((cfg0.win 8).stage (cfg0.slots t 8)) fullShare (dvAt m c t))

set_option maxHeartbeats 4000000 in
theorem soundA (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost carried owns
  simp only [before0_0, before0_1, before0_2, before0_3, before0_4, before0_5]
  iintro ⟨⟨⟨%S, %hS, HS⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  obtain rfl := (hstage0_0 ((cfg0.slots t 0).cast nbuf0_0)).eq_unread hf0; obtain rfl := (hstage0_1 ((cfg0.slots t 1).cast nbuf0_1)).eq_unread hf1; obtain rfl := (hstage0_2 ((cfg0.slots t 2).cast nbuf0_2)).eq_unread hf2; obtain rfl := (hstage0_3 ((cfg0.slots t 3).cast nbuf0_3)).eq_unread hf3; obtain rfl := (hstage0_4 ((cfg0.slots t 4).cast nbuf0_4)).eq_unread hf4; obtain rfl := (hstage0_5 ((cfg0.slots t 5).cast nbuf0_5)).eq_unread hf5
  have R := (atA m c t h0).2.2.2 Set.univ f6 f7 f8 S
  iapply (wp_wand_r frame (wpE (defs₀ (F := F)) Variants.none c none) Set.univ)
  isplitl [H0 H1 H2 H3 H4 H5 H6 H7 H8 HS]
  · iapply R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iintro %a ⟨H0, H1, H2, H3, H4, H5, H6, H7, H8, HS⟩
  isplitl [HS Hr]
  · isplitl [HS]
    · iexists _; isplitr; swap
      · iexact HS
      ipureintro; intro _; rw [scrAt_succ]; unfold scrStep; rw [dif_pos h0]
    · iexact Hr
  isplitl [Ho]; · iexact Ho
  isplitl [H0]
  · iexists _; isplitr; swap
    · iexact H0
    ipureintro; exact (hstage0_0 ((cfg0.slots t 0).cast nbuf0_0)).read_unread _
  isplitl [H1]
  · iexists _; isplitr; swap
    · iexact H1
    ipureintro; exact (hstage0_1 ((cfg0.slots t 1).cast nbuf0_1)).read_unread _
  isplitl [H2]
  · iexists _; isplitr; swap
    · iexact H2
    ipureintro; exact (hstage0_2 ((cfg0.slots t 2).cast nbuf0_2)).read_unread _
  isplitl [H3]
  · iexists _; isplitr; swap
    · iexact H3
    ipureintro; exact (hstage0_3 ((cfg0.slots t 3).cast nbuf0_3)).read_unread _
  isplitl [H4]
  · iexists _; isplitr; swap
    · iexact H4
    ipureintro; exact (hstage0_4 ((cfg0.slots t 4).cast nbuf0_4)).read_unread _
  isplitl [H5]
  · iexists _; isplitr; swap
    · iexact H5
    ipureintro; exact (hstage0_5 ((cfg0.slots t 5).cast nbuf0_5)).read_unread _
  isplitl [H6]
  · rw [if_neg (by omega)]
    iexists d6, f6; isplitr
    · ipureintro; exact hf6
    iexact H6
  isplitl [H7]
  · iexists _; isplitr; swap
    · iexact H7
    ipureintro; unfold dkAt; rw [dif_pos h0]; exact View.read_writes_eq_canon _ _ _ (cover_dkA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _)
  · iexists _; isplitr; swap
    · iexact H8
    ipureintro; unfold dvAt; rw [dif_pos h0]; exact View.read_writes_eq_canon _ _ _ (cover_dvA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _)

set_option maxHeartbeats 4000000 in
theorem soundB (c : Dev nD) (t : Fin cfg0.N) (h0 : ¬ t.val % 4 = 0) (h3 : ¬ t.val % 4 = 3) :
    bodyPre m c t ⊢ wp frame (wpE (defs₀ (F := F)) Variants.none c none) Set.univ (bodyAt0 t) (fun _ => bodyPost m c t) := by
  unfold bodyPre bodyPost carried owns
  simp only [before0_0, before0_1, before0_2, before0_3, before0_4, before0_5]
  iintro ⟨⟨⟨%S, %hS, HS⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  obtain rfl := (hstage0_0 ((cfg0.slots t 0).cast nbuf0_0)).eq_unread hf0; obtain rfl := (hstage0_1 ((cfg0.slots t 1).cast nbuf0_1)).eq_unread hf1; obtain rfl := (hstage0_2 ((cfg0.slots t 2).cast nbuf0_2)).eq_unread hf2; obtain rfl := (hstage0_3 ((cfg0.slots t 3).cast nbuf0_3)).eq_unread hf3; obtain rfl := (hstage0_4 ((cfg0.slots t 4).cast nbuf0_4)).eq_unread hf4; obtain rfl := (hstage0_5 ((cfg0.slots t 5).cast nbuf0_5)).eq_unread hf5
  obtain rfl := hS (by omega)
  have R := (atB m c t h0 h3 (scrAt m c t.val)).2.2.2 Set.univ f6 f7 f8
  iapply (wp_wand_r frame (wpE (defs₀ (F := F)) Variants.none c none) Set.univ)
  isplitl [H0 H1 H2 H3 H4 H5 H6 H7 H8 HS]
  · iapply R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iintro %a ⟨H0, H1, H2, H3, H4, H5, H6, H7, H8, HS⟩
  isplitl [HS Hr]
  · isplitl [HS]
    · iexists _; isplitr; swap
      · iexact HS
      ipureintro; intro _; rw [scrAt_succ]; unfold scrStep; rw [dif_neg h0, dif_neg h3]
    · iexact Hr
  isplitl [Ho]; · iexact Ho
  isplitl [H0]
  · iexists _; isplitr; swap
    · iexact H0
    ipureintro; exact (hstage0_0 ((cfg0.slots t 0).cast nbuf0_0)).read_unread _
  isplitl [H1]
  · iexists _; isplitr; swap
    · iexact H1
    ipureintro; exact (hstage0_1 ((cfg0.slots t 1).cast nbuf0_1)).read_unread _
  isplitl [H2]
  · iexists _; isplitr; swap
    · iexact H2
    ipureintro; exact (hstage0_2 ((cfg0.slots t 2).cast nbuf0_2)).read_unread _
  isplitl [H3]
  · iexists _; isplitr; swap
    · iexact H3
    ipureintro; exact (hstage0_3 ((cfg0.slots t 3).cast nbuf0_3)).read_unread _
  isplitl [H4]
  · iexists _; isplitr; swap
    · iexact H4
    ipureintro; exact (hstage0_4 ((cfg0.slots t 4).cast nbuf0_4)).read_unread _
  isplitl [H5]
  · iexists _; isplitr; swap
    · iexact H5
    ipureintro; exact (hstage0_5 ((cfg0.slots t 5).cast nbuf0_5)).read_unread _
  isplitl [H6]
  · rw [if_neg (by omega)]
    iexists d6, f6; isplitr
    · ipureintro; exact hf6
    iexact H6
  isplitl [H7]
  · iexists _; isplitr; swap
    · iexact H7
    ipureintro; unfold dkAt; rw [dif_neg h0, dif_neg h3]; exact View.read_writes_eq_canon _ _ _ (cover_dkB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _ _)
  · iexists _; isplitr; swap
    · iexact H8
    ipureintro; unfold dvAt; rw [dif_neg h0, dif_neg h3]; exact View.read_writes_eq_canon _ _ _ (cover_dvB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _ _)

set_option maxHeartbeats 4000000 in
theorem soundC (c : Dev nD) (t : Fin cfg0.N) (h3 : t.val % 4 = 3) :
    bodyPre m c t ⊢ wp frame (wpE (defs₀ (F := F)) Variants.none c none) Set.univ (bodyAt0 t) (fun _ => bodyPost m c t) := by
  unfold bodyPre bodyPost carried owns
  simp only [before0_0, before0_1, before0_2, before0_3, before0_4, before0_5]
  iintro ⟨⟨⟨%S, %hS, HS⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  obtain rfl := (hstage0_0 ((cfg0.slots t 0).cast nbuf0_0)).eq_unread hf0; obtain rfl := (hstage0_1 ((cfg0.slots t 1).cast nbuf0_1)).eq_unread hf1; obtain rfl := (hstage0_2 ((cfg0.slots t 2).cast nbuf0_2)).eq_unread hf2; obtain rfl := (hstage0_3 ((cfg0.slots t 3).cast nbuf0_3)).eq_unread hf3; obtain rfl := (hstage0_4 ((cfg0.slots t 4).cast nbuf0_4)).eq_unread hf4; obtain rfl := (hstage0_5 ((cfg0.slots t 5).cast nbuf0_5)).eq_unread hf5
  obtain rfl := hS (by omega)
  have R := (atC m c t h3 (scrAt m c t.val)).2.2.2.2 Set.univ f6 f7 f8
  iapply (wp_wand_r frame (wpE (defs₀ (F := F)) Variants.none c none) Set.univ)
  isplitl [H0 H1 H2 H3 H4 H5 H6 H7 H8 HS]
  · iapply R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iintro %a ⟨H0, H1, H2, H3, H4, H5, H6, H7, H8, HS⟩
  isplitl [HS Hr]
  · isplitl [HS]
    · iexists _; isplitr; swap
      · iexact HS
      ipureintro; intro _; rw [scrAt_succ]; unfold scrStep; rw [dif_neg (by omega), dif_pos h3]
    · iexact Hr
  isplitl [Ho]; · iexact Ho
  isplitl [H0]
  · iexists _; isplitr; swap
    · iexact H0
    ipureintro; exact (hstage0_0 ((cfg0.slots t 0).cast nbuf0_0)).read_unread _
  isplitl [H1]
  · iexists _; isplitr; swap
    · iexact H1
    ipureintro; exact (hstage0_1 ((cfg0.slots t 1).cast nbuf0_1)).read_unread _
  isplitl [H2]
  · iexists _; isplitr; swap
    · iexact H2
    ipureintro; exact (hstage0_2 ((cfg0.slots t 2).cast nbuf0_2)).read_unread _
  isplitl [H3]
  · iexists _; isplitr; swap
    · iexact H3
    ipureintro; exact (hstage0_3 ((cfg0.slots t 3).cast nbuf0_3)).read_unread _
  isplitl [H4]
  · iexists _; isplitr; swap
    · iexact H4
    ipureintro; exact (hstage0_4 ((cfg0.slots t 4).cast nbuf0_4)).read_unread _
  isplitl [H5]
  · iexists _; isplitr; swap
    · iexact H5
    ipureintro; exact (hstage0_5 ((cfg0.slots t 5).cast nbuf0_5)).read_unread _
  isplitl [H6]
  · rw [if_pos h3]
    iexists _; isplitr; swap
    · iexact H6
    ipureintro; unfold dqAt; rw [dif_pos h3]; exact View.read_writes_eq_canon _ _ _ (cover_dqC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _ _)
  isplitl [H7]
  · iexists _; isplitr; swap
    · iexact H7
    ipureintro; unfold dkAt; rw [dif_neg (by omega), dif_pos h3]; exact View.read_writes_eq_canon _ _ _ (cover_dkC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _ _)
  · iexists _; isplitr; swap
    · iexact H8
    ipureintro; unfold dvAt; rw [dif_neg (by omega), dif_pos h3]; exact View.read_writes_eq_canon _ _ _ (cover_dvC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundA m c t h0
  · by_cases h3 : t.val % 4 = 3
    · exact soundC m c t h3
    · exact soundB m c t h0 h3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem idle_of (t : Fin cfg0.N) (h : ¬ t.val % 4 = 3) : cfg0.idle 6 (cfg0.grid.coords t) = true := by
  show (!(k0_cond2 (grid0.coords t) == 1#1)) = true
  simp only [Bool.not_eq_true', beq_eq_false_iff_ne]
  exact fun e => h ((hcond1 t).mp e)
theorem idle_of_last (t : Fin cfg0.N) (h : t.val % 4 = 3) : cfg0.idle 6 (cfg0.grid.coords t) = false := by
  show (!(k0_cond2 (grid0.coords t) == 1#1)) = false
  simp only [Bool.not_eq_false', beq_iff_eq]
  exact (hcond1 t).mpr h

set_option maxHeartbeats 4000000 in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  by_cases h3 : t.val % 4 = 3
  · rw [if_pos h3, idle_of_last t h3]; exact .rfl
  · have hf : (cfg0.win 6).flush t = false := by
      rw [Bool.eq_false_iff]; exact fun e => h3 ((flush0_6 t).mp e)
    rw [if_neg h3, idle_of t h3, hf]; exact .rfl

/-! ## The run and the frame -/

theorem carried_in (c : Dev nD) : Pipeline.ΦA spec0 c ⊢ carried m c 0 := by
  unfold Pipeline.ΦA carried
  rw [scopedRest0_eq]
  iintro ⟨⟨%f, H⟩, Hr⟩
  isplitl [H]
  · iexists f; isplitr
    · ipureintro; exact fun h => absurd rfl h
    simp only [Memref.view_whole, View.set_whole]; iexact H
  · iexact Hr

theorem carried_out (c : Dev nD) (n : ℕ) : carried m c n ⊢ Pipeline.ΦA spec0 c := by
  unfold Pipeline.ΦA carried
  rw [scopedRest0_eq]
  iintro ⟨⟨%f, -, H⟩, Hr⟩
  isplitl [H]
  · iexists f
    simp only [Memref.view_whole, View.set_whole]; iexact H
  · iexact Hr

set_option backward.isDefEq.respectTransparency.types false in
/-- The launch: every run of the program ends with the arrays at what the body's results make them, the lines after the
    region run on them, and every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := carried_in m) (hout := fun c => carried_out m c _)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

/-- The frame: every argument array ends as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main m ρ))

end Cert.KernelIdeal.Attn

end
-- ==== Proof.Blocks.lean ====
/-
  The blocks a grid point reads, and those it writes, as parts of the arrays.
-/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI

/-- Where the blocks of queries, of keys and of log-sums lie: by batch element, by row block, by pair of heads. -/
theorem place0 : ∀ t : Fin cfg0.N, win0_0.index t 0 = t.val / 16 ∧ win0_0.index t 1 = 0 ∧ win0_0.index t 2 = t.val / 4 % 4 := by
  decide +kernel

theorem place3 : ∀ t : Fin cfg0.N, win0_3.index t 0 = t.val / 16 ∧ win0_3.index t 1 = 0 ∧ win0_3.index t 2 = t.val / 4 % 4 := by
  decide +kernel

theorem place4 : ∀ t : Fin cfg0.N, win0_4.index t 0 = t.val / 16 ∧ win0_4.index t 1 = 0 ∧ win0_4.index t 2 = t.val / 4 % 4 := by
  decide +kernel

theorem place6 : ∀ t : Fin cfg0.N, win0_6.index t 0 = t.val / 16 ∧ win0_6.index t 1 = 0 ∧ win0_6.index t 2 = t.val / 4 % 4 := by
  decide +kernel

theorem place1 : ∀ t : Fin cfg0.N, win0_1.index t 0 = t.val / 16 ∧ win0_1.index t 1 = t.val % 4 ∧ win0_1.index t 2 = t.val / 4 % 4 := by
  decide +kernel

theorem place2 : ∀ t : Fin cfg0.N, win0_2.index t 0 = t.val / 16 ∧ win0_2.index t 1 = t.val % 4 ∧ win0_2.index t 2 = t.val / 4 % 4 := by
  decide +kernel

theorem place7 : ∀ t : Fin cfg0.N, win0_7.index t 0 = t.val / 16 ∧ win0_7.index t 1 = t.val % 4 ∧ win0_7.index t 2 = t.val / 4 % 4 := by
  decide +kernel

theorem place8 : ∀ t : Fin cfg0.N, win0_8.index t 0 = t.val / 16 ∧ win0_8.index t 1 = t.val % 4 ∧ win0_8.index t 2 = t.val / 4 % 4 := by
  decide +kernel

theorem place5 : ∀ t : Fin cfg0.N, win0_5.index t 0 = t.val / 16 ∧ win0_5.index t 1 = t.val / 4 % 4 ∧ win0_5.index t 2 = 0
    ∧ win0_5.index t 3 = 0 := by
  decide +kernel

/-- A block read at an index is its array read where the block lies. -/
theorem read0 (A : S2x4096x1024.Idx → Elt Ideal .bf16) (t : Fin cfg0.N) (r : Fin 4096) (d : Fin 256) (i : S2x4096x1024.Idx)
    (h0 : (i 0).val = t.val / 16) (h1 : (i 1).val = r.val) (h2 : (i 2).val = 256 * (t.val / 4 % 4) + d.val) :
    ((cfg0.win 0).blk t).view.read (Elt Ideal) A (ix3 0 r d : S1x4096x256.Idx) = A i := by
  obtain ⟨e0, e1, e2⟩ := place0 t
  blk_ext [e0, e1, e2, h0, h1, h2]

theorem read3 (A : S2x4096x1024.Idx → Elt Ideal .bf16) (t : Fin cfg0.N) (r : Fin 4096) (d : Fin 256) (i : S2x4096x1024.Idx)
    (h0 : (i 0).val = t.val / 16) (h1 : (i 1).val = r.val) (h2 : (i 2).val = 256 * (t.val / 4 % 4) + d.val) :
    ((cfg0.win 3).blk t).view.read (Elt Ideal) A (ix3 0 r d : S1x4096x256.Idx) = A i := by
  obtain ⟨e0, e1, e2⟩ := place3 t
  blk_ext [e0, e1, e2, h0, h1, h2]

theorem read4 (A : S2x4096x1024.Idx → Elt Ideal .bf16) (t : Fin cfg0.N) (r : Fin 4096) (d : Fin 256) (i : S2x4096x1024.Idx)
    (h0 : (i 0).val = t.val / 16) (h1 : (i 1).val = r.val) (h2 : (i 2).val = 256 * (t.val / 4 % 4) + d.val) :
    ((cfg0.win 4).blk t).view.read (Elt Ideal) A (ix3 0 r d : S1x4096x256.Idx) = A i := by
  obtain ⟨e0, e1, e2⟩ := place4 t
  blk_ext [e0, e1, e2, h0, h1, h2]

theorem read6 (A : S2x4096x1024.Idx → Elt Ideal .bf16) (t : Fin cfg0.N) (r : Fin 4096) (d : Fin 256) (i : S2x4096x1024.Idx)
    (h0 : (i 0).val = t.val / 16) (h1 : (i 1).val = r.val) (h2 : (i 2).val = 256 * (t.val / 4 % 4) + d.val) :
    ((cfg0.win 6).blk t).view.read (Elt Ideal) A (ix3 0 r d : S1x4096x256.Idx) = A i := by
  obtain ⟨e0, e1, e2⟩ := place6 t
  blk_ext [e0, e1, e2, h0, h1, h2]

theorem read1 (A : S2x4096x1024.Idx → Elt Ideal .bf16) (t : Fin cfg0.N) (r : Fin 1024) (d : Fin 256) (i : S2x4096x1024.Idx)
    (h0 : (i 0).val = t.val / 16) (h1 : (i 1).val = 1024 * (t.val % 4) + r.val) (h2 : (i 2).val = 256 * (t.val / 4 % 4) + d.val) :
    ((cfg0.win 1).blk t).view.read (Elt Ideal) A (ix3 0 r d : S1x1024x256.Idx) = A i := by
  obtain ⟨e0, e1, e2⟩ := place1 t
  blk_ext [e0, e1, e2, h0, h1, h2]

theorem read2 (A : S2x4096x1024.Idx → Elt Ideal .bf16) (t : Fin cfg0.N) (r : Fin 1024) (d : Fin 256) (i : S2x4096x1024.Idx)
    (h0 : (i 0).val = t.val / 16) (h1 : (i 1).val = 1024 * (t.val % 4) + r.val) (h2 : (i 2).val = 256 * (t.val / 4 % 4) + d.val) :
    ((cfg0.win 2).blk t).view.read (Elt Ideal) A (ix3 0 r d : S1x1024x256.Idx) = A i := by
  obtain ⟨e0, e1, e2⟩ := place2 t
  blk_ext [e0, e1, e2, h0, h1, h2]

theorem read7 (A : S2x4096x1024.Idx → Elt Ideal .bf16) (t : Fin cfg0.N) (r : Fin 1024) (d : Fin 256) (i : S2x4096x1024.Idx)
    (h0 : (i 0).val = t.val / 16) (h1 : (i 1).val = 1024 * (t.val % 4) + r.val) (h2 : (i 2).val = 256 * (t.val / 4 % 4) + d.val) :
    ((cfg0.win 7).blk t).view.read (Elt Ideal) A (ix3 0 r d : S1x1024x256.Idx) = A i := by
  obtain ⟨e0, e1, e2⟩ := place7 t
  blk_ext [e0, e1, e2, h0, h1, h2]

theorem read8 (A : S2x4096x1024.Idx → Elt Ideal .bf16) (t : Fin cfg0.N) (r : Fin 1024) (d : Fin 256) (i : S2x4096x1024.Idx)
    (h0 : (i 0).val = t.val / 16) (h1 : (i 1).val = 1024 * (t.val % 4) + r.val) (h2 : (i 2).val = 256 * (t.val / 4 % 4) + d.val) :
    ((cfg0.win 8).blk t).view.read (Elt Ideal) A (ix3 0 r d : S1x1024x256.Idx) = A i := by
  obtain ⟨e0, e1, e2⟩ := place8 t
  blk_ext [e0, e1, e2, h0, h1, h2]

theorem read5 (A : S2x8x4096x1.Idx → Elt Ideal .f32) (t : Fin cfg0.N) (h : Fin 2) (r : Fin 4096) (i : S2x8x4096x1.Idx)
    (h0 : (i 0).val = t.val / 16) (h1 : (i 1).val = 2 * (t.val / 4 % 4) + h.val) (h2 : (i 2).val = r.val) :
    ((cfg0.win 5).blk t).view.read (Elt Ideal) A (ix4 0 h r 0 : S1x2x4096x1.Idx) = A i := by
  obtain ⟨e0, e1, e2, e3⟩ := place5 t
  have h3 : (i 3).val = 0 := by have := (i 3).isLt; change (i 3).val < 1 at this; omega
  blk_ext [e0, e1, e2, e3, h0, h1, h2, h3]

/-- The blocks that the grid writes cover the arrays of results. -/
theorem mem6 (t : Fin cfg0.N) (i : S2x4096x1024.Idx) (h0 : (i 0).val = t.val / 16)
    (h1 : True) (h2 : (i 2).val / 256 = t.val / 4 % 4) : i ∈ ((cfg0.win 6).blk t).view.set := by
  show i ∈ ((View.whole main_v39_0).slice (win0_6.rect t)).set
  rw [View.set_slice_whole, Rect.mem_set_unit]
  obtain ⟨e0, e1, e2⟩ := place6 t
  have hi1 : (i 1).val < 4096 := (i 1).isLt
  intro a
  match a with
  | ⟨0, _⟩ => show win0_6.index t 0 * 1 ≤ (i 0).val ∧ (i 0).val < win0_6.index t 0 * 1 + 1; omega
  | ⟨1, _⟩ => show win0_6.index t 1 * 4096 ≤ (i 1).val ∧ (i 1).val < win0_6.index t 1 * 4096 + 4096; omega
  | ⟨2, _⟩ => show win0_6.index t 2 * 256 ≤ (i 2).val ∧ (i 2).val < win0_6.index t 2 * 256 + 256; omega

theorem mem7 (t : Fin cfg0.N) (i : S2x4096x1024.Idx) (h0 : (i 0).val = t.val / 16)
    (h1 : (i 1).val / 1024 = t.val % 4) (h2 : (i 2).val / 256 = t.val / 4 % 4) : i ∈ ((cfg0.win 7).blk t).view.set := by
  show i ∈ ((View.whole main_v39_1).slice (win0_7.rect t)).set
  rw [View.set_slice_whole, Rect.mem_set_unit]
  obtain ⟨e0, e1, e2⟩ := place7 t
  have hi1 : (i 1).val < 4096 := (i 1).isLt
  intro a
  match a with
  | ⟨0, _⟩ => show win0_7.index t 0 * 1 ≤ (i 0).val ∧ (i 0).val < win0_7.index t 0 * 1 + 1; omega
  | ⟨1, _⟩ => show win0_7.index t 1 * 1024 ≤ (i 1).val ∧ (i 1).val < win0_7.index t 1 * 1024 + 1024; omega
  | ⟨2, _⟩ => show win0_7.index t 2 * 256 ≤ (i 2).val ∧ (i 2).val < win0_7.index t 2 * 256 + 256; omega

theorem mem8 (t : Fin cfg0.N) (i : S2x4096x1024.Idx) (h0 : (i 0).val = t.val / 16)
    (h1 : (i 1).val / 1024 = t.val % 4) (h2 : (i 2).val / 256 = t.val / 4 % 4) : i ∈ ((cfg0.win 8).blk t).view.set := by
  show i ∈ ((View.whole main_v39_2).slice (win0_8.rect t)).set
  rw [View.set_slice_whole, Rect.mem_set_unit]
  obtain ⟨e0, e1, e2⟩ := place8 t
  have hi1 : (i 1).val < 4096 := (i 1).isLt
  intro a
  match a with
  | ⟨0, _⟩ => show win0_8.index t 0 * 1 ≤ (i 0).val ∧ (i 0).val < win0_8.index t 0 * 1 + 1; omega
  | ⟨1, _⟩ => show win0_8.index t 1 * 1024 ≤ (i 1).val ∧ (i 1).val < win0_8.index t 1 * 1024 + 1024; omega
  | ⟨2, _⟩ => show win0_8.index t 2 * 256 ≤ (i 2).val ∧ (i 2).val < win0_8.index t 2 * 256 + 256; omega

end Cert.KernelIdeal.Attn
end
-- ==== Proof.Model.lean ====
/-
  The gradient of one pair of heads of causal attention against one block of keys, as functions of real numbers.
  Nothing here is about a program: these are the formulas that the kernel's blocks are shown to hold.
-/
module

public import Idealize.ShloMosaic.PureOps.Ideal

@[expose] public section

noncomputable section

namespace Cert.Attn

open Finset

/-- A finite sum of real numbers, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The blocks of one grid point as real functions of row and lane: the queries `Q`, the saved outputs `O` and the
output's gradient `D` over all rows; the keys `K` and values `V` over the rows of one block; the logarithm `L` of each
row's sum, by head and row. -/
structure Blk where
  Q : ℕ → ℕ → ℝ
  K : ℕ → ℕ → ℝ
  V : ℕ → ℕ → ℝ
  O : ℕ → ℕ → ℝ
  D : ℕ → ℕ → ℝ
  L : ℕ → ℕ → ℝ

namespace Blk

variable (b : Blk)

/-- The probability of key `c` of block `j` at query `s`, for head `h` of the pair: zero above the diagonal. -/
def pr (j h s c : ℕ) : ℝ :=
  if 1024 * j + c ≤ s then Real.exp ((∑ d : Fin 128, b.Q s (128 * h + d) * b.K c (128 * h + d)) - b.L h s) else 0

/-- The gradient of the score of key `c` of block `j` at query `s`. -/
def ds (j h s c : ℕ) : ℝ :=
  b.pr j h s c * ((∑ e : Fin 128, b.D s (128 * h + e) * b.V c (128 * h + e))
    - ∑ e : Fin 128, b.D s (128 * h + e) * b.O s (128 * h + e))

/-- The part of a value's gradient that comes from the `n` blocks of queries from block `j` on. -/
def dv (j h n c e : ℕ) : ℝ :=
  ∑ i ∈ range n, ∑ r : Fin 1024, b.pr j h (1024 * (j + i) + r) c * b.D (1024 * (j + i) + r) (128 * h + e)

/-- The part of a key's gradient that comes from the `n` blocks of queries from block `j` on. -/
def dk (j h n c e : ℕ) : ℝ :=
  ∑ i ∈ range n, ∑ r : Fin 1024, b.ds j h (1024 * (j + i) + r) c * b.Q (1024 * (j + i) + r) (128 * h + e)

/-- What block `j` of keys gives the gradient of query `s` in lane `l` of the pair. -/
def dq (j s l : ℕ) : ℝ := ∑ c : Fin 1024, b.ds j (l / 128) s c * b.K c l

/-- The running gradient of the queries after `n` blocks of queries from block `j` on. -/
def run (G : ℕ → ℕ → ℝ) (j n s l : ℕ) : ℝ :=
  G s l + if 1024 * j ≤ s ∧ s < 1024 * (j + n) then b.dq j s l else 0

theorem dv_succ (j h n c e : ℕ) : b.dv j h (n + 1) c e
    = b.dv j h n c e + ∑ r : Fin 1024, b.pr j h (1024 * (j + n) + r) c * b.D (1024 * (j + n) + r) (128 * h + e) := by
  rw [dv, sum_range_succ, ← dv]

theorem dk_succ (j h n c e : ℕ) : b.dk j h (n + 1) c e
    = b.dk j h n c e + ∑ r : Fin 1024, b.ds j h (1024 * (j + n) + r) c * b.Q (1024 * (j + n) + r) (128 * h + e) := by
  rw [dk, sum_range_succ, ← dk]

theorem dv_zero (j h c e : ℕ) : b.dv j h 0 c e = 0 := by rw [dv, range_zero, sum_empty]
theorem dk_zero (j h c e : ℕ) : b.dk j h 0 c e = 0 := by rw [dk, range_zero, sum_empty]

theorem run_zero (G : ℕ → ℕ → ℝ) (j s l : ℕ) : b.run G j 0 s l = G s l := by
  rw [run, if_neg (by omega), add_zero]

/-- A row of the block of queries just taken gains its part. -/
theorem run_succ_mem (G : ℕ → ℕ → ℝ) (j n s l : ℕ) (h1 : 1024 * (j + n) ≤ s) (h2 : s < 1024 * (j + n) + 1024) :
    b.run G j (n + 1) s l = b.run G j n s l + b.dq j s l := by
  rw [run, run, if_pos (by omega), if_neg (by omega), add_zero]

/-- Any other row is as it was. -/
theorem run_succ_not_mem (G : ℕ → ℕ → ℝ) (j n s l : ℕ) (h : ¬ (1024 * (j + n) ≤ s ∧ s < 1024 * (j + n) + 1024)) :
    b.run G j (n + 1) s l = b.run G j n s l := by
  rw [run, run]
  congr 1
  by_cases h' : 1024 * j ≤ s ∧ s < 1024 * (j + n)
  · rw [if_pos h', if_pos (by omega)]
  · rw [if_neg h', if_neg (by omega)]

/-- Above the diagonal a block gives nothing, so the blocks of queries before block `j` need not be taken. -/
theorem ds_before (j h s c : ℕ) (hs : s < 1024 * j) : b.ds j h s c = 0 := by
  rw [ds, pr, if_neg (by omega), zero_mul]

theorem pr_before (j h s c : ℕ) (hs : s < 1024 * j) : b.pr j h s c = 0 := by
  rw [pr, if_neg (by omega)]

theorem run_all (G : ℕ → ℕ → ℝ) (j n s l : ℕ) (hs : s < 1024 * (j + n)) : b.run G j n s l = G s l + b.dq j s l := by
  rw [run]
  by_cases h : 1024 * j ≤ s
  · rw [if_pos ⟨h, hs⟩]
  · rw [if_neg (by omega), dq, sum_eq_zero]
    intro c _
    rw [ds_before _ _ _ _ _ (by omega), zero_mul]

end Blk

end Cert.Attn
end
-- ==== Proof.Tile.lean ====
/-
  What one tile of the kernel computes, over the extended reals: each payload of the body read at an index, as sums
  and exponentials of the blocks it is given.
-/
module

public import proofs.«01_k».proof.Proof.Gen.KernelIdeal.Skeleton
public import Idealize.ShloMosaic.Lib.Pointwise
public import Idealize.ShloMosaic.Lib.WordCmp
public import proofs.«01_k».proof.Proof.Model

@[expose] public section

set_option maxRecDepth 16384

noncomputable section

namespace Cert.KernelIdeal.Attn

open Cert.KernelIdeal Cert.KernelIdeal.Gen
open Idealize.ShloMosaic Idealize.SL.Sem

/-! ## The payloads at an index -/

/-- The probabilities of one tile of queries against one tile of keys, below the diagonal. -/
theorem pay8_apply (k q : Vec Ideal S1x1024x128 .bf16) (l : Vec Ideal S1x1x1024x1 .f32) (r c : Fin 1024) :
    k0_pay8 (F := Ideal) k q l (ix2 r c)
      = Ideal.exp ((∑ d : Fin 128, q (ix3 0 r d) * k (ix3 0 c d)) - l (ix4 0 0 r 0)) := by
  pointwise [k0_pay8, k0_pay6, k0_pay5]

theorem pay40_apply (k q : Vec Ideal S1x1024x128 .bf16) (l : Vec Ideal S1x1x1024x1 .f32) (r c : Fin 1024) :
    k0_pay40 (F := Ideal) k q l (ix2 r c)
      = Ideal.exp ((if c.val ≤ r.val then (∑ d : Fin 128, q (ix3 0 r d) * k (ix3 0 c d)) else ⊥) - l (ix4 0 0 r 0)) := by
  pointwise [k0_pay40, k0_pay38, k0_pay37]
  rw [WordCmp.cmpi_sle_ofNat (by have := c.isLt; omega) (by have := r.isLt; omega),
    IdealRules.named_const.ideal_named_scalar _ _ _ _ rfl]
  by_cases h : c.val ≤ r.val
  · rw [if_pos h, decide_eq_true h]; rfl
  · rw [if_neg h, decide_eq_false h]; rfl

theorem pay9_apply (a : FVec Ideal S1024x128 .f32) (k q d : Vec Ideal S1x1024x128 .bf16) (l : Vec Ideal S1x1x1024x1 .f32) (c : Fin 1024) (e : Fin 128) :
    k0_pay9 (F := Ideal) a k q d l (ix2 c e)
      = a (ix2 c e) + ∑ r : Fin 1024, k0_pay8 (F := Ideal) k q l (ix2 r c) * d (ix3 0 r e) := by
  pointwise [k0_pay9, k0_pay7]

theorem pay10_apply (k q d : Vec Ideal S1x1024x128 .bf16) (l : Vec Ideal S1x1x1024x1 .f32) (v o : Vec Ideal S1x1024x128 .bf16) (r c : Fin 1024) :
    k0_pay10 (F := Ideal) k q d l v o (ix2 r c)
      = k0_pay8 (F := Ideal) k q l (ix2 r c) * ((∑ e : Fin 128, d (ix3 0 r e) * v (ix3 0 c e)) - ∑ e : Fin 128, d (ix3 0 r e) * o (ix3 0 r e)) := by
  pointwise [k0_pay10, k0_pay7]

theorem pay11_apply (a : FVec Ideal S1024x128 .f32) (k q d : Vec Ideal S1x1024x128 .bf16) (l : Vec Ideal S1x1x1024x1 .f32) (v o : Vec Ideal S1x1024x128 .bf16) (c : Fin 1024) (e : Fin 128) :
    k0_pay11 (F := Ideal) a k q d l v o (ix2 c e)
      = a (ix2 c e) + ∑ r : Fin 1024, k0_pay10 (F := Ideal) k q d l v o (ix2 r c) * q (ix3 0 r e) := by
  pointwise [k0_pay11, k0_pay6]

theorem pay12_apply (k : Vec Ideal S1x1024x128 .bf16) (g : FVec Ideal S1024x1024 .bf16) (a : Vec Ideal S1024x128 .f32) (r : Fin 1024) (e : Fin 128) :
    k0_pay12 (F := Ideal) (k0_pay5 k) g a (ix2 r e)
      = a (ix2 r e) + ∑ c : Fin 1024, g (ix2 r c) * k (ix3 0 c e) := by
  pointwise [k0_pay12, k0_pay5]

theorem pay44_apply (d : Vec Ideal S1x1024x128 .bf16) (p : FVec Ideal S1024x1024 .f32) (v o : Vec Ideal S1x1024x128 .bf16) (r c : Fin 1024) :
    k0_pay44 (F := Ideal) p (k0_pay42 d v) (k0_pay43 d) o (ix2 r c)
      = p (ix2 r c) * ((∑ e : Fin 128, d (ix3 0 r e) * v (ix3 0 c e)) - ∑ e : Fin 128, d (ix3 0 r e) * o (ix3 0 r e)) := by
  pointwise [k0_pay44, k0_pay42, k0_pay43, k0_pay39]

/-! ## One tile of real numbers

`IsTile x f` says that block `x` holds the real function `f` of row and lane. -/

section Tile

open Cert.Attn

variable (b : Blk) (j h a : ℕ)

/-- A block of 1024 rows and 128 lanes holds the real function `f`. -/
def IsTile (x : Vec Ideal S1x1024x128 .bf16) (f : ℕ → ℕ → ℝ) : Prop :=
  ∀ (r : Fin 1024) (d : Fin 128), x (ix3 0 r d) = ((f r d : ℝ) : EReal)

variable {k q d v o : Vec Ideal S1x1024x128 .bf16} {l : Vec Ideal S1x1x1024x1 .f32}
  (hk : IsTile k fun r e => b.K r (128 * h + e)) (hv : IsTile v fun r e => b.V r (128 * h + e))
  (hq : IsTile q fun r e => b.Q (a + r) (128 * h + e)) (hd : IsTile d fun r e => b.D (a + r) (128 * h + e))
  (ho : IsTile o fun r e => b.O (a + r) (128 * h + e)) (hl : ∀ r : Fin 1024, l (ix4 0 0 r 0) = ((b.L h (a + r) : ℝ) : EReal))

include hk hq in
theorem scores_coe (r c : Fin 1024) : (∑ e : Fin 128, q (ix3 0 r e) * k (ix3 0 c e))
    = ((∑ e : Fin 128, b.Q (a + r) (128 * h + e) * b.K c (128 * h + e) : ℝ) : EReal) := by
  rw [coe_sum]
  exact Finset.sum_congr rfl fun e _ => by rw [hq, hk, EReal.coe_mul]

include hk hq hl in
/-- Below the diagonal block the tile of probabilities is the formula's. -/
theorem pay8_coe (ha : 1024 * j + 1023 ≤ a) (r c : Fin 1024) :
    k0_pay8 (F := Ideal) k q l (ix2 r c) = ((b.pr j h (a + r) c : ℝ) : EReal) := by
  rw [pay8_apply, scores_coe b h a hk hq, hl, ← EReal.coe_sub, Ideal.exp_coe, Blk.pr, if_pos (by have := c.isLt; omega)]

include hk hq hl in
/-- On the diagonal block the masked tile of probabilities is the formula's. -/
theorem pay40_coe (ha : a = 1024 * j) (r c : Fin 1024) :
    k0_pay40 (F := Ideal) k q l (ix2 r c) = ((b.pr j h (a + r) c : ℝ) : EReal) := by
  rw [pay40_apply, scores_coe b h a hk hq, hl, Blk.pr]
  by_cases hc : c.val ≤ r.val
  · rw [if_pos hc, if_pos (by omega), ← EReal.coe_sub, Ideal.exp_coe]
  · rw [if_neg hc, if_neg (by omega), EReal.bot_sub, Ideal.exp_bot, EReal.coe_zero]

include hv hd ho in
/-- The gradient of a tile of scores is the formula's, once its probabilities are. -/
theorem ds_coe (p : EReal) (r c : Fin 1024) (hp : p = ((b.pr j h (a + r) c : ℝ) : EReal)) :
    p * ((∑ e : Fin 128, d (ix3 0 r e) * v (ix3 0 c e)) - ∑ e : Fin 128, d (ix3 0 r e) * o (ix3 0 r e))
      = ((b.ds j h (a + r) c : ℝ) : EReal) := by
  have h1 : (∑ e : Fin 128, d (ix3 0 r e) * v (ix3 0 c e))
      = ((∑ e : Fin 128, b.D (a + r) (128 * h + e) * b.V c (128 * h + e) : ℝ) : EReal) := by
    rw [coe_sum]
    exact Finset.sum_congr rfl fun e _ => by rw [hd, hv, EReal.coe_mul]
  have h2 : (∑ e : Fin 128, d (ix3 0 r e) * o (ix3 0 r e))
      = ((∑ e : Fin 128, b.D (a + r) (128 * h + e) * b.O (a + r) (128 * h + e) : ℝ) : EReal) := by
    rw [coe_sum]
    exact Finset.sum_congr rfl fun e _ => by rw [hd, ho, EReal.coe_mul]
  rw [hp, h1, h2, ← EReal.coe_sub, ← EReal.coe_mul, Blk.ds]

/-- A product of a tile of probabilities (or of gradients of scores), transposed, with a tile, added to what was
accumulated. -/
theorem acc_coe (x : EReal) (g : ℝ) (p : Fin 1024 → EReal) (y : Vec Ideal S1x1024x128 .bf16) (e : Fin 128) (f : ℕ → ℝ)
    (w : ℕ → ℕ → ℝ) (hx : x = (g : EReal)) (hp : ∀ r, p r = ((f r : ℝ) : EReal)) (hy : IsTile y w) :
    x + ∑ r : Fin 1024, p r * y (ix3 0 r e) = ((g + ∑ r : Fin 1024, f r * w r e : ℝ) : EReal) := by
  rw [EReal.coe_add, coe_sum, hx]
  exact congrArg _ (Finset.sum_congr rfl fun r _ => by rw [hp, hy, EReal.coe_mul])

end Tile

end Cert.KernelIdeal.Attn
end
-- ==== Proof.Trip.lean ====
/-
  One trip of the kernel's loop over blocks of queries, over the extended reals: the sums it carries and the accumulator
  hold the formula's with one block of queries more.
-/
module

public import proofs.«01_k».proof.Proof.Tile
public import proofs.«01_k».proof.Proof.Gen.KernelIdeal.Loops
public import Idealize.ShloMosaic.Lib.WholeRead
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the loads read -/

section Loads

open Cert.Attn

/-- A load of 1024 rows and 128 lanes of a block of 4096 rows that holds real numbers reads those rows and lanes. -/
theorem tile_rows (m : Memref sig .tc .vmem S1x4096x256 .bf16) (hm : m.IsWhole) (x : Vec Ideal S1x4096x256 .bf16)
    (f : ℕ → ℕ → ℝ) (hx : ∀ (r : Fin 4096) (d : Fin 256), x (ix3 0 r d) = ((f r d : ℝ) : EReal))
    {off : Fin 3 → ℕ} {p q : ℕ} (hoff : off = ![0, p, q]) (inb : ∀ a, off a + S1x1024x128.size a ≤ S1x4096x256.size a) :
    IsTile (View.readAt (Elt Ideal) m.view (Rect.unit (s := S1x4096x256) off S1x1024x128.size inb).toLoadRect (hm.unread x))
      fun r d => f (p + r) (q + d) := by
  subst hoff
  intro r d
  have hp : p + 1024 ≤ 4096 := inb 1
  have hq : q + 128 ≤ 256 := inb 2
  rw [Memref.IsWhole.readAt_unread]
  refine Eq.trans (congrArg x ?_) (hx ⟨p + r, by omega⟩ ⟨q + d, by omega⟩)
  funext a
  fin_cases a
  · exact Fin.ext (by show 0 + 1 * 0 = 0; rfl)
  · exact Fin.ext (by show p + 1 * r.val = p + r.val; omega)
  · exact Fin.ext (by show q + 1 * d.val = q + d.val; omega)

/-- A load of 128 lanes of a block of 1024 rows that holds real numbers reads those lanes. -/
theorem tile_lanes (m : Memref sig .tc .vmem S1x1024x256 .bf16) (hm : m.IsWhole) (x : Vec Ideal S1x1024x256 .bf16)
    (f : ℕ → ℕ → ℝ) (hx : ∀ (r : Fin 1024) (d : Fin 256), x (ix3 0 r d) = ((f r d : ℝ) : EReal))
    {off : Fin 3 → ℕ} {q : ℕ} (hoff : off = ![0, 0, q]) (inb : ∀ a, off a + S1x1024x128.size a ≤ S1x1024x256.size a) :
    IsTile (View.readAt (Elt Ideal) m.view (Rect.unit (s := S1x1024x256) off S1x1024x128.size inb).toLoadRect (hm.unread x))
      fun r d => f r (q + d) := by
  subst hoff
  intro r d
  have hq : q + 128 ≤ 256 := inb 2
  rw [Memref.IsWhole.readAt_unread]
  refine Eq.trans (congrArg x ?_) (hx r ⟨q + d, by omega⟩)
  funext a
  fin_cases a
  · exact Fin.ext (by show 0 + 1 * 0 = 0; rfl)
  · exact Fin.ext (by show 0 + 1 * r.val = r.val; omega)
  · exact Fin.ext (by show q + 1 * d.val = q + d.val; omega)

/-- A load of one head's 1024 logarithms reads that head's rows. -/
theorem tile_logs (m : Memref sig .tc .vmem S1x2x4096x1 .f32) (hm : m.IsWhole) (x : Vec Ideal S1x2x4096x1 .f32)
    (f : ℕ → ℕ → ℝ) (hx : ∀ (h : Fin 2) (r : Fin 4096), x (ix4 0 h r 0) = ((f h r : ℝ) : EReal))
    {off : Fin 4 → ℕ} {h p : ℕ} (hoff : off = ![0, h, p, 0]) (inb : ∀ a, off a + S1x1x1024x1.size a ≤ S1x2x4096x1.size a)
    (r : Fin 1024) :
    View.readAt (Elt Ideal) m.view (Rect.unit (s := S1x2x4096x1) off S1x1x1024x1.size inb).toLoadRect (hm.unread x) (ix4 0 0 r 0)
      = ((f h (p + r) : ℝ) : EReal) := by
  subst hoff
  have hh : h + 1 ≤ 2 := inb 1
  have hp : p + 1024 ≤ 4096 := inb 2
  rw [Memref.IsWhole.readAt_unread]
  refine Eq.trans (congrArg x ?_) (hx ⟨h, by omega⟩ ⟨p + r, by omega⟩)
  funext a
  fin_cases a
  · exact Fin.ext (by show 0 + 1 * 0 = 0; rfl)
  · exact Fin.ext (by show h + 1 * 0 = h; omega)
  · exact Fin.ext (by show p + 1 * r.val = p + r.val; omega)
  · exact Fin.ext (by show 0 + 1 * 0 = 0; rfl)

/-- A load of 1024 rows and 128 lanes of the accumulator reads what its view reads there. -/
theorem scratch_rows (m : Memref sig .tc .vmem S4096x256 .f32) (f : BufTy.Contents (Elt Ideal) m.view.ty)
    {off : Fin 2 → ℕ} {p q : ℕ} (hoff : off = ![p, q]) (inb : ∀ a, off a + S1024x128.size a ≤ S4096x256.size a)
    (g : ℕ → ℕ → ℝ) (hf : ∀ (s : Fin 4096) (l : Fin 256), m.view.read (Elt Ideal) f (ix2 s l) = ((g s l : ℝ) : EReal))
    (r : Fin 1024) (e : Fin 128) :
    View.readAt (Elt Ideal) m.view (Rect.unit (s := S4096x256) off S1024x128.size inb).toLoadRect f (ix2 r e)
      = ((g (p + r) (q + e) : ℝ) : EReal) := by
  subst hoff
  have hp : p + 1024 ≤ 4096 := inb 0
  have hq : q + 128 ≤ 256 := inb 1
  refine Eq.trans (congrArg (m.view.read (Elt Ideal) f) ?_) (hf ⟨p + r, by omega⟩ ⟨q + e, by omega⟩)
  funext a
  fin_cases a
  · exact Fin.ext (by show p + 1 * r.val = p + r.val; omega)
  · exact Fin.ext (by show q + 1 * e.val = q + e.val; omega)

end Loads

/-! ## What a grid point holds -/

section Point

open Cert.Attn

/-- The six blocks of a grid point hold the real functions of `b`. -/
structure Holds (b : Blk) (x0 : Vec Ideal S1x4096x256 .bf16) (x1 x2 : Vec Ideal S1x1024x256 .bf16)
    (x3 x4 : Vec Ideal S1x4096x256 .bf16) (x5 : Vec Ideal S1x2x4096x1 .f32) : Prop where
  q : ∀ (r : Fin 4096) (d : Fin 256), x0 (ix3 0 r d) = ((b.Q r d : ℝ) : EReal)
  k : ∀ (r : Fin 1024) (d : Fin 256), x1 (ix3 0 r d) = ((b.K r d : ℝ) : EReal)
  v : ∀ (r : Fin 1024) (d : Fin 256), x2 (ix3 0 r d) = ((b.V r d : ℝ) : EReal)
  o : ∀ (r : Fin 4096) (d : Fin 256), x3 (ix3 0 r d) = ((b.O r d : ℝ) : EReal)
  d : ∀ (r : Fin 4096) (d : Fin 256), x4 (ix3 0 r d) = ((b.D r d : ℝ) : EReal)
  l : ∀ (h : Fin 2) (r : Fin 4096), x5 (ix4 0 h r 0) = ((b.L h r : ℝ) : EReal)

/-- The accumulator holds the real function `g` of row and lane. -/
def Acc (m : Memref sig .tc .vmem S4096x256 .f32) (f : BufTy.Contents (Elt Ideal) m.view.ty) (g : ℕ → ℕ → ℝ) : Prop :=
  ∀ (s : Fin 4096) (l : Fin 256), m.view.read (Elt Ideal) f (ix2 s l) = ((g s l : ℝ) : EReal)

/-- A block of 1024 rows and 128 lanes of sums holds the real function `g`. -/
def IsSum (x : FVec Ideal S1024x128 .f32) (g : ℕ → ℕ → ℝ) : Prop :=
  ∀ (r : Fin 1024) (e : Fin 128), x (ix2 r e) = ((g r e : ℝ) : EReal)

/-- After both heads' tiles of rows `a` to `a + 1024` are stored, the accumulator holds the running gradient with one
block of queries more. -/
theorem acc_store (b : Blk) (G : ℕ → ℕ → ℝ) (j n : ℕ) (hn : 1024 * (j + n) + 1024 ≤ 4096)
    (m : Memref sig .tc .vmem S4096x256 .f32) (f : BufTy.Contents (Elt Ideal) m.view.ty)
    {off0 off1 : Fin 2 → ℕ} (h0 : off0 = ![1024 * (j + n), 0]) (h1 : off1 = ![1024 * (j + n), 128])
    (inb0 : ∀ a, off0 a + S1024x128.size a ≤ S4096x256.size a) (inb1 : ∀ a, off1 a + S1024x128.size a ≤ S4096x256.size a)
    (w0 w1 : FVec Ideal S1024x128 .f32) (hf : Acc m f (b.run G j n))
    (hw0 : IsSum w0 fun r e => b.run G j (n + 1) (1024 * (j + n) + r) (128 * 0 + e))
    (hw1 : IsSum w1 fun r e => b.run G j (n + 1) (1024 * (j + n) + r) (128 * 1 + e)) :
    Acc m (m.view.writes (Elt Ideal) f [⟨Rect.unit (s := S4096x256) off1 S1024x128.size inb1, w1⟩,
      ⟨Rect.unit (s := S4096x256) off0 S1024x128.size inb0, w0⟩]) (b.run G j (n + 1)) := by
  intro s l
  by_cases hs : 1024 * (j + n) ≤ s.val ∧ s.val < 1024 * (j + n) + 1024
  · obtain ⟨r, hr⟩ : ∃ r : Fin 1024, s.val = 1024 * (j + n) + r.val := ⟨⟨s.val - 1024 * (j + n), by omega⟩, by simp; omega⟩
    by_cases hl : l.val < 128
    · rw [View.read_writes_cons_unit_of_not_mem (s := S4096x256) (off' := ![1024 * (j + n), 128]) m.view f inb1 w1 _ (ix2 s l) h1 1 (Or.inl hl),
        View.read_writes_cons_unit_of_mem (s := S4096x256) (off' := ![1024 * (j + n), 0]) m.view f inb0 w0 _ (ix2 s l) (ix2 r ⟨l.val, hl⟩) h0 (by
          intro a; fin_cases a
          · exact hr
          · show l.val = 0 + l.val; omega), hw0 r ⟨l.val, hl⟩]
      show ((b.run G j (n + 1) (1024 * (j + n) + r) (128 * 0 + l.val) : ℝ) : EReal) = _
      rw [← hr, Nat.mul_zero, Nat.zero_add]
    · rw [View.read_writes_cons_unit_of_mem (s := S4096x256) (off' := ![1024 * (j + n), 128]) m.view f inb1 w1 _ (ix2 s l) (ix2 r ⟨l.val - 128, by omega⟩) h1 (by
          intro a; fin_cases a
          · exact hr
          · show l.val = 128 + (l.val - 128); omega), hw1 r ⟨l.val - 128, by omega⟩]
      show ((b.run G j (n + 1) (1024 * (j + n) + r) (128 * 1 + (l.val - 128)) : ℝ) : EReal) = _
      rw [← hr, show 128 * 1 + (l.val - 128) = l.val by omega]
  · have hs' : s.val < 1024 * (j + n) ∨ 1024 * (j + n) + 1024 ≤ s.val := by omega
    rw [View.read_writes_cons_unit_of_not_mem (s := S4096x256) (off' := ![1024 * (j + n), 128]) m.view f inb1 w1 _ (ix2 s l) h1 0 hs',
      View.read_writes_cons_unit_of_not_mem (s := S4096x256) (off' := ![1024 * (j + n), 0]) m.view f inb0 w0 _ (ix2 s l) h0 0 hs', View.writes_nil, hf s l, b.run_succ_not_mem _ _ _ _ _ hs]

end Point

/-! ## One tile's sums -/

section Sums

open Cert.Attn

variable (b : Blk) (G : ℕ → ℕ → ℝ) (j n h a : ℕ)
variable {k q d v o : Vec Ideal S1x1024x128 .bf16} {l : Vec Ideal S1x1x1024x1 .f32}
  (hk : IsTile k fun r e => b.K r (128 * h + e)) (hv : IsTile v fun r e => b.V r (128 * h + e))
  (hq : IsTile q fun r e => b.Q (1024 * (j + n) + r) (128 * h + e))
  (hd : IsTile d fun r e => b.D (1024 * (j + n) + r) (128 * h + e))
  (ho : IsTile o fun r e => b.O (1024 * (j + n) + r) (128 * h + e))
  (hl : ∀ r : Fin 1024, l (ix4 0 0 r 0) = ((b.L h (1024 * (j + n) + r) : ℝ) : EReal)) (hn : 1 ≤ n)

include hk hq hl hd hn in
/-- A tile below the diagonal adds its part to the values' gradient. -/
theorem dv_tile {w : FVec Ideal S1024x128 .f32} (hw : IsSum w (b.dv j h n)) :
    IsSum (k0_pay9 (F := Ideal) w k q d l) (b.dv j h (n + 1)) := by
  intro c e
  rw [pay9_apply, b.dv_succ]
  exact acc_coe _ _ _ d e (fun r => b.pr j h (1024 * (j + n) + r) c) (fun r e => b.D (1024 * (j + n) + r) (128 * h + e)) (hw c e) (fun r => pay8_coe b j h _ hk hq hl (by omega) r c) hd

include hk hv hq hl hd ho hn in
/-- A tile's gradients of scores are the formula's. -/
theorem ds_tile (r c : Fin 1024) :
    k0_pay10 (F := Ideal) k q d l v o (ix2 r c) = ((b.ds j h (1024 * (j + n) + r) c : ℝ) : EReal) := by
  rw [pay10_apply]
  exact ds_coe b j h _ hv hd ho _ r c (pay8_coe b j h _ hk hq hl (by omega) r c)

include hk hv hq hl hd ho hn in
/-- A tile below the diagonal adds its part to the keys' gradient. -/
theorem dk_tile {w : FVec Ideal S1024x128 .f32} (hw : IsSum w (b.dk j h n)) :
    IsSum (k0_pay11 (F := Ideal) w k q d l v o) (b.dk j h (n + 1)) := by
  intro c e
  rw [pay11_apply, b.dk_succ]
  exact acc_coe _ _ _ q e (fun r => b.ds j h (1024 * (j + n) + r) c) (fun r e => b.Q (1024 * (j + n) + r) (128 * h + e)) (hw c e) (fun r => ds_tile b j n h hk hv hq hd ho hl hn r c) hq

include hk in
/-- A tile adds its part to the queries' gradient, once its gradients of scores are the formula's. -/
theorem dq_tile {w : Vec Ideal S1024x128 .f32} {g : Fin 1024 → Fin 1024 → EReal}
    (hg : ∀ r c, g r c = ((b.ds j h (1024 * (j + n) + r) c : ℝ) : EReal))
    (hw : ∀ (r : Fin 1024) (e : Fin 128), w (ix2 r e) = ((b.run G j n (1024 * (j + n) + r) (128 * h + e) : ℝ) : EReal))
    (r : Fin 1024) (e : Fin 128) :
    w (ix2 r e) + ∑ c : Fin 1024, g r c * k (ix3 0 c e)
      = ((b.run G j (n + 1) (1024 * (j + n) + r) (128 * h + e) : ℝ) : EReal) := by
  rw [b.run_succ_mem _ _ _ _ _ (by omega) (by have := r.isLt; omega), Blk.dq,
    show (128 * h + e.val) / 128 = h by have := e.isLt; omega]
  exact acc_coe _ _ _ k e (fun c => b.ds j h (1024 * (j + n) + r) c) (fun c e => b.K c (128 * h + e)) (hw r e) (fun c => hg r c) hk

end Sums

section Trip

open Cert.Attn

variable (𝒱 : Variants) (c : Dev nD) (bd : Option 𝒱.V) (i : grid0.Coords)
  (arg3 : Memref sig .tc .vmem S1x4096x256 .bf16) (harg3 : arg3.IsWhole)
  (arg4 : Memref sig .tc .vmem S1x1024x256 .bf16) (harg4 : arg4.IsWhole)
  (arg5 : Memref sig .tc .vmem S1x1024x256 .bf16) (harg5 : arg5.IsWhole)
  (arg6 : Memref sig .tc .vmem S1x4096x256 .bf16) (harg6 : arg6.IsWhole)
  (arg7 : Memref sig .tc .vmem S1x4096x256 .bf16) (harg7 : arg7.IsWhole)
  (arg8 : Memref sig .tc .vmem S1x2x4096x1 .f32) (harg8 : arg8.IsWhole)
  (arg9 : Memref sig .tc .vmem S1x4096x256 .bf16) (harg9 : arg9.IsWhole)
  (arg10 : Memref sig .tc .vmem S1x1024x256 .bf16) (harg10 : arg10.IsWhole)
  (arg11 : Memref sig .tc .vmem S1x1024x256 .bf16) (harg11 : arg11.IsWhole)
  (arg12 : Memref sig .tc .vmem S4096x256 .f32) (harg12 : arg12.IsWhole)

variable (arg2 : BitVec 32) (v3 : FVec Ideal S1024x128 .f32) (v5 : BitVec 32) (v28 v45 : FVec Ideal S1024x128 .f32)
  (v55 v58 v61 : FVec Ideal S1024x128 .bf16) (v73 : FVec Ideal S1024x1024 .f32) (v74 : FVec Ideal S1024x1024 .bf16) (v102 : BitVec 32)
variable (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (X8 : BufTy.Contents (Elt Ideal) arg8.view.ty)
  (k : Fin (k0_t1_loop i).trips) (a : FVec Ideal S1024x128 .f32 × FVec Ideal S1024x128 .f32 × FVec Ideal S1024x128 .f32 × FVec Ideal S1024x128 .f32)
  (f : BufTy.Contents (Elt Ideal) arg12.view.ty)

set_option maxHeartbeats 4000000 in
/-- The sums that a trip carries on, as payloads of the blocks it loads. -/
theorem tripR_eq : tripR_k0_t1 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 X3 X4 X5 X6 X7 X8 k a f =
    (k0_pay11 a.1 (View.readAt (Elt Ideal) arg4.view (Rect.unit (s := S1x1024x256) (![0, 0, 0]) S1x1024x128.size inb_S1x1024x256_S1x1024x128_0_0_0).toLoadRect X4) (View.readAt (Elt Ideal) arg3.view (Rect.unit (s := S1x4096x256) (k0_off7 i k) S1x1024x128.size (k0_off7_inb i k)).toLoadRect X3) (View.readAt (Elt Ideal) arg7.view (Rect.unit (s := S1x4096x256) (k0_off7 i k) S1x1024x128.size (k0_off7_inb i k)).toLoadRect X7) (View.readAt (Elt Ideal) arg8.view (Rect.unit (s := S1x2x4096x1) (k0_off8 i k) S1x1x1024x1.size (k0_off8_inb i k)).toLoadRect X8) (View.readAt (Elt Ideal) arg5.view (Rect.unit (s := S1x1024x256) (![0, 0, 0]) S1x1024x128.size inb_S1x1024x256_S1x1024x128_0_0_0).toLoadRect X5) (View.readAt (Elt Ideal) arg6.view (Rect.unit (s := S1x4096x256) (k0_off7 i k) S1x1024x128.size (k0_off7_inb i k)).toLoadRect X6),
     k0_pay9 a.2.1 (View.readAt (Elt Ideal) arg4.view (Rect.unit (s := S1x1024x256) (![0, 0, 0]) S1x1024x128.size inb_S1x1024x256_S1x1024x128_0_0_0).toLoadRect X4) (View.readAt (Elt Ideal) arg3.view (Rect.unit (s := S1x4096x256) (k0_off7 i k) S1x1024x128.size (k0_off7_inb i k)).toLoadRect X3) (View.readAt (Elt Ideal) arg7.view (Rect.unit (s := S1x4096x256) (k0_off7 i k) S1x1024x128.size (k0_off7_inb i k)).toLoadRect X7) (View.readAt (Elt Ideal) arg8.view (Rect.unit (s := S1x2x4096x1) (k0_off8 i k) S1x1x1024x1.size (k0_off8_inb i k)).toLoadRect X8),
     k0_pay11 a.2.2.1 (View.readAt (Elt Ideal) arg4.view (Rect.unit (s := S1x1024x256) (![0, 0, 128]) S1x1024x128.size inb_S1x1024x256_S1x1024x128_0_0_128).toLoadRect X4) (View.readAt (Elt Ideal) arg3.view (Rect.unit (s := S1x4096x256) (k0_off10 i k) S1x1024x128.size (k0_off10_inb i k)).toLoadRect X3) (View.readAt (Elt Ideal) arg7.view (Rect.unit (s := S1x4096x256) (k0_off10 i k) S1x1024x128.size (k0_off10_inb i k)).toLoadRect X7) (View.readAt (Elt Ideal) arg8.view (Rect.unit (s := S1x2x4096x1) (k0_off11 i k) S1x1x1024x1.size (k0_off11_inb i k)).toLoadRect X8) (View.readAt (Elt Ideal) arg5.view (Rect.unit (s := S1x1024x256) (![0, 0, 128]) S1x1024x128.size inb_S1x1024x256_S1x1024x128_0_0_128).toLoadRect X5) (View.readAt (Elt Ideal) arg6.view (Rect.unit (s := S1x4096x256) (k0_off10 i k) S1x1024x128.size (k0_off10_inb i k)).toLoadRect X6),
     k0_pay9 a.2.2.2 (View.readAt (Elt Ideal) arg4.view (Rect.unit (s := S1x1024x256) (![0, 0, 128]) S1x1024x128.size inb_S1x1024x256_S1x1024x128_0_0_128).toLoadRect X4) (View.readAt (Elt Ideal) arg3.view (Rect.unit (s := S1x4096x256) (k0_off10 i k) S1x1024x128.size (k0_off10_inb i k)).toLoadRect X3) (View.readAt (Elt Ideal) arg7.view (Rect.unit (s := S1x4096x256) (k0_off10 i k) S1x1024x128.size (k0_off10_inb i k)).toLoadRect X7) (View.readAt (Elt Ideal) arg8.view (Rect.unit (s := S1x2x4096x1) (k0_off11 i k) S1x1x1024x1.size (k0_off11_inb i k)).toLoadRect X8)) := by
  unfold tripR_k0_t1 trip_k0_t1
  rfl

set_option maxHeartbeats 4000000 in
/-- What a trip stores into the accumulator, as payloads of the blocks it loads. -/
theorem tripL_eq : tripL_k0_t1 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 X3 X4 X5 X6 X7 X8 k a f =
    [⟨Rect.unit (s := S4096x256) (k0_off12 i k) S1024x128.size (k0_off12_inb i k), k0_pay12 (k0_pay5 (View.readAt (Elt Ideal) arg4.view (Rect.unit (s := S1x1024x256) (![0, 0, 128]) S1x1024x128.size inb_S1x1024x256_S1x1024x128_0_0_128).toLoadRect X4)) (k0_pay10 (View.readAt (Elt Ideal) arg4.view (Rect.unit (s := S1x1024x256) (![0, 0, 128]) S1x1024x128.size inb_S1x1024x256_S1x1024x128_0_0_128).toLoadRect X4) (View.readAt (Elt Ideal) arg3.view (Rect.unit (s := S1x4096x256) (k0_off10 i k) S1x1024x128.size (k0_off10_inb i k)).toLoadRect X3) (View.readAt (Elt Ideal) arg7.view (Rect.unit (s := S1x4096x256) (k0_off10 i k) S1x1024x128.size (k0_off10_inb i k)).toLoadRect X7) (View.readAt (Elt Ideal) arg8.view (Rect.unit (s := S1x2x4096x1) (k0_off11 i k) S1x1x1024x1.size (k0_off11_inb i k)).toLoadRect X8) (View.readAt (Elt Ideal) arg5.view (Rect.unit (s := S1x1024x256) (![0, 0, 128]) S1x1024x128.size inb_S1x1024x256_S1x1024x128_0_0_128).toLoadRect X5) (View.readAt (Elt Ideal) arg6.view (Rect.unit (s := S1x4096x256) (k0_off10 i k) S1x1024x128.size (k0_off10_inb i k)).toLoadRect X6)) (View.readAt (Elt Ideal) arg12.view (Rect.unit (s := S4096x256) (k0_off12 i k) S1024x128.size (k0_off12_inb i k)).toLoadRect f)⟩,
     ⟨Rect.unit (s := S4096x256) (k0_off9 i k) S1024x128.size (k0_off9_inb i k), k0_pay12 (k0_pay5 (View.readAt (Elt Ideal) arg4.view (Rect.unit (s := S1x1024x256) (![0, 0, 0]) S1x1024x128.size inb_S1x1024x256_S1x1024x128_0_0_0).toLoadRect X4)) (k0_pay10 (View.readAt (Elt Ideal) arg4.view (Rect.unit (s := S1x1024x256) (![0, 0, 0]) S1x1024x128.size inb_S1x1024x256_S1x1024x128_0_0_0).toLoadRect X4) (View.readAt (Elt Ideal) arg3.view (Rect.unit (s := S1x4096x256) (k0_off7 i k) S1x1024x128.size (k0_off7_inb i k)).toLoadRect X3) (View.readAt (Elt Ideal) arg7.view (Rect.unit (s := S1x4096x256) (k0_off7 i k) S1x1024x128.size (k0_off7_inb i k)).toLoadRect X7) (View.readAt (Elt Ideal) arg8.view (Rect.unit (s := S1x2x4096x1) (k0_off8 i k) S1x1x1024x1.size (k0_off8_inb i k)).toLoadRect X8) (View.readAt (Elt Ideal) arg5.view (Rect.unit (s := S1x1024x256) (![0, 0, 0]) S1x1024x128.size inb_S1x1024x256_S1x1024x128_0_0_0).toLoadRect X5) (View.readAt (Elt Ideal) arg6.view (Rect.unit (s := S1x4096x256) (k0_off7 i k) S1x1024x128.size (k0_off7_inb i k)).toLoadRect X6)) (View.readAt (Elt Ideal) arg12.view (Rect.unit (s := S4096x256) (k0_off9 i k) S1024x128.size (k0_off9_inb i k)).toLoadRect f)⟩] := by
  unfold tripL_k0_t1 trip_k0_t1
  rfl

end Trip

section Step

open Cert.Attn

/-- What the loop carries after `n` blocks of queries: both heads' gradients of keys and values. -/
structure Carries (b : Blk) (j n : ℕ)
    (a : FVec Ideal S1024x128 .f32 × FVec Ideal S1024x128 .f32 × FVec Ideal S1024x128 .f32 × FVec Ideal S1024x128 .f32) : Prop where
  dk0 : IsSum a.1 (b.dk j 0 n)
  dv0 : IsSum a.2.1 (b.dv j 0 n)
  dk1 : IsSum a.2.2.1 (b.dk j 1 n)
  dv1 : IsSum a.2.2.2 (b.dv j 1 n)

variable (𝒱 : Variants) (c : Dev nD) (bd : Option 𝒱.V) (i : grid0.Coords)
  (arg3 : Memref sig .tc .vmem S1x4096x256 .bf16) (harg3 : arg3.IsWhole)
  (arg4 : Memref sig .tc .vmem S1x1024x256 .bf16) (harg4 : arg4.IsWhole)
  (arg5 : Memref sig .tc .vmem S1x1024x256 .bf16) (harg5 : arg5.IsWhole)
  (arg6 : Memref sig .tc .vmem S1x4096x256 .bf16) (harg6 : arg6.IsWhole)
  (arg7 : Memref sig .tc .vmem S1x4096x256 .bf16) (harg7 : arg7.IsWhole)
  (arg8 : Memref sig .tc .vmem S1x2x4096x1 .f32) (harg8 : arg8.IsWhole)
  (arg9 : Memref sig .tc .vmem S1x4096x256 .bf16) (harg9 : arg9.IsWhole)
  (arg10 : Memref sig .tc .vmem S1x1024x256 .bf16) (harg10 : arg10.IsWhole)
  (arg11 : Memref sig .tc .vmem S1x1024x256 .bf16) (harg11 : arg11.IsWhole)
  (arg12 : Memref sig .tc .vmem S4096x256 .f32) (harg12 : arg12.IsWhole)

variable (arg2 : BitVec 32) (v3 : FVec Ideal S1024x128 .f32) (v5 : BitVec 32) (v28 v45 : FVec Ideal S1024x128 .f32)
  (v55 v58 v61 : FVec Ideal S1024x128 .bf16) (v73 : FVec Ideal S1024x1024 .f32) (v74 : FVec Ideal S1024x1024 .bf16) (v102 : BitVec 32)
  (x0 : Vec Ideal S1x4096x256 .bf16) (x1 x2 : Vec Ideal S1x1024x256 .bf16) (x3 x4 : Vec Ideal S1x4096x256 .bf16) (x5 : Vec Ideal S1x2x4096x1 .f32)
  (k : Fin (k0_t1_loop i).trips) (a : FVec Ideal S1024x128 .f32 × FVec Ideal S1024x128 .f32 × FVec Ideal S1024x128 .f32 × FVec Ideal S1024x128 .f32)
  (f : BufTy.Contents (Elt Ideal) arg12.view.ty)
  (b : Blk) (G : ℕ → ℕ → ℝ) (hx : Holds b x0 x1 x2 x3 x4 x5)

include hx in
/-- A trip carries on both heads' gradients of keys and values, with one block of queries more. -/
theorem trip_carries (ha : Carries b (i 2).val (k.val + 1) a) : Carries b (i 2).val (k.val + 1 + 1)
    (tripR_k0_t1 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 (harg3.unread x0) (harg4.unread x1) (harg5.unread x2) (harg6.unread x3) (harg7.unread x4) (harg8.unread x5) k a f) := by
  have e7 : k0_off7 i k = ![0, 1024 * ((i 2).val + (k.val + 1)), 128 * 0] := (k0_off7_eq i k).trans (by congr 2; ring)
  have e8 : k0_off8 i k = ![0, 0, 1024 * ((i 2).val + (k.val + 1)), 0] := (k0_off8_eq i k).trans (by congr 3; ring)
  have e10 : k0_off10 i k = ![0, 1024 * ((i 2).val + (k.val + 1)), 128 * 1] := (k0_off10_eq i k).trans (by congr 2; ring)
  have e11 : k0_off11 i k = ![0, 1, 1024 * ((i 2).val + (k.val + 1)), 0] := (k0_off11_eq i k).trans (by congr 3; ring)
  have hn : 1 ≤ k.val + 1 := by omega
  rw [tripR_eq]
  exact ⟨dk_tile b _ _ 0 (tile_lanes _ harg4 _ _ hx.k rfl _) (tile_lanes _ harg5 _ _ hx.v rfl _) (tile_rows _ harg3 _ _ hx.q e7 _)
      (tile_rows _ harg7 _ _ hx.d e7 _) (tile_rows _ harg6 _ _ hx.o e7 _) (tile_logs _ harg8 _ _ hx.l e8 _) hn ha.dk0,
    dv_tile b _ _ 0 (tile_lanes _ harg4 _ _ hx.k rfl _) (tile_rows _ harg3 _ _ hx.q e7 _)
      (tile_rows _ harg7 _ _ hx.d e7 _) (tile_logs _ harg8 _ _ hx.l e8 _) hn ha.dv0,
    dk_tile b _ _ 1 (tile_lanes _ harg4 _ _ hx.k rfl _) (tile_lanes _ harg5 _ _ hx.v rfl _) (tile_rows _ harg3 _ _ hx.q e10 _)
      (tile_rows _ harg7 _ _ hx.d e10 _) (tile_rows _ harg6 _ _ hx.o e10 _) (tile_logs _ harg8 _ _ hx.l e11 _) hn ha.dk1,
    dv_tile b _ _ 1 (tile_lanes _ harg4 _ _ hx.k rfl _) (tile_rows _ harg3 _ _ hx.q e10 _)
      (tile_rows _ harg7 _ _ hx.d e10 _) (tile_logs _ harg8 _ _ hx.l e11 _) hn ha.dv1⟩

include hx in
/-- After a trip's stores the accumulator holds the running gradient with one block of queries more. -/
theorem trip_acc (hf : Acc arg12 f (b.run G (i 2).val (k.val + 1))) : Acc arg12
    (arg12.view.writes (Elt Ideal) f (tripL_k0_t1 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 (harg3.unread x0) (harg4.unread x1) (harg5.unread x2) (harg6.unread x3) (harg7.unread x4) (harg8.unread x5) k a f)) (b.run G (i 2).val (k.val + 1 + 1)) := by
  have e7 : k0_off7 i k = ![0, 1024 * ((i 2).val + (k.val + 1)), 128 * 0] := (k0_off7_eq i k).trans (by congr 2; ring)
  have e8 : k0_off8 i k = ![0, 0, 1024 * ((i 2).val + (k.val + 1)), 0] := (k0_off8_eq i k).trans (by congr 3; ring)
  have e10 : k0_off10 i k = ![0, 1024 * ((i 2).val + (k.val + 1)), 128 * 1] := (k0_off10_eq i k).trans (by congr 2; ring)
  have e11 : k0_off11 i k = ![0, 1, 1024 * ((i 2).val + (k.val + 1)), 0] := (k0_off11_eq i k).trans (by congr 3; ring)
  have e9 : k0_off9 i k = ![1024 * ((i 2).val + (k.val + 1)), 0] := (k0_off9_eq i k).trans (by congr 1; ring)
  have e12 : k0_off12 i k = ![1024 * ((i 2).val + (k.val + 1)), 128] := (k0_off12_eq i k).trans (by congr 1; ring)
  have hn : 1 ≤ k.val + 1 := by omega
  have hb : 1024 * ((i 2).val + (k.val + 1)) + 1024 ≤ 4096 := by
    have := k0_off9_inb i k 0
    rw [e9] at this
    exact this
  rw [tripL_eq]
  refine acc_store b G _ _ hb arg12 f e9 e12 _ _ _ _ hf (fun r e => ?_) fun r e => ?_
  · rw [pay12_apply]
    exact dq_tile b G _ _ 0 (tile_lanes _ harg4 _ _ hx.k rfl _)
      (fun r c => ds_tile b _ _ 0 (tile_lanes _ harg4 _ _ hx.k rfl _) (tile_lanes _ harg5 _ _ hx.v rfl _) (tile_rows _ harg3 _ _ hx.q e7 _)
        (tile_rows _ harg7 _ _ hx.d e7 _) (tile_rows _ harg6 _ _ hx.o e7 _) (tile_logs _ harg8 _ _ hx.l e8 _) hn r c)
      (scratch_rows arg12 f e9 _ _ hf) r e
  · rw [pay12_apply]
    exact dq_tile b G _ _ 1 (tile_lanes _ harg4 _ _ hx.k rfl _)
      (fun r c => ds_tile b _ _ 1 (tile_lanes _ harg4 _ _ hx.k rfl _) (tile_lanes _ harg5 _ _ hx.v rfl _) (tile_rows _ harg3 _ _ hx.q e10 _)
        (tile_rows _ harg7 _ _ hx.d e10 _) (tile_rows _ harg6 _ _ hx.o e10 _) (tile_logs _ harg8 _ _ hx.l e11 _) hn r c)
      (scratch_rows arg12 f e12 _ _ hf) r e

end Step

end Cert.KernelIdeal.Attn
end
-- ==== Proof.Loop.lean ====
/-
  The kernel's loop over blocks of queries, and the block on the diagonal that comes before it, over the extended reals.
-/
module

public import proofs.«01_k».proof.Proof.Trip

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn

/-! ## The block on the diagonal -/

section Diagonal

variable (b : Blk) (G : ℕ → ℕ → ℝ) (j h : ℕ)
variable {k q d v o : Vec Ideal S1x1024x128 .bf16} {l : Vec Ideal S1x1x1024x1 .f32}
  (hk : IsTile k fun r e => b.K r (128 * h + e)) (hv : IsTile v fun r e => b.V r (128 * h + e))
  (hq : IsTile q fun r e => b.Q (1024 * (j + 0) + r) (128 * h + e))
  (hd : IsTile d fun r e => b.D (1024 * (j + 0) + r) (128 * h + e))
  (ho : IsTile o fun r e => b.O (1024 * (j + 0) + r) (128 * h + e))
  (hl : ∀ r : Fin 1024, l (ix4 0 0 r 0) = ((b.L h (1024 * (j + 0) + r) : ℝ) : EReal))

theorem pay41_apply (k q d : Vec Ideal S1x1024x128 .bf16) (l : Vec Ideal S1x1x1024x1 .f32) (c : Fin 1024) (e : Fin 128) :
    k0_pay41 (F := Ideal) k q d l (ix2 c e) = (0 : EReal) + ∑ r : Fin 1024, k0_pay40 (F := Ideal) k q l (ix2 r c) * d (ix3 0 r e) := by
  pointwise [k0_pay41, k0_pay39, k0_pay36]

theorem pay45_apply (q : Vec Ideal S1x1024x128 .bf16) (p u : FVec Ideal S1024x1024 .f32) (w : FVec Ideal S1024x128 .f32)
    (o : Vec Ideal S1x1024x128 .bf16) (c : Fin 1024) (e : Fin 128) :
    k0_pay45 (F := Ideal) k0_pay36 (k0_pay38 q) p u w o (ix2 c e)
      = (0 : EReal) + ∑ r : Fin 1024, k0_pay44 (F := Ideal) p u w o (ix2 r c) * q (ix3 0 r e) := by
  pointwise [k0_pay45, k0_pay38, k0_pay36]

theorem pay46_apply (k : Vec Ideal S1x1024x128 .bf16) (p u : FVec Ideal S1024x1024 .f32) (w : FVec Ideal S1024x128 .f32)
    (o : Vec Ideal S1x1024x128 .bf16) (a : Vec Ideal S1024x128 .f32) (r : Fin 1024) (e : Fin 128) :
    k0_pay46 (F := Ideal) (k0_pay37 k) p u w o a (ix2 r e)
      = a (ix2 r e) + ∑ c : Fin 1024, k0_pay44 (F := Ideal) p u w o (ix2 r c) * k (ix3 0 c e) := by
  pointwise [k0_pay46, k0_pay37]

include hk hq hl hd in
/-- The diagonal block's part of the values' gradient. -/
theorem dv_diag : IsSum (k0_pay41 (F := Ideal) k q d l) (b.dv j h (0 + 1)) := by
  intro c e
  rw [pay41_apply, b.dv_succ]
  exact acc_coe _ _ _ d e (fun r => b.pr j h (1024 * (j + 0) + r) c) (fun r e => b.D (1024 * (j + 0) + r) (128 * h + e))
    (by rw [b.dv_zero, EReal.coe_zero]) (fun r => pay40_coe b j h _ hk hq hl (by omega) r c) hd

include hk hv hq hl hd ho in
/-- The diagonal block's gradients of scores. -/
theorem ds_diag (r c : Fin 1024) :
    k0_pay44 (F := Ideal) (k0_pay40 k q l) (k0_pay42 d v) (k0_pay43 d) o (ix2 r c) = ((b.ds j h (1024 * (j + 0) + r) c : ℝ) : EReal) := by
  rw [pay44_apply]
  exact ds_coe b j h _ hv hd ho _ r c (pay40_coe b j h _ hk hq hl (by omega) r c)

include hk hv hq hl hd ho in
/-- The diagonal block's part of the keys' gradient. -/
theorem dk_diag : IsSum (k0_pay45 (F := Ideal) k0_pay36 (k0_pay38 q) (k0_pay40 k q l) (k0_pay42 d v) (k0_pay43 d) o)
    (b.dk j h (0 + 1)) := by
  intro c e
  rw [pay45_apply, b.dk_succ]
  exact acc_coe _ _ _ q e (fun r => b.ds j h (1024 * (j + 0) + r) c) (fun r e => b.Q (1024 * (j + 0) + r) (128 * h + e))
    (by rw [b.dk_zero, EReal.coe_zero]) (fun r => ds_diag b j h hk hv hq hd ho hl r c) hq

include hk hv hq hl hd ho in
/-- The diagonal block's part of the queries' gradient. -/
theorem dq_diag {w : Vec Ideal S1024x128 .f32}
    (hw : ∀ (r : Fin 1024) (e : Fin 128), w (ix2 r e) = ((b.run G j 0 (1024 * (j + 0) + r) (128 * h + e) : ℝ) : EReal)) :
    IsSum (k0_pay46 (F := Ideal) (k0_pay37 k) (k0_pay40 k q l) (k0_pay42 d v) (k0_pay43 d) o w)
      fun r e => b.run G j (0 + 1) (1024 * (j + 0) + r) (128 * h + e) := by
  intro r e
  rw [pay46_apply]
  exact dq_tile b G j 0 h hk (fun r c => ds_diag b j h hk hv hq hd ho hl r c) hw r e

end Diagonal

/-! ## The loop -/

section Loop

variable (𝒱 : Variants) (c : Dev nD) (bd : Option 𝒱.V) (i : grid0.Coords)
  (arg3 : Memref sig .tc .vmem S1x4096x256 .bf16) (harg3 : arg3.IsWhole)
  (arg4 : Memref sig .tc .vmem S1x1024x256 .bf16) (harg4 : arg4.IsWhole)
  (arg5 : Memref sig .tc .vmem S1x1024x256 .bf16) (harg5 : arg5.IsWhole)
  (arg6 : Memref sig .tc .vmem S1x4096x256 .bf16) (harg6 : arg6.IsWhole)
  (arg7 : Memref sig .tc .vmem S1x4096x256 .bf16) (harg7 : arg7.IsWhole)
  (arg8 : Memref sig .tc .vmem S1x2x4096x1 .f32) (harg8 : arg8.IsWhole)
  (arg9 : Memref sig .tc .vmem S1x4096x256 .bf16) (harg9 : arg9.IsWhole)
  (arg10 : Memref sig .tc .vmem S1x1024x256 .bf16) (harg10 : arg10.IsWhole)
  (arg11 : Memref sig .tc .vmem S1x1024x256 .bf16) (harg11 : arg11.IsWhole)
  (arg12 : Memref sig .tc .vmem S4096x256 .f32) (harg12 : arg12.IsWhole)

variable (arg2 : BitVec 32) (v3 : FVec Ideal S1024x128 .f32) (v5 : BitVec 32) (v28 v45 : FVec Ideal S1024x128 .f32)
  (v55 v58 v61 : FVec Ideal S1024x128 .bf16) (v73 : FVec Ideal S1024x1024 .f32) (v74 : FVec Ideal S1024x1024 .bf16) (v102 : BitVec 32)
  (x0 : Vec Ideal S1x4096x256 .bf16) (x1 x2 : Vec Ideal S1x1024x256 .bf16) (x3 x4 : Vec Ideal S1x4096x256 .bf16) (x5 : Vec Ideal S1x2x4096x1 .f32)
  (init : FVec Ideal S1024x128 .f32 × FVec Ideal S1024x128 .f32 × FVec Ideal S1024x128 .f32 × FVec Ideal S1024x128 .f32)
  (f : BufTy.Contents (Elt Ideal) arg12.view.ty)
  (b : Blk) (G : ℕ → ℕ → ℝ) (hx : Holds b x0 x1 x2 x3 x4 x5)

/-- The loop runs over the blocks of queries after the diagonal one. -/
theorem trips_one : ∀ i : grid0.Coords, (k0_t1_loop i).trips = 3 - (i 2).val := by decide +kernel

/-- The second loop, over the rest that an unrolling would leave, never runs. -/
theorem trips_two : ∀ i : grid0.Coords, (k0_t2_loop i).trips = 0 := fun i => Nat.le_zero.mp (k0_t2_abs i).2.1

include hx in
/-- After `n` trips the loop carries the gradients of `n + 1` blocks of queries, and the accumulator holds theirs. -/
theorem loop_holds (ha : Carries b (i 2).val 1 init) (hf : Acc arg12 f (b.run G (i 2).val 1)) (n : ℕ) (hn : n ≤ (k0_t1_loop i).trips) :
    Carries b (i 2).val (n + 1) (st_k0_t1 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 (harg3.unread x0) (harg4.unread x1) (harg5.unread x2) (harg6.unread x3) (harg7.unread x4) (harg8.unread x5) f init n).1
      ∧ Acc arg12 (arg12.view.writes (Elt Ideal) f (st_k0_t1 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 (harg3.unread x0) (harg4.unread x1) (harg5.unread x2) (harg6.unread x3) (harg7.unread x4) (harg8.unread x5) f init n).2) (b.run G (i 2).val (n + 1)) := by
  induction n with
  | zero => exact ⟨ha, hf⟩
  | succ n ih =>
    obtain ⟨h1, h2⟩ := ih (by omega)
    have e := st_k0_t1_succ (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 (harg3.unread x0) (harg4.unread x1) (harg5.unread x2) (harg6.unread x3) (harg7.unread x4) (harg8.unread x5) f init ⟨n, by omega⟩
    dsimp only at e
    rw [e, View.writes_append]
    exact ⟨trip_carries 𝒱 c bd i arg3 harg3 arg4 harg4 arg5 harg5 arg6 harg6 arg7 harg7 arg8 harg8 arg9 harg9 arg10 harg10 arg11 harg11 arg12 harg12 arg2 v3 v5 v28 v45 v55 v58 v61 v73 v74 v102 x0 x1 x2 x3 x4 x5 ⟨n, by omega⟩ _ _ b hx h1,
      trip_acc 𝒱 c bd i arg3 harg3 arg4 harg4 arg5 harg5 arg6 harg6 arg7 harg7 arg8 harg8 arg9 harg9 arg10 harg10 arg11 harg11 arg12 harg12 arg2 v3 v5 v28 v45 v55 v58 v61 v73 v74 v102 x0 x1 x2 x3 x4 x5 ⟨n, by omega⟩ _ _ b G hx h2⟩

/-- The second loop's state is the first's. -/
theorem second_eq (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty) :
    st_k0_t2 (F := Ideal) 𝒱 c bd i arg3 harg3 arg4 harg4 arg5 harg5 arg6 harg6 arg7 harg7 arg8 harg8 arg9 harg9 arg10 harg10 arg11 harg11 arg12 harg12 arg2 v3 v5 v28 v45 v55 v58 v61 v73 v74 v102 X3 X4 X5 X6 X7 X8 f init (k0_t2_loop i).trips
      = (init, []) := by
  rw [trips_two]
  rfl

end Loop

end Cert.KernelIdeal.Attn
end
-- ==== Proof.Point.lean ====
/-
  What the body leaves at one grid point, over the extended reals, from blocks that hold real numbers: the gradients of the
  point's keys and values, and the accumulator of the queries' gradient with that point's part added.
-/
module

public import proofs.«01_k».proof.Proof.Body
public import proofs.«01_k».proof.Proof.Loop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn

section Start

variable (c : Dev nD) (i : grid0.Coords)
  (arg3 : Memref sig .tc .vmem S1x4096x256 .bf16) (harg3 : arg3.IsWhole)
  (arg4 : Memref sig .tc .vmem S1x1024x256 .bf16) (harg4 : arg4.IsWhole)
  (arg5 : Memref sig .tc .vmem S1x1024x256 .bf16) (harg5 : arg5.IsWhole)
  (arg6 : Memref sig .tc .vmem S1x4096x256 .bf16) (harg6 : arg6.IsWhole)
  (arg7 : Memref sig .tc .vmem S1x4096x256 .bf16) (harg7 : arg7.IsWhole)
  (arg8 : Memref sig .tc .vmem S1x2x4096x1 .f32) (harg8 : arg8.IsWhole)
  (arg9 : Memref sig .tc .vmem S1x4096x256 .bf16) (harg9 : arg9.IsWhole)
  (arg10 : Memref sig .tc .vmem S1x1024x256 .bf16) (harg10 : arg10.IsWhole)
  (arg11 : Memref sig .tc .vmem S1x1024x256 .bf16) (harg11 : arg11.IsWhole)
  (arg12 : Memref sig .tc .vmem S4096x256 .f32) (harg12 : arg12.IsWhole)

variable (x0 : Vec Ideal S1x4096x256 .bf16) (x1 x2 : Vec Ideal S1x1024x256 .bf16) (x3 x4 : Vec Ideal S1x4096x256 .bf16) (x5 : Vec Ideal S1x2x4096x1 .f32)
  (b : Blk) (G : ℕ → ℕ → ℝ) (hx : Holds b x0 x1 x2 x3 x4 x5)

/-- The offsets of the diagonal block. -/
theorem start_off1 : k0_off1 i = ![0, 1024 * ((i 2).val + 0), 128 * 0] := k0_off1_eq i
theorem start_off2 : k0_off2 i = ![0, 0, 1024 * ((i 2).val + 0), 0] := k0_off2_eq i
theorem start_off3 : k0_off3 i = ![1024 * ((i 2).val + 0), 0] := k0_off3_eq i
theorem start_off4 : k0_off4 i = ![0, 1024 * ((i 2).val + 0), 128 * 1] := k0_off4_eq i
theorem start_off5 : k0_off5 i = ![0, 1, 1024 * ((i 2).val + 0), 0] := k0_off5_eq i
theorem start_off6 : k0_off6 i = ![1024 * ((i 2).val + 0), 128] := k0_off6_eq i

/-- The diagonal block of head 0's queries. -/
abbrev tQ0 (i : grid0.Coords) (arg3 : Memref sig .tc .vmem S1x4096x256 .bf16) (harg3 : arg3.IsWhole) (x0 : Vec Ideal S1x4096x256 .bf16) :=
  View.readAt (Elt Ideal) arg3.view (Rect.unit (s := S1x4096x256) (k0_off1 i) S1x1024x128.size (k0_off1_inb i)).toLoadRect (harg3.unread x0)

/-- The diagonal block of head 0's keys. -/
abbrev tK0 (arg4 : Memref sig .tc .vmem S1x1024x256 .bf16) (harg4 : arg4.IsWhole) (x1 : Vec Ideal S1x1024x256 .bf16) :=
  View.readAt (Elt Ideal) arg4.view (Rect.unit (s := S1x1024x256) ![0, 0, 0] S1x1024x128.size inb_S1x1024x256_S1x1024x128_0_0_0).toLoadRect (harg4.unread x1)

/-- The diagonal block of head 0's values. -/
abbrev tV0 (arg5 : Memref sig .tc .vmem S1x1024x256 .bf16) (harg5 : arg5.IsWhole) (x2 : Vec Ideal S1x1024x256 .bf16) :=
  View.readAt (Elt Ideal) arg5.view (Rect.unit (s := S1x1024x256) ![0, 0, 0] S1x1024x128.size inb_S1x1024x256_S1x1024x128_0_0_0).toLoadRect (harg5.unread x2)

/-- The diagonal block of head 0's outputs. -/
abbrev tO0 (i : grid0.Coords) (arg6 : Memref sig .tc .vmem S1x4096x256 .bf16) (harg6 : arg6.IsWhole) (x3 : Vec Ideal S1x4096x256 .bf16) :=
  View.readAt (Elt Ideal) arg6.view (Rect.unit (s := S1x4096x256) (k0_off1 i) S1x1024x128.size (k0_off1_inb i)).toLoadRect (harg6.unread x3)

/-- The diagonal block of head 0's cotangents. -/
abbrev tD0 (i : grid0.Coords) (arg7 : Memref sig .tc .vmem S1x4096x256 .bf16) (harg7 : arg7.IsWhole) (x4 : Vec Ideal S1x4096x256 .bf16) :=
  View.readAt (Elt Ideal) arg7.view (Rect.unit (s := S1x4096x256) (k0_off1 i) S1x1024x128.size (k0_off1_inb i)).toLoadRect (harg7.unread x4)

/-- The diagonal block of head 0's logarithms. -/
abbrev tL0 (i : grid0.Coords) (arg8 : Memref sig .tc .vmem S1x2x4096x1 .f32) (harg8 : arg8.IsWhole) (x5 : Vec Ideal S1x2x4096x1 .f32) :=
  View.readAt (Elt Ideal) arg8.view (Rect.unit (s := S1x2x4096x1) (k0_off2 i) S1x1x1024x1.size (k0_off2_inb i)).toLoadRect (harg8.unread x5)

/-- The diagonal block of head 1's queries. -/
abbrev tQ1 (i : grid0.Coords) (arg3 : Memref sig .tc .vmem S1x4096x256 .bf16) (harg3 : arg3.IsWhole) (x0 : Vec Ideal S1x4096x256 .bf16) :=
  View.readAt (Elt Ideal) arg3.view (Rect.unit (s := S1x4096x256) (k0_off4 i) S1x1024x128.size (k0_off4_inb i)).toLoadRect (harg3.unread x0)

/-- The diagonal block of head 1's keys. -/
abbrev tK1 (arg4 : Memref sig .tc .vmem S1x1024x256 .bf16) (harg4 : arg4.IsWhole) (x1 : Vec Ideal S1x1024x256 .bf16) :=
  View.readAt (Elt Ideal) arg4.view (Rect.unit (s := S1x1024x256) ![0, 0, 128] S1x1024x128.size inb_S1x1024x256_S1x1024x128_0_0_128).toLoadRect (harg4.unread x1)

/-- The diagonal block of head 1's values. -/
abbrev tV1 (arg5 : Memref sig .tc .vmem S1x1024x256 .bf16) (harg5 : arg5.IsWhole) (x2 : Vec Ideal S1x1024x256 .bf16) :=
  View.readAt (Elt Ideal) arg5.view (Rect.unit (s := S1x1024x256) ![0, 0, 128] S1x1024x128.size inb_S1x1024x256_S1x1024x128_0_0_128).toLoadRect (harg5.unread x2)

/-- The diagonal block of head 1's outputs. -/
abbrev tO1 (i : grid0.Coords) (arg6 : Memref sig .tc .vmem S1x4096x256 .bf16) (harg6 : arg6.IsWhole) (x3 : Vec Ideal S1x4096x256 .bf16) :=
  View.readAt (Elt Ideal) arg6.view (Rect.unit (s := S1x4096x256) (k0_off4 i) S1x1024x128.size (k0_off4_inb i)).toLoadRect (harg6.unread x3)

/-- The diagonal block of head 1's cotangents. -/
abbrev tD1 (i : grid0.Coords) (arg7 : Memref sig .tc .vmem S1x4096x256 .bf16) (harg7 : arg7.IsWhole) (x4 : Vec Ideal S1x4096x256 .bf16) :=
  View.readAt (Elt Ideal) arg7.view (Rect.unit (s := S1x4096x256) (k0_off4 i) S1x1024x128.size (k0_off4_inb i)).toLoadRect (harg7.unread x4)

/-- The diagonal block of head 1's logarithms. -/
abbrev tL1 (i : grid0.Coords) (arg8 : Memref sig .tc .vmem S1x2x4096x1 .f32) (harg8 : arg8.IsWhole) (x5 : Vec Ideal S1x2x4096x1 .f32) :=
  View.readAt (Elt Ideal) arg8.view (Rect.unit (s := S1x2x4096x1) (k0_off5 i) S1x1x1024x1.size (k0_off5_inb i)).toLoadRect (harg8.unread x5)

include hx in
theorem start_dv0 : IsSum (k0_pay41 (F := Ideal) (tK0 arg4 harg4 x1) (tQ0 i arg3 harg3 x0) (tD0 i arg7 harg7 x4) (tL0 i arg8 harg8 x5)) (b.dv (i 2).val 0 (0 + 1)) :=
  dv_diag b _ 0 (tile_lanes _ harg4 _ _ hx.k rfl _) (tile_rows _ harg3 _ _ hx.q (start_off1 i) _) (tile_rows _ harg7 _ _ hx.d (start_off1 i) _) (fun r => tile_logs _ harg8 _ _ hx.l (start_off2 i) _ r)

include hx in
theorem start_dk0 : IsSum (k0_pay45 (F := Ideal) k0_pay36 (k0_pay38 (tQ0 i arg3 harg3 x0)) (k0_pay40 (tK0 arg4 harg4 x1) (tQ0 i arg3 harg3 x0) (tL0 i arg8 harg8 x5)) (k0_pay42 (tD0 i arg7 harg7 x4) (tV0 arg5 harg5 x2)) (k0_pay43 (tD0 i arg7 harg7 x4)) (tO0 i arg6 harg6 x3)) (b.dk (i 2).val 0 (0 + 1)) :=
  dk_diag b _ 0 (tile_lanes _ harg4 _ _ hx.k rfl _) (tile_lanes _ harg5 _ _ hx.v rfl _) (tile_rows _ harg3 _ _ hx.q (start_off1 i) _) (tile_rows _ harg7 _ _ hx.d (start_off1 i) _) (tile_rows _ harg6 _ _ hx.o (start_off1 i) _) (fun r => tile_logs _ harg8 _ _ hx.l (start_off2 i) _ r)

include hx in
theorem start_dq0 {w : Vec Ideal S1024x128 .f32}
    (hw : ∀ (r : Fin 1024) (e : Fin 128), w (ix2 r e) = ((b.run G (i 2).val 0 (1024 * ((i 2).val + 0) + r) (128 * 0 + e) : ℝ) : EReal)) :
    IsSum (k0_pay46 (F := Ideal) (k0_pay37 (tK0 arg4 harg4 x1)) (k0_pay40 (tK0 arg4 harg4 x1) (tQ0 i arg3 harg3 x0) (tL0 i arg8 harg8 x5)) (k0_pay42 (tD0 i arg7 harg7 x4) (tV0 arg5 harg5 x2)) (k0_pay43 (tD0 i arg7 harg7 x4)) (tO0 i arg6 harg6 x3) w)
      fun r e => b.run G (i 2).val (0 + 1) (1024 * ((i 2).val + 0) + r) (128 * 0 + e) :=
  dq_diag b G _ 0 (tile_lanes _ harg4 _ _ hx.k rfl _) (tile_lanes _ harg5 _ _ hx.v rfl _) (tile_rows _ harg3 _ _ hx.q (start_off1 i) _) (tile_rows _ harg7 _ _ hx.d (start_off1 i) _) (tile_rows _ harg6 _ _ hx.o (start_off1 i) _) (fun r => tile_logs _ harg8 _ _ hx.l (start_off2 i) _ r) hw

include hx in
theorem start_dv1 : IsSum (k0_pay41 (F := Ideal) (tK1 arg4 harg4 x1) (tQ1 i arg3 harg3 x0) (tD1 i arg7 harg7 x4) (tL1 i arg8 harg8 x5)) (b.dv (i 2).val 1 (0 + 1)) :=
  dv_diag b _ 1 (tile_lanes _ harg4 _ _ hx.k rfl _) (tile_rows _ harg3 _ _ hx.q (start_off4 i) _) (tile_rows _ harg7 _ _ hx.d (start_off4 i) _) (fun r => tile_logs _ harg8 _ _ hx.l (start_off5 i) _ r)

include hx in
theorem start_dk1 : IsSum (k0_pay45 (F := Ideal) k0_pay36 (k0_pay38 (tQ1 i arg3 harg3 x0)) (k0_pay40 (tK1 arg4 harg4 x1) (tQ1 i arg3 harg3 x0) (tL1 i arg8 harg8 x5)) (k0_pay42 (tD1 i arg7 harg7 x4) (tV1 arg5 harg5 x2)) (k0_pay43 (tD1 i arg7 harg7 x4)) (tO1 i arg6 harg6 x3)) (b.dk (i 2).val 1 (0 + 1)) :=
  dk_diag b _ 1 (tile_lanes _ harg4 _ _ hx.k rfl _) (tile_lanes _ harg5 _ _ hx.v rfl _) (tile_rows _ harg3 _ _ hx.q (start_off4 i) _) (tile_rows _ harg7 _ _ hx.d (start_off4 i) _) (tile_rows _ harg6 _ _ hx.o (start_off4 i) _) (fun r => tile_logs _ harg8 _ _ hx.l (start_off5 i) _ r)

include hx in
theorem start_dq1 {w : Vec Ideal S1024x128 .f32}
    (hw : ∀ (r : Fin 1024) (e : Fin 128), w (ix2 r e) = ((b.run G (i 2).val 0 (1024 * ((i 2).val + 0) + r) (128 * 1 + e) : ℝ) : EReal)) :
    IsSum (k0_pay46 (F := Ideal) (k0_pay37 (tK1 arg4 harg4 x1)) (k0_pay40 (tK1 arg4 harg4 x1) (tQ1 i arg3 harg3 x0) (tL1 i arg8 harg8 x5)) (k0_pay42 (tD1 i arg7 harg7 x4) (tV1 arg5 harg5 x2)) (k0_pay43 (tD1 i arg7 harg7 x4)) (tO1 i arg6 harg6 x3) w)
      fun r e => b.run G (i 2).val (0 + 1) (1024 * ((i 2).val + 0) + r) (128 * 1 + e) :=
  dq_diag b G _ 1 (tile_lanes _ harg4 _ _ hx.k rfl _) (tile_lanes _ harg5 _ _ hx.v rfl _) (tile_rows _ harg3 _ _ hx.q (start_off4 i) _) (tile_rows _ harg7 _ _ hx.d (start_off4 i) _) (tile_rows _ harg6 _ _ hx.o (start_off4 i) _) (fun r => tile_logs _ harg8 _ _ hx.l (start_off5 i) _ r) hw

end Start

section Scratch

/-- A load of the accumulator's second 128 lanes does not see a store of rows of its first 128. -/
theorem scratch_rows_skip (m : Memref sig .tc .vmem S4096x256 .f32) (f : BufTy.Contents (Elt Ideal) m.view.ty)
    {off off0 : Fin 2 → ℕ} {p p0 : ℕ} (hoff : off = ![p, 128]) (h0 : off0 = ![p0, 0]) (inb : ∀ a, off a + S1024x128.size a ≤ S4096x256.size a)
    (inb0 : ∀ a, off0 a + S1024x128.size a ≤ S4096x256.size a) (w : FVec Ideal S1024x128 .f32) (L : List (View.Piece (Elt Ideal) S4096x256 .f32))
    (g : ℕ → ℕ → ℝ) (hf : Acc m (m.view.writes (Elt Ideal) f L) g) (r : Fin 1024) (e : Fin 128) :
    View.readAt (Elt Ideal) m.view (Rect.unit (s := S4096x256) off S1024x128.size inb).toLoadRect
        (m.view.writes (Elt Ideal) f (⟨Rect.unit (s := S4096x256) off0 S1024x128.size inb0, w⟩ :: L)) (ix2 r e)
      = ((g (p + r) (128 * 1 + e) : ℝ) : EReal) := by
  subst hoff
  have hp : p + 1024 ≤ 4096 := inb 0
  refine Eq.trans (congrArg (m.view.read (Elt Ideal) _) (?_ : _ = ix2 (⟨p + r, by omega⟩ : Fin 4096) (⟨128 + e, by omega⟩ : Fin 256))) ?_
  · funext a
    fin_cases a
    · exact Fin.ext (by show p + 1 * r.val = p + r.val; omega)
    · exact Fin.ext (by show 128 + 1 * e.val = 128 + e.val; omega)
  · rw [View.read_writes_cons_unit_of_not_mem (s := S4096x256) (off' := ![p0, 0]) m.view f inb0 w L _ h0 1 (Or.inr (by
      show 0 + 128 ≤ 128 + e.val; omega))]
    exact hf _ _

/-- The accumulator after the store that clears it. -/
theorem zero_acc (m : Memref sig .tc .vmem S4096x256 .f32) (f : BufTy.Contents (Elt Ideal) m.view.ty)
    (inb : ∀ a, (![0, 0] : Fin 2 → ℕ) a + S4096x256.size a ≤ S4096x256.size a) :
    Acc m (m.view.writes (Elt Ideal) f [⟨Rect.unit (s := S4096x256) ![0, 0] S4096x256.size inb, (k0_pay35 (F := Ideal) : FVec Ideal S4096x256 .f32)⟩]) (fun _ _ => 0) := by
  intro s l
  rw [View.read_writes_cons_unit_of_mem (s := S4096x256) (off' := ![0, 0]) m.view f inb _ _ (ix2 s l) (ix2 s l) rfl (by
    intro a; fin_cases a
    · show s.val = 0 + s.val; omega
    · show l.val = 0 + l.val; omega)]
  pointwise [k0_pay35]
  exact EReal.coe_zero.symm

/-- A load of the whole accumulator. -/
theorem scratch_all (m : Memref sig .tc .vmem S4096x256 .f32) (f : BufTy.Contents (Elt Ideal) m.view.ty)
    (inb : ∀ a, (![0, 0] : Fin 2 → ℕ) a + S4096x256.size a ≤ S4096x256.size a) (g : ℕ → ℕ → ℝ) (hf : Acc m f g) (s : Fin 4096) (l : Fin 256) :
    View.readAt (Elt Ideal) m.view (Rect.unit (s := S4096x256) ![0, 0] S4096x256.size inb).toLoadRect f (ix2 s l) = ((g s l : ℝ) : EReal) := by
  refine Eq.trans (congrArg (m.view.read (Elt Ideal) f) ?_) (hf s l)
  funext a
  fin_cases a
  · exact Fin.ext (by show 0 + 1 * s.val = s.val; omega)
  · exact Fin.ext (by show 0 + 1 * l.val = l.val; omega)

end Scratch

end Cert.KernelIdeal.Attn
end
-- ==== Proof.PointA.lean ====
/-
  What the run at the first block of keys leaves, over the extended reals.
-/
module

public import proofs.«01_k».proof.Proof.Point

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn

set_option maxHeartbeats 4000000 in
/-- What a run at the first block of keys leaves. -/
theorem runA_holds (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : condFirst i) (hc1 : ¬ k0_cond2 i = 1#1) (x0 : Vec Ideal S1x4096x256 .bf16) (x1 : Vec Ideal S1x1024x256 .bf16) (x2 : Vec Ideal S1x1024x256 .bf16) (x3 : Vec Ideal S1x4096x256 .bf16) (x4 : Vec Ideal S1x4096x256 .bf16) (x5 : Vec Ideal S1x2x4096x1 .f32)
    (b : Blk) (hx : Holds b x0 x1 x2 x3 x4 x5) :
    ∃ S, Carries b (i 2).val (4 - (i 2).val) S
      ∧ (runA (F := Ideal) c i arg3 harg3 arg4 harg4 arg5 harg5 arg6 harg6 arg7 harg7 arg8 harg8 arg9 harg9 arg10 harg10 arg11 harg11 arg12 harg12 hc0 hc1 x0 x1 x2 x3 x4 x5).1 = [⟨Rect.unit (s := S1x1024x256) ![0, 0, 128] S1x1024x128.size inb_S1x1024x256_S1x1024x128_0_0_128, k0_pay2 S.2.2.1⟩,
          ⟨Rect.unit (s := S1x1024x256) ![0, 0, 0] S1x1024x128.size inb_S1x1024x256_S1x1024x128_0_0_0, k0_pay62 S.1⟩]
      ∧ (runA (F := Ideal) c i arg3 harg3 arg4 harg4 arg5 harg5 arg6 harg6 arg7 harg7 arg8 harg8 arg9 harg9 arg10 harg10 arg11 harg11 arg12 harg12 hc0 hc1 x0 x1 x2 x3 x4 x5).2.1 = [⟨Rect.unit (s := S1x1024x256) ![0, 0, 128] S1x1024x128.size inb_S1x1024x256_S1x1024x128_0_0_128, k0_pay3 S.2.2.2⟩,
          ⟨Rect.unit (s := S1x1024x256) ![0, 0, 0] S1x1024x128.size inb_S1x1024x256_S1x1024x128_0_0_0, k0_pay1 S.2.1⟩]
      ∧ Acc arg12 (arg12.view.writes (Elt Ideal) arg12.view.junk (runA (F := Ideal) c i arg3 harg3 arg4 harg4 arg5 harg5 arg6 harg6 arg7 harg7 arg8 harg8 arg9 harg9 arg10 harg10 arg11 harg11 arg12 harg12 hc0 hc1 x0 x1 x2 x3 x4 x5).2.2.1) (b.run (fun _ _ => 0) (i 2).val (4 - (i 2).val)) := by
  have hj : (i 2).val < 4 := (i 2).isLt
  have hn : 4 - (i 2).val = (k0_t1_loop i).trips + 1 := by rw [trips_one]; omega
  have hb : 1024 * ((i 2).val + 0) + 1024 ≤ 4096 := by omega
  have hg : Acc arg12 (arg12.view.writes (Elt Ideal) arg12.view.junk runA.sl.H12_1) (fun _ _ => 0) := zero_acc arg12 arg12.view.junk _
  have h0 : Acc arg12 (arg12.view.writes (Elt Ideal) arg12.view.junk runA.sl.H12_1) (b.run (fun _ _ => 0) (i 2).val 0) := fun s l => (hg s l).trans (by rw [b.run_zero])
  have c1 := start_dk0 i arg3 harg3 arg4 harg4 arg5 harg5 arg6 harg6 arg7 harg7 arg8 harg8 x0 x1 x2 x3 x4 x5 b hx
  have c2 := start_dv0 i arg3 harg3 arg4 harg4 arg7 harg7 arg8 harg8 x0 x1 x2 x3 x4 x5 b hx
  have c3 := start_dk1 i arg3 harg3 arg4 harg4 arg5 harg5 arg6 harg6 arg7 harg7 arg8 harg8 x0 x1 x2 x3 x4 x5 b hx
  have c4 := start_dv1 i arg3 harg3 arg4 harg4 arg7 harg7 arg8 harg8 x0 x1 x2 x3 x4 x5 b hx
  have q0 := start_dq0 i arg3 harg3 arg4 harg4 arg5 harg5 arg6 harg6 arg7 harg7 arg8 harg8 x0 x1 x2 x3 x4 x5 b (fun _ _ => 0) hx (scratch_rows arg12 (arg12.view.writes (Elt Ideal) arg12.view.junk runA.sl.H12_1) (start_off3 i) (k0_off3_inb i) _ h0)
  have q1 := start_dq1 i arg3 harg3 arg4 harg4 arg5 harg5 arg6 harg6 arg7 harg7 arg8 harg8 x0 x1 x2 x3 x4 x5 b (fun _ _ => 0) hx (scratch_rows_skip arg12 arg12.view.junk (start_off6 i) (start_off3 i) (k0_off6_inb i) (k0_off3_inb i) (k0_pay46 (F := Ideal) (k0_pay37 (tK0 arg4 harg4 x1)) (k0_pay40 (tK0 arg4 harg4 x1) (tQ0 i arg3 harg3 x0) (tL0 i arg8 harg8 x5)) (k0_pay42 (tD0 i arg7 harg7 x4) (tV0 arg5 harg5 x2)) (k0_pay43 (tD0 i arg7 harg7 x4)) (tO0 i arg6 harg6 x3) (View.readAt (Elt Ideal) arg12.view (Rect.unit (s := S4096x256) (k0_off3 i) S1024x128.size (k0_off3_inb i)).toLoadRect (arg12.view.writes (Elt Ideal) arg12.view.junk runA.sl.H12_1))) _ _ h0)
  have hs := acc_store b (fun _ _ => 0) _ _ hb arg12 (arg12.view.writes (Elt Ideal) arg12.view.junk runA.sl.H12_1) (start_off3 i) (start_off6 i) (k0_off3_inb i) (k0_off6_inb i) _ _ h0 q0 q1
  delta runA
  dsimp only
  refine ⟨_, ?_, rfl, rfl, ?_⟩
  · rw [hn]
    refine Eq.mpr (congrArg (fun z => Carries b _ _ (Prod.fst z)) (second_eq Variants.none c none i arg3 harg3 arg4 harg4 arg5 harg5 arg6 harg6 arg7 harg7 arg8 harg8 arg9 harg9 arg10 harg10 arg11 harg11 arg12 harg12 _ _ _ _ _ _ _ _ _ _ _ _ _ _ _ _ _ _ _)) ?_
    exact (loop_holds Variants.none c none i arg3 harg3 arg4 harg4 arg5 harg5 arg6 harg6 arg7 harg7 arg8 harg8 arg9 harg9 arg10 harg10 arg11 harg11 arg12 harg12 _ _ _ _ _ _ _ _ _ _ _ x0 x1 x2 x3 x4 x5 _ _ b (fun _ _ => 0) hx ⟨c1, c2, c3, c4⟩ hs _ le_rfl).1
  · rw [hn, View.writes_append, View.writes_append]
    refine Eq.mpr (congrArg (fun z => Acc arg12 (arg12.view.writes (Elt Ideal) _ (Prod.snd z)) _) (second_eq Variants.none c none i arg3 harg3 arg4 harg4 arg5 harg5 arg6 harg6 arg7 harg7 arg8 harg8 arg9 harg9 arg10 harg10 arg11 harg11 arg12 harg12 _ _ _ _ _ _ _ _ _ _ _ _ _ _ _ _ _ _ _)) ?_
    exact (loop_holds Variants.none c none i arg3 harg3 arg4 harg4 arg5 harg5 arg6 harg6 arg7 harg7 arg8 harg8 arg9 harg9 arg10 harg10 arg11 harg11 arg12 harg12 _ _ _ _ _ _ _ _ _ _ _ x0 x1 x2 x3 x4 x5 _ _ b (fun _ _ => 0) hx ⟨c1, c2, c3, c4⟩ hs _ le_rfl).2

end Cert.KernelIdeal.Attn
end
-- ==== Proof.PointB.lean ====
/-
  What the run between the first and the last block of keys leaves, over the extended reals.
-/
module

public import proofs.«01_k».proof.Proof.Point

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn

set_option maxHeartbeats 4000000 in
/-- What a run between the first and the last block of keys leaves. -/
theorem runB_holds (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : ¬ k0_cond2 i = 1#1) (x0 : Vec Ideal S1x4096x256 .bf16) (x1 : Vec Ideal S1x1024x256 .bf16) (x2 : Vec Ideal S1x1024x256 .bf16) (x3 : Vec Ideal S1x4096x256 .bf16) (x4 : Vec Ideal S1x4096x256 .bf16) (x5 : Vec Ideal S1x2x4096x1 .f32) (g12 : BufTy.Contents (Elt Ideal) arg12.view.ty)
    (b : Blk) (G : ℕ → ℕ → ℝ) (hx : Holds b x0 x1 x2 x3 x4 x5) (hg : Acc arg12 g12 G) :
    ∃ S, Carries b (i 2).val (4 - (i 2).val) S
      ∧ (runB (F := Ideal) c i arg3 harg3 arg4 harg4 arg5 harg5 arg6 harg6 arg7 harg7 arg8 harg8 arg9 harg9 arg10 harg10 arg11 harg11 arg12 harg12 hc0 hc1 x0 x1 x2 x3 x4 x5 g12).1 = [⟨Rect.unit (s := S1x1024x256) ![0, 0, 128] S1x1024x128.size inb_S1x1024x256_S1x1024x128_0_0_128, k0_pay2 S.2.2.1⟩,
          ⟨Rect.unit (s := S1x1024x256) ![0, 0, 0] S1x1024x128.size inb_S1x1024x256_S1x1024x128_0_0_0, k0_pay62 S.1⟩]
      ∧ (runB (F := Ideal) c i arg3 harg3 arg4 harg4 arg5 harg5 arg6 harg6 arg7 harg7 arg8 harg8 arg9 harg9 arg10 harg10 arg11 harg11 arg12 harg12 hc0 hc1 x0 x1 x2 x3 x4 x5 g12).2.1 = [⟨Rect.unit (s := S1x1024x256) ![0, 0, 128] S1x1024x128.size inb_S1x1024x256_S1x1024x128_0_0_128, k0_pay3 S.2.2.2⟩,
          ⟨Rect.unit (s := S1x1024x256) ![0, 0, 0] S1x1024x128.size inb_S1x1024x256_S1x1024x128_0_0_0, k0_pay1 S.2.1⟩]
      ∧ Acc arg12 (arg12.view.writes (Elt Ideal) g12 (runB (F := Ideal) c i arg3 harg3 arg4 harg4 arg5 harg5 arg6 harg6 arg7 harg7 arg8 harg8 arg9 harg9 arg10 harg10 arg11 harg11 arg12 harg12 hc0 hc1 x0 x1 x2 x3 x4 x5 g12).2.2.1) (b.run G (i 2).val (4 - (i 2).val)) := by
  have hj : (i 2).val < 4 := (i 2).isLt
  have hn : 4 - (i 2).val = (k0_t1_loop i).trips + 1 := by rw [trips_one]; omega
  have hb : 1024 * ((i 2).val + 0) + 1024 ≤ 4096 := by omega
  have h0 : Acc arg12 g12 (b.run G (i 2).val 0) := fun s l => (hg s l).trans (by rw [b.run_zero])
  have c1 := start_dk0 i arg3 harg3 arg4 harg4 arg5 harg5 arg6 harg6 arg7 harg7 arg8 harg8 x0 x1 x2 x3 x4 x5 b hx
  have c2 := start_dv0 i arg3 harg3 arg4 harg4 arg7 harg7 arg8 harg8 x0 x1 x2 x3 x4 x5 b hx
  have c3 := start_dk1 i arg3 harg3 arg4 harg4 arg5 harg5 arg6 harg6 arg7 harg7 arg8 harg8 x0 x1 x2 x3 x4 x5 b hx
  have c4 := start_dv1 i arg3 harg3 arg4 harg4 arg7 harg7 arg8 harg8 x0 x1 x2 x3 x4 x5 b hx
  have q0 := start_dq0 i arg3 harg3 arg4 harg4 arg5 harg5 arg6 harg6 arg7 harg7 arg8 harg8 x0 x1 x2 x3 x4 x5 b G hx (scratch_rows arg12 g12 (start_off3 i) (k0_off3_inb i) _ h0)
  have q1 := start_dq1 i arg3 harg3 arg4 harg4 arg5 harg5 arg6 harg6 arg7 harg7 arg8 harg8 x0 x1 x2 x3 x4 x5 b G hx (scratch_rows arg12 g12 (start_off6 i) (k0_off6_inb i) _ h0)
  have hs := acc_store b G _ _ hb arg12 g12 (start_off3 i) (start_off6 i) (k0_off3_inb i) (k0_off6_inb i) _ _ h0 q0 q1
  delta runB
  dsimp only
  refine ⟨_, ?_, rfl, rfl, ?_⟩
  · rw [hn]
    refine Eq.mpr (congrArg (fun z => Carries b _ _ (Prod.fst z)) (second_eq Variants.none c none i arg3 harg3 arg4 harg4 arg5 harg5 arg6 harg6 arg7 harg7 arg8 harg8 arg9 harg9 arg10 harg10 arg11 harg11 arg12 harg12 _ _ _ _ _ _ _ _ _ _ _ _ _ _ _ _ _ _ _)) ?_
    exact (loop_holds Variants.none c none i arg3 harg3 arg4 harg4 arg5 harg5 arg6 harg6 arg7 harg7 arg8 harg8 arg9 harg9 arg10 harg10 arg11 harg11 arg12 harg12 _ _ _ _ _ _ _ _ _ _ _ x0 x1 x2 x3 x4 x5 _ _ b G hx ⟨c1, c2, c3, c4⟩ hs _ le_rfl).1
  · rw [hn, View.writes_append, View.writes_append]
    refine Eq.mpr (congrArg (fun z => Acc arg12 (arg12.view.writes (Elt Ideal) _ (Prod.snd z)) _) (second_eq Variants.none c none i arg3 harg3 arg4 harg4 arg5 harg5 arg6 harg6 arg7 harg7 arg8 harg8 arg9 harg9 arg10 harg10 arg11 harg11 arg12 harg12 _ _ _ _ _ _ _ _ _ _ _ _ _ _ _ _ _ _ _)) ?_
    exact (loop_holds Variants.none c none i arg3 harg3 arg4 harg4 arg5 harg5 arg6 harg6 arg7 harg7 arg8 harg8 arg9 harg9 arg10 harg10 arg11 harg11 arg12 harg12 _ _ _ _ _ _ _ _ _ _ _ x0 x1 x2 x3 x4 x5 _ _ b G hx ⟨c1, c2, c3, c4⟩ hs _ le_rfl).2

end Cert.KernelIdeal.Attn
end
-- ==== Proof.PointC.lean ====
/-
  What the run at the last block of keys leaves, over the extended reals.
-/
module

public import proofs.«01_k».proof.Proof.Point

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn

set_option maxHeartbeats 4000000 in
/-- What a run at the last block of keys leaves. -/
theorem runC_holds (c : Dev nD) (i : grid0.Coords) (arg3 : Memref sig .tc .vmem S1x4096x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x2x4096x1 .f32) (harg8 : arg8.IsWhole) (arg9 : Memref sig .tc .vmem S1x4096x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S4096x256 .f32) (harg12 : arg12.IsWhole)
    (hc0 : ¬ condFirst i) (hc1 : k0_cond2 i = 1#1) (x0 : Vec Ideal S1x4096x256 .bf16) (x1 : Vec Ideal S1x1024x256 .bf16) (x2 : Vec Ideal S1x1024x256 .bf16) (x3 : Vec Ideal S1x4096x256 .bf16) (x4 : Vec Ideal S1x4096x256 .bf16) (x5 : Vec Ideal S1x2x4096x1 .f32) (g12 : BufTy.Contents (Elt Ideal) arg12.view.ty)
    (b : Blk) (G : ℕ → ℕ → ℝ) (hx : Holds b x0 x1 x2 x3 x4 x5) (hg : Acc arg12 g12 G) :
    ∃ S, Carries b (i 2).val (4 - (i 2).val) S
      ∧ (runC (F := Ideal) c i arg3 harg3 arg4 harg4 arg5 harg5 arg6 harg6 arg7 harg7 arg8 harg8 arg9 harg9 arg10 harg10 arg11 harg11 arg12 harg12 hc0 hc1 x0 x1 x2 x3 x4 x5 g12).2.1 = [⟨Rect.unit (s := S1x1024x256) ![0, 0, 128] S1x1024x128.size inb_S1x1024x256_S1x1024x128_0_0_128, k0_pay2 S.2.2.1⟩,
          ⟨Rect.unit (s := S1x1024x256) ![0, 0, 0] S1x1024x128.size inb_S1x1024x256_S1x1024x128_0_0_0, k0_pay62 S.1⟩]
      ∧ (runC (F := Ideal) c i arg3 harg3 arg4 harg4 arg5 harg5 arg6 harg6 arg7 harg7 arg8 harg8 arg9 harg9 arg10 harg10 arg11 harg11 arg12 harg12 hc0 hc1 x0 x1 x2 x3 x4 x5 g12).2.2.1 = [⟨Rect.unit (s := S1x1024x256) ![0, 0, 128] S1x1024x128.size inb_S1x1024x256_S1x1024x128_0_0_128, k0_pay3 S.2.2.2⟩,
          ⟨Rect.unit (s := S1x1024x256) ![0, 0, 0] S1x1024x128.size inb_S1x1024x256_S1x1024x128_0_0_0, k0_pay1 S.2.1⟩]
      ∧ Acc arg12 (arg12.view.writes (Elt Ideal) g12 (runC (F := Ideal) c i arg3 harg3 arg4 harg4 arg5 harg5 arg6 harg6 arg7 harg7 arg8 harg8 arg9 harg9 arg10 harg10 arg11 harg11 arg12 harg12 hc0 hc1 x0 x1 x2 x3 x4 x5 g12).2.2.2.1) (b.run G (i 2).val (4 - (i 2).val))
      ∧ ∃ W : FVec Ideal S4096x256 .f32, (∀ (s : Fin 4096) (l : Fin 256), W (ix2 s l) = ((b.run G (i 2).val (4 - (i 2).val) s l : ℝ) : EReal))
        ∧ (runC (F := Ideal) c i arg3 harg3 arg4 harg4 arg5 harg5 arg6 harg6 arg7 harg7 arg8 harg8 arg9 harg9 arg10 harg10 arg11 harg11 arg12 harg12 hc0 hc1 x0 x1 x2 x3 x4 x5 g12).1 = [⟨Rect.unit (s := S1x4096x256) ![0, 0, 0] S1x4096x256.size inb_S1x4096x256_S1x4096x256_0_0_0, k0_pay4 (F := Ideal) W⟩] := by
  have hj : (i 2).val < 4 := (i 2).isLt
  have hn : 4 - (i 2).val = (k0_t1_loop i).trips + 1 := by rw [trips_one]; omega
  have hb : 1024 * ((i 2).val + 0) + 1024 ≤ 4096 := by omega
  have h0 : Acc arg12 g12 (b.run G (i 2).val 0) := fun s l => (hg s l).trans (by rw [b.run_zero])
  have c1 := start_dk0 i arg3 harg3 arg4 harg4 arg5 harg5 arg6 harg6 arg7 harg7 arg8 harg8 x0 x1 x2 x3 x4 x5 b hx
  have c2 := start_dv0 i arg3 harg3 arg4 harg4 arg7 harg7 arg8 harg8 x0 x1 x2 x3 x4 x5 b hx
  have c3 := start_dk1 i arg3 harg3 arg4 harg4 arg5 harg5 arg6 harg6 arg7 harg7 arg8 harg8 x0 x1 x2 x3 x4 x5 b hx
  have c4 := start_dv1 i arg3 harg3 arg4 harg4 arg7 harg7 arg8 harg8 x0 x1 x2 x3 x4 x5 b hx
  have q0 := start_dq0 i arg3 harg3 arg4 harg4 arg5 harg5 arg6 harg6 arg7 harg7 arg8 harg8 x0 x1 x2 x3 x4 x5 b G hx (scratch_rows arg12 g12 (start_off3 i) (k0_off3_inb i) _ h0)
  have q1 := start_dq1 i arg3 harg3 arg4 harg4 arg5 harg5 arg6 harg6 arg7 harg7 arg8 harg8 x0 x1 x2 x3 x4 x5 b G hx (scratch_rows arg12 g12 (start_off6 i) (k0_off6_inb i) _ h0)
  have hs := acc_store b G _ _ hb arg12 g12 (start_off3 i) (start_off6 i) (k0_off3_inb i) (k0_off6_inb i) _ _ h0 q0 q1
  delta runC
  dsimp only
  have hA : Acc arg12 (arg12.view.writes (Elt Ideal) g12 (runC (F := Ideal) c i arg3 harg3 arg4 harg4 arg5 harg5 arg6 harg6 arg7 harg7 arg8 harg8 arg9 harg9 arg10 harg10 arg11 harg11 arg12 harg12 hc0 hc1 x0 x1 x2 x3 x4 x5 g12).2.2.2.1) (b.run G (i 2).val (4 - (i 2).val)) := by
    delta runC
    dsimp only
    rw [hn, View.writes_append, View.writes_append]
    refine Eq.mpr (congrArg (fun z => Acc arg12 (arg12.view.writes (Elt Ideal) _ (Prod.snd z)) _) (second_eq Variants.none c none i arg3 harg3 arg4 harg4 arg5 harg5 arg6 harg6 arg7 harg7 arg8 harg8 arg9 harg9 arg10 harg10 arg11 harg11 arg12 harg12 _ _ _ _ _ _ _ _ _ _ _ _ _ _ _ _ _ _ _)) ?_
    exact (loop_holds Variants.none c none i arg3 harg3 arg4 harg4 arg5 harg5 arg6 harg6 arg7 harg7 arg8 harg8 arg9 harg9 arg10 harg10 arg11 harg11 arg12 harg12 _ _ _ _ _ _ _ _ _ _ _ x0 x1 x2 x3 x4 x5 _ _ b G hx ⟨c1, c2, c3, c4⟩ hs _ le_rfl).2

  refine ⟨_, ?_, rfl, rfl, hA, _, scratch_all arg12 _ inb_S4096x256_S4096x256_0_0 _ hA, rfl⟩
  rw [hn]
  refine Eq.mpr (congrArg (fun z => Carries b _ _ (Prod.fst z)) (second_eq Variants.none c none i arg3 harg3 arg4 harg4 arg5 harg5 arg6 harg6 arg7 harg7 arg8 harg8 arg9 harg9 arg10 harg10 arg11 harg11 arg12 harg12 _ _ _ _ _ _ _ _ _ _ _ _ _ _ _ _ _ _ _)) ?_
  exact (loop_holds Variants.none c none i arg3 harg3 arg4 harg4 arg5 harg5 arg6 harg6 arg7 harg7 arg8 harg8 arg9 harg9 arg10 harg10 arg11 harg11 arg12 harg12 _ _ _ _ _ _ _ _ _ _ _ x0 x1 x2 x3 x4 x5 _ _ b G hx ⟨c1, c2, c3, c4⟩ hs _ le_rfl).1

end Cert.KernelIdeal.Attn
end
-- ==== Proof.Fold.lean ====
/-
  What the kernel leaves in its results' blocks and in its scratch at each point of the grid, from the real functions that
  its arrays hold when it starts.
-/
module

public import proofs.«01_k».proof.Proof.Blocks
public import proofs.«01_k».proof.Proof.PointA
public import proofs.«01_k».proof.Proof.PointB
public import proofs.«01_k».proof.Proof.PointC

@[expose] public section

set_option maxRecDepth 16384

noncomputable section

namespace Cert.Attn

/-- The real functions the kernel's arrays hold: by batch element, row and lane, and the log-sums by batch element, head
and row. -/
structure Arr where
  Q : ℕ → ℕ → ℕ → ℝ
  K : ℕ → ℕ → ℕ → ℝ
  V : ℕ → ℕ → ℕ → ℝ
  O : ℕ → ℕ → ℕ → ℝ
  D : ℕ → ℕ → ℕ → ℝ
  L : ℕ → ℕ → ℕ → ℝ

/-- The part that the grid point of batch element `b`, pair of heads `p` and block `j` of keys reads. -/
def Arr.blk (A : Arr) (b p j : ℕ) : Blk where
  Q s l := A.Q b s (256 * p + l)
  K c l := A.K b (1024 * j + c) (256 * p + l)
  V c l := A.V b (1024 * j + c) (256 * p + l)
  O s l := A.O b s (256 * p + l)
  D s l := A.D b s (256 * p + l)
  L h s := A.L b (2 * p + h) s

/-- The gradient of the queries after the blocks of keys up to block `j`. -/
def Arr.dqSum (A : Arr) (b p j s l : ℕ) : ℝ := ∑ i ∈ Finset.range j, (A.blk b p i).dq i s l

end Cert.Attn

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Attn

/-! ## The two stores of a block of results -/

theorem pay62_at (S : FVec Ideal S1024x128 .f32) (x : S1x1024x128.Idx) : k0_pay62 S x = S (ix2 (x 1) (x 2)) := by
  obtain ⟨a, b, d, rfl⟩ : ∃ (a : Fin 1) (b : Fin 1024) (d : Fin 128), x = ix3 a b d := ⟨x 0, x 1, x 2, by funext i; fin_cases i <;> rfl⟩
  pointwise [k0_pay62]

theorem pay1_at (S : FVec Ideal S1024x128 .f32) (x : S1x1024x128.Idx) : k0_pay1 S x = S (ix2 (x 1) (x 2)) := by
  obtain ⟨a, b, d, rfl⟩ : ∃ (a : Fin 1) (b : Fin 1024) (d : Fin 128), x = ix3 a b d := ⟨x 0, x 1, x 2, by funext i; fin_cases i <;> rfl⟩
  pointwise [k0_pay1]

theorem pay2_at (S : FVec Ideal S1024x128 .f32) (x : S1x1024x128.Idx) : k0_pay2 S x = S (ix2 (x 1) (x 2)) := by
  obtain ⟨a, b, d, rfl⟩ : ∃ (a : Fin 1) (b : Fin 1024) (d : Fin 128), x = ix3 a b d := ⟨x 0, x 1, x 2, by funext i; fin_cases i <;> rfl⟩
  pointwise [k0_pay2]

theorem pay3_at (S : FVec Ideal S1024x128 .f32) (x : S1x1024x128.Idx) : k0_pay3 S x = S (ix2 (x 1) (x 2)) := by
  obtain ⟨a, b, d, rfl⟩ : ∃ (a : Fin 1) (b : Fin 1024) (d : Fin 128), x = ix3 a b d := ⟨x 0, x 1, x 2, by funext i; fin_cases i <;> rfl⟩
  pointwise [k0_pay3]

theorem pay4_at (W : Vec Ideal S4096x256 .f32) (x : S1x4096x256.Idx) : k0_pay4 W x = W (ix2 (x 1) (x 2)) := by
  obtain ⟨a, b, d, rfl⟩ : ∃ (a : Fin 1) (b : Fin 4096) (d : Fin 256), x = ix3 a b d := ⟨x 0, x 1, x 2, by funext i; fin_cases i <;> rfl⟩
  pointwise [k0_pay4]

/-- Two stores of 128 lanes each, read as one block of 256. -/
theorem two_halves (w1 w0 : S1x1024x128.Idx → Elt Ideal .bf16) (g : ℕ → ℕ → ℕ → ℝ)
    (h1 : ∀ x, w1 x = ((g 1 (x 1).val (x 2).val : ℝ) : EReal)) (h0 : ∀ x, w0 x = ((g 0 (x 1).val (x 2).val : ℝ) : EReal))
    (L : List (View.Piece (Elt Ideal) S1x1024x256 .bf16))
    (hL : L = [⟨Rect.unit (s := S1x1024x256) ![0, 0, 128] S1x1024x128.size inb_S1x1024x256_S1x1024x128_0_0_128, w1⟩,
      ⟨Rect.unit (s := S1x1024x256) ![0, 0, 0] S1x1024x128.size inb_S1x1024x256_S1x1024x128_0_0_0, w0⟩]) (y : S1x1024x256.Idx) :
    View.canon L y = ((g ((y 2).val / 128) (y 1).val ((y 2).val % 128) : ℝ) : EReal) := by
  subst hL
  refine View.canon_apply_of_pieces (Val := Elt Ideal) (e := .bf16) (fun y : S1x1024x256.Idx => ((g ((y 2).val / 128) (y 1).val ((y 2).val % 128) : ℝ) : EReal)) _ ?_ y ?_
  · intro p hp x
    rcases List.mem_cons.mp hp with rfl | hp
    · refine (h1 x).trans ?_
      have hx : (x 2).val < 128 := (x 2).isLt
      show _ = ((g ((128 + 1 * (x 2).val) / 128) (0 + 1 * (x 1).val) ((128 + 1 * (x 2).val) % 128) : ℝ) : EReal)
      rw [show (128 + 1 * (x 2).val) / 128 = 1 by omega, show 0 + 1 * (x 1).val = (x 1).val by omega,
        show (128 + 1 * (x 2).val) % 128 = (x 2).val by omega]
    · obtain rfl := List.mem_singleton.mp hp
      refine (h0 x).trans ?_
      have hx : (x 2).val < 128 := (x 2).isLt
      show _ = ((g ((0 + 1 * (x 2).val) / 128) (0 + 1 * (x 1).val) ((0 + 1 * (x 2).val) % 128) : ℝ) : EReal)
      rw [show (0 + 1 * (x 2).val) / 128 = 0 by omega, show 0 + 1 * (x 1).val = (x 1).val by omega,
        show (0 + 1 * (x 2).val) % 128 = (x 2).val by omega]
  · have hy0 : (y 0).val < 1 := (y 0).isLt
    have hy1 : (y 1).val < 1024 := (y 1).isLt
    have hy2 : (y 2).val < 256 := (y 2).isLt
    by_cases h : 128 ≤ (y 2).val
    · refine ⟨_, List.mem_cons_self, ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 1024; omega
      | ⟨2, _⟩ => show 128 ≤ (y 2).val ∧ (y 2).val < 128 + 128; omega
    · refine ⟨_, List.mem_cons_of_mem _ List.mem_cons_self, ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 128; omega

/-- One store of the whole block of queries' gradients. -/
theorem one_whole (W : Vec Ideal S4096x256 .f32) (g : ℕ → ℕ → ℝ)
    (h : ∀ (s : Fin 4096) (l : Fin 256), W (ix2 s l) = ((g s l : ℝ) : EReal))
    (L : List (View.Piece (Elt Ideal) S1x4096x256 .bf16))
    (hL : L = [⟨Rect.unit (s := S1x4096x256) ![0, 0, 0] S1x4096x256.size inb_S1x4096x256_S1x4096x256_0_0_0, k0_pay4 (F := Ideal) W⟩])
    (y : S1x4096x256.Idx) : View.canon L y = ((g (y 1).val (y 2).val : ℝ) : EReal) := by
  subst hL
  rw [View.canon_unit_zero (funext fun a => by fin_cases a <;> rfl)]
  exact (pay4_at W y).trans (h _ _)

/-! ## The points of the grid -/

variable (m : (ℓ : Loc nD τ sig) → Buf (Elt Ideal) ℓ) (c : Dev nD)

/-- The arrays that the kernel starts from hold the real functions of `A`. -/
structure Entry (A : Arr) : Prop where
  q : ∀ i : S2x4096x1024.Idx, V m c main_v7 i = ((A.Q (i 0).val (i 1).val (i 2).val : ℝ) : EReal)
  k : ∀ i : S2x4096x1024.Idx, V m c main_v10 i = ((A.K (i 0).val (i 1).val (i 2).val : ℝ) : EReal)
  v : ∀ i : S2x4096x1024.Idx, V m c main_v37 i = ((A.V (i 0).val (i 1).val (i 2).val : ℝ) : EReal)
  o : ∀ i : S2x4096x1024.Idx, V m c main_v35 i = ((A.O (i 0).val (i 1).val (i 2).val : ℝ) : EReal)
  d : ∀ i : S2x4096x1024.Idx, V m c main_v38 i = ((A.D (i 0).val (i 1).val (i 2).val : ℝ) : EReal)
  l : ∀ i : S2x8x4096x1.Idx, V m c main_v29 i = ((A.L (i 0).val (i 1).val (i 2).val : ℝ) : EReal)

/-- The part of the arrays that point `t` reads. -/
abbrev part (A : Arr) (t : ℕ) : Blk := A.blk (t / 16) (t / 4 % 4) (t % 4)

theorem coord2 : ∀ t : Fin cfg0.N, (grid0.coords t 2).val = t.val % 4 :=
  (by decide +kernel : ∀ t : Fin grid0.N, (grid0.coords t 2).val = t.val % 4)

variable {m c}

/-- The six blocks of point `t` hold the real functions of its part. -/
theorem holds_at {A : Arr} (hA : Entry m c A) (t : Fin cfg0.N) :
    Holds (part A t.val) (iblk m c 0 t) (iblk m c 1 t) (iblk m c 2 t) (iblk m c 3 t) (iblk m c 4 t) (iblk m c 5 t) := by
  have hN : t.val < 32 := Nat.lt_of_lt_of_eq t.isLt N_0
  have h0 : t.val / 16 < 2 := by omega
  constructor
  · intro r d
    exact (read0 _ t r d (ix3 ⟨t.val / 16, h0⟩ r ⟨256 * (t.val / 4 % 4) + d.val, by omega⟩) rfl rfl rfl).trans (hA.q _)
  · intro r d
    exact (read1 _ t r d (ix3 ⟨t.val / 16, h0⟩ ⟨1024 * (t.val % 4) + r.val, by omega⟩ ⟨256 * (t.val / 4 % 4) + d.val, by omega⟩) rfl rfl rfl).trans (hA.k _)
  · intro r d
    exact (read2 _ t r d (ix3 ⟨t.val / 16, h0⟩ ⟨1024 * (t.val % 4) + r.val, by omega⟩ ⟨256 * (t.val / 4 % 4) + d.val, by omega⟩) rfl rfl rfl).trans (hA.v _)
  · intro r d
    exact (read3 _ t r d (ix3 ⟨t.val / 16, h0⟩ r ⟨256 * (t.val / 4 % 4) + d.val, by omega⟩) rfl rfl rfl).trans (hA.o _)
  · intro r d
    exact (read4 _ t r d (ix3 ⟨t.val / 16, h0⟩ r ⟨256 * (t.val / 4 % 4) + d.val, by omega⟩) rfl rfl rfl).trans (hA.d _)
  · intro h r
    exact (read5 _ t h r (ix4 ⟨t.val / 16, h0⟩ ⟨2 * (t.val / 4 % 4) + h.val, by omega⟩ r 0) rfl rfl rfl).trans (hA.l _)

/-- The gradient grows by the block of point `t`. -/
theorem run_part (A : Arr) (t : ℕ) (s : Fin 4096) (l : Fin 256) :
    (part A t).run (A.dqSum (t / 16) (t / 4 % 4) (t % 4)) (t % 4) (4 - t % 4) s.val l.val
      = A.dqSum (t / 16) (t / 4 % 4) (t % 4 + 1) s.val l.val := by
  have hs := s.isLt
  rw [Blk.run_all _ _ _ _ _ _ (by omega), Arr.dqSum, Arr.dqSum, Finset.sum_range_succ]

/-- The two halves of a block of keys' gradients. -/
theorem halves_dk {b : Blk} {j n : ℕ} {T : FVec Ideal S1024x128 .f32 × FVec Ideal S1024x128 .f32 × FVec Ideal S1024x128 .f32 × FVec Ideal S1024x128 .f32}
    (hT : Carries b j n T) (L : List (View.Piece (Elt Ideal) S1x1024x256 .bf16))
    (hL : L = [⟨Rect.unit (s := S1x1024x256) ![0, 0, 128] S1x1024x128.size inb_S1x1024x256_S1x1024x128_0_0_128, k0_pay2 T.2.2.1⟩,
      ⟨Rect.unit (s := S1x1024x256) ![0, 0, 0] S1x1024x128.size inb_S1x1024x256_S1x1024x128_0_0_0, k0_pay62 T.1⟩]) (y : S1x1024x256.Idx) :
    View.canon L y = ((b.dk j ((y 2).val / 128) n (y 1).val ((y 2).val % 128) : ℝ) : EReal) :=
  two_halves _ _ (fun h => b.dk j h n) (fun x => (pay2_at _ x).trans (hT.dk1 _ _)) (fun x => (pay62_at _ x).trans (hT.dk0 _ _)) L hL y

/-- The two halves of a block of values' gradients. -/
theorem halves_dv {b : Blk} {j n : ℕ} {T : FVec Ideal S1024x128 .f32 × FVec Ideal S1024x128 .f32 × FVec Ideal S1024x128 .f32 × FVec Ideal S1024x128 .f32}
    (hT : Carries b j n T) (L : List (View.Piece (Elt Ideal) S1x1024x256 .bf16))
    (hL : L = [⟨Rect.unit (s := S1x1024x256) ![0, 0, 128] S1x1024x128.size inb_S1x1024x256_S1x1024x128_0_0_128, k0_pay3 T.2.2.2⟩,
      ⟨Rect.unit (s := S1x1024x256) ![0, 0, 0] S1x1024x128.size inb_S1x1024x256_S1x1024x128_0_0_0, k0_pay1 T.2.1⟩]) (y : S1x1024x256.Idx) :
    View.canon L y = ((b.dv j ((y 2).val / 128) n (y 1).val ((y 2).val % 128) : ℝ) : EReal) :=
  two_halves _ _ (fun h => b.dv j h n) (fun x => (pay3_at _ x).trans (hT.dv1 _ _)) (fun x => (pay1_at _ x).trans (hT.dv0 _ _)) L hL y

/-- The stores of a point, read as its two blocks of results and its scratch. -/
theorem leaves {b : Blk} {j n : ℕ} {P : Prop} (L1 L2 : List (View.Piece (Elt Ideal) S1x1024x256 .bf16))
    (R : ∃ T : FVec Ideal S1024x128 .f32 × FVec Ideal S1024x128 .f32 × FVec Ideal S1024x128 .f32 × FVec Ideal S1024x128 .f32,
      Carries b j n T ∧ L1 = [⟨Rect.unit (s := S1x1024x256) ![0, 0, 128] S1x1024x128.size inb_S1x1024x256_S1x1024x128_0_0_128, k0_pay2 T.2.2.1⟩,
        ⟨Rect.unit (s := S1x1024x256) ![0, 0, 0] S1x1024x128.size inb_S1x1024x256_S1x1024x128_0_0_0, k0_pay62 T.1⟩]
      ∧ L2 = [⟨Rect.unit (s := S1x1024x256) ![0, 0, 128] S1x1024x128.size inb_S1x1024x256_S1x1024x128_0_0_128, k0_pay3 T.2.2.2⟩,
        ⟨Rect.unit (s := S1x1024x256) ![0, 0, 0] S1x1024x128.size inb_S1x1024x256_S1x1024x128_0_0_0, k0_pay1 T.2.1⟩] ∧ P) :
    (∀ y : S1x1024x256.Idx, View.canon L1 y = ((b.dk j ((y 2).val / 128) n (y 1).val ((y 2).val % 128) : ℝ) : EReal))
      ∧ (∀ y : S1x1024x256.Idx, View.canon L2 y = ((b.dv j ((y 2).val / 128) n (y 1).val ((y 2).val % 128) : ℝ) : EReal)) ∧ P := by
  obtain ⟨T, hT, h1, h2, h3⟩ := R
  exact ⟨fun y => halves_dk hT _ h1 y, fun y => halves_dv hT _ h2 y, h3⟩

/-- The last block's store of the queries' gradient. -/
theorem leaves_dq {P : Prop} {G : ℕ → ℕ → ℝ} (L : List (View.Piece (Elt Ideal) S1x4096x256 .bf16))
    (R : P ∧ ∃ W : Vec Ideal S4096x256 .f32, (∀ (s : Fin 4096) (l : Fin 256), W (ix2 s l) = ((G s l : ℝ) : EReal))
      ∧ L = [⟨Rect.unit (s := S1x4096x256) ![0, 0, 0] S1x4096x256.size inb_S1x4096x256_S1x4096x256_0_0_0, k0_pay4 (F := Ideal) W⟩]) :
    P ∧ ∀ y : S1x4096x256.Idx, View.canon L y = ((G (y 1).val (y 2).val : ℝ) : EReal) := by
  obtain ⟨h, W, hW, hL⟩ := R
  exact ⟨h, one_whole W _ hW L hL⟩

/-- What the first block of keys leaves, at a point of the grid. -/
theorem atA_holds {A : Arr} (hA : Entry m c A) (t : Fin cfg0.N) (h : t.val % 4 = 0) :
    (∀ y, View.canon (atA m c t h).1 y = (((part A t.val).dk (t.val % 4) ((y 2).val / 128) (4 - t.val % 4) (y 1).val ((y 2).val % 128) : ℝ) : EReal))
      ∧ (∀ y, View.canon (atA m c t h).2.1 y = (((part A t.val).dv (t.val % 4) ((y 2).val / 128) (4 - t.val % 4) (y 1).val ((y 2).val % 128) : ℝ) : EReal))
      ∧ Acc scrM (scrM.view.writes (Elt Ideal) scrM.view.junk (atA m c t h).2.2.1) ((part A t.val).run (fun _ _ => 0) (t.val % 4) (4 - t.val % 4)) := by
  have R := runA_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    ((hcond0 t).mpr h) (fun h' => by have := (hcond1 t).mp h'; omega) (iblk m c 0 t) (iblk m c 1 t) (iblk m c 2 t) (iblk m c 3 t) (iblk m c 4 t) (iblk m c 5 t) (part A t.val) (holds_at hA t)
  rw [coord2] at R
  have R' := leaves _ _ R
  have R3 := R'.2.2
  refine ⟨R'.1, R'.2.1, ?_⟩
  clear R' R
  refine Eq.mp ?_ R3
  clear R3
  congr 1

/-- What the inner block of keys leaves, at a point of the grid. -/
theorem atB_holds {A : Arr} (hA : Entry m c A) (t : Fin cfg0.N) (h : ¬ t.val % 4 = 0) (h' : ¬ t.val % 4 = 3) (S : BufTy.Contents (Elt Ideal) scrM.view.ty) (G : ℕ → ℕ → ℝ) (hS : Acc scrM S G) :
    (∀ y, View.canon (atB m c t h h' S).1 y = (((part A t.val).dk (t.val % 4) ((y 2).val / 128) (4 - t.val % 4) (y 1).val ((y 2).val % 128) : ℝ) : EReal))
      ∧ (∀ y, View.canon (atB m c t h h' S).2.1 y = (((part A t.val).dv (t.val % 4) ((y 2).val / 128) (4 - t.val % 4) (y 1).val ((y 2).val % 128) : ℝ) : EReal))
      ∧ Acc scrM (scrM.view.writes (Elt Ideal) S (atB m c t h h' S).2.2.1) ((part A t.val).run G (t.val % 4) (4 - t.val % 4)) := by
  have R := runB_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    (fun e => h ((hcond0 t).mp e)) (fun e => h' ((hcond1 t).mp e)) (iblk m c 0 t) (iblk m c 1 t) (iblk m c 2 t) (iblk m c 3 t) (iblk m c 4 t) (iblk m c 5 t) S (part A t.val) G (holds_at hA t) hS
  rw [coord2] at R
  have R' := leaves _ _ R
  have R3 := R'.2.2
  refine ⟨R'.1, R'.2.1, ?_⟩
  clear R' R
  refine Eq.mp ?_ R3
  clear R3
  congr 1

/-- What the last block of keys leaves, at a point of the grid. -/
theorem atC_holds {A : Arr} (hA : Entry m c A) (t : Fin cfg0.N) (h' : t.val % 4 = 3) (S : BufTy.Contents (Elt Ideal) scrM.view.ty) (G : ℕ → ℕ → ℝ) (hS : Acc scrM S G) :
    (∀ y, View.canon (atC m c t h' S).2.1 y = (((part A t.val).dk (t.val % 4) ((y 2).val / 128) (4 - t.val % 4) (y 1).val ((y 2).val % 128) : ℝ) : EReal))
      ∧ (∀ y, View.canon (atC m c t h' S).2.2.1 y = (((part A t.val).dv (t.val % 4) ((y 2).val / 128) (4 - t.val % 4) (y 1).val ((y 2).val % 128) : ℝ) : EReal))
      ∧ Acc scrM (scrM.view.writes (Elt Ideal) S (atC m c t h' S).2.2.2.1) ((part A t.val).run G (t.val % 4) (4 - t.val % 4))
      ∧ (∀ y, View.canon (atC m c t h' S).1 y = (((part A t.val).run G (t.val % 4) (4 - t.val % 4) (y 1).val (y 2).val : ℝ) : EReal)) := by
  have R := runC_holds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    (fun e => by have := (hcond0 t).mp e; omega) ((hcond1 t).mpr h') (iblk m c 0 t) (iblk m c 1 t) (iblk m c 2 t) (iblk m c 3 t) (iblk m c 4 t) (iblk m c 5 t) S (part A t.val) G (holds_at hA t) hS
  rw [coord2] at R
  have R' := leaves _ _ R
  have R3 := R'.2.2.1
  have R4 := (leaves_dq _ R'.2.2).2
  refine ⟨R'.1, R'.2.1, ?_, R4⟩
  clear R' R R4
  refine Eq.mp ?_ R3
  clear R3
  congr 1

/-- The scratch after a point whose block of keys is not the first, from the point before it. -/
theorem scr_step {A : Arr} (hA : Entry m c A) (t : Fin cfg0.N) (h : ¬ t.val % 4 = 0)
    (hS : Acc scrM (scrAt m c t.val) (A.dqSum (t.val / 16) (t.val / 4 % 4) (t.val % 4))) :
    Acc scrM (scrAt m c (t.val + 1)) (A.dqSum (t.val / 16) (t.val / 4 % 4) (t.val % 4 + 1)) := by
  intro s l
  rw [scrAt_succ, scrStep, dif_neg h, ← run_part]
  by_cases h' : t.val % 4 = 3
  · rw [dif_pos h']; exact (atC_holds hA t h' _ _ hS).2.2.1 s l
  · rw [dif_neg h']; exact (atB_holds hA t h h' _ _ hS).2.2 s l

/-- After a point whose block of keys is the first. -/
theorem scr_first {A : Arr} (hA : Entry m c A) (t : Fin cfg0.N) (h : t.val % 4 = 0) :
    Acc scrM (scrAt m c (t.val + 1)) (A.dqSum (t.val / 16) (t.val / 4 % 4) (t.val % 4 + 1)) := by
  intro s l
  rw [scrAt_succ, scrStep, dif_pos h, ← run_part, h]
  exact ((atA_holds hA t h).2.2 s l).trans (by rw [h]; rfl)

/-- After every point the scratch holds the queries' gradient over the blocks of keys so far. -/
theorem scr_holds {A : Arr} (hA : Entry m c A) (n : ℕ) (h : n < cfg0.N) :
    Acc scrM (scrAt m c (n + 1)) (A.dqSum (n / 16) (n / 4 % 4) (n % 4 + 1)) := by
  induction n with
  | zero => exact scr_first hA ⟨0, h⟩ rfl
  | succ n ih =>
    by_cases h0 : (n + 1) % 4 = 0
    · exact scr_first hA ⟨n + 1, h⟩ h0
    · refine scr_step hA ⟨n + 1, h⟩ h0 ?_
      have e1 : (n + 1) / 16 = n / 16 := by omega
      have e2 : (n + 1) / 4 % 4 = n / 4 % 4 := by omega
      have e3 : (n + 1) % 4 = n % 4 + 1 := by omega
      show Acc scrM (scrAt m c (n + 1)) (A.dqSum ((n + 1) / 16) ((n + 1) / 4 % 4) ((n + 1) % 4))
      rw [e1, e2, e3]
      exact ih (by omega)

/-- Before a point whose block of keys is not the first. -/
theorem scr_before {A : Arr} (hA : Entry m c A) (t : Fin cfg0.N) (h : ¬ t.val % 4 = 0) :
    Acc scrM (scrAt m c t.val) (A.dqSum (t.val / 16) (t.val / 4 % 4) (t.val % 4)) := by
  obtain ⟨n, hn⟩ : ∃ n, t.val = n + 1 := ⟨t.val - 1, by omega⟩
  have ht := t.isLt
  have e1 : (n + 1) / 16 = n / 16 := by omega
  have e2 : (n + 1) / 4 % 4 = n / 4 % 4 := by omega
  have e3 : (n + 1) % 4 = n % 4 + 1 := by omega
  rw [hn, e1, e2, e3]
  exact scr_holds hA n (by omega)

/-- The block of keys' gradients that point `t` writes. -/
theorem dk_at {A : Arr} (hA : Entry m c A) (t : Fin cfg0.N) (y : S1x1024x256.Idx) : dkAt m c t y
    = (((part A t.val).dk (t.val % 4) ((y 2).val / 128) (4 - t.val % 4) (y 1).val ((y 2).val % 128) : ℝ) : EReal) := by
  unfold dkAt
  by_cases h : t.val % 4 = 0
  · rw [dif_pos h]; exact (atA_holds hA t h).1 y
  · rw [dif_neg h]
    by_cases h' : t.val % 4 = 3
    · rw [dif_pos h']; exact (atC_holds hA t h' _ _ (scr_before hA t h)).1 y
    · rw [dif_neg h']; exact (atB_holds hA t h h' _ _ (scr_before hA t h)).1 y

/-- The block of values' gradients that point `t` writes. -/
theorem dv_at {A : Arr} (hA : Entry m c A) (t : Fin cfg0.N) (y : S1x1024x256.Idx) : dvAt m c t y
    = (((part A t.val).dv (t.val % 4) ((y 2).val / 128) (4 - t.val % 4) (y 1).val ((y 2).val % 128) : ℝ) : EReal) := by
  unfold dvAt
  by_cases h : t.val % 4 = 0
  · rw [dif_pos h]; exact (atA_holds hA t h).2.1 y
  · rw [dif_neg h]
    by_cases h' : t.val % 4 = 3
    · rw [dif_pos h']; exact (atC_holds hA t h' _ _ (scr_before hA t h)).2.1 y
    · rw [dif_neg h']; exact (atB_holds hA t h h' _ _ (scr_before hA t h)).2.1 y

/-- The block of queries' gradients that the last point of a pair of heads writes. -/
theorem dq_at {A : Arr} (hA : Entry m c A) (t : Fin cfg0.N) (h' : t.val % 4 = 3) (y : S1x4096x256.Idx) : dqAt m c t y
    = ((A.dqSum (t.val / 16) (t.val / 4 % 4) 4 (y 1).val (y 2).val : ℝ) : EReal) := by
  unfold dqAt
  rw [dif_pos h']
  refine ((atC_holds hA t h' _ _ (scr_before hA t (by omega))).2.2.2 y).trans ?_
  rw [run_part A t.val (y 1) (y 2), h']

end Cert.KernelIdeal.Attn
end
-- ==== Proof.Arrays.lean ====
/-
  The arrays of results the kernel leaves.
-/
module

public import proofs.«01_k».proof.Proof.Fold
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Attn

open Idealize.ShloMosaic.Pipeline (Dat)

/-- The gradients of the queries, of the keys and of the values, over the whole arrays. -/
def outQ (A : Arr) : S2x4096x1024.Idx → Elt Ideal .bf16 :=
  fun i => ((A.dqSum (i 0).val ((i 2).val / 256) 4 (i 1).val ((i 2).val % 256) : ℝ) : EReal)
def outK (A : Arr) : S2x4096x1024.Idx → Elt Ideal .bf16 := fun i =>
  (((A.blk (i 0).val ((i 2).val / 256) ((i 1).val / 1024)).dk ((i 1).val / 1024) ((i 2).val % 256 / 128) (4 - (i 1).val / 1024)
    ((i 1).val % 1024) ((i 2).val % 256 % 128) : ℝ) : EReal)
def outV (A : Arr) : S2x4096x1024.Idx → Elt Ideal .bf16 := fun i =>
  (((A.blk (i 0).val ((i 2).val / 256) ((i 1).val / 1024)).dv ((i 1).val / 1024) ((i 2).val % 256 / 128) (4 - (i 1).val / 1024)
    ((i 1).val % 1024) ((i 2).val % 256 % 128) : ℝ) : EReal)

variable {m : (ℓ : Loc nD τ sig) → Buf (Elt Ideal) ℓ} {c : Dev nD}

/-- What a point of the grid writes back is its block of the array. -/
theorem flushed7 {A : Arr} (hA : Entry m c A) (t : Fin cfg0.N) :
    (dats m 0 c).flushed 7 t = ((cfg0.win 7).blk t).view.read (Elt Ideal) (outK A) := by
  show (cfg0.win 7).cut (grid0.coords t) ((dats m 0 c).after 7 t) = _
  rw [after0_7]
  refine funext fun (y : S1x1024x256.Idx) => ?_
  obtain ⟨a, r, d, rfl⟩ : ∃ (a : Fin 1) (r : Fin 1024) (d : Fin 256), y = ix3 a r d := ⟨y 0, y 1, y 2, by funext i; fin_cases i <;> rfl⟩
  obtain rfl : a = 0 := Subsingleton.elim _ _
  have hN : t.val < 32 := Nat.lt_of_lt_of_eq t.isLt N_0
  have h0 : t.val / 16 < 2 := by omega
  refine Eq.trans ?_ (read7 (outK A) t r d (ix3 ⟨t.val / 16, h0⟩ ⟨1024 * (t.val % 4) + r.val, by omega⟩
    ⟨256 * (t.val / 4 % 4) + d.val, by omega⟩) rfl rfl rfl).symm
  refine (dk_at hA t (ix3 0 r d)).trans ?_
  have e1 : (1024 * (t.val % 4) + r.val) / 1024 = t.val % 4 := by omega
  have e2 : (1024 * (t.val % 4) + r.val) % 1024 = r.val := by omega
  have e3 : (256 * (t.val / 4 % 4) + d.val) / 256 = t.val / 4 % 4 := by omega
  have e4 : (256 * (t.val / 4 % 4) + d.val) % 256 = d.val := by omega
  show _ = (((A.blk (t.val / 16) ((256 * (t.val / 4 % 4) + d.val) / 256) ((1024 * (t.val % 4) + r.val) / 1024)).dk ((1024 * (t.val % 4) + r.val) / 1024)
    ((256 * (t.val / 4 % 4) + d.val) % 256 / 128) (4 - (1024 * (t.val % 4) + r.val) / 1024) ((1024 * (t.val % 4) + r.val) % 1024)
    ((256 * (t.val / 4 % 4) + d.val) % 256 % 128) : ℝ) : EReal)
  rw [e1, e2, e3, e4]
  rfl

theorem flushed8 {A : Arr} (hA : Entry m c A) (t : Fin cfg0.N) :
    (dats m 0 c).flushed 8 t = ((cfg0.win 8).blk t).view.read (Elt Ideal) (outV A) := by
  show (cfg0.win 8).cut (grid0.coords t) ((dats m 0 c).after 8 t) = _
  rw [after0_8]
  refine funext fun (y : S1x1024x256.Idx) => ?_
  obtain ⟨a, r, d, rfl⟩ : ∃ (a : Fin 1) (r : Fin 1024) (d : Fin 256), y = ix3 a r d := ⟨y 0, y 1, y 2, by funext i; fin_cases i <;> rfl⟩
  obtain rfl : a = 0 := Subsingleton.elim _ _
  have hN : t.val < 32 := Nat.lt_of_lt_of_eq t.isLt N_0
  have h0 : t.val / 16 < 2 := by omega
  refine Eq.trans ?_ (read8 (outV A) t r d (ix3 ⟨t.val / 16, h0⟩ ⟨1024 * (t.val % 4) + r.val, by omega⟩
    ⟨256 * (t.val / 4 % 4) + d.val, by omega⟩) rfl rfl rfl).symm
  refine (dv_at hA t (ix3 0 r d)).trans ?_
  have e1 : (1024 * (t.val % 4) + r.val) / 1024 = t.val % 4 := by omega
  have e2 : (1024 * (t.val % 4) + r.val) % 1024 = r.val := by omega
  have e3 : (256 * (t.val / 4 % 4) + d.val) / 256 = t.val / 4 % 4 := by omega
  have e4 : (256 * (t.val / 4 % 4) + d.val) % 256 = d.val := by omega
  show _ = (((A.blk (t.val / 16) ((256 * (t.val / 4 % 4) + d.val) / 256) ((1024 * (t.val % 4) + r.val) / 1024)).dv ((1024 * (t.val % 4) + r.val) / 1024)
    ((256 * (t.val / 4 % 4) + d.val) % 256 / 128) (4 - (1024 * (t.val % 4) + r.val) / 1024) ((1024 * (t.val % 4) + r.val) % 1024)
    ((256 * (t.val / 4 % 4) + d.val) % 256 % 128) : ℝ) : EReal)
  rw [e1, e2, e3, e4]
  rfl

theorem flushed6 {A : Arr} (hA : Entry m c A) (t : Fin cfg0.N) (h' : t.val % 4 = 3) :
    (dats m 0 c).flushed 6 t = ((cfg0.win 6).blk t).view.read (Elt Ideal) (outQ A) := by
  show (cfg0.win 6).cut (grid0.coords t) ((dats m 0 c).after 6 t) = _
  rw [after0_6]
  refine funext fun (y : S1x4096x256.Idx) => ?_
  obtain ⟨a, r, d, rfl⟩ : ∃ (a : Fin 1) (r : Fin 4096) (d : Fin 256), y = ix3 a r d := ⟨y 0, y 1, y 2, by funext i; fin_cases i <;> rfl⟩
  obtain rfl : a = 0 := Subsingleton.elim _ _
  have hN : t.val < 32 := Nat.lt_of_lt_of_eq t.isLt N_0
  have h0 : t.val / 16 < 2 := by omega
  refine Eq.trans ?_ (read6 (outQ A) t r d (ix3 ⟨t.val / 16, h0⟩ r ⟨256 * (t.val / 4 % 4) + d.val, by omega⟩) rfl rfl rfl).symm
  refine (dq_at hA t h' (ix3 0 r d)).trans ?_
  have e3 : (256 * (t.val / 4 % 4) + d.val) / 256 = t.val / 4 % 4 := by omega
  have e4 : (256 * (t.val / 4 % 4) + d.val) % 256 = d.val := by omega
  show _ = ((A.dqSum (t.val / 16) ((256 * (t.val / 4 % 4) + d.val) / 256) 4 r.val ((256 * (t.val / 4 % 4) + d.val) % 256) : ℝ) : EReal)
  rw [e3, e4]
  rfl

/-- The arrays of results after the last point of the grid. -/
theorem final6 {A : Arr} (hA : Entry m c A) : (dats m 0 c).arrAt 6 cfg0.N = outQ A := by
  refine (dats m 0 c).arrAt_eq_of_cover 6 (outQ A) (fun t h => flushed6 hA t ((flush0_6 t).mp h)) fun (i : S2x4096x1024.Idx) => ?_
  have h0 : (i 0).val < 2 := (i 0).isLt
  have h2 : (i 2).val < 1024 := (i 2).isLt
  have hN : cfg0.N = 32 := N_0
  have ht : 16 * (i 0).val + 4 * ((i 2).val / 256) + 3 < cfg0.N := by omega
  exact ⟨⟨_, ht⟩, (flush0_6 _).mpr (by show (16 * (i 0).val + 4 * ((i 2).val / 256) + 3) % 4 = 3; omega),
    mem6 _ _ (by show (i 0).val = (16 * (i 0).val + 4 * ((i 2).val / 256) + 3) / 16; omega) trivial
      (by show (i 2).val / 256 = (16 * (i 0).val + 4 * ((i 2).val / 256) + 3) / 4 % 4; omega)⟩

theorem final7 {A : Arr} (hA : Entry m c A) : (dats m 0 c).arrAt 7 cfg0.N = outK A := by
  refine (dats m 0 c).arrAt_eq_of_cover 7 (outK A) (fun t _ => flushed7 hA t) fun (i : S2x4096x1024.Idx) => ?_
  have h0 : (i 0).val < 2 := (i 0).isLt
  have h1 : (i 1).val < 4096 := (i 1).isLt
  have h2 : (i 2).val < 1024 := (i 2).isLt
  have hN : cfg0.N = 32 := N_0
  have ht : 16 * (i 0).val + 4 * ((i 2).val / 256) + (i 1).val / 1024 < cfg0.N := by omega
  exact ⟨⟨_, ht⟩, flush0_7 _,
    mem7 _ _ (by show (i 0).val = (16 * (i 0).val + 4 * ((i 2).val / 256) + (i 1).val / 1024) / 16; omega)
      (by show (i 1).val / 1024 = (16 * (i 0).val + 4 * ((i 2).val / 256) + (i 1).val / 1024) % 4; omega)
      (by show (i 2).val / 256 = (16 * (i 0).val + 4 * ((i 2).val / 256) + (i 1).val / 1024) / 4 % 4; omega)⟩

theorem final8 {A : Arr} (hA : Entry m c A) : (dats m 0 c).arrAt 8 cfg0.N = outV A := by
  refine (dats m 0 c).arrAt_eq_of_cover 8 (outV A) (fun t _ => flushed8 hA t) fun (i : S2x4096x1024.Idx) => ?_
  have h0 : (i 0).val < 2 := (i 0).isLt
  have h1 : (i 1).val < 4096 := (i 1).isLt
  have h2 : (i 2).val < 1024 := (i 2).isLt
  have hN : cfg0.N = 32 := N_0
  have ht : 16 * (i 0).val + 4 * ((i 2).val / 256) + (i 1).val / 1024 < cfg0.N := by omega
  exact ⟨⟨_, ht⟩, flush0_8 _,
    mem8 _ _ (by show (i 0).val = (16 * (i 0).val + 4 * ((i 2).val / 256) + (i 1).val / 1024) / 16; omega)
      (by show (i 1).val / 1024 = (16 * (i 0).val + 4 * ((i 2).val / 256) + (i 1).val / 1024) % 4; omega)
      (by show (i 2).val / 256 = (16 * (i 0).val + 4 * ((i 2).val / 256) + (i 1).val / 1024) / 4 % 4; omega)⟩

end Cert.KernelIdeal.Attn
end
-- ==== Proof.Maths.lean ====
/-
  The gradient of causal attention over the real numbers: as the reference writes it, and as the kernel's blocks sum it.
-/
module

public import proofs.«01_k».proof.Proof.Fold

@[expose] public section

noncomputable section

namespace Cert.Attn

open Finset

/-- Real functions of the call's arguments, and the scale of the scores. -/
structure Inp where
  qn : ℕ → ℕ → ℕ → ℕ → ℝ
  qr : ℕ → ℕ → ℕ → ℕ → ℝ
  kn : ℕ → ℕ → ℕ → ℕ → ℝ
  kr : ℕ → ℕ → ℕ → ℝ
  v : ℕ → ℕ → ℕ → ℕ → ℝ
  ct : ℕ → ℕ → ℕ → ℝ
  sc : ℝ

namespace Inp

variable (I : Inp)

/-- The score of key `k` at query `s`. -/
def S (b h s k : ℕ) : ℝ :=
  (∑ d : Fin 64, I.qn b s h d * I.kn b k h d + ∑ d : Fin 32, I.kr b k d * I.qr b s h d) * I.sc

/-- The exponential of a score less a number `M`, zero above the diagonal. -/
def E (M : ℝ) (b h s k : ℕ) : ℝ := if k ≤ s then Real.exp (I.S b h s k - M) else 0

/-- A query's sum of exponentials. -/
def Z (M : ℝ) (b h s : ℕ) : ℝ := ∑ k : Fin 4096, I.E M b h s k

/-- The probability of key `k` at query `s`. -/
def P (b h s k : ℕ) : ℝ := I.E 0 b h s k / I.Z 0 b h s

/-- The gradient of the probability of key `k` at query `s`. -/
def dP (b h s k : ℕ) : ℝ := ∑ e : Fin 128, I.ct b s (128 * h + e) * I.v b k h e

/-- The gradient of the scaled score of key `k` at query `s`. -/
def dS (b h s k : ℕ) : ℝ := I.P b h s k * (I.dP b h s k - ∑ x : Fin 4096, I.P b h s x * I.dP b h s x)

theorem E_eq (M : ℝ) (b h s k : ℕ) : I.E M b h s k = I.E 0 b h s k * Real.exp (-M) := by
  rw [E, E, sub_zero]
  split
  · rw [← Real.exp_add, sub_eq_add_neg]
  · rw [zero_mul]

theorem Z_eq (M : ℝ) (b h s : ℕ) : I.Z M b h s = I.Z 0 b h s * Real.exp (-M) := by
  rw [Z, Z, sum_mul]
  exact sum_congr rfl fun k _ => I.E_eq M b h s k

theorem Z_pos (M : ℝ) (b h s : ℕ) : 0 < I.Z M b h s := by
  rw [Z]
  refine sum_pos' (fun k _ => ?_) ⟨(0 : Fin 4096), mem_univ _, ?_⟩
  · rw [E]; split
    · exact (Real.exp_pos _).le
    · exact le_rfl
  · rw [E, if_pos (by exact Nat.zero_le s)]; exact Real.exp_pos _

/-- The number taken from the scores does not matter. -/
theorem P_eq (M : ℝ) (b h s k : ℕ) : I.E M b h s k / I.Z M b h s = I.P b h s k := by
  rw [P, I.E_eq M, I.Z_eq M, mul_div_mul_right _ _ (Real.exp_pos _).ne']

/-- A probability from a query's log-sum. -/
theorem P_log (M : ℝ) (b h s k : ℕ) :
    (if k ≤ s then Real.exp (I.S b h s k - (M + Real.log (I.Z M b h s))) else 0) = I.P b h s k := by
  rw [← I.P_eq M, E]
  split
  · rw [← sub_sub, Real.exp_sub, Real.exp_log (I.Z_pos M b h s)]
  · rw [zero_div]

theorem P_above (b h s k : ℕ) (hk : s < k) : I.P b h s k = 0 := by rw [P, E, if_neg (by omega), zero_div]
theorem dS_above (b h s k : ℕ) (hk : s < k) : I.dS b h s k = 0 := by rw [dS, I.P_above b h s k hk, zero_mul]

/-- The gradient of a score as the quotient's derivative writes it. -/
theorem dS_quot (M : ℝ) (b h s k : ℕ) :
    (I.dP b h s k / I.Z M b h s
      + -∑ x : Fin 4096, I.dP b h s x * (1 / (I.Z M b h s * I.Z M b h s)) * I.E M b h s x) * I.E M b h s k = I.dS b h s k := by
  have hZ := (I.Z_pos M b h s).ne'
  have e : ∑ x : Fin 4096, I.dP b h s x * (1 / (I.Z M b h s * I.Z M b h s)) * I.E M b h s x
      = (∑ x : Fin 4096, I.P b h s x * I.dP b h s x) / I.Z M b h s := by
    rw [sum_div]
    refine sum_congr rfl fun x _ => ?_
    rw [← I.P_eq M]
    field_simp
  rw [e, dS, ← I.P_eq M b h s k]
  field_simp
  ring

/-! ## The kernel's arrays -/

/-- The arrays the host lines make for the kernel: the heads' lanes padded to 128, the scale in the queries. -/
def arr (M : ℕ → ℕ → ℕ → ℝ) : Arr where
  Q b s l := (if l % 128 < 64 then I.qn b s (l / 128) (l % 128) else if l % 128 < 96 then I.qr b s (l / 128) (l % 128 - 64) else 0) * I.sc
  K b k l := if l % 128 < 64 then I.kn b k (l / 128) (l % 128) else if l % 128 < 96 then I.kr b k (l % 128 - 64) else 0
  V b k l := I.v b k (l / 128) (l % 128)
  O b s l := ∑ k : Fin 4096, I.v b k (l / 128) (l % 128) * I.P b (l / 128) s k
  D b s l := I.ct b s l
  L b h s := M b h s + Real.log (I.Z (M b h s) b h s)

/-- A sum over 128 padded lanes is a sum over 64 and a sum over 32. -/
theorem sum_pad (f : ℕ → ℝ) (h0 : ∀ d, 96 ≤ d → d < 128 → f d = 0) :
    ∑ d : Fin 128, f d = ∑ d : Fin 64, f d + ∑ d : Fin 32, f (64 + d) := by
  rw [Fin.sum_univ_eq_sum_range f 128, Fin.sum_univ_eq_sum_range f 64, Fin.sum_univ_eq_sum_range (fun d => f (64 + d)) 32,
    show 128 = 64 + 32 + 32 from rfl, sum_range_add, sum_range_add]
  have : ∑ x ∈ range 32, f (64 + 32 + x) = 0 := sum_eq_zero fun x hx => h0 _ (by omega) (by have := mem_range.mp hx; omega)
  rw [this, add_zero]

variable (M : ℕ → ℕ → ℕ → ℝ)

theorem arr_S (b h s k : ℕ) :
    ∑ d : Fin 128, (I.arr M).Q b s (128 * h + d) * (I.arr M).K b k (128 * h + d) = I.S b h s k := by
  have hd : ∀ d, d < 128 → (128 * h + d) % 128 = d ∧ (128 * h + d) / 128 = h := fun d hd => by omega
  rw [sum_pad (fun d => (I.arr M).Q b s (128 * h + d) * (I.arr M).K b k (128 * h + d)) ?_, S, add_mul, sum_mul, sum_mul]
  · congr 1
    · refine sum_congr rfl fun d _ => ?_
      obtain ⟨e1, e2⟩ := hd d.val (by omega)
      simp only [arr, e1, e2, if_pos d.isLt]
      ring
    · refine sum_congr rfl fun d _ => ?_
      obtain ⟨e1, e2⟩ := hd (64 + d.val) (by omega)
      simp only [arr, e1, e2, if_neg (show ¬ 64 + d.val < 64 by omega), if_pos (show 64 + d.val < 96 by omega),
        show 64 + d.val - 64 = d.val by omega]
      ring
  · intro d h1 h2
    obtain ⟨e1, e2⟩ := hd d h2
    simp only [arr, e1, e2, if_neg (show ¬ d < 64 by omega), if_neg (show ¬ d < 96 by omega), zero_mul]

theorem blk_pr (b p j h s c : ℕ) : ((I.arr M).blk b p j).pr j h s c = I.P b (2 * p + h) s (1024 * j + c) := by
  rw [Blk.pr, ← I.P_log (M b (2 * p + h) s), ← I.arr_S M b (2 * p + h) s]
  have e : ∀ d, 256 * p + (128 * h + d) = 128 * (2 * p + h) + d := fun d => by ring
  simp only [Arr.blk, e]
  rfl

theorem blk_ds (b p j h s c : ℕ) : ((I.arr M).blk b p j).ds j h s c = I.dS b (2 * p + h) s (1024 * j + c) := by
  have e : ∀ d, 256 * p + (128 * h + d) = 128 * (2 * p + h) + d := fun d => by ring
  have e1 : ∀ d : Fin 128, (128 * (2 * p + h) + d.val) % 128 = d.val := fun d => by omega
  have e2 : ∀ d : Fin 128, (128 * (2 * p + h) + d.val) / 128 = 2 * p + h := fun d => by omega
  rw [Blk.ds, blk_pr, dS]
  congr 2
  · simp only [Arr.blk, e, arr, e1, e2, dP]
  · simp only [Arr.blk, e, arr, e1, e2, dP, mul_sum]
    rw [sum_comm]
    refine sum_congr rfl fun k _ => sum_congr rfl fun d _ => ?_
    ring

/-- Blocks of 1024 make the whole. -/
theorem sum_blocks (f : ℕ → ℝ) (n : ℕ) : ∑ i ∈ range n, ∑ r : Fin 1024, f (1024 * i + r) = ∑ s ∈ range (1024 * n), f s := by
  induction n with
  | zero => rw [mul_zero, range_zero, sum_empty, sum_empty]
  | succ n ih => rw [sum_range_succ, ih, Nat.mul_succ, sum_range_add, Fin.sum_univ_eq_sum_range (fun r => f (1024 * n + r)) 1024]

/-- The blocks from block `j` on make the whole where the rest is zero. -/
theorem sum_blocks_from (f : ℕ → ℝ) (j n : ℕ) (hn : j + n = 4) (h0 : ∀ s, s < 1024 * j → f s = 0) :
    ∑ i ∈ range n, ∑ r : Fin 1024, f (1024 * (j + i) + r) = ∑ s : Fin 4096, f s := by
  rw [Fin.sum_univ_eq_sum_range f 4096, show 4096 = 1024 * j + 1024 * n by omega, sum_range_add,
    sum_eq_zero (fun x hx => h0 x (mem_range.mp hx)), zero_add, ← sum_blocks (fun s => f (1024 * j + s))]
  refine sum_congr rfl fun i _ => sum_congr rfl fun r _ => ?_
  congr 1; ring

theorem arr_dq (b p s l : ℕ) (hl : l < 256) : (I.arr M).dqSum b p 4 s l
    = ∑ k : Fin 4096, I.dS b (2 * p + l / 128) s k * (I.arr M).K b k (256 * p + l) := by
  rw [Arr.dqSum, Fin.sum_univ_eq_sum_range (fun k => I.dS b (2 * p + l / 128) s k * (I.arr M).K b k (256 * p + l)) 4096,
    show 4096 = 1024 * 4 from rfl, ← sum_blocks]
  refine sum_congr rfl fun j _ => ?_
  rw [Blk.dq]
  refine sum_congr rfl fun c _ => ?_
  rw [blk_ds]
  rfl

theorem arr_dk (b p j h n c e : ℕ) (hn : j + n = 4) : ((I.arr M).blk b p j).dk j h n c e
    = ∑ s : Fin 4096, I.dS b (2 * p + h) s (1024 * j + c) * (I.arr M).Q b s (256 * p + (128 * h + e)) := by
  rw [Blk.dk, ← sum_blocks_from (fun s => I.dS b (2 * p + h) s (1024 * j + c) * (I.arr M).Q b s (256 * p + (128 * h + e))) j n hn
    (fun s hs => by rw [I.dS_above _ _ _ _ (by omega), zero_mul])]
  refine sum_congr rfl fun i _ => sum_congr rfl fun r _ => ?_
  rw [blk_ds]
  rfl

theorem arr_dv (b p j h n c e : ℕ) (hn : j + n = 4) : ((I.arr M).blk b p j).dv j h n c e
    = ∑ s : Fin 4096, I.P b (2 * p + h) s (1024 * j + c) * I.ct b s (256 * p + (128 * h + e)) := by
  rw [Blk.dv, ← sum_blocks_from (fun s => I.P b (2 * p + h) s (1024 * j + c) * I.ct b s (256 * p + (128 * h + e))) j n hn
    (fun s hs => by rw [I.P_above _ _ _ _ (by omega), zero_mul])]
  refine sum_congr rfl fun i _ => sum_congr rfl fun r _ => ?_
  rw [blk_pr]
  rfl

end Inp

end Cert.Attn
end
-- ==== Proof.RefScores.lean ====
/-
  The reference's scores and probabilities, over the extended reals, as the real ones.
-/
module

public import proofs.«01_k».proof.Proof.Maths
public import proofs.«01_k».proof.Proof.Gen.ReferenceIdeal.Read
public import Idealize.ShloMosaic.Lib.Pointwise
public import Idealize.ShloMosaic.Lib.WordCmp

@[expose] public section

set_option maxRecDepth 16384

noncomputable section

namespace Cert.Attn

open Idealize.ShloMosaic

/-- A maximum of finitely many extended reals, each real or `⊥`, is real once one of them is. -/
theorem fold_max_real {n : ℕ} (f : Fin n → EReal) (hf : ∀ k, f k = ⊥ ∨ ∃ x : ℝ, f k = (x : EReal)) (k0 : Fin n)
    (h0 : ∃ x : ℝ, f k0 = (x : EReal)) : ∃ M : ℝ, Finset.univ.fold max ⊥ f = (M : EReal) := by
  classical
  have key : ∀ t : Finset (Fin n), (∃ M : ℝ, t.fold max ⊥ f = (M : EReal)) ∨ (t.fold max ⊥ f = ⊥ ∧ k0 ∉ t) := by
    intro t
    induction t using Finset.induction_on with
    | empty => exact Or.inr ⟨rfl, Finset.notMem_empty _⟩
    | insert a t ha ih =>
      rw [Finset.fold_insert ha]
      rcases hf a with h | ⟨x, h⟩
      · rw [h]
        rcases ih with ⟨M, h'⟩ | ⟨h', hk⟩
        · exact Or.inl ⟨M, by rw [h', max_eq_right bot_le]⟩
        · refine Or.inr ⟨by rw [h', max_self], ?_⟩
          rw [Finset.mem_insert, not_or]
          refine ⟨?_, hk⟩
          rintro rfl
          obtain ⟨x, hx⟩ := h0
          rw [hx] at h
          exact EReal.coe_ne_bot x h
      · rw [h]
        rcases ih with ⟨M, h'⟩ | ⟨h', hk⟩
        · rw [h']
          rcases le_total (x : EReal) (M : EReal) with e | e
          · exact Or.inl ⟨M, max_eq_right e⟩
          · exact Or.inl ⟨x, max_eq_left e⟩
        · exact Or.inl ⟨x, by rw [h', max_eq_left bot_le]⟩
  rcases key Finset.univ with h | ⟨_, h⟩
  · exact h
  · exact absurd (Finset.mem_univ k0) h

theorem bits_bot : Ideal.ofBits .f32 0xFF800000#32 = ⊥ := by
  simp [Ideal.ofBits, Ideal.ieee]

theorem bits_scale : ∃ s : ℝ, Ideal.ofBits .f32 0x3DD105EC#32 = (s : EReal) := by
  have e : Ideal.ofBits .f32 0x3DD105EC#32 = ((13698540 : ℝ) : EReal) * (((2 ^ 27)⁻¹ : ℝ) : EReal) := by
    simp [Ideal.ofBits, Ideal.ieee]
  exact ⟨_, e.trans (EReal.coe_mul _ _).symm⟩

/-- The quotient of two real numbers, the divisor not zero. -/
theorem div_real (x y : ℝ) (hy : y ≠ 0) : Ideal.div (x : EReal) (y : EReal) = ((x / y : ℝ) : EReal) := by
  rw [Ideal.div_coe hy, ← EReal.coe_mul, mul_one_div]

end Cert.Attn

namespace Cert.ReferenceIdeal.Attn

open Cert.ReferenceIdeal Cert.ReferenceIdeal.Gen Cert.ReferenceIdeal.Read
open Idealize.ShloMosaic Idealize.ShloMosaic.TcCoe Idealize.ShloMosaic.Tactic
open Cert.Attn

/-- The arguments hold the real functions of `I`. -/
structure Args (I : Inp) (x0 : (⟨S2x4096x8x64, .f32⟩ : BufTy).Contents (Elt Ideal)) (x1 : (⟨S2x4096x8x32, .f32⟩ : BufTy).Contents (Elt Ideal))
    (x2 : (⟨S2x4096x8x64, .f32⟩ : BufTy).Contents (Elt Ideal)) (x3 : (⟨S2x4096x32, .f32⟩ : BufTy).Contents (Elt Ideal))
    (x4 : (⟨S2x4096x8x128, .f32⟩ : BufTy).Contents (Elt Ideal)) (x5 : (⟨S2x4096x1024, .f32⟩ : BufTy).Contents (Elt Ideal)) : Prop where
  qn : ∀ a b c d, x0 (ix4 a b c d) = ((I.qn a b c d : ℝ) : EReal)
  qr : ∀ a b c d, x1 (ix4 a b c d) = ((I.qr a b c d : ℝ) : EReal)
  kn : ∀ a b c d, x2 (ix4 a b c d) = ((I.kn a b c d : ℝ) : EReal)
  kr : ∀ a b c, x3 (ix3 a b c) = ((I.kr a b c : ℝ) : EReal)
  v : ∀ a b c d, x4 (ix4 a b c d) = ((I.v a b c d : ℝ) : EReal)
  ct : ∀ a b c, x5 (ix3 a b c) = ((I.ct a b c : ℝ) : EReal)
  sc : Ideal.ofBits .f32 0x3DD105EC#32 = ((I.sc : ℝ) : EReal)

variable {I : Inp} {x0 : (⟨S2x4096x8x64, .f32⟩ : BufTy).Contents (Elt Ideal)} {x1 : (⟨S2x4096x8x32, .f32⟩ : BufTy).Contents (Elt Ideal)}
    {x2 : (⟨S2x4096x8x64, .f32⟩ : BufTy).Contents (Elt Ideal)} {x3 : (⟨S2x4096x32, .f32⟩ : BufTy).Contents (Elt Ideal)}
    {x4 : (⟨S2x4096x8x128, .f32⟩ : BufTy).Contents (Elt Ideal)} {x5 : (⟨S2x4096x1024, .f32⟩ : BufTy).Contents (Elt Ideal)}

theorem scores (hA : Args I x0 x1 x2 x3 x4 x5) (b : Fin 2) (h : Fin 8) (s k : Fin 4096) :
    val_main_v5 x0 x1 x2 x3 (ix4 b h s k) = ((I.S b h s k : ℝ) : EReal) := by
  pointwise [val_main_v5, val_main_v3, val_main_v0, val_main_v2, val_main_v1, val_main_v4, val_main_cst]
  have e := hA.sc
  simp only [hA.qn, hA.qr, hA.kn, hA.kr, Inp.S, EReal.coe_mul, EReal.coe_add, coe_sum]
  rw [← e]

theorem masked (hA : Args I x0 x1 x2 x3 x4 x5) (b : Fin 2) (h : Fin 8) (s k : Fin 4096) :
    val_main_v9_0 x0 x1 x2 x3 (ix4 b h s k) = if k.val ≤ s.val then ((I.S b h s k : ℝ) : EReal) else ⊥ := by
  pointwise [val_main_v9_0, val_main_v8, val_main_v7, val_main_v6, val_main_call0_v1, val_main_call0_v0, val_main_cst_0]
  rw [WordCmp.cmpi_sle_ofNat (by have := k.isLt; omega) (by have := s.isLt; omega), scores hA]
  have e : id (constant (F := Ideal) S_ .f32 0xFF800000#32) ix0 = ⊥ := bits_bot
  rw [e]
  by_cases h : k.val ≤ s.val
  · rw [if_pos h, decide_eq_true h]; rfl
  · rw [if_neg h, decide_eq_false h]; rfl

/-- A row's maximum, read at an index. -/
theorem reduce_max (v : FVec Ideal S2x8x4096x4096 .f32) (c : FVec Ideal S_ .f32) (b : Fin 2) (h : Fin 8) (s : Fin 4096) :
    Host.reduce FloatOps.maximumf v c reducesTo_S2x8x4096x4096_S2x8x4096_d3 h_S_ (ix3 b h s)
      = Finset.univ.fold max (c (Shape.Idx.first h_S_)) fun k : Fin 4096 => v (ix4 b h s k) := by
  pointwise

theorem start_bot : val_main_cst_1 (F := Ideal) (Shape.Idx.first h_S_) = ⊥ := by
  pointwise [val_main_cst_1]
  exact bits_bot

theorem floor_bot (b : Fin 2) (h : Fin 8) (s : Fin 4096) : val_main_v16 (F := Ideal) (ix3 b h s) = ⊥ := by
  pointwise [val_main_v16, val_main_cst_3]
  exact bits_bot

/-- The maximum of two extended reals. -/
theorem maximumf_at (a b : EReal) : FloatOps.maximumf (F := Ideal) (φ := .f32) a b = max a b := rfl

theorem max_at (b : Fin 2) (h : Fin 8) (s : Fin 4096) :
    val_main_v17 x0 x1 x2 x3 (ix3 b h s) = max (val_main_v16 (F := Ideal) (ix3 b h s)) (val_main_v10 x0 x1 x2 x3 (ix3 b h s)) := by
  rw [val_main_v17_apply, maximumf_at]

theorem row_at (b : Fin 2) (h : Fin 8) (s : Fin 4096) :
    val_main_v10 x0 x1 x2 x3 (ix3 b h s) = Finset.univ.fold max (val_main_cst_1 (F := Ideal) (Shape.Idx.first h_S_)) fun k : Fin 4096 => val_main_v9_0 x0 x1 x2 x3 (ix4 b h s k) := by
  rw [val_main_v10]
  exact reduce_max _ _ b h s

theorem masked_or (hA : Args I x0 x1 x2 x3 x4 x5) (b : Fin 2) (h : Fin 8) (s k : Fin 4096) :
    val_main_v9_0 x0 x1 x2 x3 (ix4 b h s k) = ⊥ ∨ ∃ x : ℝ, val_main_v9_0 x0 x1 x2 x3 (ix4 b h s k) = (x : EReal) := by
  rw [masked hA]
  by_cases e : k.val ≤ s.val
  · exact Or.inr ⟨_, if_pos e⟩
  · exact Or.inl (if_neg e)

theorem masked_self (hA : Args I x0 x1 x2 x3 x4 x5) (b : Fin 2) (h : Fin 8) (s : Fin 4096) :
    ∃ x : ℝ, val_main_v9_0 x0 x1 x2 x3 (ix4 b h s s) = (x : EReal) :=
  ⟨_, (masked hA b h s s).trans (if_pos (le_refl s.val))⟩

theorem rowmax (hA : Args I x0 x1 x2 x3 x4 x5) (b : Fin 2) (h : Fin 8) (s : Fin 4096) :
    ∃ M : ℝ, val_main_v17 x0 x1 x2 x3 (ix3 b h s) = ((M : ℝ) : EReal) := by
  rw [max_at, row_at, floor_bot, start_bot, max_eq_right bot_le]
  exact fold_max_real _ (masked_or hA b h s) s (masked_self hA b h s)

theorem expo (hA : Args I x0 x1 x2 x3 x4 x5) (b : Fin 2) (h : Fin 8) (s k : Fin 4096) (M : ℝ)
    (hM : val_main_v17 x0 x1 x2 x3 (ix3 b h s) = ((M : ℝ) : EReal)) :
    val_main_v30 x0 x1 x2 x3 (ix4 b h s k) = ((I.E M b h s k : ℝ) : EReal) := by
  pointwise [val_main_v30, val_main_v29, val_main_v28, val_main_v27]
  rw [hM, masked hA, Inp.E]
  by_cases e : k.val ≤ s.val
  · rw [if_pos e, if_pos e, ← EReal.coe_sub, Ideal.exp_coe]
  · rw [if_neg e, if_neg e, EReal.bot_sub, Ideal.exp_bot]; rfl

theorem expsum (hA : Args I x0 x1 x2 x3 x4 x5) (b : Fin 2) (h : Fin 8) (s : Fin 4096) (M : ℝ)
    (hM : val_main_v17 x0 x1 x2 x3 (ix3 b h s) = ((M : ℝ) : EReal)) :
    val_main_v31 x0 x1 x2 x3 (ix3 b h s) = ((I.Z M b h s : ℝ) : EReal) := by
  pointwise [val_main_v31, val_main_cst_9]
  simp only [expo hA b h s _ M hM, Inp.Z, coe_sum, Ideal.ofBits_zero_f32, zero_add]

theorem probs (hA : Args I x0 x1 x2 x3 x4 x5) (b : Fin 2) (h : Fin 8) (s k : Fin 4096) :
    val_main_v34 x0 x1 x2 x3 (ix4 b h s k) = ((I.P b h s k : ℝ) : EReal) := by
  obtain ⟨M, hM⟩ := rowmax hA b h s
  pointwise [val_main_v34, val_main_v33, val_main_v32]
  rw [expo hA b h s k M hM, expsum hA b h s M hM, div_real _ _ (I.Z_pos M b h s).ne', I.P_eq]

theorem dprobs (hA : Args I x0 x1 x2 x3 x4 x5) (b : Fin 2) (h : Fin 8) (s k : Fin 4096) :
    val_main_v43 x4 x5 (ix4 b h s k) = ((I.dP b h s k : ℝ) : EReal) := by
  pointwise [val_main_v43, val_main_v42, val_main_v41]
  simp only [hA.ct, hA.v, Inp.dP, coe_sum, EReal.coe_mul, mul_comm (128 : ℕ)]

theorem dscores (hA : Args I x0 x1 x2 x3 x4 x5) (b : Fin 2) (h : Fin 8) (s k : Fin 4096) :
    val_main_v60 x0 x1 x2 x3 x4 x5 (ix4 b h s k) = ((I.dS b h s k * I.sc : ℝ) : EReal) := by
  obtain ⟨M, hM⟩ := rowmax hA b h s
  pointwise [val_main_v60, val_main_v59, val_main_cst_13, val_main_v58, val_main_call1_cst, val_main_call1_v0, val_main_v8, val_main_v7, val_main_v6, val_main_v57, val_main_v56, val_main_v55, val_main_v54, val_main_cst_12, val_main_v53, val_main_v52, val_main_v51, val_main_v50, val_main_v49, val_main_cst_11, val_main_v48, val_main_v47, val_main_v46, val_main_v37, val_main_v36, val_main_cst_10, val_main_v35, val_main_v32]
  have hZ := (I.Z_pos M b h s).ne'
  have eb : (Ideal.ofBits .f32 0x3DD105EC#32 : EReal) = ((I.sc : ℝ) : EReal) := hA.sc
  rw [WordCmp.cmpi_sle_ofNat (by have := k.isLt; omega) (by have := s.isLt; omega)]
  by_cases hk : k.val ≤ s.val
  · rw [decide_eq_true hk]
    show _ = _
    simp only [dprobs hA, expsum hA b h s M hM, expo hA b h s _ M hM, eb]
    have e1 : Ideal.div 1 ((I.Z M b h s : EReal) * (I.Z M b h s : EReal)) = ((1 / (I.Z M b h s * I.Z M b h s) : ℝ) : EReal) := by
      rw [← EReal.coe_mul, ← EReal.coe_one, div_real _ _ (mul_ne_zero hZ hZ)]
    rw [e1, div_real _ _ hZ]
    simp only [← EReal.coe_mul, ← coe_sum, ← EReal.coe_neg, ← EReal.coe_add]
    rw [← I.dS_quot M b h s k, Fin.sum_univ_one]
    rfl
  · rw [decide_eq_false hk, I.dS_above b h s k (by omega), zero_mul]
    have eo : ∀ x y : EReal, (Scalar.select (BitVec.ofBool false) x y : EReal) = y := fun _ _ => rfl
    rw [eo]
    exact EReal.coe_zero.symm

theorem ref_dqn (hA : Args I x0 x1 x2 x3 x4 x5) (b : Fin 2) (s : Fin 4096) (h : Fin 8) (d : Fin 64) :
    val_main_v67 x0 x1 x2 x3 x4 x5 (ix4 b s h d) = ((∑ k : Fin 4096, I.dS b h s k * I.sc * I.kn b k h d : ℝ) : EReal) := by
  pointwise [val_main_v67, val_main_v66]
  simp only [dscores hA, hA.kn, coe_sum, EReal.coe_mul]

theorem ref_dqr (hA : Args I x0 x1 x2 x3 x4 x5) (b : Fin 2) (s : Fin 4096) (h : Fin 8) (d : Fin 32) :
    val_main_v62 x0 x1 x2 x3 x4 x5 (ix4 b s h d) = ((∑ k : Fin 4096, I.dS b h s k * I.sc * I.kr b k d : ℝ) : EReal) := by
  pointwise [val_main_v62, val_main_v61]
  simp only [dscores hA, hA.kr, coe_sum, EReal.coe_mul]

theorem ref_dkn (hA : Args I x0 x1 x2 x3 x4 x5) (b : Fin 2) (k : Fin 4096) (h : Fin 8) (d : Fin 64) :
    val_main_v65 x0 x1 x2 x3 x4 x5 (ix4 b k h d) = ((∑ s : Fin 4096, I.dS b h s k * I.sc * I.qn b s h d : ℝ) : EReal) := by
  pointwise [val_main_v65, val_main_v64]
  simp only [dscores hA, hA.qn, coe_sum, EReal.coe_mul]

theorem ref_dkr (hA : Args I x0 x1 x2 x3 x4 x5) (b : Fin 2) (k : Fin 4096) (d : Fin 32) :
    val_main_v63 x0 x1 x2 x3 x4 x5 (ix3 b k d) = ((∑ s : Fin 4096, ∑ h : Fin 8, I.dS b h s k * I.sc * I.qr b s h d : ℝ) : EReal) := by
  pointwise [val_main_v63, val_main_v61]
  simp only [dscores hA, hA.qr, coe_sum, EReal.coe_mul]

theorem ref_dv (hA : Args I x0 x1 x2 x3 x4 x5) (b : Fin 2) (k : Fin 4096) (h : Fin 8) (e : Fin 128) :
    val_main_v45 x0 x1 x2 x3 x5 (ix4 b k h e) = ((∑ s : Fin 4096, I.P b h s k * I.ct b s (128 * h + e) : ℝ) : EReal) := by
  pointwise [val_main_v45, val_main_v44, val_main_v42, val_main_v41]
  simp only [probs hA, hA.ct, coe_sum, EReal.coe_mul, mul_comm (128 : ℕ)]
  exact Finset.sum_congr rfl fun _ _ => mul_comm _ _

end Cert.ReferenceIdeal.Attn
end
-- ==== Proof.Prefix.lean ====
/-
  The kernel's host operations before the region, as functions of the arguments, and the buffers the region starts from.
-/
module

public import proofs.«01_k».proof.Proof.Maths
public import proofs.«01_k».proof.Proof.RefScores
public import Idealize.ShloMosaic.Lib.StableHlo.RunRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI

variable (x0 : FVec Ideal S2x4096x8x64 .f32) (x1 : FVec Ideal S2x4096x8x32 .f32) (x2 : FVec Ideal S2x4096x8x64 .f32)
  (x3 : FVec Ideal S2x4096x32 .f32) (x4 : FVec Ideal S2x4096x8x128 .f32)

/-- The zero lanes beside the two query parts. -/
def padH : FVec Ideal S2x4096x8x32 .f32 := broadcastInDim S2x4096x8x32 ![] bcast_S_S2x4096x8x32 (constant (F := Ideal) S_ .f32 0x00000000#32)

/-- The scale, filled over the queries. -/
def scaleQ : FVec Ideal S2x4096x8x128 .f32 := broadcastInDim S2x4096x8x128 ![] bcast_S_S2x4096x8x128 (constant (F := Ideal) S_ .f32 0x3DD105EC#32)

/-- The scaled queries by head. -/
def catQ : FVec Ideal S2x4096x8x128 .f32 :=
  mulf (concatenate S2x4096x8x128 3 [⟨S2x4096x8x64, x0⟩, ⟨S2x4096x8x32, x1⟩, ⟨S2x4096x8x32, padH⟩] concatenates_S2x4096x8x64_S2x4096x8x32_S2x4096x8x32_S2x4096x8x128_d3) scaleQ

/-- The shared rotary key, filled over the heads. -/
def headsK : FVec Ideal S2x4096x8x32 .f32 :=
  broadcastInDim S2x4096x8x32 ![0, 1, 2, 3] bcast_S2x4096x1x32_S2x4096x8x32_0_1_2_3 (broadcastInDim S2x4096x1x32 ![0, 1, 3] bcast_S2x4096x32_S2x4096x1x32_0_1_3 x3)

/-- The keys by head. -/
def catK : FVec Ideal S2x4096x8x128 .f32 :=
  concatenate S2x4096x8x128 3 [⟨S2x4096x8x64, x2⟩, ⟨S2x4096x8x32, headsK x3⟩, ⟨S2x4096x8x32, padH⟩] concatenates_S2x4096x8x64_S2x4096x8x32_S2x4096x8x32_S2x4096x8x128_d3

/-- The heads side by side in a row. -/
def flat (y : FVec Ideal S2x4096x8x128 .f32) : FVec Ideal S2x4096x1024 .bf16 :=
  truncf .bf16 (shapeCast S2x4096x1024 y shapeCasts_S2x4096x8x128_S2x4096x1024) bitsLt_bf16_f32

/-- The scaled scores. -/
def scoresH : FVec Ideal S2x8x4096x4096 .f32 :=
  mulf (addf (Host.dotGeneral dot_S2x4096x8x64_S2x4096x8x64_S2x8x4096x4096_3_3_1_1_02_02 none x0 x2)
      (transpose S2x8x4096x4096 [0, 3, 2, 1] (Host.dotGeneral dot_S2x4096x32_S2x4096x8x32_S2x4096x4096x8_2_3_1_12_0_0 none x3 x1) transposes_S2x4096x4096x8_S2x8x4096x4096_0_3_2_1))
    (broadcastInDim S2x8x4096x4096 ![] bcast_S_S2x8x4096x4096 (constant (F := Ideal) S_ .f32 0x3DD105EC#32))

/-- The scores up to the diagonal, `-∞` after it. -/
def maskedH (y : FVec Ideal S2x8x4096x4096 .f32) : FVec Ideal S2x8x4096x4096 .f32 :=
  select (cmpi .sle (iotaInDim S2x8x4096x4096 32 3) (iotaInDim S2x8x4096x4096 32 2)) y
    (broadcastInDim S2x8x4096x4096 ![] bcast_S_S2x8x4096x4096 (id (constant (F := Ideal) S_ .f32 0xFF800000#32)))

/-- The row maxima. -/
def topH (y : FVec Ideal S2x8x4096x4096 .f32) : FVec Ideal S2x8x4096x1 .f32 :=
  broadcastInDim S2x8x4096x1 ![0, 1, 2] bcast_S2x8x4096_S2x8x4096x1_0_1_2
    (Host.reduce FloatOps.maximumf y (constant (F := Ideal) S_ .f32 0xFF800000#32) reducesTo_S2x8x4096x4096_S2x8x4096_d3 h_S_)

/-- The exponentials. -/
def expH (y : FVec Ideal S2x8x4096x4096 .f32) (t : FVec Ideal S2x8x4096x1 .f32) : FVec Ideal S2x8x4096x4096 .f32 :=
  Host.exp (subf y (broadcastInDim S2x8x4096x4096 ![0, 1, 2, 3] bcast_S2x8x4096x1_S2x8x4096x4096_0_1_2_3 t))

/-- Their row sums. -/
def sumH (e : FVec Ideal S2x8x4096x4096 .f32) : FVec Ideal S2x8x4096x1 .f32 :=
  broadcastInDim S2x8x4096x1 ![0, 1, 2] bcast_S2x8x4096_S2x8x4096x1_0_1_2
    (Host.reduceAdd e (constant (F := Ideal) S_ .f32 0x00000000#32) reducesTo_S2x8x4096x4096_S2x8x4096_d3 h_S_)

/-- The logarithms of the row sums of exponentials. -/
def lseH (t z : FVec Ideal S2x8x4096x1 .f32) : FVec Ideal S2x8x4096x1 .f32 := addf t (Host.log z)

/-- The outputs by head. -/
def outH (e : FVec Ideal S2x8x4096x4096 .f32) (z : FVec Ideal S2x8x4096x1 .f32) : FVec Ideal S2x4096x8x128 .f32 :=
  transpose S2x4096x8x128 [0, 3, 1, 2]
    (Host.dotGeneral dot_S2x4096x8x128_S2x8x4096x4096_S2x8x128x4096_1_3_3_2_02_01 none x4
      (Host.divf e (broadcastInDim S2x8x4096x4096 ![0, 1, 2, 3] bcast_S2x8x4096x1_S2x8x4096x4096_0_1_2_3 z)))
    transposes_S2x8x128x4096_S2x4096x8x128_0_3_1_2

/-- The cotangent, in the region's format. -/
def rowsD (y : FVec Ideal S2x4096x1024 .f32) : FVec Ideal S2x4096x1024 .bf16 := truncf .bf16 y bitsLt_bf16_f32

variable (m : (ℓ : Loc nD τ sig) → Buf (Elt Ideal) ℓ) (c : Dev nD)

theorem V_q : V m c main_v7 = flat (catQ (m ((c : Thread nD τ).loc main_arg0)) (m ((c : Thread nD τ).loc main_arg1))) := by
  unfold flat catQ padH scaleQ
  after_reads_simp
  rfl

theorem V_k : V m c main_v10 = flat (catK (m ((c : Thread nD τ).loc main_arg2)) (m ((c : Thread nD τ).loc main_arg3))) := by
  unfold flat catK headsK padH
  after_reads_simp
  rfl

theorem V_v : V m c main_v37 = flat (m ((c : Thread nD τ).loc main_arg4)) := by
  unfold flat
  after_reads_simp
  rfl

theorem V_d : V m c main_v38 = rowsD (m ((c : Thread nD τ).loc main_arg5)) := by
  unfold rowsD
  after_reads_simp

theorem V_masked : V m c main_v20 = (maskedH (scoresH (m ((c : Thread nD τ).loc main_arg0)) (m ((c : Thread nD τ).loc main_arg1)) (m ((c : Thread nD τ).loc main_arg2)) (m ((c : Thread nD τ).loc main_arg3)))) := by
  unfold maskedH scoresH
  after_reads_simp
  rfl

theorem V_lse : V m c main_v29 = lseH (topH (V m c main_v20)) (sumH (expH (V m c main_v20) (topH (V m c main_v20)))) := by
  unfold lseH sumH expH topH
  after_reads_simp

theorem V_o : V m c main_v35 = flat (outH (m ((c : Thread nD τ).loc main_arg4)) (expH (V m c main_v20) (topH (V m c main_v20)))
    (sumH (expH (V m c main_v20) (topH (V m c main_v20))))) := by
  unfold flat outH sumH expH topH
  after_reads_simp
  rfl

end Cert.KernelIdeal.Attn
end
-- ==== Proof.EntryAt.lean ====
/-
  The buffers the region starts from hold the real functions of the arguments.
-/
module

public import proofs.«01_k».proof.Proof.Prefix

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Cert.Attn

/-- The kernel's arguments hold the real functions of `I`. -/
structure Args (I : Inp) (x0 : FVec Ideal S2x4096x8x64 .f32) (x1 : FVec Ideal S2x4096x8x32 .f32) (x2 : FVec Ideal S2x4096x8x64 .f32)
    (x3 : FVec Ideal S2x4096x32 .f32) (x4 : FVec Ideal S2x4096x8x128 .f32) (x5 : FVec Ideal S2x4096x1024 .f32) : Prop where
  qn : ∀ b s h d, x0 (ix4 b s h d) = ((I.qn b.val s.val h.val d.val : ℝ) : EReal)
  qr : ∀ b s h d, x1 (ix4 b s h d) = ((I.qr b.val s.val h.val d.val : ℝ) : EReal)
  kn : ∀ b s h d, x2 (ix4 b s h d) = ((I.kn b.val s.val h.val d.val : ℝ) : EReal)
  kr : ∀ b s d, x3 (ix3 b s d) = ((I.kr b.val s.val d.val : ℝ) : EReal)
  v : ∀ b s h d, x4 (ix4 b s h d) = ((I.v b.val s.val h.val d.val : ℝ) : EReal)
  ct : ∀ b s l, x5 (ix3 b s l) = ((I.ct b.val s.val l.val : ℝ) : EReal)
  sc : (Ideal.ofBits .f32 0x3DD105EC#32 : EReal) = ((I.sc : ℝ) : EReal)

variable {I : Inp} {x0 : FVec Ideal S2x4096x8x64 .f32} {x1 : FVec Ideal S2x4096x8x32 .f32} {x2 : FVec Ideal S2x4096x8x64 .f32}
  {x3 : FVec Ideal S2x4096x32 .f32} {x4 : FVec Ideal S2x4096x8x128 .f32} {x5 : FVec Ideal S2x4096x1024 .f32}

theorem flat_at (y : FVec Ideal S2x4096x8x128 .f32) (b : Fin 2) (s : Fin 4096) (l : Fin 1024) :
    flat y (ix3 b s l) = y (ix4 b s ⟨l.val / 128, by have := l.isLt; omega⟩ ⟨l.val % 128, Nat.mod_lt _ (by omega)⟩) := by
  pointwise [flat]

theorem rowsD_at (y : FVec Ideal S2x4096x1024 .f32) (b : Fin 2) (s : Fin 4096) (l : Fin 1024) : rowsD y (ix3 b s l) = y (ix3 b s l) := by
  pointwise [rowsD]

theorem catQ_at (hA : Args I x0 x1 x2 x3 x4 x5) (b : Fin 2) (s : Fin 4096) (h : Fin 8) (d : Fin 128) :
    catQ x0 x1 (ix4 b s h d) = (((if d.val < 64 then I.qn b s h d else if d.val < 96 then I.qr b s h (d - 64) else 0) * I.sc : ℝ) : EReal) := by
  pointwise [catQ, scaleQ, padH]
  have eb := hA.sc
  rw [eb, EReal.coe_mul]
  congr 1
  by_cases h1 : d.val < 64
  · rw [dif_pos h1, if_pos h1, hA.qn]
  · rw [dif_neg h1, if_neg h1]
    by_cases h2 : d.val < 96
    · rw [dif_pos (show d.val - 64 < 32 by omega), if_pos h2, hA.qr]
    · rw [dif_neg (show ¬d.val - 64 < 32 by omega), if_neg h2, EReal.coe_zero]

theorem catK_at (hA : Args I x0 x1 x2 x3 x4 x5) (b : Fin 2) (s : Fin 4096) (h : Fin 8) (d : Fin 128) :
    catK x2 x3 (ix4 b s h d) = ((if d.val < 64 then I.kn b s h d else if d.val < 96 then I.kr b s (d - 64) else 0 : ℝ) : EReal) := by
  pointwise [catK, headsK, padH]
  by_cases h1 : d.val < 64
  · rw [dif_pos h1, if_pos h1, hA.kn]
  · rw [dif_neg h1, if_neg h1]
    by_cases h2 : d.val < 96
    · rw [dif_pos (show d.val - 64 < 32 by omega), if_pos h2, hA.kr]
    · rw [dif_neg (show ¬d.val - 64 < 32 by omega), if_neg h2, EReal.coe_zero]

theorem scores_at (hA : Args I x0 x1 x2 x3 x4 x5) (b : Fin 2) (h : Fin 8) (s k : Fin 4096) :
    scoresH x0 x1 x2 x3 (ix4 b h s k) = ((I.S b h s k : ℝ) : EReal) := by
  pointwise [scoresH]
  have e := hA.sc
  simp only [hA.qn, hA.qr, hA.kn, hA.kr, Inp.S, EReal.coe_mul, EReal.coe_add, coe_sum]
  rw [← e]

theorem masked_at (y : FVec Ideal S2x8x4096x4096 .f32) (b : Fin 2) (h : Fin 8) (s k : Fin 4096) :
    maskedH y (ix4 b h s k) = if k.val ≤ s.val then y (ix4 b h s k) else ⊥ := by
  pointwise [maskedH]
  rw [WordCmp.cmpi_sle_ofNat (by have := k.isLt; omega) (by have := s.isLt; omega)]
  have e : id (constant (F := Ideal) S_ .f32 0xFF800000#32) ix0 = ⊥ := bits_bot
  rw [e]
  by_cases h : k.val ≤ s.val
  · rw [if_pos h, decide_eq_true h]; rfl
  · rw [if_neg h, decide_eq_false h]; rfl

/-- A row's maximum, read at an index. -/
theorem reduce_max (v : FVec Ideal S2x8x4096x4096 .f32) (c : FVec Ideal S_ .f32) (b : Fin 2) (h : Fin 8) (s : Fin 4096) :
    Host.reduce FloatOps.maximumf v c reducesTo_S2x8x4096x4096_S2x8x4096_d3 h_S_ (ix3 b h s)
      = Finset.univ.fold max (c (Shape.Idx.first h_S_)) fun k : Fin 4096 => v (ix4 b h s k) := by
  pointwise

theorem start_bot : constant (F := Ideal) S_ .f32 0xFF800000#32 (Shape.Idx.first h_S_) = ⊥ := bits_bot

theorem top_at (y : FVec Ideal S2x8x4096x4096 .f32) (b : Fin 2) (h : Fin 8) (s : Fin 4096) :
    topH y (ix4 b h s 0) = Finset.univ.fold max ⊥ fun k : Fin 4096 => y (ix4 b h s k) := by
  rw [← start_bot, ← reduce_max]
  generalize e : Host.reduce FloatOps.maximumf y (constant (F := Ideal) S_ .f32 0xFF800000#32) reducesTo_S2x8x4096x4096_S2x8x4096_d3 h_S_ = w
  unfold topH
  rw [e]
  clear e
  pointwise

theorem exp_at (y : FVec Ideal S2x8x4096x4096 .f32) (t : FVec Ideal S2x8x4096x1 .f32) (b : Fin 2) (h : Fin 8) (s k : Fin 4096) :
    expH y t (ix4 b h s k) = Ideal.exp (y (ix4 b h s k) - t (ix4 b h s 0)) := by
  pointwise [expH]

theorem sum_at (y : FVec Ideal S2x8x4096x4096 .f32) (b : Fin 2) (h : Fin 8) (s : Fin 4096) :
    sumH y (ix4 b h s 0) = ∑ k : Fin 4096, y (ix4 b h s k) := by
  pointwise [sumH]

theorem lse_at (t z : FVec Ideal S2x8x4096x1 .f32) (b : Fin 2) (h : Fin 8) (s : Fin 4096) :
    lseH t z (ix4 b h s 0) = t (ix4 b h s 0) + Ideal.log (z (ix4 b h s 0)) := by
  pointwise [lseH]

theorem out_at (x4 : FVec Ideal S2x4096x8x128 .f32) (e : FVec Ideal S2x8x4096x4096 .f32) (z : FVec Ideal S2x8x4096x1 .f32) (b : Fin 2) (s : Fin 4096) (h : Fin 8) (d : Fin 128) :
    outH x4 e z (ix4 b s h d) = ∑ k : Fin 4096, x4 (ix4 b k h d) * Ideal.div (e (ix4 b h s k)) (z (ix4 b h s 0)) := by
  pointwise [outH]

/-- The masked scores are real up to the diagonal. -/
theorem masked_real (hA : Args I x0 x1 x2 x3 x4 x5) (b : Fin 2) (h : Fin 8) (s k : Fin 4096) :
    maskedH (scoresH x0 x1 x2 x3) (ix4 b h s k) = if k.val ≤ s.val then ((I.S b h s k : ℝ) : EReal) else ⊥ := by
  rw [masked_at, scores_at hA]

/-- The row maxima are real. -/
theorem top_real (hA : Args I x0 x1 x2 x3 x4 x5) (b : Fin 2) (h : Fin 8) (s : Fin 4096) :
    ∃ M : ℝ, topH (maskedH (scoresH x0 x1 x2 x3)) (ix4 b h s 0) = (M : EReal) := by
  rw [top_at]
  refine fold_max_real _ (fun k => ?_) s ⟨_, (masked_real hA b h s s).trans (if_pos (le_refl s.val))⟩
  rw [masked_real hA]
  by_cases e : k.val ≤ s.val
  · exact Or.inr ⟨_, if_pos e⟩
  · exact Or.inl (if_neg e)

/-- One function of the indices that the row maxima hold. -/
theorem tops (hA : Args I x0 x1 x2 x3 x4 x5) : ∃ M : ℕ → ℕ → ℕ → ℝ, ∀ (b : Fin 2) (h : Fin 8) (s : Fin 4096),
    topH (maskedH (scoresH x0 x1 x2 x3)) (ix4 b h s 0) = ((M b h s : ℝ) : EReal) := by
  choose M0 hM0 using top_real hA
  refine ⟨fun b h s => if e : b < 2 ∧ h < 8 ∧ s < 4096 then M0 ⟨b, e.1⟩ ⟨h, e.2.1⟩ ⟨s, e.2.2⟩ else 0, fun b h s => ?_⟩
  rw [hM0]
  show _ = (((if e : b.val < 2 ∧ h.val < 8 ∧ s.val < 4096 then M0 ⟨b.val, e.1⟩ ⟨h.val, e.2.1⟩ ⟨s.val, e.2.2⟩ else 0 : ℝ)) : EReal)
  rw [dif_pos ⟨b.isLt, h.isLt, s.isLt⟩]

variable {y : FVec Ideal S2x8x4096x4096 .f32} {t z : FVec Ideal S2x8x4096x1 .f32} {M : ℕ → ℕ → ℕ → ℝ}

theorem exp_real (hy : ∀ (b : Fin 2) (h : Fin 8) (s k : Fin 4096), y (ix4 b h s k) = if k.val ≤ s.val then ((I.S b h s k : ℝ) : EReal) else ⊥)
    (ht : ∀ (b : Fin 2) (h : Fin 8) (s : Fin 4096), t (ix4 b h s 0) = ((M b h s : ℝ) : EReal)) (b : Fin 2) (h : Fin 8) (s k : Fin 4096) :
    expH y t (ix4 b h s k) = ((I.E (M b h s) b h s k : ℝ) : EReal) := by
  rw [exp_at, hy, ht, Inp.E]
  by_cases e : k.val ≤ s.val
  · rw [if_pos e, if_pos e, ← EReal.coe_sub, Ideal.exp_coe]
  · rw [if_neg e, if_neg e, EReal.bot_sub, Ideal.exp_bot]; rfl

theorem sum_real (he : ∀ (b : Fin 2) (h : Fin 8) (s k : Fin 4096), y (ix4 b h s k) = ((I.E (M b h s) b h s k : ℝ) : EReal)) (b : Fin 2) (h : Fin 8) (s : Fin 4096) :
    sumH y (ix4 b h s 0) = ((I.Z (M b h s) b h s : ℝ) : EReal) := by
  rw [sum_at, Inp.Z, coe_sum]
  exact Finset.sum_congr rfl fun k _ => he b h s k

theorem lse_real (ht : ∀ (b : Fin 2) (h : Fin 8) (s : Fin 4096), t (ix4 b h s 0) = ((M b h s : ℝ) : EReal))
    (hz : ∀ (b : Fin 2) (h : Fin 8) (s : Fin 4096), z (ix4 b h s 0) = ((I.Z (M b h s) b h s : ℝ) : EReal)) (b : Fin 2) (h : Fin 8) (s : Fin 4096) :
    lseH t z (ix4 b h s 0) = (((I.arr M).L b h s : ℝ) : EReal) := by
  rw [lse_at, ht, hz, Ideal.log_coe, if_neg (not_le.mpr (I.Z_pos _ b h s)), ← EReal.coe_add]
  rfl

theorem out_real (hA : Args I x0 x1 x2 x3 x4 x5)
    (he : ∀ (b : Fin 2) (h : Fin 8) (s k : Fin 4096), y (ix4 b h s k) = ((I.E (M b h s) b h s k : ℝ) : EReal))
    (hz : ∀ (b : Fin 2) (h : Fin 8) (s : Fin 4096), z (ix4 b h s 0) = ((I.Z (M b h s) b h s : ℝ) : EReal)) (b : Fin 2) (s : Fin 4096) (h : Fin 8) (d : Fin 128) :
    outH x4 y z (ix4 b s h d) = ((∑ k : Fin 4096, I.v b k h d * I.P b h s k : ℝ) : EReal) := by
  rw [out_at, coe_sum]
  refine Finset.sum_congr rfl fun k _ => ?_
  rw [hA.v, he, hz, div_real _ _ (I.Z_pos _ b h s).ne', I.P_eq, ← EReal.coe_mul]

theorem idx_rows (i : S2x4096x1024.Idx) : ∃ (b : Fin 2) (s : Fin 4096) (l : Fin 1024), i = ix3 b s l :=
  ⟨i 0, i 1, i 2, by funext a; fin_cases a <;> rfl⟩

theorem idx_lse (i : S2x8x4096x1.Idx) : ∃ (b : Fin 2) (h : Fin 8) (s : Fin 4096), i = ix4 b h s (0 : Fin 1) := by
  refine ⟨i 0, i 1, i 2, ?_⟩
  funext a
  fin_cases a
  · rfl
  · rfl
  · rfl
  · exact Subsingleton.elim (α := Fin 1) _ _

variable (m : (ℓ : Loc nD τ sig) → Buf (Elt Ideal) ℓ) (c : Dev nD)

/-- The region starts from the arrays of the real functions. -/
theorem entry (hA : Args I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) :
    ∃ M, Entry m c (I.arr M) := by
  obtain ⟨M, hM⟩ := tops hA
  have hy := masked_real hA
  rw [← V_masked m c] at hM hy
  have he := exp_real hy hM
  have hz := sum_real he
  refine ⟨M, ⟨fun i => ?_, fun i => ?_, fun i => ?_, fun i => ?_, fun i => ?_, fun i => ?_⟩⟩
  · obtain ⟨b, s, l, rfl⟩ := idx_rows i; rw [V_q, flat_at, catQ_at hA]; rfl
  · obtain ⟨b, s, l, rfl⟩ := idx_rows i; rw [V_k, flat_at, catK_at hA]; rfl
  · obtain ⟨b, s, l, rfl⟩ := idx_rows i; rw [V_v, flat_at, hA.v]; rfl
  · obtain ⟨b, s, l, rfl⟩ := idx_rows i; rw [V_o, flat_at, out_real hA he hz]; rfl
  · obtain ⟨b, s, l, rfl⟩ := idx_rows i; rw [V_d, rowsD_at, hA.ct]; rfl
  · obtain ⟨b, h, s, rfl⟩ := idx_lse i; rw [V_lse, lse_real hM hz]; rfl

end Cert.KernelIdeal.Attn
end
-- ==== Proof.Suffix.lean ====
/-
  The kernel's host operations after the region, as functions of the arrays it leaves.
-/
module

public import proofs.«01_k».proof.Proof.Prefix

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI

/-- A row's heads apart. -/
def heads (y : FVec Ideal S2x4096x1024 .bf16) : FVec Ideal S2x4096x8x128 .f32 :=
  shapeCast S2x4096x8x128 (extf .f32 y bitsLt_bf16_f32) shapeCasts_S2x4096x1024_S2x4096x8x128

/-- The first 64 lanes of each head. -/
def nope (y : FVec Ideal S2x4096x8x128 .f32) : FVec Ideal S2x4096x8x64 .f32 :=
  extractStridedSlice S2x4096x8x64 ![0, 0, 0, 0] y slices_S2x4096x8x128_S2x4096x8x64_0_0_0_0

/-- The next 32 lanes of each head. -/
def rope (y : FVec Ideal S2x4096x8x128 .f32) : FVec Ideal S2x4096x8x32 .f32 :=
  extractStridedSlice S2x4096x8x32 ![0, 0, 0, 64] y slices_S2x4096x8x128_S2x4096x8x32_0_0_0_64

/-- The sum over the heads. -/
def overHeads (y : FVec Ideal S2x4096x8x32 .f32) : FVec Ideal S2x4096x32 .f32 :=
  Host.reduceAdd y (constant (F := Ideal) S_ .f32 0x00000000#32) reducesTo_S2x4096x8x32_S2x4096x32_d2 h_S_

theorem heads_at (y : FVec Ideal S2x4096x1024 .bf16) (b : Fin 2) (s : Fin 4096) (h : Fin 8) (d : Fin 128) :
    heads y (ix4 b s h d) = y (ix3 b s ⟨128 * h.val + d.val, by have := h.isLt; have := d.isLt; omega⟩) := by
  pointwise [heads]
  simp only [mul_comm (128 : ℕ)]

theorem nope_at (y : FVec Ideal S2x4096x8x128 .f32) (b : Fin 2) (s : Fin 4096) (h : Fin 8) (d : Fin 64) :
    nope y (ix4 b s h d) = y (ix4 b s h ⟨d.val, by have := d.isLt; omega⟩) := by
  pointwise [nope]

theorem rope_at (y : FVec Ideal S2x4096x8x128 .f32) (b : Fin 2) (s : Fin 4096) (h : Fin 8) (d : Fin 32) :
    rope y (ix4 b s h d) = y (ix4 b s h ⟨64 + d.val, by have := d.isLt; omega⟩) := by
  pointwise [rope]

theorem overHeads_at (y : FVec Ideal S2x4096x8x32 .f32) (b : Fin 2) (s : Fin 4096) (d : Fin 32) :
    overHeads y (ix3 b s d) = ∑ h : Fin 8, y (ix4 b s h d) := by
  pointwise [overHeads]

theorem scaled_at (y : FVec Ideal S2x4096x8x128 .f32) (b : Fin 2) (s : Fin 4096) (h : Fin 8) (d : Fin 128) :
    mulf y scaleQ (ix4 b s h d) = y (ix4 b s h d) * Ideal.ofBits .f32 0x3DD105EC#32 := by
  pointwise [scaleQ]

variable (W : Valuation τ sig (Elt Ideal))

theorem tail_47 : StableHlo.after [hostOps1].flatten W (Proc.devRef .tc main_v47) = heads (W (Proc.devRef .tc main_v39_2)) := by
  unfold heads
  after_reads_simp
  rfl

theorem tail_48 : StableHlo.after [hostOps1].flatten W (Proc.devRef .tc main_v48) = nope (mulf (heads (W (Proc.devRef .tc main_v39_0))) scaleQ) := by
  unfold heads nope scaleQ
  after_reads_simp
  rfl

theorem tail_49 : StableHlo.after [hostOps1].flatten W (Proc.devRef .tc main_v49) = rope (mulf (heads (W (Proc.devRef .tc main_v39_0))) scaleQ) := by
  unfold heads rope scaleQ
  after_reads_simp
  rfl

theorem tail_50 : StableHlo.after [hostOps1].flatten W (Proc.devRef .tc main_v50) = nope (heads (W (Proc.devRef .tc main_v39_1))) := by
  unfold heads nope
  after_reads_simp
  rfl

theorem tail_52 : StableHlo.after [hostOps1].flatten W (Proc.devRef .tc main_v52) = overHeads (rope (heads (W (Proc.devRef .tc main_v39_1)))) := by
  unfold heads overHeads rope
  after_reads_simp
  rfl

end Cert.KernelIdeal.Attn
end
-- ==== Proof.Values.lean ====
/-
  What the kernel's host operations leave in the five results, as real sums.
-/
module

public import proofs.«01_k».proof.Proof.Arrays
public import proofs.«01_k».proof.Proof.EntryAt
public import proofs.«01_k».proof.Proof.Suffix

@[expose] public section

set_option maxRecDepth 16384

noncomputable section

namespace Cert.Attn.Inp

variable (I : Inp) (M : ℕ → ℕ → ℕ → ℝ)

/-- A lane of a query's row, by head. -/
theorem Q_at (b s h d : ℕ) (hd : d < 128) :
    (I.arr M).Q b s (128 * h + d) = (if d < 64 then I.qn b s h d else if d < 96 then I.qr b s h (d - 64) else 0) * I.sc := by
  have e1 : (128 * h + d) % 128 = d := by omega
  have e2 : (128 * h + d) / 128 = h := by omega
  simp only [arr, e1, e2]

/-- A lane of a key's row, by head. -/
theorem K_at (b k h d : ℕ) (hd : d < 128) :
    (I.arr M).K b k (128 * h + d) = if d < 64 then I.kn b k h d else if d < 96 then I.kr b k (d - 64) else 0 := by
  have e1 : (128 * h + d) % 128 = d := by omega
  have e2 : (128 * h + d) / 128 = h := by omega
  simp only [arr, e1, e2]

end Cert.Attn.Inp

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Cert.Attn

variable {I : Inp} {M : ℕ → ℕ → ℕ → ℝ}

/-- The gradient of the scaled queries, by head. -/
theorem outQ_at (b : Fin 2) (s : Fin 4096) (h : Fin 8) (d : Fin 128) :
    outQ (I.arr M) (ix3 b s (⟨128 * h.val + d.val, by have := h.isLt; have := d.isLt; omega⟩ : Fin 1024))
      = ((∑ k : Fin 4096, I.dS b h s k * (I.arr M).K b k (128 * h + d) : ℝ) : EReal) := by
  have hd := d.isLt
  show (((I.arr M).dqSum b.val ((128 * h.val + d.val) / 256) 4 s.val ((128 * h.val + d.val) % 256) : ℝ) : EReal) = _
  rw [I.arr_dq M _ _ _ _ (Nat.mod_lt _ (by omega)), show 2 * ((128 * h.val + d.val) / 256) + (128 * h.val + d.val) % 256 / 128 = h.val by omega,
    Nat.div_add_mod]

/-- The gradient of the keys, by head. -/
theorem outK_at (b : Fin 2) (k : Fin 4096) (h : Fin 8) (d : Fin 128) :
    outK (I.arr M) (ix3 b k (⟨128 * h.val + d.val, by have := h.isLt; have := d.isLt; omega⟩ : Fin 1024))
      = ((∑ s : Fin 4096, I.dS b h s k * (I.arr M).Q b s (128 * h + d) : ℝ) : EReal) := by
  have hd := d.isLt
  have hk := k.isLt
  show ((((I.arr M).blk b.val ((128 * h.val + d.val) / 256) (k.val / 1024)).dk (k.val / 1024) ((128 * h.val + d.val) % 256 / 128) (4 - k.val / 1024)
    (k.val % 1024) ((128 * h.val + d.val) % 256 % 128) : ℝ) : EReal) = _
  rw [I.arr_dk M _ _ _ _ _ _ _ (by omega), show 2 * ((128 * h.val + d.val) / 256) + (128 * h.val + d.val) % 256 / 128 = h.val by omega,
    Nat.div_add_mod, Nat.div_add_mod, Nat.div_add_mod]

/-- The gradient of the values, by head. -/
theorem outV_at (b : Fin 2) (k : Fin 4096) (h : Fin 8) (d : Fin 128) :
    outV (I.arr M) (ix3 b k (⟨128 * h.val + d.val, by have := h.isLt; have := d.isLt; omega⟩ : Fin 1024))
      = ((∑ s : Fin 4096, I.P b h s k * I.ct b s (128 * h + d) : ℝ) : EReal) := by
  have hd := d.isLt
  have hk := k.isLt
  show ((((I.arr M).blk b.val ((128 * h.val + d.val) / 256) (k.val / 1024)).dv (k.val / 1024) ((128 * h.val + d.val) % 256 / 128) (4 - k.val / 1024)
    (k.val % 1024) ((128 * h.val + d.val) % 256 % 128) : ℝ) : EReal) = _
  rw [I.arr_dv M _ _ _ _ _ _ _ (by omega), show 2 * ((128 * h.val + d.val) / 256) + (128 * h.val + d.val) % 256 / 128 = h.val by omega,
    Nat.div_add_mod, Nat.div_add_mod, Nat.div_add_mod]

variable {m : (ℓ : Loc nD τ sig) → Buf (Elt Ideal) ℓ} {c : Dev nD}

/-- The nine arrays are nine buffers. -/
theorem arrays_inj : Function.Injective (Pipeline.arrRef (cfgs 0).spec) := by decide

/-- What the buffers hold after the region. -/
abbrev left (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem left_q {A : Arr} (hE : Entry m c A) : left m c (Proc.devRef .tc main_v39_0) = outQ A :=
  (Pipeline.withArrays_arr (cfgs 0).spec arrays_inj c (V0 m c) (fun w => (dats m 0 c).arrAt w (cfgs 0).N) 6).trans (final6 hE)

theorem left_k {A : Arr} (hE : Entry m c A) : left m c (Proc.devRef .tc main_v39_1) = outK A :=
  (Pipeline.withArrays_arr (cfgs 0).spec arrays_inj c (V0 m c) (fun w => (dats m 0 c).arrAt w (cfgs 0).N) 7).trans (final7 hE)

theorem left_v {A : Arr} (hE : Entry m c A) : left m c (Proc.devRef .tc main_v39_2) = outV A :=
  (Pipeline.withArrays_arr (cfgs 0).spec arrays_inj c (V0 m c) (fun w => (dats m 0 c).arrAt w (cfgs 0).N) 8).trans (final8 hE)

/-- What a buffer holds at the end. -/
abbrev done (m : (ℓ : Loc nD τ sig) → Buf (Elt Ideal) ℓ) (c : Dev nD) (b : Ref sig .tc) : Buf (Elt Ideal) ((c.tc : Thread nD τ).loc b) :=
  Pipeline.afterTail₀ cfgs (dats m) 0 (V0 m) [hostOps1] c b

variable (hE : Entry m c (I.arr M)) (hs : (Ideal.ofBits .f32 0x3DD105EC#32 : EReal) = ((I.sc : ℝ) : EReal))

include hE

theorem ker_dv (b : Fin 2) (k : Fin 4096) (h : Fin 8) (e : Fin 128) :
    (done m c main_v47 : FVec Ideal S2x4096x8x128 .f32) (ix4 b k h e) = ((∑ s : Fin 4096, I.P b h s k * I.ct b s (128 * h + e) : ℝ) : EReal) := by
  have e1 : (done m c main_v47 : FVec Ideal S2x4096x8x128 .f32) = heads (outV (I.arr M)) := (tail_47 (left m c)).trans (congrArg heads (left_v hE))
  rw [e1, heads_at, outV_at]

theorem ker_dkn (b : Fin 2) (k : Fin 4096) (h : Fin 8) (d : Fin 64) :
    (done m c main_v50 : FVec Ideal S2x4096x8x64 .f32) (ix4 b k h d) = ((∑ s : Fin 4096, I.dS b h s k * I.sc * I.qn b s h d : ℝ) : EReal) := by
  have hd := d.isLt
  have e1 : (done m c main_v50 : FVec Ideal S2x4096x8x64 .f32) = nope (heads (outK (I.arr M))) :=
    (tail_50 (left m c)).trans (congrArg (fun y => nope (heads y)) (left_k hE))
  rw [e1, nope_at, heads_at, outK_at]
  refine congrArg _ (Finset.sum_congr rfl fun s _ => ?_)
  rw [I.Q_at M _ _ _ _ (by omega), if_pos hd]
  ring

theorem ker_dkr (b : Fin 2) (k : Fin 4096) (d : Fin 32) :
    (done m c main_v52 : FVec Ideal S2x4096x32 .f32) (ix3 b k d)
      = ((∑ s : Fin 4096, ∑ h : Fin 8, I.dS b h s k * I.sc * I.qr b s h d : ℝ) : EReal) := by
  have hd := d.isLt
  have e1 : (done m c main_v52 : FVec Ideal S2x4096x32 .f32) = overHeads (rope (heads (outK (I.arr M)))) :=
    (tail_52 (left m c)).trans (congrArg (fun y => overHeads (rope (heads y))) (left_k hE))
  have key : overHeads (rope (heads (outK (I.arr M)))) (ix3 b k d)
      = ((∑ s : Fin 4096, ∑ h : Fin 8, I.dS b h s k * I.sc * I.qr b s h d : ℝ) : EReal) := by
    rw [overHeads_at, Finset.sum_comm, coe_sum]
    refine Finset.sum_congr rfl fun h _ => ?_
    rw [rope_at, heads_at, outK_at]
    refine congrArg _ (Finset.sum_congr rfl fun s _ => ?_)
    have e := I.Q_at M b.val s.val h.val (64 + d.val) (by omega)
    rw [if_neg (by omega), if_pos (by omega), show 64 + d.val - 64 = d.val by omega] at e
    show I.dS b h s k * (I.arr M).Q b s (128 * h.val + (64 + d.val)) = _
    rw [e]
    ring
  rw [e1]
  exact key

include hs

theorem ker_dqn (b : Fin 2) (s : Fin 4096) (h : Fin 8) (d : Fin 64) :
    (done m c main_v48 : FVec Ideal S2x4096x8x64 .f32) (ix4 b s h d) = ((∑ k : Fin 4096, I.dS b h s k * I.sc * I.kn b k h d : ℝ) : EReal) := by
  have hd := d.isLt
  have e1 : (done m c main_v48 : FVec Ideal S2x4096x8x64 .f32) = nope (mulf (heads (outQ (I.arr M))) scaleQ) :=
    (tail_48 (left m c)).trans (congrArg (fun y => nope (mulf (heads y) scaleQ)) (left_q hE))
  rw [e1, nope_at, scaled_at, heads_at, outQ_at, hs, ← EReal.coe_mul, Finset.sum_mul]
  refine congrArg _ (Finset.sum_congr rfl fun k _ => ?_)
  rw [I.K_at M _ _ _ _ (by omega), if_pos hd]
  ring

theorem ker_dqr (b : Fin 2) (s : Fin 4096) (h : Fin 8) (d : Fin 32) :
    (done m c main_v49 : FVec Ideal S2x4096x8x32 .f32) (ix4 b s h d) = ((∑ k : Fin 4096, I.dS b h s k * I.sc * I.kr b k d : ℝ) : EReal) := by
  have hd := d.isLt
  have e1 : (done m c main_v49 : FVec Ideal S2x4096x8x32 .f32) = rope (mulf (heads (outQ (I.arr M))) scaleQ) :=
    (tail_49 (left m c)).trans (congrArg (fun y => rope (mulf (heads y) scaleQ)) (left_q hE))
  rw [e1, rope_at, scaled_at, heads_at, outQ_at, hs, ← EReal.coe_mul, Finset.sum_mul]
  refine congrArg _ (Finset.sum_congr rfl fun k _ => ?_)
  have e := I.K_at M b.val k.val h.val (64 + d.val) (by omega)
  rw [if_neg (by omega), if_pos (by omega), show 64 + d.val - 64 = d.val by omega] at e
  show I.dS b h s k * (I.arr M).K b k (128 * h.val + (64 + d.val)) * I.sc = _
  rw [e]
  ring

end Cert.KernelIdeal.Attn
end
-- ==== Proof.Finite.lean ====
/-
  Arguments that are finite hold real numbers.
-/
module

public import proofs.«01_k».proof.Proof.EntryAt
public import proofs.«01_k».proof.Pre_finite
public import proofs.«01_k».proof.Proof.Gen.Pre_finite
public import Idealize.ShloMosaic.Lib.ReduceAll

@[expose] public section

set_option maxRecDepth 16384

noncomputable section

namespace Cert.Attn

open Idealize.ShloMosaic

theorem bits_top : (Ideal.ofBits .f32 0x7F800000#32 : EReal) = ⊤ := by
  simp [Ideal.ofBits, Ideal.ieee]

/-- An extended real of finite magnitude is real. -/
theorem real_of_abs (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One function of four indices that a real array holds. -/
theorem real4 {n0 n1 n2 n3 : ℕ} (x : (⟨4, ![n0, n1, n2, n3]⟩ : Shape).Idx → EReal) (hx : ∀ i, ∃ r : ℝ, x i = (r : EReal)) :
    ∃ f : ℕ → ℕ → ℕ → ℕ → ℝ, ∀ (a : Fin n0) (b : Fin n1) (c : Fin n2) (d : Fin n3), x (ix4 a b c d) = ((f a b c d : ℝ) : EReal) := by
  choose r hr using hx
  refine ⟨fun a b c d => if e : a < n0 ∧ b < n1 ∧ c < n2 ∧ d < n3 then r (ix4 ⟨a, e.1⟩ ⟨b, e.2.1⟩ ⟨c, e.2.2.1⟩ ⟨d, e.2.2.2⟩) else 0, fun a b c d => ?_⟩
  show _ = (((if e : a.val < n0 ∧ b.val < n1 ∧ c.val < n2 ∧ d.val < n3 then r (ix4 ⟨a.val, e.1⟩ ⟨b.val, e.2.1⟩ ⟨c.val, e.2.2.1⟩ ⟨d.val, e.2.2.2⟩) else 0 : ℝ)) : EReal)
  rw [hr, dif_pos ⟨a.isLt, b.isLt, c.isLt, d.isLt⟩]

/-- One function of three indices that a real array holds. -/
theorem real3 {n0 n1 n2 : ℕ} (x : (⟨3, ![n0, n1, n2]⟩ : Shape).Idx → EReal) (hx : ∀ i, ∃ r : ℝ, x i = (r : EReal)) :
    ∃ f : ℕ → ℕ → ℕ → ℝ, ∀ (a : Fin n0) (b : Fin n1) (c : Fin n2), x (ix3 a b c) = ((f a b c : ℝ) : EReal) := by
  choose r hr using hx
  refine ⟨fun a b c => if e : a < n0 ∧ b < n1 ∧ c < n2 then r (ix3 ⟨a, e.1⟩ ⟨b, e.2.1⟩ ⟨c, e.2.2⟩) else 0, fun a b c => ?_⟩
  show _ = (((if e : a.val < n0 ∧ b.val < n1 ∧ c.val < n2 then r (ix3 ⟨a.val, e.1⟩ ⟨b.val, e.2.1⟩ ⟨c.val, e.2.2⟩) else 0 : ℝ)) : EReal)
  rw [hr, dif_pos ⟨a.isLt, b.isLt, c.isLt⟩]

end Cert.Attn

namespace Cert.Pre_finite.Attn

open Cert.Pre_finite Cert.Pre_finite.Gen
open Idealize.ShloMosaic Idealize.ShloMosaic.TcCoe Idealize.ShloMosaic.Tactic
open Cert.Attn

instance : Subsingleton S_.Idx := ⟨fun a b => funext fun i => i.elim0⟩

/-- An array whose magnitudes are all below the top is real. -/
theorem real_of_all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant (F := Ideal) S_ .f32 0x7F800000#32)))
      (constantI S_ 1 1#1) hr Gen.h_S_ ix0 = 1#1) (i : s.Idx) : ∃ r : ℝ, x i = (r : EReal) := by
  have e := Host.reduce_andi_all _ _ hr Gen.h_S_ ix0 h i
  refine real_of_abs (x i) ?_
  rw [← bits_top]
  exact e

variable {x0 : FVec Ideal S2x4096x8x64 .f32} {x1 : FVec Ideal S2x4096x8x32 .f32} {x2 : FVec Ideal S2x4096x8x64 .f32}
  {x3 : FVec Ideal S2x4096x32 .f32} {x4 : FVec Ideal S2x4096x8x128 .f32} {x5 : FVec Ideal S2x4096x1024 .f32}

/-- Finite arguments hold the real functions of some `I`. -/
theorem inputs (h : fn (F := Ideal) x0 x1 x2 x3 x4 x5 ix0 = 1#1) : ∃ I : Inp, Cert.KernelIdeal.Attn.Args I x0 x1 x2 x3 x4 x5 := by
  unfold fn fn_part1 at h
  simp only [andi, IntOp.andi_eq_one] at h
  obtain ⟨⟨⟨⟨⟨h0, h1⟩, h2⟩, h3⟩, h4⟩, h5⟩ := h
  obtain ⟨f0, e0⟩ := real4 x0 (real_of_all x0 Gen.bcast_S_S2x4096x8x64 Gen.reducesTo_S2x4096x8x64_S_d0_1_2_3 h0)
  obtain ⟨f1, e1⟩ := real4 x1 (real_of_all x1 Gen.bcast_S_S2x4096x8x32 Gen.reducesTo_S2x4096x8x32_S_d0_1_2_3 h1)
  obtain ⟨f2, e2⟩ := real4 x2 (real_of_all x2 Gen.bcast_S_S2x4096x8x64 Gen.reducesTo_S2x4096x8x64_S_d0_1_2_3 h2)
  obtain ⟨f3, e3⟩ := real3 x3 (real_of_all x3 Gen.bcast_S_S2x4096x32 Gen.reducesTo_S2x4096x32_S_d0_1_2 h3)
  obtain ⟨f4, e4⟩ := real4 x4 (real_of_all x4 Gen.bcast_S_S2x4096x8x128 Gen.reducesTo_S2x4096x8x128_S_d0_1_2_3 h4)
  obtain ⟨f5, e5⟩ := real3 x5 (real_of_all x5 Gen.bcast_S_S2x4096x1024 Gen.reducesTo_S2x4096x1024_S_d0_1_2 h5)
  obtain ⟨s, es⟩ := bits_scale
  exact ⟨⟨f0, f1, f2, f3, f4, f5, s⟩, ⟨e0, e1, e2, e3, e4, e5, es⟩⟩

end Cert.Pre_finite.Attn
end
-- ==== Proof.WgradPoint.lean ====
/-
  The gradients of a feed-forward block's weights: what one point of the grid leaves in its three sums and in its results.
-/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Wgrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S2048x1024 .bf16) (h2 : a2.IsWhole)
  (a3 : Memref sig .tc .vmem S1x2048x704 .bf16) (h3 : a3.IsWhole) (a4 : Memref sig .tc .vmem S2048x1024 .bf16) (h4 : a4.IsWhole)
  (a5 : Memref sig .tc .vmem S1x2048x704 .bf16) (h5 : a5.IsWhole) (a6 : Memref sig .tc .vmem S1x2048x704 .bf16) (h6 : a6.IsWhole)
  (a8 : Memref sig .tc .vmem S1x704x1024 .bf16) (h8 : a8.IsWhole) (a9 : Memref sig .tc .vmem S1x704x1024 .bf16) (h9 : a9.IsWhole)
  (a10 : Memref sig .tc .vmem S1x704x1024 .bf16) (h10 : a10.IsWhole) (a11 : Memref sig .tc .vmem S704x1024 .f32) (h11 : a11.IsWhole)
  (a12 : Memref sig .tc .vmem S704x1024 .f32) (h12 : a12.IsWhole) (a13 : Memref sig .tc .vmem S704x1024 .f32) (h13 : a13.IsWhole)
  (x0 : Vec Ideal S2048x1024 .bf16) (x1 : Vec Ideal S1x2048x704 .bf16) (x2 : Vec Ideal S2048x1024 .bf16)
  (x3 : Vec Ideal S1x2048x704 .bf16) (x4 : Vec Ideal S1x2048x704 .bf16) (y0 y1 y2 : Vec Ideal S704x1024 .f32)

/-! ## What a point leaves in the three sums -/

theorem gateA (hc0 : cond0_0 i) (hc1 : ¬cond0_1 i) :
    sout0_A_0 c i a2 h2 a3 h3 a4 h4 a5 h5 a6 h6 a8 h8 a9 h9 a10 h10 a11 h11 a12 h12 a13 h13 hc0 hc1 x0 x1 x2 x3 x4
      = k0_pay9 x0 (k0_pay5 (F := Ideal)) x3 := by
  unfold sout0_A_0
  rw [View.read_writes_eq_canon _ _ _ (scover0_A_0 c i a2 h2 a3 h3 a4 h4 a5 h5 a6 h6 a8 h8 a9 h9 a10 h10 a11 h11 a12 h12 a13 h13 hc0 hc1 x0 x1 x2 x3 x4)]
  unfold kernelRun0_A
  dsimp only
  sl_unfold_words
  rw [View.canon_cons_unit_zero (S := S704x1024) hz2, View.readCov_unit_zero (S := S704x1024) _ hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem upA (hc0 : cond0_0 i) (hc1 : ¬cond0_1 i) :
    sout0_A_1 c i a2 h2 a3 h3 a4 h4 a5 h5 a6 h6 a8 h8 a9 h9 a10 h10 a11 h11 a12 h12 a13 h13 hc0 hc1 x0 x1 x2 x3 x4
      = k0_pay10 x0 (k0_pay6 (F := Ideal)) x4 := by
  unfold sout0_A_1
  rw [View.read_writes_eq_canon _ _ _ (scover0_A_1 c i a2 h2 a3 h3 a4 h4 a5 h5 a6 h6 a8 h8 a9 h9 a10 h10 a11 h11 a12 h12 a13 h13 hc0 hc1 x0 x1 x2 x3 x4)]
  unfold kernelRun0_A
  dsimp only
  sl_unfold_words
  rw [View.canon_cons_unit_zero (S := S704x1024) hz2, View.readCov_unit_zero (S := S704x1024) _ hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem downA (hc0 : cond0_0 i) (hc1 : ¬cond0_1 i) :
    sout0_A_2 c i a2 h2 a3 h3 a4 h4 a5 h5 a6 h6 a8 h8 a9 h9 a10 h10 a11 h11 a12 h12 a13 h13 hc0 hc1 x0 x1 x2 x3 x4
      = k0_pay1 (k0_pay7 (F := Ideal)) (k0_pay11 x1 x2) := by
  unfold sout0_A_2
  rw [View.read_writes_eq_canon _ _ _ (scover0_A_2 c i a2 h2 a3 h3 a4 h4 a5 h5 a6 h6 a8 h8 a9 h9 a10 h10 a11 h11 a12 h12 a13 h13 hc0 hc1 x0 x1 x2 x3 x4)]
  unfold kernelRun0_A
  dsimp only
  sl_unfold_words
  rw [View.canon_cons_unit_zero (S := S704x1024) hz2, View.readCov_unit_zero (S := S704x1024) _ hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem gateB (hc0 : ¬cond0_0 i) (hc1 : ¬cond0_1 i) :
    sout0_B_0 c i a2 h2 a3 h3 a4 h4 a5 h5 a6 h6 a8 h8 a9 h9 a10 h10 a11 h11 a12 h12 a13 h13 hc0 hc1 x0 x1 x2 x3 x4 y0 y1 y2
      = k0_pay9 x0 y0 x3 := by
  unfold sout0_B_0
  rw [View.read_writes_eq_canon _ _ _ (scover0_B_0 c i a2 h2 a3 h3 a4 h4 a5 h5 a6 h6 a8 h8 a9 h9 a10 h10 a11 h11 a12 h12 a13 h13 hc0 hc1 x0 x1 x2 x3 x4 y0 y1 y2)]
  unfold kernelRun0_B
  dsimp only
  rw [View.canon_unit_zero hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem upB (hc0 : ¬cond0_0 i) (hc1 : ¬cond0_1 i) :
    sout0_B_1 c i a2 h2 a3 h3 a4 h4 a5 h5 a6 h6 a8 h8 a9 h9 a10 h10 a11 h11 a12 h12 a13 h13 hc0 hc1 x0 x1 x2 x3 x4 y0 y1 y2
      = k0_pay10 x0 y1 x4 := by
  unfold sout0_B_1
  rw [View.read_writes_eq_canon _ _ _ (scover0_B_1 c i a2 h2 a3 h3 a4 h4 a5 h5 a6 h6 a8 h8 a9 h9 a10 h10 a11 h11 a12 h12 a13 h13 hc0 hc1 x0 x1 x2 x3 x4 y0 y1 y2)]
  unfold kernelRun0_B
  dsimp only
  rw [View.canon_unit_zero hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem downB (hc0 : ¬cond0_0 i) (hc1 : ¬cond0_1 i) :
    sout0_B_2 c i a2 h2 a3 h3 a4 h4 a5 h5 a6 h6 a8 h8 a9 h9 a10 h10 a11 h11 a12 h12 a13 h13 hc0 hc1 x0 x1 x2 x3 x4 y0 y1 y2
      = k0_pay1 y2 (k0_pay11 x1 x2) := by
  unfold sout0_B_2
  rw [View.read_writes_eq_canon _ _ _ (scover0_B_2 c i a2 h2 a3 h3 a4 h4 a5 h5 a6 h6 a8 h8 a9 h9 a10 h10 a11 h11 a12 h12 a13 h13 hc0 hc1 x0 x1 x2 x3 x4 y0 y1 y2)]
  unfold kernelRun0_B
  dsimp only
  sl_unfold_words
  rw [View.canon_unit_zero hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem gateC (hc0 : ¬cond0_0 i) (hc1 : cond0_1 i) :
    sout0_C_0 c i a2 h2 a3 h3 a4 h4 a5 h5 a6 h6 a8 h8 a9 h9 a10 h10 a11 h11 a12 h12 a13 h13 hc0 hc1 x0 x1 x2 x3 x4 y0 y1 y2
      = k0_pay9 x0 y0 x3 := by
  unfold sout0_C_0
  rw [View.read_writes_eq_canon _ _ _ (scover0_C_0 c i a2 h2 a3 h3 a4 h4 a5 h5 a6 h6 a8 h8 a9 h9 a10 h10 a11 h11 a12 h12 a13 h13 hc0 hc1 x0 x1 x2 x3 x4 y0 y1 y2)]
  unfold kernelRun0_C
  dsimp only
  sl_unfold_words
  rw [View.canon_unit_zero (S := S704x1024) hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem upC (hc0 : ¬cond0_0 i) (hc1 : cond0_1 i) :
    sout0_C_1 c i a2 h2 a3 h3 a4 h4 a5 h5 a6 h6 a8 h8 a9 h9 a10 h10 a11 h11 a12 h12 a13 h13 hc0 hc1 x0 x1 x2 x3 x4 y0 y1 y2
      = k0_pay10 x0 y1 x4 := by
  unfold sout0_C_1
  rw [View.read_writes_eq_canon _ _ _ (scover0_C_1 c i a2 h2 a3 h3 a4 h4 a5 h5 a6 h6 a8 h8 a9 h9 a10 h10 a11 h11 a12 h12 a13 h13 hc0 hc1 x0 x1 x2 x3 x4 y0 y1 y2)]
  unfold kernelRun0_C
  dsimp only
  sl_unfold_words
  rw [View.canon_unit_zero (S := S704x1024) hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem downC (hc0 : ¬cond0_0 i) (hc1 : cond0_1 i) :
    sout0_C_2 c i a2 h2 a3 h3 a4 h4 a5 h5 a6 h6 a8 h8 a9 h9 a10 h10 a11 h11 a12 h12 a13 h13 hc0 hc1 x0 x1 x2 x3 x4 y0 y1 y2
      = k0_pay1 y2 (k0_pay11 x1 x2) := by
  unfold sout0_C_2
  rw [View.read_writes_eq_canon _ _ _ (scover0_C_2 c i a2 h2 a3 h3 a4 h4 a5 h5 a6 h6 a8 h8 a9 h9 a10 h10 a11 h11 a12 h12 a13 h13 hc0 hc1 x0 x1 x2 x3 x4 y0 y1 y2)]
  unfold kernelRun0_C
  dsimp only
  sl_unfold_words
  rw [View.canon_unit_zero (S := S704x1024) hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

/-! ## What the last point of a block of results leaves in the results -/

theorem gateOut (hc0 : ¬cond0_0 i) (hc1 : cond0_1 i) :
    out0_C_5 c i a2 h2 a3 h3 a4 h4 a5 h5 a6 h6 a8 h8 a9 h9 a10 h10 a11 h11 a12 h12 a13 h13 hc0 hc1 x0 x1 x2 x3 x4 y0 y1 y2
      = k0_pay2 (k0_pay9 x0 y0 x3) := by
  unfold out0_C_5
  rw [View.read_writes_eq_canon _ _ _ (cover0_C_5 c i a2 h2 a3 h3 a4 h4 a5 h5 a6 h6 a8 h8 a9 h9 a10 h10 a11 h11 a12 h12 a13 h13 hc0 hc1 x0 x1 x2 x3 x4 y0 y1 y2)]
  unfold kernelRun0_C
  dsimp only
  sl_unfold_words
  rw [View.canon_unit_zero (S := S1x704x1024) hz3, View.readCov_unit_zero (S := S704x1024) _ hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem upOut (hc0 : ¬cond0_0 i) (hc1 : cond0_1 i) :
    out0_C_6 c i a2 h2 a3 h3 a4 h4 a5 h5 a6 h6 a8 h8 a9 h9 a10 h10 a11 h11 a12 h12 a13 h13 hc0 hc1 x0 x1 x2 x3 x4 y0 y1 y2
      = k0_pay3 (k0_pay10 x0 y1 x4) := by
  unfold out0_C_6
  rw [View.read_writes_eq_canon _ _ _ (cover0_C_6 c i a2 h2 a3 h3 a4 h4 a5 h5 a6 h6 a8 h8 a9 h9 a10 h10 a11 h11 a12 h12 a13 h13 hc0 hc1 x0 x1 x2 x3 x4 y0 y1 y2)]
  unfold kernelRun0_C
  dsimp only
  sl_unfold_words
  rw [View.canon_unit_zero (S := S1x704x1024) hz3, View.readCov_unit_zero (S := S704x1024) _ hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

theorem downOut (hc0 : ¬cond0_0 i) (hc1 : cond0_1 i) :
    out0_C_7 c i a2 h2 a3 h3 a4 h4 a5 h5 a6 h6 a8 h8 a9 h9 a10 h10 a11 h11 a12 h12 a13 h13 hc0 hc1 x0 x1 x2 x3 x4 y0 y1 y2
      = k0_pay4 (k0_pay1 y2 (k0_pay11 x1 x2)) := by
  unfold out0_C_7
  rw [View.read_writes_eq_canon _ _ _ (cover0_C_7 c i a2 h2 a3 h3 a4 h4 a5 h5 a6 h6 a8 h8 a9 h9 a10 h10 a11 h11 a12 h12 a13 h13 hc0 hc1 x0 x1 x2 x3 x4 y0 y1 y2)]
  unfold kernelRun0_C
  dsimp only
  sl_unfold_words
  rw [View.canon_unit_zero (S := S1x704x1024) hz3, View.readCov_unit_zero (S := S704x1024) _ hz2]
  simp only [View.readAt_eq_ld, h2.read_unread, h3.read_unread, h4.read_unread, h5.read_unread, h6.read_unread, h11.read_unread, h12.read_unread,
    h13.read_unread, View.ld_unit_zero (S := S2048x1024) hz2, View.ld_unit_zero (S := S704x1024) hz2, View.ld_unit_zero (S := S1x2048x704) hz3]

/-! ## The stored vectors at an index -/

theorem pay9_at (h : Vec Ideal S2048x1024 .bf16) (y : Vec Ideal S704x1024 .f32) (g : Vec Ideal S1x2048x704 .bf16) (f : Fin 704) (d : Fin 1024) :
    k0_pay9 h y g (ix2 f d) = y (ix2 f d) + ∑ r : Fin 2048, g (ix3 0 r f) * h (ix2 r d) := by
  pointwise [k0_pay9, k0_pay8]

theorem pay10_at (h : Vec Ideal S2048x1024 .bf16) (y : Vec Ideal S704x1024 .f32) (g : Vec Ideal S1x2048x704 .bf16) (f : Fin 704) (d : Fin 1024) :
    k0_pay10 h y g (ix2 f d) = y (ix2 f d) + ∑ r : Fin 2048, g (ix3 0 r f) * h (ix2 r d) := by
  pointwise [k0_pay10, k0_pay8]

theorem pay1_at (h : Vec Ideal S2048x1024 .bf16) (y : Vec Ideal S704x1024 .f32) (g : Vec Ideal S1x2048x704 .bf16) (f : Fin 704) (d : Fin 1024) :
    k0_pay1 y (k0_pay11 g h) (ix2 f d) = y (ix2 f d) + ∑ r : Fin 2048, g (ix3 0 r f) * h (ix2 r d) := by
  pointwise [k0_pay1, k0_pay11]

theorem pay5_at (f : Fin 704) (d : Fin 1024) : k0_pay5 (F := Ideal) (ix2 f d) = 0 := by
  pointwise [k0_pay5]

theorem pay6_at (f : Fin 704) (d : Fin 1024) : k0_pay6 (F := Ideal) (ix2 f d) = 0 := by
  pointwise [k0_pay6]

theorem pay7_at (f : Fin 704) (d : Fin 1024) : k0_pay7 (F := Ideal) (ix2 f d) = 0 := by
  pointwise [k0_pay7]

theorem pay2_at (y : Vec Ideal S704x1024 .f32) (f : Fin 704) (d : Fin 1024) : k0_pay2 y (ix3 0 f d) = y (ix2 f d) := by
  pointwise [k0_pay2]

theorem pay3_at (y : Vec Ideal S704x1024 .f32) (f : Fin 704) (d : Fin 1024) : k0_pay3 y (ix3 0 f d) = y (ix2 f d) := by
  pointwise [k0_pay3]

theorem pay4_at (y : Vec Ideal S704x1024 .f32) (f : Fin 704) (d : Fin 1024) : k0_pay4 y (ix3 0 f d) = y (ix2 f d) := by
  pointwise [k0_pay4]

end Cert.Kernel2Ideal.Wgrad
end
-- ==== Proof.WgradArray.lean ====
/-
  The gradients of a feed-forward block's weights: the sums over the blocks of tokens, and the arrays of results.
-/
module

public import proofs.«01_k».proof.Proof.WgradPoint
public import Idealize.ShloMosaic.Lib.Pipeline.ValueKit
public import Idealize.ShloMosaic.Lib.Pointwise

@[expose] public section

set_option maxRecDepth 16384

noncomputable section

namespace Cert.Kernel2Ideal.Wgrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI

open Idealize.ShloMosaic.Pipeline (Dat)

/-! ## Where the blocks lie -/

theorem place0 : ∀ t : Fin cfg0.N, win0_0.index t 0 = t.val % 4 ∧ win0_0.index t 1 = 0 := by
  decide +kernel

theorem place2 : ∀ t : Fin cfg0.N, win0_2.index t 0 = t.val % 4 ∧ win0_2.index t 1 = 0 := by
  decide +kernel

theorem place1 : ∀ t : Fin cfg0.N, win0_1.index t 0 = t.val / 4 ∧ win0_1.index t 1 = t.val % 4 ∧ win0_1.index t 2 = 0 := by
  decide +kernel

theorem place3 : ∀ t : Fin cfg0.N, win0_3.index t 0 = t.val / 4 ∧ win0_3.index t 1 = t.val % 4 ∧ win0_3.index t 2 = 0 := by
  decide +kernel

theorem place4 : ∀ t : Fin cfg0.N, win0_4.index t 0 = t.val / 4 ∧ win0_4.index t 1 = t.val % 4 ∧ win0_4.index t 2 = 0 := by
  decide +kernel

theorem place5 : ∀ t : Fin cfg0.N, win0_5.index t 0 = t.val / 4 ∧ win0_5.index t 1 = 0 ∧ win0_5.index t 2 = 0 := by
  decide +kernel

theorem place6 : ∀ t : Fin cfg0.N, win0_6.index t 0 = t.val / 4 ∧ win0_6.index t 1 = 0 ∧ win0_6.index t 2 = 0 := by
  decide +kernel

theorem place7 : ∀ t : Fin cfg0.N, win0_7.index t 0 = t.val / 4 ∧ win0_7.index t 1 = 0 ∧ win0_7.index t 2 = 0 := by
  decide +kernel

theorem read0 (A : S8192x1024.Idx → Elt Ideal .bf16) (t : Fin cfg0.N) (r : Fin 2048) (d : Fin 1024) (i : S8192x1024.Idx)
    (h0 : (i 0).val = 2048 * (t.val % 4) + r.val) (h1 : (i 1).val = d.val) :
    ((cfg0.win 0).blk t).view.read (Elt Ideal) A (ix2 r d : S2048x1024.Idx) = A i := by
  obtain ⟨e0, e1⟩ := place0 t
  blk_ext [e0, e1, h0, h1]

theorem read2 (A : S8192x1024.Idx → Elt Ideal .bf16) (t : Fin cfg0.N) (r : Fin 2048) (d : Fin 1024) (i : S8192x1024.Idx)
    (h0 : (i 0).val = 2048 * (t.val % 4) + r.val) (h1 : (i 1).val = d.val) :
    ((cfg0.win 2).blk t).view.read (Elt Ideal) A (ix2 r d : S2048x1024.Idx) = A i := by
  obtain ⟨e0, e1⟩ := place2 t
  blk_ext [e0, e1, h0, h1]

theorem read1 (A : S4x8192x704.Idx → Elt Ideal .bf16) (t : Fin cfg0.N) (r : Fin 2048) (f : Fin 704) (i : S4x8192x704.Idx)
    (h0 : (i 0).val = t.val / 4) (h1 : (i 1).val = 2048 * (t.val % 4) + r.val) (h2 : (i 2).val = f.val) :
    ((cfg0.win 1).blk t).view.read (Elt Ideal) A (ix3 0 r f : S1x2048x704.Idx) = A i := by
  obtain ⟨e0, e1, e2⟩ := place1 t
  blk_ext [e0, e1, e2, h0, h1, h2]

theorem read3 (A : S4x8192x704.Idx → Elt Ideal .bf16) (t : Fin cfg0.N) (r : Fin 2048) (f : Fin 704) (i : S4x8192x704.Idx)
    (h0 : (i 0).val = t.val / 4) (h1 : (i 1).val = 2048 * (t.val % 4) + r.val) (h2 : (i 2).val = f.val) :
    ((cfg0.win 3).blk t).view.read (Elt Ideal) A (ix3 0 r f : S1x2048x704.Idx) = A i := by
  obtain ⟨e0, e1, e2⟩ := place3 t
  blk_ext [e0, e1, e2, h0, h1, h2]

theorem read4 (A : S4x8192x704.Idx → Elt Ideal .bf16) (t : Fin cfg0.N) (r : Fin 2048) (f : Fin 704) (i : S4x8192x704.Idx)
    (h0 : (i 0).val = t.val / 4) (h1 : (i 1).val = 2048 * (t.val % 4) + r.val) (h2 : (i 2).val = f.val) :
    ((cfg0.win 4).blk t).view.read (Elt Ideal) A (ix3 0 r f : S1x2048x704.Idx) = A i := by
  obtain ⟨e0, e1, e2⟩ := place4 t
  blk_ext [e0, e1, e2, h0, h1, h2]

theorem read5 (A : S4x704x1024.Idx → Elt Ideal .bf16) (t : Fin cfg0.N) (f : Fin 704) (d : Fin 1024) (i : S4x704x1024.Idx)
    (h0 : (i 0).val = t.val / 4) (h1 : (i 1).val = f.val) (h2 : (i 2).val = d.val) :
    ((cfg0.win 5).blk t).view.read (Elt Ideal) A (ix3 0 f d : S1x704x1024.Idx) = A i := by
  obtain ⟨e0, e1, e2⟩ := place5 t
  blk_ext [e0, e1, e2, h0, h1, h2]

theorem mem5 (t : Fin cfg0.N) (i : S4x704x1024.Idx) (h0 : (i 0).val = t.val / 4) : i ∈ ((cfg0.win 5).blk t).view.set := by
  show i ∈ ((View.whole main_v14_0).slice (win0_5.rect t)).set
  rw [View.set_slice_whole, Rect.mem_set_unit]
  obtain ⟨e0, e1, e2⟩ := place5 t
  have hi1 : (i 1).val < 704 := (i 1).isLt
  have hi2 : (i 2).val < 1024 := (i 2).isLt
  intro a
  match a with
  | ⟨0, _⟩ => show win0_5.index t 0 * 1 ≤ (i 0).val ∧ (i 0).val < win0_5.index t 0 * 1 + 1; omega
  | ⟨1, _⟩ => show win0_5.index t 1 * 704 ≤ (i 1).val ∧ (i 1).val < win0_5.index t 1 * 704 + 704; omega
  | ⟨2, _⟩ => show win0_5.index t 2 * 1024 ≤ (i 2).val ∧ (i 2).val < win0_5.index t 2 * 1024 + 1024; omega

theorem read6 (A : S4x704x1024.Idx → Elt Ideal .bf16) (t : Fin cfg0.N) (f : Fin 704) (d : Fin 1024) (i : S4x704x1024.Idx)
    (h0 : (i 0).val = t.val / 4) (h1 : (i 1).val = f.val) (h2 : (i 2).val = d.val) :
    ((cfg0.win 6).blk t).view.read (Elt Ideal) A (ix3 0 f d : S1x704x1024.Idx) = A i := by
  obtain ⟨e0, e1, e2⟩ := place6 t
  blk_ext [e0, e1, e2, h0, h1, h2]

theorem mem6 (t : Fin cfg0.N) (i : S4x704x1024.Idx) (h0 : (i 0).val = t.val / 4) : i ∈ ((cfg0.win 6).blk t).view.set := by
  show i ∈ ((View.whole main_v14_1).slice (win0_6.rect t)).set
  rw [View.set_slice_whole, Rect.mem_set_unit]
  obtain ⟨e0, e1, e2⟩ := place6 t
  have hi1 : (i 1).val < 704 := (i 1).isLt
  have hi2 : (i 2).val < 1024 := (i 2).isLt
  intro a
  match a with
  | ⟨0, _⟩ => show win0_6.index t 0 * 1 ≤ (i 0).val ∧ (i 0).val < win0_6.index t 0 * 1 + 1; omega
  | ⟨1, _⟩ => show win0_6.index t 1 * 704 ≤ (i 1).val ∧ (i 1).val < win0_6.index t 1 * 704 + 704; omega
  | ⟨2, _⟩ => show win0_6.index t 2 * 1024 ≤ (i 2).val ∧ (i 2).val < win0_6.index t 2 * 1024 + 1024; omega

theorem read7 (A : S4x704x1024.Idx → Elt Ideal .bf16) (t : Fin cfg0.N) (f : Fin 704) (d : Fin 1024) (i : S4x704x1024.Idx)
    (h0 : (i 0).val = t.val / 4) (h1 : (i 1).val = f.val) (h2 : (i 2).val = d.val) :
    ((cfg0.win 7).blk t).view.read (Elt Ideal) A (ix3 0 f d : S1x704x1024.Idx) = A i := by
  obtain ⟨e0, e1, e2⟩ := place7 t
  blk_ext [e0, e1, e2, h0, h1, h2]

theorem mem7 (t : Fin cfg0.N) (i : S4x704x1024.Idx) (h0 : (i 0).val = t.val / 4) : i ∈ ((cfg0.win 7).blk t).view.set := by
  show i ∈ ((View.whole main_v14_2).slice (win0_7.rect t)).set
  rw [View.set_slice_whole, Rect.mem_set_unit]
  obtain ⟨e0, e1, e2⟩ := place7 t
  have hi1 : (i 1).val < 704 := (i 1).isLt
  have hi2 : (i 2).val < 1024 := (i 2).isLt
  intro a
  match a with
  | ⟨0, _⟩ => show win0_7.index t 0 * 1 ≤ (i 0).val ∧ (i 0).val < win0_7.index t 0 * 1 + 1; omega
  | ⟨1, _⟩ => show win0_7.index t 1 * 704 ≤ (i 1).val ∧ (i 1).val < win0_7.index t 1 * 704 + 704; omega
  | ⟨2, _⟩ => show win0_7.index t 2 * 1024 ≤ (i 2).val ∧ (i 2).val < win0_7.index t 2 * 1024 + 1024; omega

/-! ## The sums over the tokens -/

/-- One token's product in a gradient: of the entry of a shard of columns and of the token's row. -/
def prodAt (G : S4x8192x704.Idx → EReal) (H : S8192x1024.Idx → EReal) (j : ℕ) (f : Fin 704) (d : Fin 1024) (T : ℕ) : EReal :=
  G (ix3 ⟨j % 4, Nat.mod_lt _ (by omega)⟩ ⟨T % 8192, Nat.mod_lt _ (by omega)⟩ f) * H (ix2 ⟨T % 8192, Nat.mod_lt _ (by omega)⟩ d)

/-- The sum of the first `n` tokens' products. -/
def sumTo (G : S4x8192x704.Idx → EReal) (H : S8192x1024.Idx → EReal) (j : ℕ) (f : Fin 704) (d : Fin 1024) (n : ℕ) : EReal :=
  ∑ T ∈ Finset.range n, prodAt G H j f d T

theorem sumTo_block (G : S4x8192x704.Idx → EReal) (H : S8192x1024.Idx → EReal) (j : ℕ) (f : Fin 704) (d : Fin 1024) (b : ℕ)
    (g : Fin 2048 → EReal) (hg : ∀ r : Fin 2048, g r = prodAt G H j f d (2048 * b + r.val)) :
    sumTo G H j f d (2048 * b) + ∑ r : Fin 2048, g r = sumTo G H j f d (2048 * (b + 1)) := by
  have e : 2048 * (b + 1) = 2048 * b + 2048 := by ring
  rw [sumTo, sumTo, e, Finset.sum_range_add, ← Fin.sum_univ_eq_sum_range (fun T => prodAt G H j f d (2048 * b + T))]
  exact congrArg _ (Finset.sum_congr rfl fun r _ => hg r)

variable (m : (ℓ : Loc nD τ sig) → Buf (Elt Ideal) ℓ) (c : Dev nD)

/-- The token's product at point `t`, from the two blocks that the point reads. -/
theorem gate_prod (t : Fin cfg0.N) (f : Fin 704) (d : Fin 1024) (r : Fin 2048) :
    @HMul.hMul EReal EReal EReal _ (iblk m c 3 t (ix3 0 r f : S1x2048x704.Idx)) (iblk m c 0 t (ix2 r d : S2048x1024.Idx))
      = prodAt (V m c main_v10) (V m c main_v2) (t.val / 4) f d (2048 * (t.val % 4) + r.val) := by
  have hN : t.val < 16 := Nat.lt_of_lt_of_eq t.isLt N_0
  have hr := r.isLt
  have e1 := read3 (V m c main_v10) t r f (ix3 ⟨t.val / 4 % 4, Nat.mod_lt _ (by omega)⟩ ⟨(2048 * (t.val % 4) + r.val) % 8192, Nat.mod_lt _ (by omega)⟩ f)
    (by show t.val / 4 % 4 = _; omega) (by show (2048 * (t.val % 4) + r.val) % 8192 = _; omega) rfl
  have e2 := read0 (V m c main_v2) t r d (ix2 ⟨(2048 * (t.val % 4) + r.val) % 8192, Nat.mod_lt _ (by omega)⟩ d)
    (by show (2048 * (t.val % 4) + r.val) % 8192 = _; omega) rfl
  exact congrArg₂ (fun a b : EReal => a * b) e1 e2

/-- The token's product at point `t`, from the two blocks that the point reads. -/
theorem up_prod (t : Fin cfg0.N) (f : Fin 704) (d : Fin 1024) (r : Fin 2048) :
    @HMul.hMul EReal EReal EReal _ (iblk m c 4 t (ix3 0 r f : S1x2048x704.Idx)) (iblk m c 0 t (ix2 r d : S2048x1024.Idx))
      = prodAt (V m c main_v13) (V m c main_v2) (t.val / 4) f d (2048 * (t.val % 4) + r.val) := by
  have hN : t.val < 16 := Nat.lt_of_lt_of_eq t.isLt N_0
  have hr := r.isLt
  have e1 := read4 (V m c main_v13) t r f (ix3 ⟨t.val / 4 % 4, Nat.mod_lt _ (by omega)⟩ ⟨(2048 * (t.val % 4) + r.val) % 8192, Nat.mod_lt _ (by omega)⟩ f)
    (by show t.val / 4 % 4 = _; omega) (by show (2048 * (t.val % 4) + r.val) % 8192 = _; omega) rfl
  have e2 := read0 (V m c main_v2) t r d (ix2 ⟨(2048 * (t.val % 4) + r.val) % 8192, Nat.mod_lt _ (by omega)⟩ d)
    (by show (2048 * (t.val % 4) + r.val) % 8192 = _; omega) rfl
  exact congrArg₂ (fun a b : EReal => a * b) e1 e2

/-- The token's product at point `t`, from the two blocks that the point reads. -/
theorem down_prod (t : Fin cfg0.N) (f : Fin 704) (d : Fin 1024) (r : Fin 2048) :
    @HMul.hMul EReal EReal EReal _ (iblk m c 1 t (ix3 0 r f : S1x2048x704.Idx)) (iblk m c 2 t (ix2 r d : S2048x1024.Idx))
      = prodAt (V m c main_v5) (V m c main_v7) (t.val / 4) f d (2048 * (t.val % 4) + r.val) := by
  have hN : t.val < 16 := Nat.lt_of_lt_of_eq t.isLt N_0
  have hr := r.isLt
  have e1 := read1 (V m c main_v5) t r f (ix3 ⟨t.val / 4 % 4, Nat.mod_lt _ (by omega)⟩ ⟨(2048 * (t.val % 4) + r.val) % 8192, Nat.mod_lt _ (by omega)⟩ f)
    (by show t.val / 4 % 4 = _; omega) (by show (2048 * (t.val % 4) + r.val) % 8192 = _; omega) rfl
  have e2 := read2 (V m c main_v7) t r d (ix2 ⟨(2048 * (t.val % 4) + r.val) % 8192, Nat.mod_lt _ (by omega)⟩ d)
    (by show (2048 * (t.val % 4) + r.val) % 8192 = _; omega) rfl
  exact congrArg₂ (fun a b : EReal => a * b) e1 e2

/-- The sum that point `t` leaves. -/
theorem gate_acc (n : ℕ) : ∀ t : Fin cfg0.N, t.val = n → ∀ (f : Fin 704) (d : Fin 1024), (outsAt0 m c t.val t.isLt).2.2.2.1 (ix2 f d)
    = sumTo (V m c main_v10) (V m c main_v2) (t.val / 4) f d (2048 * (t.val % 4 + 1)) := by
  induction n with
  | zero =>
    intro t ht f d
    have h0 : t.val % 4 = 0 := by omega
    rw [outsAt0_A m c t h0 (by omega)]
    dsimp only
    rw [gateA, pay9_at, pay5_at]
    refine Eq.trans ?_ (sumTo_block _ _ _ _ _ (t.val % 4) _ (gate_prod m c t f d))
    rw [h0]
    rfl
  | succ n ih =>
    intro t ht f d
    by_cases h0 : t.val % 4 = 0
    · rw [outsAt0_A m c t h0 (by omega)]
      dsimp only
      rw [gateA, pay9_at, pay5_at]
      refine Eq.trans ?_ (sumTo_block _ _ _ _ _ (t.val % 4) _ (gate_prod m c t f d))
      rw [h0]
      rfl
    · have hI := ih ⟨t.val - 1, Nat.lt_of_le_of_lt (Nat.sub_le _ _) t.isLt⟩ (by show t.val - 1 = n; omega) f d
      have e1 : (t.val - 1) / 4 = t.val / 4 := by omega
      have e2 : (t.val - 1) % 4 + 1 = t.val % 4 := by omega
      dsimp only at hI
      rw [e1, e2] at hI
      by_cases h1 : t.val % 4 = 3
      · rw [outsAt0_C m c t h0 h1]
        dsimp only
        rw [gateC, pay9_at]
        exact (congrArg (fun z : EReal => z + _) hI).trans (sumTo_block _ _ _ _ _ (t.val % 4) _ (gate_prod m c t f d))
      · rw [outsAt0_B m c t h0 h1]
        dsimp only
        rw [gateB, pay9_at]
        exact (congrArg (fun z : EReal => z + _) hI).trans (sumTo_block _ _ _ _ _ (t.val % 4) _ (gate_prod m c t f d))

/-- The last block of tokens writes the whole sum back. -/
theorem gate_out (t : Fin cfg0.N) (h1 : t.val % 4 = 3) (f : Fin 704) (d : Fin 1024) :
    (outsAt0 m c t.val t.isLt).1 (ix3 0 f d) = sumTo (V m c main_v10) (V m c main_v2) (t.val / 4) f d 8192 := by
  have hI := gate_acc m c _ t rfl f d
  rw [outsAt0_C m c t (by omega) h1] at hI ⊢
  dsimp only at hI ⊢
  rw [gateOut, pay2_at]
  rw [gateC, h1] at hI
  exact hI

/-- The array of results. -/
theorem gate_final : (dats m 0 c).arrAt 5 cfg0.N
    = fun i : S4x704x1024.Idx => sumTo (V m c main_v10) (V m c main_v2) (i 0).val (i 1) (i 2) 8192 := by
  refine (dats m 0 c).arrAt_eq_of_cover 5 (fun i : S4x704x1024.Idx => sumTo (V m c main_v10) (V m c main_v2) (i 0).val (i 1) (i 2) 8192)
    (fun t h => ?_) fun (i : S4x704x1024.Idx) => ?_
  · have h1 := (flush0_5 t).mp h
    show (cfg0.win 5).cut (grid0.coords t) ((dats m 0 c).after 5 t) = _
    rw [after0_5]
    refine funext fun (y : S1x704x1024.Idx) => ?_
    obtain ⟨a, f, d, rfl⟩ : ∃ (a : Fin 1) (f : Fin 704) (d : Fin 1024), y = ix3 a f d := ⟨y 0, y 1, y 2, by funext i; fin_cases i <;> rfl⟩
    obtain rfl : a = 0 := Subsingleton.elim _ _
    have hN : t.val < 16 := Nat.lt_of_lt_of_eq t.isLt N_0
    refine Eq.trans ?_ (read5 _ t f d (ix3 ⟨t.val / 4, by omega⟩ f d) rfl rfl rfl).symm
    exact gate_out m c t h1 f d
  · have h0 : (i 0).val < 4 := (i 0).isLt
    have hN : cfg0.N = 16 := N_0
    have ht : 4 * (i 0).val + 3 < cfg0.N := by omega
    exact ⟨⟨_, ht⟩, (flush0_5 _).mpr (by show (4 * (i 0).val + 3) % 4 = 3; omega),
      mem5 _ _ (by show (i 0).val = (4 * (i 0).val + 3) / 4; omega)⟩

/-- The sum that point `t` leaves. -/
theorem up_acc (n : ℕ) : ∀ t : Fin cfg0.N, t.val = n → ∀ (f : Fin 704) (d : Fin 1024), (outsAt0 m c t.val t.isLt).2.2.2.2.1 (ix2 f d)
    = sumTo (V m c main_v13) (V m c main_v2) (t.val / 4) f d (2048 * (t.val % 4 + 1)) := by
  induction n with
  | zero =>
    intro t ht f d
    have h0 : t.val % 4 = 0 := by omega
    rw [outsAt0_A m c t h0 (by omega)]
    dsimp only
    rw [upA, pay10_at, pay6_at]
    refine Eq.trans ?_ (sumTo_block _ _ _ _ _ (t.val % 4) _ (up_prod m c t f d))
    rw [h0]
    rfl
  | succ n ih =>
    intro t ht f d
    by_cases h0 : t.val % 4 = 0
    · rw [outsAt0_A m c t h0 (by omega)]
      dsimp only
      rw [upA, pay10_at, pay6_at]
      refine Eq.trans ?_ (sumTo_block _ _ _ _ _ (t.val % 4) _ (up_prod m c t f d))
      rw [h0]
      rfl
    · have hI := ih ⟨t.val - 1, Nat.lt_of_le_of_lt (Nat.sub_le _ _) t.isLt⟩ (by show t.val - 1 = n; omega) f d
      have e1 : (t.val - 1) / 4 = t.val / 4 := by omega
      have e2 : (t.val - 1) % 4 + 1 = t.val % 4 := by omega
      dsimp only at hI
      rw [e1, e2] at hI
      by_cases h1 : t.val % 4 = 3
      · rw [outsAt0_C m c t h0 h1]
        dsimp only
        rw [upC, pay10_at]
        exact (congrArg (fun z : EReal => z + _) hI).trans (sumTo_block _ _ _ _ _ (t.val % 4) _ (up_prod m c t f d))
      · rw [outsAt0_B m c t h0 h1]
        dsimp only
        rw [upB, pay10_at]
        exact (congrArg (fun z : EReal => z + _) hI).trans (sumTo_block _ _ _ _ _ (t.val % 4) _ (up_prod m c t f d))

/-- The last block of tokens writes the whole sum back. -/
theorem up_out (t : Fin cfg0.N) (h1 : t.val % 4 = 3) (f : Fin 704) (d : Fin 1024) :
    (outsAt0 m c t.val t.isLt).2.1 (ix3 0 f d) = sumTo (V m c main_v13) (V m c main_v2) (t.val / 4) f d 8192 := by
  have hI := up_acc m c _ t rfl f d
  rw [outsAt0_C m c t (by omega) h1] at hI ⊢
  dsimp only at hI ⊢
  rw [upOut, pay3_at]
  rw [upC, h1] at hI
  exact hI

/-- The array of results. -/
theorem up_final : (dats m 0 c).arrAt 6 cfg0.N
    = fun i : S4x704x1024.Idx => sumTo (V m c main_v13) (V m c main_v2) (i 0).val (i 1) (i 2) 8192 := by
  refine (dats m 0 c).arrAt_eq_of_cover 6 (fun i : S4x704x1024.Idx => sumTo (V m c main_v13) (V m c main_v2) (i 0).val (i 1) (i 2) 8192)
    (fun t h => ?_) fun (i : S4x704x1024.Idx) => ?_
  · have h1 := (flush0_6 t).mp h
    show (cfg0.win 6).cut (grid0.coords t) ((dats m 0 c).after 6 t) = _
    rw [after0_6]
    refine funext fun (y : S1x704x1024.Idx) => ?_
    obtain ⟨a, f, d, rfl⟩ : ∃ (a : Fin 1) (f : Fin 704) (d : Fin 1024), y = ix3 a f d := ⟨y 0, y 1, y 2, by funext i; fin_cases i <;> rfl⟩
    obtain rfl : a = 0 := Subsingleton.elim _ _
    have hN : t.val < 16 := Nat.lt_of_lt_of_eq t.isLt N_0
    refine Eq.trans ?_ (read6 _ t f d (ix3 ⟨t.val / 4, by omega⟩ f d) rfl rfl rfl).symm
    exact up_out m c t h1 f d
  · have h0 : (i 0).val < 4 := (i 0).isLt
    have hN : cfg0.N = 16 := N_0
    have ht : 4 * (i 0).val + 3 < cfg0.N := by omega
    exact ⟨⟨_, ht⟩, (flush0_6 _).mpr (by show (4 * (i 0).val + 3) % 4 = 3; omega),
      mem6 _ _ (by show (i 0).val = (4 * (i 0).val + 3) / 4; omega)⟩

/-- The sum that point `t` leaves. -/
theorem down_acc (n : ℕ) : ∀ t : Fin cfg0.N, t.val = n → ∀ (f : Fin 704) (d : Fin 1024), (outsAt0 m c t.val t.isLt).2.2.2.2.2 (ix2 f d)
    = sumTo (V m c main_v5) (V m c main_v7) (t.val / 4) f d (2048 * (t.val % 4 + 1)) := by
  induction n with
  | zero =>
    intro t ht f d
    have h0 : t.val % 4 = 0 := by omega
    rw [outsAt0_A m c t h0 (by omega)]
    dsimp only
    rw [downA, pay1_at, pay7_at]
    refine Eq.trans ?_ (sumTo_block _ _ _ _ _ (t.val % 4) _ (down_prod m c t f d))
    rw [h0]
    rfl
  | succ n ih =>
    intro t ht f d
    by_cases h0 : t.val % 4 = 0
    · rw [outsAt0_A m c t h0 (by omega)]
      dsimp only
      rw [downA, pay1_at, pay7_at]
      refine Eq.trans ?_ (sumTo_block _ _ _ _ _ (t.val % 4) _ (down_prod m c t f d))
      rw [h0]
      rfl
    · have hI := ih ⟨t.val - 1, Nat.lt_of_le_of_lt (Nat.sub_le _ _) t.isLt⟩ (by show t.val - 1 = n; omega) f d
      have e1 : (t.val - 1) / 4 = t.val / 4 := by omega
      have e2 : (t.val - 1) % 4 + 1 = t.val % 4 := by omega
      dsimp only at hI
      rw [e1, e2] at hI
      by_cases h1 : t.val % 4 = 3
      · rw [outsAt0_C m c t h0 h1]
        dsimp only
        rw [downC, pay1_at]
        exact (congrArg (fun z : EReal => z + _) hI).trans (sumTo_block _ _ _ _ _ (t.val % 4) _ (down_prod m c t f d))
      · rw [outsAt0_B m c t h0 h1]
        dsimp only
        rw [downB, pay1_at]
        exact (congrArg (fun z : EReal => z + _) hI).trans (sumTo_block _ _ _ _ _ (t.val % 4) _ (down_prod m c t f d))

/-- The last block of tokens writes the whole sum back. -/
theorem down_out (t : Fin cfg0.N) (h1 : t.val % 4 = 3) (f : Fin 704) (d : Fin 1024) :
    (outsAt0 m c t.val t.isLt).2.2.1 (ix3 0 f d) = sumTo (V m c main_v5) (V m c main_v7) (t.val / 4) f d 8192 := by
  have hI := down_acc m c _ t rfl f d
  rw [outsAt0_C m c t (by omega) h1] at hI ⊢
  dsimp only at hI ⊢
  rw [downOut, pay4_at]
  rw [downC, h1] at hI
  exact hI

/-- The array of results. -/
theorem down_final : (dats m 0 c).arrAt 7 cfg0.N
    = fun i : S4x704x1024.Idx => sumTo (V m c main_v5) (V m c main_v7) (i 0).val (i 1) (i 2) 8192 := by
  refine (dats m 0 c).arrAt_eq_of_cover 7 (fun i : S4x704x1024.Idx => sumTo (V m c main_v5) (V m c main_v7) (i 0).val (i 1) (i 2) 8192)
    (fun t h => ?_) fun (i : S4x704x1024.Idx) => ?_
  · have h1 := (flush0_7 t).mp h
    show (cfg0.win 7).cut (grid0.coords t) ((dats m 0 c).after 7 t) = _
    rw [after0_7]
    refine funext fun (y : S1x704x1024.Idx) => ?_
    obtain ⟨a, f, d, rfl⟩ : ∃ (a : Fin 1) (f : Fin 704) (d : Fin 1024), y = ix3 a f d := ⟨y 0, y 1, y 2, by funext i; fin_cases i <;> rfl⟩
    obtain rfl : a = 0 := Subsingleton.elim _ _
    have hN : t.val < 16 := Nat.lt_of_lt_of_eq t.isLt N_0
    refine Eq.trans ?_ (read7 _ t f d (ix3 ⟨t.val / 4, by omega⟩ f d) rfl rfl rfl).symm
    exact down_out m c t h1 f d
  · have h0 : (i 0).val < 4 := (i 0).isLt
    have hN : cfg0.N = 16 := N_0
    have ht : 4 * (i 0).val + 3 < cfg0.N := by omega
    exact ⟨⟨_, ht⟩, (flush0_7 _).mpr (by show (4 * (i 0).val + 3) % 4 = 3; omega),
      mem7 _ _ (by show (i 0).val = (4 * (i 0).val + 3) / 4; omega)⟩

end Cert.Kernel2Ideal.Wgrad
end
-- ==== Proof.WgradEntry.lean ====
/-
  The gradients of a feed-forward block's weights: the arrays the kernel starts from, and its results over its arguments.
-/
module

public import proofs.«01_k».proof.Proof.WgradArray
public import Idealize.ShloMosaic.Lib.StableHlo.RunRead

@[expose] public section

set_option maxRecDepth 16384

noncomputable section

namespace Cert.Kernel2Ideal.Wgrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI

/-- The rows of the tokens, in the kernel's format. -/
def rowsOf (x : FVec Ideal S2x4096x1024 .f32) : FVec Ideal S8192x1024 .bf16 :=
  truncf .bf16 (shapeCast S8192x1024 x shapeCasts_S2x4096x1024_S8192x1024) bitsLt_bf16_f32

/-- The shards of the hidden columns, in the kernel's format. -/
def shardsOf (x : FVec Ideal S2x4096x2816 .f32) : FVec Ideal S4x8192x704 .bf16 :=
  truncf .bf16 (transpose S4x8192x704 [1, 0, 2] (shapeCast S8192x4x704 x shapeCasts_S2x4096x2816_S8192x4x704)
    transposes_S8192x4x704_S4x8192x704_1_0_2) bitsLt_bf16_f32

theorem rowsOf_at (x : FVec Ideal S2x4096x1024 .f32) (T : Fin 8192) (d : Fin 1024) :
    rowsOf x (ix2 T d) = x (ix3 ⟨T.val / 4096, by have := T.isLt; omega⟩ ⟨T.val % 4096, Nat.mod_lt _ (by omega)⟩ d) := by
  pointwise [rowsOf]

theorem shardsOf_at (x : FVec Ideal S2x4096x2816 .f32) (j : Fin 4) (T : Fin 8192) (f : Fin 704) :
    shardsOf x (ix3 j T f) = x (ix3 ⟨T.val / 4096, by have := T.isLt; omega⟩ ⟨T.val % 4096, Nat.mod_lt _ (by omega)⟩
      ⟨j.val * 704 + f.val, by have := j.isLt; have := f.isLt; omega⟩) := by
  pointwise [shardsOf]

variable (m : (ℓ : Loc nD τ sig) → Buf (Elt Ideal) ℓ) (c : Dev nD)

theorem V_v2 : V m c main_v2 = rowsOf (m ((c : Thread nD τ).loc main_arg0)) := by
  unfold rowsOf
  after_reads_simp
  rfl

theorem V_v7 : V m c main_v7 = rowsOf (m ((c : Thread nD τ).loc main_arg2)) := by
  unfold rowsOf
  after_reads_simp
  rfl

theorem V_v5 : V m c main_v5 = shardsOf (m ((c : Thread nD τ).loc main_arg1)) := by
  unfold shardsOf
  after_reads_simp
  rfl

theorem V_v10 : V m c main_v10 = shardsOf (m ((c : Thread nD τ).loc main_arg3)) := by
  unfold shardsOf
  after_reads_simp
  rfl

theorem V_v13 : V m c main_v13 = shardsOf (m ((c : Thread nD τ).loc main_arg4)) := by
  unfold shardsOf
  after_reads_simp
  rfl

/-- The gradient as one sum over the batch and the rows. -/
theorem sum_tokens (x : FVec Ideal S2x4096x2816 .f32) (y : FVec Ideal S2x4096x1024 .f32) (j : Fin 4) (f : Fin 704) (d : Fin 1024) :
    sumTo (shardsOf x) (rowsOf y) j.val f d 8192
      = ∑ b : Fin 2, ∑ s : Fin 4096, x (ix3 b s ⟨j.val * 704 + f.val, by have := j.isLt; have := f.isLt; omega⟩) * y (ix3 b s d) := by
  have hj := j.isLt
  have hb : ∀ b : ℕ, ∀ hb : b < 2, ∀ s : Fin 4096, prodAt (shardsOf x) (rowsOf y) j.val f d (4096 * b + s.val)
      = x (ix3 ⟨b, hb⟩ s ⟨j.val * 704 + f.val, by have := f.isLt; omega⟩) * y (ix3 ⟨b, hb⟩ s d) := by
    intro b hb s
    have hs := s.isLt
    rw [prodAt, shardsOf_at, rowsOf_at]
    have e1 : (⟨(4096 * b + s.val) % 8192 / 4096, by omega⟩ : Fin 2) = ⟨b, hb⟩ := Fin.ext (by show (4096 * b + s.val) % 8192 / 4096 = b; omega)
    have e2 : (⟨(4096 * b + s.val) % 8192 % 4096, by omega⟩ : Fin 4096) = s := Fin.ext (by show (4096 * b + s.val) % 8192 % 4096 = s.val; omega)
    have e3 : (⟨j.val % 4 * 704 + f.val, by have := f.isLt; omega⟩ : Fin 2816) = ⟨j.val * 704 + f.val, by have := f.isLt; omega⟩ :=
      Fin.ext (by show j.val % 4 * 704 + f.val = j.val * 704 + f.val; omega)
    dsimp only
    rw [e1, e2, e3]
  rw [sumTo, show (8192 : ℕ) = 4096 + 4096 from rfl, Finset.sum_range_add, Fin.sum_univ_two,
    ← Fin.sum_univ_eq_sum_range (fun T => prodAt (shardsOf x) (rowsOf y) j.val f d T),
    ← Fin.sum_univ_eq_sum_range (fun T => prodAt (shardsOf x) (rowsOf y) j.val f d (4096 + T))]
  refine congrArg₂ (fun a b : EReal => a + b) (Finset.sum_congr rfl fun s _ => ?_) (Finset.sum_congr rfl fun s _ => ?_)
  · have := hb 0 (by omega) s
    rw [Nat.mul_zero, Nat.zero_add] at this
    exact this
  · exact hb 1 (by omega) s

end Cert.Kernel2Ideal.Wgrad
end
-- ==== Proof.WgradRef.lean ====
/-
  The gradients of a feed-forward block's weights: the reference's results at an index.
-/
module

public import proofs.«01_k».proof.Proof.Gen.Reference2Ideal
public import Idealize.ShloMosaic.Lib.Pointwise

@[expose] public section

set_option maxRecDepth 16384

noncomputable section

namespace Cert.Reference2Ideal.Wgrad

open Cert.Reference2Ideal Cert.Reference2Ideal.Gen
open Idealize.ShloMosaic Idealize.ShloMosaic.TcCoe Idealize.ShloMosaic.Tactic

/-- The gradient of a weight that multiplies the block's input. -/
def inGrad (g : FVec Ideal S2x4096x2816 .f32) (h : FVec Ideal S2x4096x1024 .f32) : FVec Ideal S4x704x1024 .bf16 :=
  truncf .bf16 (shapeCast S4x704x1024 (transpose S2816x1024 [1, 0] (transpose S1024x2816 [1, 0] (Host.dotGeneral dot_S2x4096x2816_S2x4096x1024_S2816x1024_01_01_2_2_n_n none g h) transposes_S2816x1024_S1024x2816_1_0) transposes_S1024x2816_S2816x1024_1_0) shapeCasts_S2816x1024_S4x704x1024) bitsLt_bf16_f32

/-- The gradient of the weight that multiplies the hidden columns. -/
def outGrad (h : FVec Ideal S2x4096x1024 .f32) (g : FVec Ideal S2x4096x2816 .f32) : FVec Ideal S4x704x1024 .bf16 :=
  truncf .bf16 (shapeCast S4x704x1024 (transpose S2816x1024 [1, 0] (Host.dotGeneral dot_S2x4096x1024_S2x4096x2816_S1024x2816_01_01_2_2_n_n none h g) transposes_S1024x2816_S2816x1024_1_0) shapeCasts_S2816x1024_S4x704x1024) bitsLt_bf16_f32

theorem inGrad_at (g : FVec Ideal S2x4096x2816 .f32) (h : FVec Ideal S2x4096x1024 .f32) (j : Fin 4) (f : Fin 704) (d : Fin 1024) :
    inGrad g h (ix3 j f d) = ∑ b : Fin 2, ∑ s : Fin 4096,
      g (ix3 b s ⟨j.val * 704 + f.val, by have := j.isLt; have := f.isLt; omega⟩) * h (ix3 b s d) := by
  pointwise [inGrad]

theorem outGrad_at (h : FVec Ideal S2x4096x1024 .f32) (g : FVec Ideal S2x4096x2816 .f32) (j : Fin 4) (f : Fin 704) (d : Fin 1024) :
    outGrad h g (ix3 j f d) = ∑ b : Fin 2, ∑ s : Fin 4096,
      g (ix3 b s ⟨j.val * 704 + f.val, by have := j.isLt; have := f.isLt; omega⟩) * h (ix3 b s d) := by
  pointwise [outGrad]
  exact Finset.sum_congr rfl fun b _ => Finset.sum_congr rfl fun s _ => mul_comm _ _

end Cert.Reference2Ideal.Wgrad
end
-- ==== Proof.WgradClaim.lean ====
/-
  The gradients of a feed-forward block's weights: the frames, and the equality of the kernel's results and the reference's.
-/
module

public import proofs.«01_k».proof.Defs
public import proofs.«01_k».proof.Proof.Gen.Kernel2Ideal.Value
public import proofs.«01_k».proof.Proof.Gen.Reference2Ideal.Run
public import proofs.«01_k».proof.Proof.WgradEntry
public import proofs.«01_k».proof.Proof.WgradRef
public import Idealize.ShloMosaic.Adequacy
public import Idealize.ShloMosaic.Init

@[expose] public section

set_option maxRecDepth 16384

noncomputable section

namespace Cert.Wgrad

open Idealize.ShloMosaic Idealize.SL.Sem

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

variable (m : (ℓ : Loc Cert.Kernel2Ideal.nD Cert.Kernel2Ideal.τ Cert.Kernel2Ideal.sig) → Buf (Elt Ideal) ℓ) (c : Dev Cert.Kernel2Ideal.nD)

theorem gate_same : (Cert.Kernel2Ideal.Gen.dats m 0 c).arrAt 5 Cert.Kernel2Ideal.cfg0.N = Cert.Reference2Ideal.Wgrad.inGrad (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg0)) := by
  rw [Cert.Kernel2Ideal.Wgrad.gate_final, Cert.Kernel2Ideal.Wgrad.V_v10, Cert.Kernel2Ideal.Wgrad.V_v2]
  funext i
  obtain ⟨j, f, d, rfl⟩ : ∃ (j : Fin 4) (f : Fin 704) (d : Fin 1024), i = ix3 j f d := ⟨i 0, i 1, i 2, by funext a; fin_cases a <;> rfl⟩
  exact (Cert.Kernel2Ideal.Wgrad.sum_tokens _ _ j f d).trans (Cert.Reference2Ideal.Wgrad.inGrad_at _ _ j f d).symm

theorem up_same : (Cert.Kernel2Ideal.Gen.dats m 0 c).arrAt 6 Cert.Kernel2Ideal.cfg0.N = Cert.Reference2Ideal.Wgrad.inGrad (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg0)) := by
  rw [Cert.Kernel2Ideal.Wgrad.up_final, Cert.Kernel2Ideal.Wgrad.V_v13, Cert.Kernel2Ideal.Wgrad.V_v2]
  funext i
  obtain ⟨j, f, d, rfl⟩ : ∃ (j : Fin 4) (f : Fin 704) (d : Fin 1024), i = ix3 j f d := ⟨i 0, i 1, i 2, by funext a; fin_cases a <;> rfl⟩
  exact (Cert.Kernel2Ideal.Wgrad.sum_tokens _ _ j f d).trans (Cert.Reference2Ideal.Wgrad.inGrad_at _ _ j f d).symm

theorem down_same : (Cert.Kernel2Ideal.Gen.dats m 0 c).arrAt 7 Cert.Kernel2Ideal.cfg0.N = Cert.Reference2Ideal.Wgrad.outGrad (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg1)) := by
  rw [Cert.Kernel2Ideal.Wgrad.down_final, Cert.Kernel2Ideal.Wgrad.V_v5, Cert.Kernel2Ideal.Wgrad.V_v7]
  funext i
  obtain ⟨j, f, d, rfl⟩ : ∃ (j : Fin 4) (f : Fin 704) (d : Fin 1024), i = ix3 j f d := ⟨i 0, i 1, i 2, by funext a; fin_cases a <;> rfl⟩
  exact (Cert.Kernel2Ideal.Wgrad.sum_tokens _ _ j f d).trans (Cert.Reference2Ideal.Wgrad.outGrad_at _ _ j f d).symm

/-- The kernel's three gradients are the reference's. -/
theorem algebraic : Cert.algebraic_Kernel2Ideal_Reference2Ideal := by
  intro m g m' g' _ hm
  refine ⟨fun c => Cert.Reference2Ideal.Wgrad.inGrad (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg0)),
    fun c => Cert.Reference2Ideal.Wgrad.inGrad (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg0)),
    fun c => Cert.Reference2Ideal.Wgrad.outGrad (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks (F := Ideal) m g)
    obtain ⟨k0, k1, k2, ka⟩ := h c
    exact ⟨k0.trans (gate_same m c), k1.trans (up_same m c), k2.trans (down_same m c), ka⟩
  · refine (θ_run Cert.Reference2Ideal.defs _ _).mono (fun r h c => ?_) (Cert.Reference2Ideal.Value.run (F := Ideal) m' g')
    obtain ⟨h0, h1, h2, h3, h4⟩ := hm c
    obtain ⟨r0, r1, r2, ra⟩ := h c
    exact ⟨r0.trans (by rw [h0, h3]; rfl), r1.trans (by rw [h0, h4]; rfl), r2.trans (by rw [h1, h2]; rfl), ra⟩

end Cert.Wgrad
end
-- ==== Proof.FfnMaths.lean ====
/-
  The forward pass of a feed-forward block and of the input projection: the row functions both sides compute.
-/
module

public import Idealize.ShloMosaic.Lib.Pointwise

@[expose] public section

noncomputable section

namespace Cert.Ffn

open Idealize.ShloMosaic

/-- A row divided by its root mean square, weighted, scaled and shifted, at one column. -/
def modRow (x w sc sh : Fin 1024 → EReal) (d : Fin 1024) : EReal :=
  x d * Ideal.rsqrt (Ideal.div (∑ e, x e * x e) (Ideal.ofBits FTy.f32 1149239296#32) + Ideal.ofBits FTy.f32 897988541#32) * w d * (1 + sc d) + sh d

/-- The product of a row and a column of a weight. -/
def dotRow (h w : Fin 1024 → EReal) : EReal := ∑ e, h e * w e

/-- The hidden value of a gate and an up product. -/
def act (a u : EReal) : EReal := a * Ideal.logistic a * u

/-- The column a shard's lane stands for. -/
def lane (j : Fin 4) (f : Fin 704) : Fin 2816 := ⟨j.val * 704 + f.val, by have := j.isLt; have := f.isLt; omega⟩

/-- A sum over the columns is the sum over the shards of the sums over their lanes. -/
theorem sum_lanes (g : Fin 2816 → EReal) : ∑ f, g f = ∑ j : Fin 4, ∑ f : Fin 704, g (lane j f) := by
  rw [← Fintype.sum_prod_type' (fun (j : Fin 4) (f : Fin 704) => g (lane j f))]
  symm
  refine Fintype.sum_equiv (finProdFinEquiv (m := 4) (n := 704)) _ _ fun p => ?_
  congr 1
  apply Fin.ext
  show p.1.val * 704 + p.2.val = p.2.val + 704 * p.1.val
  omega

/-- The batch a row of the tokens lies in. -/
def bat (T : Fin 8192) : Fin 2 := ⟨T.val / 4096, by have := T.isLt; omega⟩

/-- The place of a row of the tokens in its batch. -/
def tok (T : Fin 8192) : Fin 4096 := ⟨T.val % 4096, Nat.mod_lt _ (by omega)⟩

/-- The arguments of the block. -/
structure Inp where
  x : Fin 2 → Fin 4096 → Fin 1024 → EReal
  n : Fin 1024 → EReal
  sh : Fin 2 → Fin 1024 → EReal
  sc : Fin 2 → Fin 1024 → EReal
  g : Fin 2 → Fin 1024 → EReal
  wg : Fin 1024 → Fin 2816 → EReal
  wu : Fin 1024 → Fin 2816 → EReal
  wd : Fin 2816 → Fin 1024 → EReal

variable (I : Inp)

/-- The modulated row. -/
def Inp.hid (b : Fin 2) (s : Fin 4096) : Fin 1024 → EReal := modRow (I.x b s) I.n (I.sc b) (I.sh b)

/-- The gate product. -/
def Inp.a (b : Fin 2) (s : Fin 4096) (k : Fin 2816) : EReal := dotRow (I.hid b s) fun e => I.wg e k

/-- The up product. -/
def Inp.u (b : Fin 2) (s : Fin 4096) (k : Fin 2816) : EReal := dotRow (I.hid b s) fun e => I.wu e k

/-- The down product. -/
def Inp.f (b : Fin 2) (s : Fin 4096) (d : Fin 1024) : EReal := ∑ k, act (I.a b s k) (I.u b s k) * I.wd k d

/-- The block's output. -/
def Inp.y (b : Fin 2) (s : Fin 4096) (d : Fin 1024) : EReal :=
  I.x b s d + Ideal.ofBits FTy.f32 1056964608#32 * I.g b d * I.f b s d

end Cert.Ffn
end
-- ==== Proof.FfnPoint.lean ====
/-
  The forward pass of a feed-forward block: what one block of rows leaves, at an index.
-/
module

public import proofs.«01_k».proof.Proof.FfnMaths
public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Cert.Ffn (modRow dotRow act)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stored vectors at an index -/

theorem pay8_at (x : Vec Ideal S512x1024 .f32) (w : Vec Ideal S1x1024 .f32) (sc sh : Vec Ideal S1x1x1024 .f32) (r : Fin 512) (d : Fin 1024) :
    k0_pay8 x w sc sh (ix2 r d) = modRow (fun e => x (ix2 r e)) (fun e => w (ix2 0 e)) (fun e => sc (ix3 0 0 e)) (fun e => sh (ix3 0 0 e)) d := by
  unfold modRow
  pointwise [k0_pay8, k0_pay7]

theorem pay16_at (h : FVec Ideal S512x1024 .bf16) (w : Vec Ideal S1x704x1024 .bf16) (r : Fin 512) (f : Fin 704) :
    k0_pay16 h w (ix2 r f) = dotRow (fun e => h (ix2 r e)) (fun e => w (ix3 0 f e)) := by
  unfold dotRow
  pointwise [k0_pay16]

theorem pay15_at (v : FVec Ideal S512x1024 .f32) (a u : FVec Ideal S512x704 .f32) (w : Vec Ideal S1x704x1024 .bf16) (r : Fin 512) (d : Fin 1024) :
    k0_pay15 v a u w (ix2 r d) = v (ix2 r d) + ∑ f : Fin 704, act (a (ix2 r f)) (u (ix2 r f)) * w (ix3 0 f d) := by
  unfold act
  pointwise [k0_pay15]

theorem pay20_at (h : FVec Ideal S512x1024 .bf16) (w w' : Vec Ideal S1x704x1024 .bf16) (r : Fin 512) (f : Fin 704) :
    k0_pay20 h w w' (ix2 r f) = act (k0_pay16 h w (ix2 r f)) (k0_pay16 h w' (ix2 r f)) := by
  unfold act
  pointwise [k0_pay20]
  rfl

theorem pay25_at (h : FVec Ideal S512x1024 .bf16) (v : FVec Ideal S512x1024 .f32) (s : FVec Ideal S512x704 .bf16) (w1 wg wu w2 : Vec Ideal S1x704x1024 .bf16) (r : Fin 512) (d : Fin 1024) :
    k0_pay25 h v s w1 wg wu w2 (ix2 r d) = v (ix2 r d) + (∑ f : Fin 704, s (ix2 r f) * w1 (ix3 0 f d))
      + ∑ f : Fin 704, act (k0_pay16 h wg (ix2 r f)) (k0_pay16 h wu (ix2 r f)) * w2 (ix3 0 f d) := by
  unfold act
  pointwise [k0_pay25]
  rfl

theorem pay4_at (h : FVec Ideal S512x1024 .bf16) (v : FVec Ideal S512x1024 .f32) (a : FVec Ideal S512x704 .f32) (wu w2 : Vec Ideal S1x704x1024 .bf16) (r : Fin 512) (d : Fin 1024) :
    k0_pay4 h v a wu w2 (ix2 r d) = v (ix2 r d) + ∑ f : Fin 704, act (a (ix2 r f)) (k0_pay16 h wu (ix2 r f)) * w2 (ix3 0 f d) := by
  unfold act
  pointwise [k0_pay4]
  rfl

theorem pay5_at (h : FVec Ideal S512x1024 .bf16) (v : FVec Ideal S512x1024 .f32) (a : FVec Ideal S512x704 .f32) (wu w2 : Vec Ideal S1x704x1024 .bf16) (r : Fin 512) (d : Fin 1024) :
    k0_pay5 h v a wu w2 (ix2 r d) = k0_pay4 h v a wu w2 (ix2 r d) := by
  pointwise [k0_pay5]

theorem pay6_at (x : Vec Ideal S512x1024 .f32) (h : FVec Ideal S512x1024 .bf16) (v : FVec Ideal S512x1024 .f32) (a : FVec Ideal S512x704 .f32) (wu w2 : Vec Ideal S1x704x1024 .bf16) (g : Vec Ideal S1x1x1024 .f32) (r : Fin 512) (d : Fin 1024) :
    k0_pay6 (k0_pay7 x) h v a wu w2 g (ix2 r d) = x (ix2 r d) + Ideal.ofBits FTy.f32 1056964608#32 * g (ix3 0 0 d) * k0_pay4 h v a wu w2 (ix2 r d) := by
  pointwise [k0_pay6, k0_pay7]

theorem pay9_at (r : Fin 512) (d : Fin 1024) : k0_pay9 (F := Ideal) (ix2 r d) = 0 := by
  pointwise [k0_pay9]

theorem pay13_at (v : FVec Ideal S512x704 .bf16) (r : Fin 512) (f : Fin 704) : k0_pay13 v (ix3 0 r f) = v (ix2 r f) := by
  pointwise [k0_pay13]

theorem pay2_at (v : FVec Ideal S512x704 .f32) (r : Fin 512) (f : Fin 704) : k0_pay2 v (ix3 0 r f) = v (ix2 r f) := by
  pointwise [k0_pay2]

theorem pay14_at (v : FVec Ideal S512x704 .f32) (r : Fin 512) (f : Fin 704) : k0_pay14 v (ix3 0 r f) = v (ix2 r f) := by
  pointwise [k0_pay14]

theorem pay3_eq (h : FVec Ideal S512x1024 .bf16) (w : Vec Ideal S1x704x1024 .bf16) : k0_pay3 h w = k0_pay14 (k0_pay16 h w) := rfl
theorem pay23_eq (h : FVec Ideal S512x1024 .bf16) (w : Vec Ideal S1x704x1024 .bf16) : k0_pay23 h w = k0_pay14 (k0_pay16 h w) := rfl
theorem pay24_eq (h : FVec Ideal S512x1024 .bf16) (w : Vec Ideal S1x704x1024 .bf16) : k0_pay24 h w = k0_pay14 (k0_pay16 h w) := rfl
theorem pay18_eq (h : FVec Ideal S512x1024 .bf16) (w : Vec Ideal S1x704x1024 .bf16) : k0_pay18 h w = k0_pay14 (k0_pay16 h w) := rfl
theorem pay19_eq (h : FVec Ideal S512x1024 .bf16) (w : Vec Ideal S1x704x1024 .bf16) : k0_pay19 h w = k0_pay14 (k0_pay16 h w) := rfl
theorem pay2_eq (v : FVec Ideal S512x704 .f32) : k0_pay2 v = k0_pay14 v := rfl
theorem pay26_eq (h : FVec Ideal S512x1024 .bf16) (w : Vec Ideal S1x704x1024 .bf16) : k0_pay26 h w = k0_pay16 h w := rfl
theorem pay10_eq (x : Vec Ideal S512x1024 .f32) (n : Vec Ideal S1x1024 .f32) (sc sh : Vec Ideal S1x1x1024 .f32) (w : Vec Ideal S1x704x1024 .bf16) :
    k0_pay10 x n sc sh w = k0_pay16 (k0_pay8 x n sc sh) w := rfl
theorem pay11_eq (x : Vec Ideal S512x1024 .f32) (n : Vec Ideal S1x1024 .f32) (sc sh : Vec Ideal S1x1x1024 .f32) (w : Vec Ideal S1x704x1024 .bf16) :
    k0_pay11 x n sc sh w = k0_pay16 (k0_pay8 x n sc sh) w := rfl
theorem pay13_eq (x : Vec Ideal S512x1024 .f32) (n : Vec Ideal S1x1024 .f32) (sc sh : Vec Ideal S1x1x1024 .f32) (w : Vec Ideal S1x704x1024 .bf16) :
    k0_pay13 (k0_pay12 x n sc sh w) = k0_pay14 (k0_pay16 (k0_pay8 x n sc sh) w) := rfl

/-! ## The results of one block of rows -/

/-- A shard of a weight. -/
def shard (w : Vec Ideal S4x704x1024 .bf16) (j : Fin 4) : Vec Ideal S1x704x1024 .bf16 := fun i => w (ix3 j (i 1) (i 2))

theorem ld_0 (w : Vec Ideal S4x704x1024 .bf16) : View.ld w r0_3 = shard w 0 :=
  funext fun (i : S1x704x1024.Idx) => View.ld_unit_apply_of w _ _ _ i _ fun a => match a with
    | ⟨0, _⟩ => by have : (i 0).val < 1 := (i 0).isLt; show 0 = 0 + (i 0).val; omega
    | ⟨1, _⟩ => (Nat.zero_add _).symm
    | ⟨2, _⟩ => (Nat.zero_add _).symm

theorem ld_1 (w : Vec Ideal S4x704x1024 .bf16) : View.ld w r0_5 = shard w 1 :=
  funext fun (i : S1x704x1024.Idx) => View.ld_unit_apply_of w _ _ _ i _ fun a => match a with
    | ⟨0, _⟩ => by have : (i 0).val < 1 := (i 0).isLt; show 1 = 1 + (i 0).val; omega
    | ⟨1, _⟩ => (Nat.zero_add _).symm
    | ⟨2, _⟩ => (Nat.zero_add _).symm

theorem ld_2 (w : Vec Ideal S4x704x1024 .bf16) : View.ld w r0_7 = shard w 2 :=
  funext fun (i : S1x704x1024.Idx) => View.ld_unit_apply_of w _ _ _ i _ fun a => match a with
    | ⟨0, _⟩ => by have : (i 0).val < 1 := (i 0).isLt; show 2 = 2 + (i 0).val; omega
    | ⟨1, _⟩ => (Nat.zero_add _).symm
    | ⟨2, _⟩ => (Nat.zero_add _).symm

theorem ld_3 (w : Vec Ideal S4x704x1024 .bf16) : View.ld w r0_9 = shard w 3 :=
  funext fun (i : S1x704x1024.Idx) => View.ld_unit_apply_of w _ _ _ i _ fun a => match a with
    | ⟨0, _⟩ => by have : (i 0).val < 1 := (i 0).isLt; show 3 = 3 + (i 0).val; omega
    | ⟨1, _⟩ => (Nat.zero_add _).symm
    | ⟨2, _⟩ => (Nat.zero_add _).symm

variable (x0 : Vec Ideal S512x1024 .f32) (x1 : Vec Ideal S1x1024 .f32) (x2 x3 x4 : Vec Ideal S1x1x1024 .f32) (x5 x6 x7 : Vec Ideal S4x704x1024 .bf16)

/-- The product of the block's modulated rows and a shard of a weight. -/
def prod (w : Vec Ideal S4x704x1024 .bf16) (j : Fin 4) : FVec Ideal S512x704 .f32 := k0_pay16 (k0_pay8 x0 x1 x3 x2) (shard w j)

theorem prod_at (w : Vec Ideal S4x704x1024 .bf16) (j : Fin 4) (r : Fin 512) (f : Fin 704) :
    prod x0 x1 x2 x3 w j (ix2 r f) = dotRow (modRow (fun e => x0 (ix2 r e)) (fun e => x1 (ix2 0 e)) (fun e => x3 (ix3 0 0 e)) (fun e => x2 (ix3 0 0 e))) (fun e => w (ix3 j f e)) := by
  rw [prod, pay16_at]
  unfold dotRow
  refine Finset.sum_congr rfl fun e _ => ?_
  exact congrArg (fun z : EReal => z * w (ix3 j f e)) (pay8_at x0 x1 x3 x2 r e)

theorem store_all (p : Fin 4 → Vec Ideal S1x512x704 .bf16) (j : Fin 4) (r : Fin 512) (f : Fin 704) :
    View.canon [⟨r0_10, p 3⟩, ⟨r0_8, p 2⟩, ⟨r0_6, p 1⟩, ⟨r0_4, p 0⟩] (ix3 j r f : S4x512x704.Idx) = p j (ix3 0 r f) := by
  have key : ∀ (k : Fin 4) (x : S1x512x704.Idx), (∀ a : Fin 3, ((ix3 j r f : S4x512x704.Idx) a : ℕ) = (![k.val, 0, 0] : Fin 3 → ℕ) a + x a) → p k x = p j (ix3 0 r f) := by
    intro k x h
    have h0 : j.val = k.val + (x 0).val := h 0
    have h1 : r.val = 0 + (x 1).val := h 1
    have h2 : f.val = 0 + (x 2).val := h 2
    have hx : (x 0).val < 1 := (x 0).isLt
    obtain rfl : k = j := Fin.ext (by omega)
    refine congrArg (p k) (funext fun a => Fin.ext ?_)
    match a with
    | ⟨0, _⟩ => show (x 0).val = 0; omega
    | ⟨1, _⟩ => show (x 1).val = r.val; omega
    | ⟨2, _⟩ => show (x 2).val = f.val; omega
  refine View.canon_eq_of_allAt _ _ _ (cover0_9 _ _ _ _ _) ?_
  refine View.allAt_cons_unit _ _ _ _ _ (fun x h => key 3 x h) ?_
  refine View.allAt_cons_unit _ _ _ _ _ (fun x h => key 2 x h) ?_
  refine View.allAt_cons_unit _ _ _ _ _ (fun x h => key 1 x h) ?_
  refine View.allAt_cons_unit _ _ _ _ _ (fun x h => key 0 x h) ?_
  exact View.allAt_nil _ _

theorem out9_at (j : Fin 4) (r : Fin 512) (f : Fin 704) :
    out0_9 x0 x1 x2 x3 x4 x5 x6 x7 (ix3 j r f) = prod x0 x1 x2 x3 x5 j (ix2 r f) := by
  unfold out0_9 k0_pay30 k0_pay27
  rw [ld_0, ld_1, ld_2, ld_3, View.ld_unit_zero (S := S512x1024) hz2, View.ld_unit_zero (S := S1x1024) hz2, View.ld_unit_zero (S := S1x1x1024) hz3,
    View.ld_unit_zero (S := S1x1x1024) hz3, pay26_eq, pay2_eq, pay23_eq, pay18_eq, pay13_eq]
  exact (store_all (fun j => k0_pay14 (prod x0 x1 x2 x3 x5 j)) j r f).trans (pay14_at _ r f)

theorem out10_at (j : Fin 4) (r : Fin 512) (f : Fin 704) :
    out0_10 x0 x1 x2 x3 x4 x5 x6 x7 (ix3 j r f) = prod x0 x1 x2 x3 x6 j (ix2 r f) := by
  unfold out0_10 k0_pay28 k0_pay27
  rw [ld_0, ld_1, ld_2, ld_3, View.ld_unit_zero (S := S512x1024) hz2, View.ld_unit_zero (S := S1x1024) hz2, View.ld_unit_zero (S := S1x1x1024) hz3,
    View.ld_unit_zero (S := S1x1x1024) hz3, pay11_eq, pay3_eq, pay24_eq, pay19_eq]
  exact (store_all (fun j => k0_pay14 (prod x0 x1 x2 x3 x6 j)) j r f).trans (pay14_at _ r f)

/-- The block's output before it is gated. -/
def outAt (r : Fin 512) (d : Fin 1024) : EReal :=
  ∑ j : Fin 4, ∑ f : Fin 704, act (prod x0 x1 x2 x3 x5 j (ix2 r f)) (prod x0 x1 x2 x3 x6 j (ix2 r f)) * x7 (ix3 j f d)

theorem last_at (r : Fin 512) (d : Fin 1024) :
    k0_pay4 (k0_pay27 x0 x1 x2 x3 x4 x5 x6 x7) (k0_pay29 x0 x1 x2 x3 x4 x5 x6 x7) (k0_pay30 x0 x1 x2 x3 x4 x5 x6 x7) (View.ld x6 r0_9) (View.ld x7 r0_9) (ix2 r d)
      = outAt x0 x1 x2 x3 x5 x6 x7 r d := by
  unfold k0_pay30 k0_pay29 k0_pay28 k0_pay27
  rw [ld_0, ld_0, ld_0, ld_1, ld_1, ld_1, ld_2, ld_2, ld_2, ld_3, ld_3, ld_3, View.ld_unit_zero (S := S512x1024) hz2, View.ld_unit_zero (S := S1x1024) hz2, View.ld_unit_zero (S := S1x1x1024) hz3,
    View.ld_unit_zero (S := S1x1x1024) hz3, pay26_eq, pay10_eq, pay11_eq, pay4_at, pay25_at, pay15_at, pay9_at, zero_add]
  rw [outAt, Fin.sum_univ_four]
  simp only [pay20_at]
  rfl

theorem out11_at (r : Fin 512) (d : Fin 1024) :
    out0_11 x0 x1 x2 x3 x4 x5 x6 x7 (ix2 r d) = outAt x0 x1 x2 x3 x5 x6 x7 r d := by
  unfold out0_11
  rw [View.canon_unit_zero (S := S512x1024) hz2, pay5_at]
  exact last_at x0 x1 x2 x3 x4 x5 x6 x7 r d

theorem out8_at (r : Fin 512) (d : Fin 1024) :
    out0_8 x0 x1 x2 x3 x4 x5 x6 x7 (ix2 r d)
      = x0 (ix2 r d) + Ideal.ofBits FTy.f32 1056964608#32 * x4 (ix3 0 0 d) * outAt x0 x1 x2 x3 x5 x6 x7 r d := by
  unfold out0_8
  rw [View.canon_unit_zero (S := S512x1024) hz2, pay6_at, last_at, View.ld_unit_zero (S := S512x1024) hz2, View.ld_unit_zero (S := S1x1x1024) hz3]

end Cert.Kernel3Ideal.Ffn
end
-- ==== Proof.FfnArray.lean ====
/-
  The forward pass of a feed-forward block: the arrays of results over the kernel's arguments.
-/
module

public import proofs.«01_k».proof.Proof.FfnPoint
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Cert.Ffn (modRow dotRow act lane bat tok Inp)

open Idealize.ShloMosaic.Pipeline (Dat)

/-! ## Where the blocks lie -/

theorem place0 : ∀ t : Fin cfg0.N, win0_0.index t 0 = t.val ∧ win0_0.index t 1 = 0 := by
  decide +kernel

theorem place8 : ∀ t : Fin cfg0.N, win0_8.index t 0 = t.val ∧ win0_8.index t 1 = 0 := by
  decide +kernel

theorem place11 : ∀ t : Fin cfg0.N, win0_11.index t 0 = t.val ∧ win0_11.index t 1 = 0 := by
  decide +kernel

theorem place1 : ∀ t : Fin cfg0.N, win0_1.index t 0 = 0 ∧ win0_1.index t 1 = 0 := by
  decide +kernel

theorem place2 : ∀ t : Fin cfg0.N, win0_2.index t 0 = t.val / 8 ∧ win0_2.index t 1 = 0 ∧ win0_2.index t 2 = 0 := by
  decide +kernel

theorem place3 : ∀ t : Fin cfg0.N, win0_3.index t 0 = t.val / 8 ∧ win0_3.index t 1 = 0 ∧ win0_3.index t 2 = 0 := by
  decide +kernel

theorem place4 : ∀ t : Fin cfg0.N, win0_4.index t 0 = t.val / 8 ∧ win0_4.index t 1 = 0 ∧ win0_4.index t 2 = 0 := by
  decide +kernel

theorem place5 : ∀ t : Fin cfg0.N, win0_5.index t 0 = 0 ∧ win0_5.index t 1 = 0 ∧ win0_5.index t 2 = 0 := by
  decide +kernel

theorem place6 : ∀ t : Fin cfg0.N, win0_6.index t 0 = 0 ∧ win0_6.index t 1 = 0 ∧ win0_6.index t 2 = 0 := by
  decide +kernel

theorem place7 : ∀ t : Fin cfg0.N, win0_7.index t 0 = 0 ∧ win0_7.index t 1 = 0 ∧ win0_7.index t 2 = 0 := by
  decide +kernel

theorem place9 : ∀ t : Fin cfg0.N, win0_9.index t 0 = 0 ∧ win0_9.index t 1 = t.val ∧ win0_9.index t 2 = 0 := by
  decide +kernel

theorem place10 : ∀ t : Fin cfg0.N, win0_10.index t 0 = 0 ∧ win0_10.index t 1 = t.val ∧ win0_10.index t 2 = 0 := by
  decide +kernel

theorem flush8 : ∀ t : Fin cfg0.N, (cfg0.win 8).flush t = true := by
  decide +kernel

theorem flush9 : ∀ t : Fin cfg0.N, (cfg0.win 9).flush t = true := by
  decide +kernel

theorem flush10 : ∀ t : Fin cfg0.N, (cfg0.win 10).flush t = true := by
  decide +kernel

theorem flush11 : ∀ t : Fin cfg0.N, (cfg0.win 11).flush t = true := by
  decide +kernel

theorem read0 (A : S8192x1024.Idx → Elt Ideal .f32) (t : Fin cfg0.N) (r : Fin 512) (d : Fin 1024) (i : S8192x1024.Idx)
    (h0 : (i 0).val = 512 * t.val + r.val) (h1 : (i 1).val = d.val) :
    ((cfg0.win 0).blk t).view.read (Elt Ideal) A (ix2 r d : S512x1024.Idx) = A i := by
  obtain ⟨e0, e1⟩ := place0 t
  blk_ext [e0, e1, h0, h1]

theorem read8 (A : S8192x1024.Idx → Elt Ideal .f32) (t : Fin cfg0.N) (r : Fin 512) (d : Fin 1024) (i : S8192x1024.Idx)
    (h0 : (i 0).val = 512 * t.val + r.val) (h1 : (i 1).val = d.val) :
    ((cfg0.win 8).blk t).view.read (Elt Ideal) A (ix2 r d : S512x1024.Idx) = A i := by
  obtain ⟨e0, e1⟩ := place8 t
  blk_ext [e0, e1, h0, h1]

theorem read11 (A : S8192x1024.Idx → Elt Ideal .bf16) (t : Fin cfg0.N) (r : Fin 512) (d : Fin 1024) (i : S8192x1024.Idx)
    (h0 : (i 0).val = 512 * t.val + r.val) (h1 : (i 1).val = d.val) :
    ((cfg0.win 11).blk t).view.read (Elt Ideal) A (ix2 r d : S512x1024.Idx) = A i := by
  obtain ⟨e0, e1⟩ := place11 t
  blk_ext [e0, e1, h0, h1]

theorem read1 (A : S1x1024.Idx → Elt Ideal .f32) (t : Fin cfg0.N) (d : Fin 1024) :
    ((cfg0.win 1).blk t).view.read (Elt Ideal) A (ix2 0 d : S1x1024.Idx) = A (ix2 0 d) := by
  obtain ⟨e0, e1⟩ := place1 t
  blk_ext [e0, e1]

theorem read2 (A : S2x1x1024.Idx → Elt Ideal .f32) (t : Fin cfg0.N) (d : Fin 1024) (i : S2x1x1024.Idx)
    (h0 : (i 0).val = t.val / 8) (h1 : (i 1).val = 0) (h2 : (i 2).val = d.val) :
    ((cfg0.win 2).blk t).view.read (Elt Ideal) A (ix3 0 0 d : S1x1x1024.Idx) = A i := by
  obtain ⟨e0, e1, e2⟩ := place2 t
  blk_ext [e0, e1, e2, h0, h1, h2]

theorem read3 (A : S2x1x1024.Idx → Elt Ideal .f32) (t : Fin cfg0.N) (d : Fin 1024) (i : S2x1x1024.Idx)
    (h0 : (i 0).val = t.val / 8) (h1 : (i 1).val = 0) (h2 : (i 2).val = d.val) :
    ((cfg0.win 3).blk t).view.read (Elt Ideal) A (ix3 0 0 d : S1x1x1024.Idx) = A i := by
  obtain ⟨e0, e1, e2⟩ := place3 t
  blk_ext [e0, e1, e2, h0, h1, h2]

theorem read4 (A : S2x1x1024.Idx → Elt Ideal .f32) (t : Fin cfg0.N) (d : Fin 1024) (i : S2x1x1024.Idx)
    (h0 : (i 0).val = t.val / 8) (h1 : (i 1).val = 0) (h2 : (i 2).val = d.val) :
    ((cfg0.win 4).blk t).view.read (Elt Ideal) A (ix3 0 0 d : S1x1x1024.Idx) = A i := by
  obtain ⟨e0, e1, e2⟩ := place4 t
  blk_ext [e0, e1, e2, h0, h1, h2]

theorem read5 (A : S4x704x1024.Idx → Elt Ideal .bf16) (t : Fin cfg0.N) (j : Fin 4) (f : Fin 704) (d : Fin 1024) :
    ((cfg0.win 5).blk t).view.read (Elt Ideal) A (ix3 j f d : S4x704x1024.Idx) = A (ix3 j f d) := by
  obtain ⟨e0, e1, e2⟩ := place5 t
  blk_ext [e0, e1, e2]

theorem read6 (A : S4x704x1024.Idx → Elt Ideal .bf16) (t : Fin cfg0.N) (j : Fin 4) (f : Fin 704) (d : Fin 1024) :
    ((cfg0.win 6).blk t).view.read (Elt Ideal) A (ix3 j f d : S4x704x1024.Idx) = A (ix3 j f d) := by
  obtain ⟨e0, e1, e2⟩ := place6 t
  blk_ext [e0, e1, e2]

theorem read7 (A : S4x704x1024.Idx → Elt Ideal .bf16) (t : Fin cfg0.N) (j : Fin 4) (f : Fin 704) (d : Fin 1024) :
    ((cfg0.win 7).blk t).view.read (Elt Ideal) A (ix3 j f d : S4x704x1024.Idx) = A (ix3 j f d) := by
  obtain ⟨e0, e1, e2⟩ := place7 t
  blk_ext [e0, e1, e2]

theorem read9 (A : S4x8192x704.Idx → Elt Ideal .bf16) (t : Fin cfg0.N) (j : Fin 4) (r : Fin 512) (f : Fin 704) (i : S4x8192x704.Idx)
    (h0 : (i 0).val = j.val) (h1 : (i 1).val = 512 * t.val + r.val) (h2 : (i 2).val = f.val) :
    ((cfg0.win 9).blk t).view.read (Elt Ideal) A (ix3 j r f : S4x512x704.Idx) = A i := by
  obtain ⟨e0, e1, e2⟩ := place9 t
  blk_ext [e0, e1, e2, h0, h1, h2]

theorem read10 (A : S4x8192x704.Idx → Elt Ideal .bf16) (t : Fin cfg0.N) (j : Fin 4) (r : Fin 512) (f : Fin 704) (i : S4x8192x704.Idx)
    (h0 : (i 0).val = j.val) (h1 : (i 1).val = 512 * t.val + r.val) (h2 : (i 2).val = f.val) :
    ((cfg0.win 10).blk t).view.read (Elt Ideal) A (ix3 j r f : S4x512x704.Idx) = A i := by
  obtain ⟨e0, e1, e2⟩ := place10 t
  blk_ext [e0, e1, e2, h0, h1, h2]

theorem mem8 (t : Fin cfg0.N) (i : S8192x1024.Idx) (h0 : (i 0).val / 512 = t.val) : i ∈ ((cfg0.win 8).blk t).view.set := by
  show i ∈ ((View.whole main_v13_0).slice (win0_8.rect t)).set
  rw [View.set_slice_whole, Rect.mem_set_unit]
  obtain ⟨e0, e1⟩ := place8 t
  intro a
  match a with
  | ⟨0, _⟩ =>
    show win0_8.index t 0 * 512 ≤ (i 0).val ∧ (i 0).val < win0_8.index t 0 * 512 + 512
    omega
  | ⟨1, _⟩ =>
    have : (i 1).val < 1024 := (i 1).isLt
    show win0_8.index t 1 * 1024 ≤ (i 1).val ∧ (i 1).val < win0_8.index t 1 * 1024 + 1024
    omega

theorem mem11 (t : Fin cfg0.N) (i : S8192x1024.Idx) (h0 : (i 0).val / 512 = t.val) : i ∈ ((cfg0.win 11).blk t).view.set := by
  show i ∈ ((View.whole main_v13_3).slice (win0_11.rect t)).set
  rw [View.set_slice_whole, Rect.mem_set_unit]
  obtain ⟨e0, e1⟩ := place11 t
  intro a
  match a with
  | ⟨0, _⟩ =>
    show win0_11.index t 0 * 512 ≤ (i 0).val ∧ (i 0).val < win0_11.index t 0 * 512 + 512
    omega
  | ⟨1, _⟩ =>
    have : (i 1).val < 1024 := (i 1).isLt
    show win0_11.index t 1 * 1024 ≤ (i 1).val ∧ (i 1).val < win0_11.index t 1 * 1024 + 1024
    omega

theorem mem9 (t : Fin cfg0.N) (i : S4x8192x704.Idx) (h0 : (i 1).val / 512 = t.val) : i ∈ ((cfg0.win 9).blk t).view.set := by
  show i ∈ ((View.whole main_v13_1).slice (win0_9.rect t)).set
  rw [View.set_slice_whole, Rect.mem_set_unit]
  obtain ⟨e0, e1, e2⟩ := place9 t
  intro a
  match a with
  | ⟨0, _⟩ =>
    have : (i 0).val < 4 := (i 0).isLt
    show win0_9.index t 0 * 4 ≤ (i 0).val ∧ (i 0).val < win0_9.index t 0 * 4 + 4
    omega
  | ⟨1, _⟩ =>
    show win0_9.index t 1 * 512 ≤ (i 1).val ∧ (i 1).val < win0_9.index t 1 * 512 + 512
    omega
  | ⟨2, _⟩ =>
    have : (i 2).val < 704 := (i 2).isLt
    show win0_9.index t 2 * 704 ≤ (i 2).val ∧ (i 2).val < win0_9.index t 2 * 704 + 704
    omega

theorem mem10 (t : Fin cfg0.N) (i : S4x8192x704.Idx) (h0 : (i 1).val / 512 = t.val) : i ∈ ((cfg0.win 10).blk t).view.set := by
  show i ∈ ((View.whole main_v13_2).slice (win0_10.rect t)).set
  rw [View.set_slice_whole, Rect.mem_set_unit]
  obtain ⟨e0, e1, e2⟩ := place10 t
  intro a
  match a with
  | ⟨0, _⟩ =>
    have : (i 0).val < 4 := (i 0).isLt
    show win0_10.index t 0 * 4 ≤ (i 0).val ∧ (i 0).val < win0_10.index t 0 * 4 + 4
    omega
  | ⟨1, _⟩ =>
    show win0_10.index t 1 * 512 ≤ (i 1).val ∧ (i 1).val < win0_10.index t 1 * 512 + 512
    omega
  | ⟨2, _⟩ =>
    have : (i 2).val < 704 := (i 2).isLt
    show win0_10.index t 2 * 704 ≤ (i 2).val ∧ (i 2).val < win0_10.index t 2 * 704 + 704
    omega

/-! ## What the host prepares -/

/-- The rows of the tokens. -/
def rowsOf (x : FVec Ideal S2x4096x1024 .f32) : FVec Ideal S8192x1024 .f32 := shapeCast S8192x1024 x shapeCasts_S2x4096x1024_S8192x1024

/-- The norm's weight as one row. -/
def oneRow (x : FVec Ideal S1024 .f32) : FVec Ideal S1x1024 .f32 := broadcastInDim S1x1024 ![1] bcast_S1024_S1x1024_1 x

/-- A vector of each batch as one row. -/
def batchRow (x : FVec Ideal S2x1024 .f32) : FVec Ideal S2x1x1024 .f32 := broadcastInDim S2x1x1024 ![0, 2] bcast_S2x1024_S2x1x1024_0_2 x

/-- The shards of the down weight. -/
def downShards (w : FVec Ideal S2816x1024 .f32) : FVec Ideal S4x704x1024 .bf16 :=
  truncf .bf16 (shapeCast S4x704x1024 w shapeCasts_S2816x1024_S4x704x1024) bitsLt_bf16_f32

/-- The shards of a weight that multiplies the rows. -/
def inShards (w : FVec Ideal S1024x2816 .f32) : FVec Ideal S4x704x1024 .bf16 :=
  downShards (transpose S2816x1024 [1, 0] w transposes_S1024x2816_S2816x1024_1_0)

theorem rowsOf_at (x : FVec Ideal S2x4096x1024 .f32) (T : Fin 8192) (d : Fin 1024) : rowsOf x (ix2 T d) = x (ix3 (bat T) (tok T) d) := by
  unfold bat tok
  pointwise [rowsOf]

theorem oneRow_at (x : FVec Ideal S1024 .f32) (d : Fin 1024) : oneRow x (ix2 0 d) = x (ix1 d) := by
  pointwise [oneRow]

theorem batchRow_at (x : FVec Ideal S2x1024 .f32) (b : Fin 2) (d : Fin 1024) : batchRow x (ix3 b 0 d) = x (ix2 b d) := by
  pointwise [batchRow]

theorem downShards_at (w : FVec Ideal S2816x1024 .f32) (j : Fin 4) (f : Fin 704) (d : Fin 1024) : downShards w (ix3 j f d) = w (ix2 (lane j f) d) := by
  unfold lane
  pointwise [downShards]

theorem inShards_at (w : FVec Ideal S1024x2816 .f32) (j : Fin 4) (f : Fin 704) (d : Fin 1024) : inShards w (ix3 j f d) = w (ix2 d (lane j f)) := by
  unfold lane
  pointwise [inShards, downShards]

variable (m : (ℓ : Loc nD τ sig) → Buf (Elt Ideal) ℓ) (c : Dev nD)

theorem V_v0 : V m c main_v0 = rowsOf (m ((c : Thread nD τ).loc main_arg0)) := by
  unfold rowsOf
  after_reads_simp
  rfl

theorem V_v1 : V m c main_v1 = oneRow (m ((c : Thread nD τ).loc main_arg1)) := by
  unfold oneRow
  after_reads_simp

theorem V_v2 : V m c main_v2 = batchRow (m ((c : Thread nD τ).loc main_arg2)) := by
  unfold batchRow
  after_reads_simp

theorem V_v3 : V m c main_v3 = batchRow (m ((c : Thread nD τ).loc main_arg3)) := by
  unfold batchRow
  after_reads_simp

theorem V_v4 : V m c main_v4 = batchRow (m ((c : Thread nD τ).loc main_arg4)) := by
  unfold batchRow
  after_reads_simp

theorem V_v7 : V m c main_v7 = inShards (m ((c : Thread nD τ).loc main_arg5)) := by
  unfold inShards downShards
  after_reads_simp
  rfl

theorem V_v10 : V m c main_v10 = inShards (m ((c : Thread nD τ).loc main_arg6)) := by
  unfold inShards downShards
  after_reads_simp
  rfl

theorem V_v12 : V m c main_v12 = downShards (m ((c : Thread nD τ).loc main_arg7)) := by
  unfold downShards
  after_reads_simp
  rfl

/-! ## The blocks over the arguments -/

/-- The block's arguments. -/
def inp : Inp where
  x := fun b s d => (m ((c : Thread nD τ).loc main_arg0) : FVec Ideal S2x4096x1024 .f32) (ix3 b s d)
  n := fun d => (m ((c : Thread nD τ).loc main_arg1) : FVec Ideal S1024 .f32) (ix1 d)
  sh := fun b d => (m ((c : Thread nD τ).loc main_arg2) : FVec Ideal S2x1024 .f32) (ix2 b d)
  sc := fun b d => (m ((c : Thread nD τ).loc main_arg3) : FVec Ideal S2x1024 .f32) (ix2 b d)
  g := fun b d => (m ((c : Thread nD τ).loc main_arg4) : FVec Ideal S2x1024 .f32) (ix2 b d)
  wg := fun e k => (m ((c : Thread nD τ).loc main_arg5) : FVec Ideal S1024x2816 .f32) (ix2 e k)
  wu := fun e k => (m ((c : Thread nD τ).loc main_arg6) : FVec Ideal S1024x2816 .f32) (ix2 e k)
  wd := fun k d => (m ((c : Thread nD τ).loc main_arg7) : FVec Ideal S2816x1024 .f32) (ix2 k d)

variable (t : Fin cfg0.N) (r : Fin 512) (T : Fin 8192) (hT : T.val = 512 * t.val + r.val)

include hT in
theorem blk0 (d : Fin 1024) : (iblk m c 0 t : Vec Ideal S512x1024 .f32) (ix2 r d) = (inp m c).x (bat T) (tok T) d :=
  (read0 (V m c main_v0) t r d (ix2 T d) hT rfl).trans (by rw [V_v0, rowsOf_at]; rfl)

theorem blk1 (d : Fin 1024) : (iblk m c 1 t : Vec Ideal S1x1024 .f32) (ix2 0 d) = (inp m c).n d :=
  (read1 (V m c main_v1) t d).trans (by rw [V_v1, oneRow_at]; rfl)

include hT in
theorem blk2 (d : Fin 1024) : (iblk m c 2 t : Vec Ideal S1x1x1024 .f32) (ix3 0 0 d) = (inp m c).sh (bat T) d :=
  (read2 (V m c main_v2) t d (ix3 (bat T) 0 d) (by have := r.isLt; show T.val / 4096 = t.val / 8; omega) rfl rfl).trans (by rw [V_v2, batchRow_at]; rfl)

include hT in
theorem blk3 (d : Fin 1024) : (iblk m c 3 t : Vec Ideal S1x1x1024 .f32) (ix3 0 0 d) = (inp m c).sc (bat T) d :=
  (read3 (V m c main_v3) t d (ix3 (bat T) 0 d) (by have := r.isLt; show T.val / 4096 = t.val / 8; omega) rfl rfl).trans (by rw [V_v3, batchRow_at]; rfl)

include hT in
theorem blk4 (d : Fin 1024) : (iblk m c 4 t : Vec Ideal S1x1x1024 .f32) (ix3 0 0 d) = (inp m c).g (bat T) d :=
  (read4 (V m c main_v4) t d (ix3 (bat T) 0 d) (by have := r.isLt; show T.val / 4096 = t.val / 8; omega) rfl rfl).trans (by rw [V_v4, batchRow_at]; rfl)

theorem blk5 (j : Fin 4) (f : Fin 704) (d : Fin 1024) : (iblk m c 5 t : Vec Ideal S4x704x1024 .bf16) (ix3 j f d) = (inp m c).wg d (lane j f) :=
  (read5 (V m c main_v7) t j f d).trans (by rw [V_v7, inShards_at]; rfl)

theorem blk6 (j : Fin 4) (f : Fin 704) (d : Fin 1024) : (iblk m c 6 t : Vec Ideal S4x704x1024 .bf16) (ix3 j f d) = (inp m c).wu d (lane j f) :=
  (read6 (V m c main_v10) t j f d).trans (by rw [V_v10, inShards_at]; rfl)

theorem blk7 (j : Fin 4) (f : Fin 704) (d : Fin 1024) : (iblk m c 7 t : Vec Ideal S4x704x1024 .bf16) (ix3 j f d) = (inp m c).wd (lane j f) d :=
  (read7 (V m c main_v12) t j f d).trans (by rw [V_v12, downShards_at]; rfl)

include hT in
theorem gate_prod (j : Fin 4) (f : Fin 704) :
    prod (iblk m c 0 t) (iblk m c 1 t) (iblk m c 2 t) (iblk m c 3 t) (iblk m c 5 t) j (ix2 r f) = (inp m c).a (bat T) (tok T) (lane j f) := by
  rw [prod_at, funext (blk0 m c t r T hT), funext (blk1 m c t), funext (blk2 m c t r T hT), funext (blk3 m c t r T hT), funext (blk5 m c t j f)]
  rfl

include hT in
theorem up_prod (j : Fin 4) (f : Fin 704) :
    prod (iblk m c 0 t) (iblk m c 1 t) (iblk m c 2 t) (iblk m c 3 t) (iblk m c 6 t) j (ix2 r f) = (inp m c).u (bat T) (tok T) (lane j f) := by
  rw [prod_at, funext (blk0 m c t r T hT), funext (blk1 m c t), funext (blk2 m c t r T hT), funext (blk3 m c t r T hT), funext (blk6 m c t j f)]
  rfl

include hT in
theorem down_prod (d : Fin 1024) :
    outAt (iblk m c 0 t) (iblk m c 1 t) (iblk m c 2 t) (iblk m c 3 t) (iblk m c 5 t) (iblk m c 6 t) (iblk m c 7 t) r d = (inp m c).f (bat T) (tok T) d := by
  rw [outAt, Inp.f, Cert.Ffn.sum_lanes]
  refine Finset.sum_congr rfl fun j _ => Finset.sum_congr rfl fun f _ => ?_
  exact congrArg₂ (fun a b : EReal => a * b) (congrArg₂ act (gate_prod m c t r T hT j f) (up_prod m c t r T hT j f)) (blk7 m c t j f d)

/-! ## The arrays of results -/

theorem final9 : (dats m 0 c).arrAt 9 cfg0.N = fun i : S4x8192x704.Idx => (inp m c).a (bat (i 1)) (tok (i 1)) (lane (i 0) (i 2)) := by
  refine (dats m 0 c).arrAt_eq_of_cover 9 (fun i : S4x8192x704.Idx => (inp m c).a (bat (i 1)) (tok (i 1)) (lane (i 0) (i 2)))
    (fun t h => ?_) fun (i : S4x8192x704.Idx) => ?_
  · show (cfg0.win 9).cut (grid0.coords t) ((dats m 0 c).after 9 t) = _
    rw [after0_9]
    refine funext fun (y : S4x512x704.Idx) => ?_
    obtain ⟨j, r, f, rfl⟩ : ∃ (j : Fin 4) (r : Fin 512) (f : Fin 704), y = ix3 j r f := ⟨y 0, y 1, y 2, by funext i; fin_cases i <;> rfl⟩
    have hN : t.val < 16 := Nat.lt_of_lt_of_eq t.isLt N_0
    have hT : 512 * t.val + r.val < 8192 := by have := r.isLt; omega
    refine Eq.trans ?_ (read9 _ t j r f (ix3 j ⟨512 * t.val + r.val, hT⟩ f) rfl rfl rfl).symm
    exact (out9_at (iblk m c 0 t) (iblk m c 1 t) (iblk m c 2 t) (iblk m c 3 t) (iblk m c 4 t) (iblk m c 5 t) (iblk m c 6 t) (iblk m c 7 t) j r f).trans
      (gate_prod m c t r ⟨512 * t.val + r.val, hT⟩ rfl j f)
  · have h1 : (i 1).val < 8192 := (i 1).isLt
    have hN : cfg0.N = 16 := N_0
    exact ⟨⟨(i 1).val / 512, by omega⟩, flush9 _, mem9 _ _ rfl⟩

theorem final10 : (dats m 0 c).arrAt 10 cfg0.N = fun i : S4x8192x704.Idx => (inp m c).u (bat (i 1)) (tok (i 1)) (lane (i 0) (i 2)) := by
  refine (dats m 0 c).arrAt_eq_of_cover 10 (fun i : S4x8192x704.Idx => (inp m c).u (bat (i 1)) (tok (i 1)) (lane (i 0) (i 2)))
    (fun t h => ?_) fun (i : S4x8192x704.Idx) => ?_
  · show (cfg0.win 10).cut (grid0.coords t) ((dats m 0 c).after 10 t) = _
    rw [after0_10]
    refine funext fun (y : S4x512x704.Idx) => ?_
    obtain ⟨j, r, f, rfl⟩ : ∃ (j : Fin 4) (r : Fin 512) (f : Fin 704), y = ix3 j r f := ⟨y 0, y 1, y 2, by funext i; fin_cases i <;> rfl⟩
    have hN : t.val < 16 := Nat.lt_of_lt_of_eq t.isLt N_0
    have hT : 512 * t.val + r.val < 8192 := by have := r.isLt; omega
    refine Eq.trans ?_ (read10 _ t j r f (ix3 j ⟨512 * t.val + r.val, hT⟩ f) rfl rfl rfl).symm
    exact (out10_at (iblk m c 0 t) (iblk m c 1 t) (iblk m c 2 t) (iblk m c 3 t) (iblk m c 4 t) (iblk m c 5 t) (iblk m c 6 t) (iblk m c 7 t) j r f).trans
      (up_prod m c t r ⟨512 * t.val + r.val, hT⟩ rfl j f)
  · have h1 : (i 1).val < 8192 := (i 1).isLt
    have hN : cfg0.N = 16 := N_0
    exact ⟨⟨(i 1).val / 512, by omega⟩, flush10 _, mem10 _ _ rfl⟩

theorem final11 : (dats m 0 c).arrAt 11 cfg0.N = fun i : S8192x1024.Idx => (inp m c).f (bat (i 0)) (tok (i 0)) (i 1) := by
  refine (dats m 0 c).arrAt_eq_of_cover 11 (fun i : S8192x1024.Idx => (inp m c).f (bat (i 0)) (tok (i 0)) (i 1))
    (fun t h => ?_) fun (i : S8192x1024.Idx) => ?_
  · show (cfg0.win 11).cut (grid0.coords t) ((dats m 0 c).after 11 t) = _
    rw [after0_11]
    refine funext fun (y : S512x1024.Idx) => ?_
    obtain ⟨r, d, rfl⟩ : ∃ (r : Fin 512) (d : Fin 1024), y = ix2 r d := ⟨y 0, y 1, by funext i; fin_cases i <;> rfl⟩
    have hN : t.val < 16 := Nat.lt_of_lt_of_eq t.isLt N_0
    have hT : 512 * t.val + r.val < 8192 := by have := r.isLt; omega
    refine Eq.trans ?_ (read11 _ t r d (ix2 ⟨512 * t.val + r.val, hT⟩ d) rfl rfl).symm
    exact (out11_at (iblk m c 0 t) (iblk m c 1 t) (iblk m c 2 t) (iblk m c 3 t) (iblk m c 4 t) (iblk m c 5 t) (iblk m c 6 t) (iblk m c 7 t) r d).trans
      (down_prod m c t r ⟨512 * t.val + r.val, hT⟩ rfl d)
  · have h0 : (i 0).val < 8192 := (i 0).isLt
    have hN : cfg0.N = 16 := N_0
    exact ⟨⟨(i 0).val / 512, by omega⟩, flush11 _, mem11 _ _ rfl⟩

theorem final8 : (dats m 0 c).arrAt 8 cfg0.N = fun i : S8192x1024.Idx => (inp m c).y (bat (i 0)) (tok (i 0)) (i 1) := by
  refine (dats m 0 c).arrAt_eq_of_cover 8 (fun i : S8192x1024.Idx => (inp m c).y (bat (i 0)) (tok (i 0)) (i 1))
    (fun t h => ?_) fun (i : S8192x1024.Idx) => ?_
  · show (cfg0.win 8).cut (grid0.coords t) ((dats m 0 c).after 8 t) = _
    rw [after0_8]
    refine funext fun (y : S512x1024.Idx) => ?_
    obtain ⟨r, d, rfl⟩ : ∃ (r : Fin 512) (d : Fin 1024), y = ix2 r d := ⟨y 0, y 1, by funext i; fin_cases i <;> rfl⟩
    have hN : t.val < 16 := Nat.lt_of_lt_of_eq t.isLt N_0
    have hT : 512 * t.val + r.val < 8192 := by have := r.isLt; omega
    refine Eq.trans ?_ (read8 _ t r d (ix2 ⟨512 * t.val + r.val, hT⟩ d) rfl rfl).symm
    exact (out8_at (iblk m c 0 t) (iblk m c 1 t) (iblk m c 2 t) (iblk m c 3 t) (iblk m c 4 t) (iblk m c 5 t) (iblk m c 6 t) (iblk m c 7 t) r d).trans
      (by rw [down_prod m c t r ⟨512 * t.val + r.val, hT⟩ rfl d, blk0 m c t r ⟨512 * t.val + r.val, hT⟩ rfl d, blk4 m c t r ⟨512 * t.val + r.val, hT⟩ rfl d]; rfl)
  · have h0 : (i 0).val < 8192 := (i 0).isLt
    have hN : cfg0.N = 16 := N_0
    exact ⟨⟨(i 0).val / 512, by omega⟩, flush8 _, mem8 _ _ rfl⟩

end Cert.Kernel3Ideal.Ffn
end
-- ==== Proof.FfnRef.lean ====
/-
  The forward pass of a feed-forward block: the reference's results at an index.
-/
module

public import proofs.«01_k».proof.Proof.FfnMaths
public import proofs.«01_k».proof.Proof.Gen.Reference3Ideal.Read
public import Idealize.ShloMosaic.Lib.Pointwise

@[expose] public section

set_option maxRecDepth 16384

noncomputable section

namespace Cert.Reference3Ideal.Ffn

open Cert.Reference3Ideal Cert.Reference3Ideal.Gen Cert.Reference3Ideal.Read
open Idealize.ShloMosaic Idealize.ShloMosaic.TcCoe Idealize.ShloMosaic.Tactic
open Cert.Ffn (modRow dotRow act lane bat tok Inp)

variable (x0 : FVec Ideal S2x4096x1024 .f32) (x1 : FVec Ideal S1024 .f32) (x2 x3 x4 : FVec Ideal S2x1024 .f32)
  (x5 x6 : FVec Ideal S1024x2816 .f32) (x7 : FVec Ideal S2816x1024 .f32)

/-- The reference's arguments. -/
def inp : Inp where
  x := fun b s d => x0 (ix3 b s d)
  n := fun d => x1 (ix1 d)
  sh := fun b d => x2 (ix2 b d)
  sc := fun b d => x3 (ix2 b d)
  g := fun b d => x4 (ix2 b d)
  wg := fun e k => x5 (ix2 e k)
  wu := fun e k => x6 (ix2 e k)
  wd := fun k d => x7 (ix2 k d)

theorem hid_at (b : Fin 2) (s : Fin 4096) (d : Fin 1024) :
    val_main_v20 (F := Ideal) x0 x1 x2 x3 (ix3 b s d) = (inp x0 x1 x2 x3 x4 x5 x6 x7).hid b s d := by
  unfold inp Inp.hid modRow
  pointwise [val_main_v20, val_main_v17, val_main_v12, val_main_v9, val_main_v7, val_main_v6, val_main_v4, val_main_v1, val_main_v0, val_main_v2,
    val_main_v3, val_main_v5, val_main_v8, val_main_v10, val_main_v11, val_main_v13, val_main_v14, val_main_v15, val_main_v16, val_main_v18, val_main_v19,
    val_main_cst, val_main_cst_0, val_main_cst_1, val_main_cst_2]

theorem gate_at (b : Fin 2) (s : Fin 4096) (k : Fin 2816) :
    val_main_v21 (F := Ideal) x0 x1 x2 x3 x5 (ix3 b s k) = (inp x0 x1 x2 x3 x4 x5 x6 x7).a b s k := by
  refine Eq.trans (b := ∑ e : Fin 1024, val_main_v20 (F := Ideal) x0 x1 x2 x3 (ix3 b s e) * x5 (ix2 e k)) (by pointwise [val_main_v21]) ?_
  exact Finset.sum_congr rfl fun e _ => congrArg (fun z : EReal => z * x5 (ix2 e k)) (hid_at x0 x1 x2 x3 x4 x5 x6 x7 b s e)

theorem up_at (b : Fin 2) (s : Fin 4096) (k : Fin 2816) :
    val_main_v22 (F := Ideal) x0 x1 x2 x3 x6 (ix3 b s k) = (inp x0 x1 x2 x3 x4 x5 x6 x7).u b s k := by
  refine Eq.trans (b := ∑ e : Fin 1024, val_main_v20 (F := Ideal) x0 x1 x2 x3 (ix3 b s e) * x6 (ix2 e k)) (by pointwise [val_main_v22]) ?_
  exact Finset.sum_congr rfl fun e _ => congrArg (fun z : EReal => z * x6 (ix2 e k)) (hid_at x0 x1 x2 x3 x4 x5 x6 x7 b s e)

theorem act_at (b : Fin 2) (s : Fin 4096) (k : Fin 2816) :
    val_main_v24 (F := Ideal) x0 x1 x2 x3 x5 x6 (ix3 b s k) = act (val_main_v21 (F := Ideal) x0 x1 x2 x3 x5 (ix3 b s k)) (val_main_v22 (F := Ideal) x0 x1 x2 x3 x6 (ix3 b s k)) := by
  unfold act Ideal.logistic
  pointwise [val_main_v24, val_main_v23, val_main_call0_v0, val_main_call0_v1, val_main_call0_v2, val_main_call0_v3, val_main_call0_v4, val_main_call0_v5,
    val_main_call0_cst, val_main_call0_cst_0]

theorem down_at (b : Fin 2) (s : Fin 4096) (d : Fin 1024) :
    val_main_v25 (F := Ideal) x0 x1 x2 x3 x5 x6 x7 (ix3 b s d) = (inp x0 x1 x2 x3 x4 x5 x6 x7).f b s d := by
  refine Eq.trans (b := ∑ k : Fin 2816, val_main_v24 (F := Ideal) x0 x1 x2 x3 x5 x6 (ix3 b s k) * x7 (ix2 k d)) (by pointwise [val_main_v25]) ?_
  refine Finset.sum_congr rfl fun k _ => congrArg (fun z : EReal => z * x7 (ix2 k d)) ?_
  exact (act_at x0 x1 x2 x3 x5 x6 b s k).trans (congrArg₂ act (gate_at x0 x1 x2 x3 x4 x5 x6 x7 b s k) (up_at x0 x1 x2 x3 x4 x5 x6 x7 b s k))

theorem v35_at (j : Fin 4) (T : Fin 8192) (f : Fin 704) :
    val_main_v35 (F := Ideal) x0 x1 x2 x3 x5 (ix3 j T f) = (inp x0 x1 x2 x3 x4 x5 x6 x7).a (bat T) (tok T) (lane j f) := by
  refine Eq.trans ?_ (gate_at x0 x1 x2 x3 x4 x5 x6 x7 (bat T) (tok T) (lane j f))
  unfold bat tok lane
  pointwise [val_main_v35, val_main_v34, val_main_v33]

theorem v38_at (j : Fin 4) (T : Fin 8192) (f : Fin 704) :
    val_main_v38 (F := Ideal) x0 x1 x2 x3 x6 (ix3 j T f) = (inp x0 x1 x2 x3 x4 x5 x6 x7).u (bat T) (tok T) (lane j f) := by
  refine Eq.trans ?_ (up_at x0 x1 x2 x3 x4 x5 x6 x7 (bat T) (tok T) (lane j f))
  unfold bat tok lane
  pointwise [val_main_v38, val_main_v37, val_main_v36]

theorem v40_at (T : Fin 8192) (d : Fin 1024) :
    val_main_v40 (F := Ideal) x0 x1 x2 x3 x5 x6 x7 (ix2 T d) = (inp x0 x1 x2 x3 x4 x5 x6 x7).f (bat T) (tok T) d := by
  refine Eq.trans ?_ (down_at x0 x1 x2 x3 x4 x5 x6 x7 (bat T) (tok T) d)
  unfold bat tok
  pointwise [val_main_v40, val_main_v39]

theorem v32_at (T : Fin 8192) (d : Fin 1024) :
    val_main_v32 (F := Ideal) x0 x1 x2 x3 x4 x5 x6 x7 (ix2 T d) = (inp x0 x1 x2 x3 x4 x5 x6 x7).y (bat T) (tok T) d := by
  refine Eq.trans (b := x0 (ix3 (bat T) (tok T) d) + Ideal.ofBits FTy.f32 1056964608#32 * x4 (ix2 (bat T) d) * val_main_v25 (F := Ideal) x0 x1 x2 x3 x5 x6 x7 (ix3 (bat T) (tok T) d)) ?_
    (by rw [down_at x0 x1 x2 x3 x4 x5 x6 x7]; rfl)
  unfold bat tok
  pointwise [val_main_v32, val_main_v31, val_main_v30, val_main_v29, val_main_v28, val_main_v27, val_main_v26, val_main_cst_3]

end Cert.Reference3Ideal.Ffn
end
-- ==== Proof.FfnClaim.lean ====
/-
  The forward pass of a feed-forward block: the frames, and the equality of the kernel's results and the reference's.
-/
module

public import proofs.«01_k».proof.Defs
public import proofs.«01_k».proof.Proof.Gen.Kernel3Ideal.Value
public import proofs.«01_k».proof.Proof.Gen.Reference3Ideal.Run
public import proofs.«01_k».proof.Proof.FfnArray
public import proofs.«01_k».proof.Proof.FfnRef
public import Idealize.ShloMosaic.Adequacy
public import Idealize.ShloMosaic.Init

@[expose] public section

set_option maxRecDepth 16384

noncomputable section

namespace Cert.Ffn

open Idealize.ShloMosaic Idealize.SL.Sem

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ) (c : Dev Cert.Kernel3Ideal.nD)

/-- The reference's result Y over the kernel's arguments. -/
def refY := Cert.Reference3Ideal.Read.val_main_v32 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))

theorem sameY : (Cert.Kernel3Ideal.Gen.dats m 0 c).arrAt 8 Cert.Kernel3Ideal.cfg0.N = refY m c := by
  rw [Cert.Kernel3Ideal.Ffn.final8]
  funext i
  obtain ⟨T, d, rfl⟩ : ∃ (T : Fin 8192) (d : Fin 1024), i = ix2 T d := ⟨i 0, i 1, by funext a; fin_cases a <;> rfl⟩
  exact (Cert.Reference3Ideal.Ffn.v32_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) T d).symm

/-- The reference's result A over the kernel's arguments. -/
def refA := Cert.Reference3Ideal.Read.val_main_v35 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg5))

theorem sameA : (Cert.Kernel3Ideal.Gen.dats m 0 c).arrAt 9 Cert.Kernel3Ideal.cfg0.N = refA m c := by
  rw [Cert.Kernel3Ideal.Ffn.final9]
  funext i
  obtain ⟨j, T, f, rfl⟩ : ∃ (j : Fin 4) (T : Fin 8192) (f : Fin 704), i = ix3 j T f := ⟨i 0, i 1, i 2, by funext a; fin_cases a <;> rfl⟩
  exact (Cert.Reference3Ideal.Ffn.v35_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) j T f).symm

/-- The reference's result U over the kernel's arguments. -/
def refU := Cert.Reference3Ideal.Read.val_main_v38 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg6))

theorem sameU : (Cert.Kernel3Ideal.Gen.dats m 0 c).arrAt 10 Cert.Kernel3Ideal.cfg0.N = refU m c := by
  rw [Cert.Kernel3Ideal.Ffn.final10]
  funext i
  obtain ⟨j, T, f, rfl⟩ : ∃ (j : Fin 4) (T : Fin 8192) (f : Fin 704), i = ix3 j T f := ⟨i 0, i 1, i 2, by funext a; fin_cases a <;> rfl⟩
  exact (Cert.Reference3Ideal.Ffn.v38_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) j T f).symm

/-- The reference's result F over the kernel's arguments. -/
def refF := Cert.Reference3Ideal.Read.val_main_v40 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))

theorem sameF : (Cert.Kernel3Ideal.Gen.dats m 0 c).arrAt 11 Cert.Kernel3Ideal.cfg0.N = refF m c := by
  rw [Cert.Kernel3Ideal.Ffn.final11]
  funext i
  obtain ⟨T, d, rfl⟩ : ∃ (T : Fin 8192) (d : Fin 1024), i = ix2 T d := ⟨i 0, i 1, by funext a; fin_cases a <;> rfl⟩
  exact (Cert.Reference3Ideal.Ffn.v40_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) T d).symm

/-- The kernel's four results are the reference's. -/
theorem algebraic : Cert.algebraic_Kernel3Ideal_Reference3Ideal := by
  intro m g m' g' _ hm
  refine ⟨refY m, refA m, refU m, refF m, ?_, ?_⟩
  · refine (θ_run Cert.Kernel3Ideal.defs _ _).mono (fun r h c => ?_) (Cert.Kernel3Ideal.Value.run_blocks (F := Ideal) m g)
    obtain ⟨k0, k1, k2, k3, ka⟩ := h c
    exact ⟨k0.trans (sameY m c), k1.trans (sameA m c), k2.trans (sameU m c), k3.trans (sameF m c), ka⟩
  · refine (θ_run Cert.Reference3Ideal.defs _ _).mono (fun r h c => ?_) (Cert.Reference3Ideal.Value.run (F := Ideal) m' g')
    obtain ⟨h0, h1, h2, h3, h4, h5, h6, h7⟩ := hm c
    obtain ⟨r0, r1, r2, r3, ra⟩ := h c
    refine ⟨r0.trans ((Cert.Reference3Ideal.Read.val_main_v32_eq m' c).trans (by rw [refY, h0, h1, h2, h3, h4, h5, h6, h7])), r1.trans ((Cert.Reference3Ideal.Read.val_main_v35_eq _ _ _ _ _).trans (by rw [refA, h0, h1, h2, h3, h5])),
      r2.trans ((Cert.Reference3Ideal.Read.val_main_v38_eq _ _ _ _ _).trans (by rw [refU, h0, h1, h2, h3, h6])), r3.trans ((Cert.Reference3Ideal.Read.val_main_v40_eq m' c).trans (by rw [refF, h0, h1, h2, h3, h5, h6, h7])), ra⟩

end Cert.Ffn
end
-- ==== Proof.DwinPoint.lean ====
/-
  The gradient of the input projection's weight: what a point leaves.
-/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Kernel4Ideal.Dwin

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI

theorem hz2 : (![0, 0] : Fin 2 → Nat) = fun _ => 0 := funext fun a => by fin_cases a <;> rfl

variable (c : Dev nD) (i : grid0.Coords) (a2 : Memref sig .tc .vmem S2048x3328 .bf16) (h2 : a2.IsWhole)
  (a3 : Memref sig .tc .vmem S2048x512 .bf16) (h3 : a3.IsWhole) (a4 : Memref sig .tc .vmem S3328x512 .bf16) (h4 : a4.IsWhole)
  (a5 : Memref sig .tc .vmem S3328x512 .f32) (h5 : a5.IsWhole)
  (x0 : Vec Ideal S2048x3328 .bf16) (x1 : Vec Ideal S2048x512 .bf16) (y0 : Vec Ideal S3328x512 .f32)

theorem accA (hc0 : cond0_0 i) (hc1 : ¬cond0_1 i) : sout0_A_0 c i a2 h2 a3 h3 a4 h4 a5 h5 hc0 hc1 x0 x1 = k0_pay2 (k0_pay1 (F := Ideal)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S3328x512) hz2, View.readCov_unit_zero (S := S3328x512) _ hz2]
  simp only [View.readAt_eq_ld, h2.read_unread, h3.read_unread, h5.read_unread, View.ld_unit_zero (S := S2048x3328) hz2,
    View.ld_unit_zero (S := S3328x512) hz2, View.ld_unit_zero (S := S2048x512) hz2]

theorem accB (hc0 : ¬cond0_0 i) (hc1 : ¬cond0_1 i) : sout0_B_0 c i a2 h2 a3 h3 a4 h4 a5 h5 hc0 hc1 x0 x1 y0 = k0_pay2 y0 x0 x1 := by
  unfold sout0_B_0
  rw [View.read_writes_eq_canon _ _ _ (scover0_B_0 c i a2 h2 a3 h3 a4 h4 a5 h5 hc0 hc1 x0 x1 y0)]
  unfold kernelRun0_B
  dsimp only
  rw [View.canon_unit_zero hz2]
  simp only [View.readAt_eq_ld, h2.read_unread, h3.read_unread, h5.read_unread, View.ld_unit_zero (S := S2048x3328) hz2,
    View.ld_unit_zero (S := S3328x512) hz2, View.ld_unit_zero (S := S2048x512) hz2]

theorem accC (hc0 : ¬cond0_0 i) (hc1 : cond0_1 i) : sout0_C_0 c i a2 h2 a3 h3 a4 h4 a5 h5 hc0 hc1 x0 x1 y0 = k0_pay2 y0 x0 x1 := by
  unfold sout0_C_0
  rw [View.read_writes_eq_canon _ _ _ (scover0_C_0 c i a2 h2 a3 h3 a4 h4 a5 h5 hc0 hc1 x0 x1 y0)]
  unfold kernelRun0_C
  dsimp only
  sl_unfold_words
  rw [View.canon_unit_zero (S := S3328x512) hz2]
  simp only [View.readAt_eq_ld, h2.read_unread, h3.read_unread, h5.read_unread, View.ld_unit_zero (S := S2048x3328) hz2,
    View.ld_unit_zero (S := S3328x512) hz2, View.ld_unit_zero (S := S2048x512) hz2]

theorem outC (hc0 : ¬cond0_0 i) (hc1 : cond0_1 i) : out0_C_2 c i a2 h2 a3 h3 a4 h4 a5 h5 hc0 hc1 x0 x1 y0 = k0_pay3 (k0_pay2 y0 x0 x1) := by
  unfold out0_C_2
  rw [View.read_writes_eq_canon _ _ _ (cover0_C_2 c i a2 h2 a3 h3 a4 h4 a5 h5 hc0 hc1 x0 x1 y0)]
  unfold kernelRun0_C
  dsimp only
  sl_unfold_words
  rw [View.canon_unit_zero (S := S3328x512) hz2, View.readCov_unit_zero (S := S3328x512) _ hz2]
  simp only [View.readAt_eq_ld, h2.read_unread, h3.read_unread, h5.read_unread, View.ld_unit_zero (S := S2048x3328) hz2,
    View.ld_unit_zero (S := S3328x512) hz2, View.ld_unit_zero (S := S2048x512) hz2]

theorem pay2_at (y : Vec Ideal S3328x512 .f32) (g : Vec Ideal S2048x3328 .bf16) (h : Vec Ideal S2048x512 .bf16) (k : Fin 3328) (f : Fin 512) :
    k0_pay2 y g h (ix2 k f) = y (ix2 k f) + ∑ r : Fin 2048, g (ix2 r k) * h (ix2 r f) := by
  pointwise [k0_pay2]

theorem pay1_at (k : Fin 3328) (f : Fin 512) : k0_pay1 (F := Ideal) (ix2 k f) = 0 := by
  pointwise [k0_pay1]

theorem pay3_at (y : Vec Ideal S3328x512 .f32) (k : Fin 3328) (f : Fin 512) : k0_pay3 y (ix2 k f) = y (ix2 k f) := by
  pointwise [k0_pay3]

end Cert.Kernel4Ideal.Dwin
end
-- ==== Proof.DwinMaths.lean ====
/-
  The input projection: the order of its columns in the step.
-/
module

public import Idealize.ShloMosaic.Lib.Pointwise

@[expose] public section

set_option maxRecDepth 16384

noncomputable section

namespace Cert.Dwin

open Idealize.ShloMosaic

/-- The columns in the step's order, with zeros where the step has none. -/
def catCol (g : Fin 3248 → EReal) (k : Fin 3328) : EReal :=
  if h : k.val < 2560 then g ⟨k.val, by omega⟩
  else if h1 : k.val < 3200 then g ⟨k.val + 16, by omega⟩
  else if h2 : k.val < 3216 then g ⟨k.val - 640, by omega⟩
  else if h3 : k.val < 3264 then 0
  else if h4 : k.val < 3296 then g ⟨k.val - 48, by omega⟩
  else 0

theorem catCol_1 (g : Fin 3248 → EReal) (k : Fin 3328) (h : k.val < 2560) : catCol g k = g ⟨k.val, by omega⟩ := by
  rw [catCol, dif_pos h]

theorem catCol_2 (g : Fin 3248 → EReal) (k : Fin 3328) (h : ¬k.val < 2560) (h1 : k.val < 3200) : catCol g k = g ⟨k.val + 16, by omega⟩ := by
  rw [catCol, dif_neg h, dif_pos h1]

theorem catCol_3 (g : Fin 3248 → EReal) (k : Fin 3328) (h : ¬k.val < 3200) (h1 : k.val < 3216) : catCol g k = g ⟨k.val - 640, by omega⟩ := by
  rw [catCol, dif_neg (show ¬k.val < 2560 by omega), dif_neg h, dif_pos h1]

theorem catCol_4 (g : Fin 3248 → EReal) (k : Fin 3328) (h : ¬k.val < 3216) (h1 : k.val < 3264) : catCol g k = 0 := by
  rw [catCol, dif_neg (show ¬k.val < 2560 by omega), dif_neg (show ¬k.val < 3200 by omega), dif_neg h, dif_pos h1]

theorem catCol_5 (g : Fin 3248 → EReal) (k : Fin 3328) (h : ¬k.val < 3264) (h1 : k.val < 3296) : catCol g k = g ⟨k.val - 48, by omega⟩ := by
  rw [catCol, dif_neg (show ¬k.val < 2560 by omega), dif_neg (show ¬k.val < 3200 by omega), dif_neg (show ¬k.val < 3216 by omega), dif_neg h, dif_pos h1]

theorem catCol_6 (g : Fin 3248 → EReal) (k : Fin 3328) (h : ¬k.val < 3296) : catCol g k = 0 := by
  rw [catCol, dif_neg (show ¬k.val < 2560 by omega), dif_neg (show ¬k.val < 3200 by omega), dif_neg (show ¬k.val < 3216 by omega),
    dif_neg (show ¬k.val < 3264 by omega), dif_neg h]

end Cert.Dwin
end
-- ==== Proof.DwinArray.lean ====
/-
  The gradient of the input projection's weight: the sums over the blocks of tokens, and the array of results.
-/
module

public import proofs.«01_k».proof.Proof.DwinPoint
public import proofs.«01_k».proof.Proof.DwinMaths
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel4Ideal.Dwin

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Cert.Dwin (catCol catCol_1 catCol_2 catCol_3 catCol_4 catCol_5 catCol_6)

open Idealize.ShloMosaic.Pipeline (Dat)

theorem place0 : ∀ t : Fin cfg0.N, win0_0.index t 0 = t.val % 4 ∧ win0_0.index t 1 = 0 := by
  decide +kernel

theorem place1 : ∀ t : Fin cfg0.N, win0_1.index t 0 = t.val % 4 ∧ win0_1.index t 1 = t.val / 4 := by
  decide +kernel

theorem place2 : ∀ t : Fin cfg0.N, win0_2.index t 0 = 0 ∧ win0_2.index t 1 = t.val / 4 := by
  decide +kernel

theorem read0 (A : S8192x3328.Idx → Elt Ideal .bf16) (t : Fin cfg0.N) (r : Fin 2048) (k : Fin 3328) (i : S8192x3328.Idx)
    (h0 : (i 0).val = 2048 * (t.val % 4) + r.val) (h1 : (i 1).val = k.val) :
    ((cfg0.win 0).blk t).view.read (Elt Ideal) A (ix2 r k : S2048x3328.Idx) = A i := by
  obtain ⟨e0, e1⟩ := place0 t
  blk_ext [e0, e1, h0, h1]

theorem read1 (A : S8192x1024.Idx → Elt Ideal .bf16) (t : Fin cfg0.N) (r : Fin 2048) (f : Fin 512) (i : S8192x1024.Idx)
    (h0 : (i 0).val = 2048 * (t.val % 4) + r.val) (h1 : (i 1).val = 512 * (t.val / 4) + f.val) :
    ((cfg0.win 1).blk t).view.read (Elt Ideal) A (ix2 r f : S2048x512.Idx) = A i := by
  obtain ⟨e0, e1⟩ := place1 t
  blk_ext [e0, e1, h0, h1]

theorem read2 (A : S3328x1024.Idx → Elt Ideal .bf16) (t : Fin cfg0.N) (k : Fin 3328) (f : Fin 512) (i : S3328x1024.Idx)
    (h0 : (i 0).val = k.val) (h1 : (i 1).val = 512 * (t.val / 4) + f.val) :
    ((cfg0.win 2).blk t).view.read (Elt Ideal) A (ix2 k f : S3328x512.Idx) = A i := by
  obtain ⟨e0, e1⟩ := place2 t
  blk_ext [e0, e1, h0, h1]

theorem mem2 (t : Fin cfg0.N) (i : S3328x1024.Idx) (h1 : (i 1).val / 512 = t.val / 4) : i ∈ ((cfg0.win 2).blk t).view.set := by
  show i ∈ ((View.whole main_v11).slice (win0_2.rect t)).set
  rw [View.set_slice_whole, Rect.mem_set_unit]
  obtain ⟨e0, e1⟩ := place2 t
  have hi0 : (i 0).val < 3328 := (i 0).isLt
  intro a
  match a with
  | ⟨0, _⟩ => show win0_2.index t 0 * 3328 ≤ (i 0).val ∧ (i 0).val < win0_2.index t 0 * 3328 + 3328; omega
  | ⟨1, _⟩ => show win0_2.index t 1 * 512 ≤ (i 1).val ∧ (i 1).val < win0_2.index t 1 * 512 + 512; omega

/-! ## The sums over the tokens -/

/-- One token's product in the gradient. -/
def prodAt (G : S8192x3328.Idx → EReal) (H : S8192x1024.Idx → EReal) (k : Fin 3328) (d T : ℕ) : EReal :=
  G (ix2 ⟨T % 8192, Nat.mod_lt _ (by omega)⟩ k) * H (ix2 ⟨T % 8192, Nat.mod_lt _ (by omega)⟩ ⟨d % 1024, Nat.mod_lt _ (by omega)⟩)

/-- The sum of the first `n` tokens' products. -/
def sumTo (G : S8192x3328.Idx → EReal) (H : S8192x1024.Idx → EReal) (k : Fin 3328) (d n : ℕ) : EReal :=
  ∑ T ∈ Finset.range n, prodAt G H k d T

theorem sumTo_block (G : S8192x3328.Idx → EReal) (H : S8192x1024.Idx → EReal) (k : Fin 3328) (d b : ℕ)
    (g : Fin 2048 → EReal) (hg : ∀ r : Fin 2048, g r = prodAt G H k d (2048 * b + r.val)) :
    sumTo G H k d (2048 * b) + ∑ r : Fin 2048, g r = sumTo G H k d (2048 * (b + 1)) := by
  have e : 2048 * (b + 1) = 2048 * b + 2048 := by ring
  rw [sumTo, sumTo, e, Finset.sum_range_add, ← Fin.sum_univ_eq_sum_range (fun T => prodAt G H k d (2048 * b + T))]
  exact congrArg _ (Finset.sum_congr rfl fun r _ => hg r)

variable (m : (ℓ : Loc nD τ sig) → Buf (Elt Ideal) ℓ) (c : Dev nD)

/-- The token's product at point `t`, from the two blocks that the point reads. -/
theorem point_prod (t : Fin cfg0.N) (k : Fin 3328) (f : Fin 512) (r : Fin 2048) :
    @HMul.hMul EReal EReal EReal _ (iblk m c 0 t (ix2 r k : S2048x3328.Idx)) (iblk m c 1 t (ix2 r f : S2048x512.Idx))
      = prodAt (V m c main_v8) (V m c main_v10) k (512 * (t.val / 4) + f.val) (2048 * (t.val % 4) + r.val) := by
  have hN : t.val < 8 := Nat.lt_of_lt_of_eq t.isLt N_0
  have hr := r.isLt
  have hf := f.isLt
  have e1 := read0 (V m c main_v8) t r k (ix2 ⟨(2048 * (t.val % 4) + r.val) % 8192, Nat.mod_lt _ (by omega)⟩ k)
    (by show (2048 * (t.val % 4) + r.val) % 8192 = _; omega) rfl
  have e2 := read1 (V m c main_v10) t r f (ix2 ⟨(2048 * (t.val % 4) + r.val) % 8192, Nat.mod_lt _ (by omega)⟩ ⟨(512 * (t.val / 4) + f.val) % 1024, Nat.mod_lt _ (by omega)⟩)
    (by show (2048 * (t.val % 4) + r.val) % 8192 = _; omega) (by show (512 * (t.val / 4) + f.val) % 1024 = _; omega)
  exact congrArg₂ (fun a b : EReal => a * b) e1 e2

/-- The sum that point `t` leaves. -/
theorem acc_at (n : ℕ) : ∀ t : Fin cfg0.N, t.val = n → ∀ (k : Fin 3328) (f : Fin 512), (outsAt0 m c t.val t.isLt).2 (ix2 k f)
    = sumTo (V m c main_v8) (V m c main_v10) k (512 * (t.val / 4) + f.val) (2048 * (t.val % 4 + 1)) := by
  have first : ∀ t : Fin cfg0.N, t.val % 4 = 0 → ∀ (k : Fin 3328) (f : Fin 512), (outsAt0 m c t.val t.isLt).2 (ix2 k f)
      = sumTo (V m c main_v8) (V m c main_v10) k (512 * (t.val / 4) + f.val) (2048 * (t.val % 4 + 1)) := by
    intro t h0 k f
    rw [outsAt0_A m c t h0 (by omega)]
    dsimp only
    rw [accA, pay2_at, pay1_at]
    refine Eq.trans ?_ (sumTo_block _ _ _ _ (t.val % 4) _ (point_prod m c t k f))
    rw [h0]
    rfl
  induction n with
  | zero => exact fun t ht => first t (by omega)
  | succ n ih =>
    intro t ht k f
    by_cases h0 : t.val % 4 = 0
    · exact first t h0 k f
    · have hI := ih ⟨t.val - 1, Nat.lt_of_le_of_lt (Nat.sub_le _ _) t.isLt⟩ (by show t.val - 1 = n; omega) k f
      have e1 : (t.val - 1) / 4 = t.val / 4 := by omega
      have e2 : (t.val - 1) % 4 + 1 = t.val % 4 := by omega
      dsimp only at hI
      rw [e1, e2] at hI
      by_cases h1 : t.val % 4 = 3
      · rw [outsAt0_C m c t h0 h1]
        dsimp only
        rw [accC, pay2_at]
        exact (congrArg (fun z : EReal => z + _) hI).trans (sumTo_block _ _ _ _ (t.val % 4) _ (point_prod m c t k f))
      · rw [outsAt0_B m c t h0 h1]
        dsimp only
        rw [accB, pay2_at]
        exact (congrArg (fun z : EReal => z + _) hI).trans (sumTo_block _ _ _ _ (t.val % 4) _ (point_prod m c t k f))

/-- The last block of tokens writes the whole sum back. -/
theorem out_at (t : Fin cfg0.N) (h1 : t.val % 4 = 3) (k : Fin 3328) (f : Fin 512) :
    (outsAt0 m c t.val t.isLt).1 (ix2 k f) = sumTo (V m c main_v8) (V m c main_v10) k (512 * (t.val / 4) + f.val) 8192 := by
  have hI := acc_at m c _ t rfl k f
  rw [outsAt0_C m c t (by omega) h1] at hI ⊢
  dsimp only at hI ⊢
  rw [outC, pay3_at]
  rw [accC, h1] at hI
  exact hI

/-- The array of results. -/
theorem final : (dats m 0 c).arrAt 2 cfg0.N
    = fun i : S3328x1024.Idx => sumTo (V m c main_v8) (V m c main_v10) (i 0) (i 1).val 8192 := by
  refine (dats m 0 c).arrAt_eq_of_cover 2 (fun i : S3328x1024.Idx => sumTo (V m c main_v8) (V m c main_v10) (i 0) (i 1).val 8192)
    (fun t h => ?_) fun (i : S3328x1024.Idx) => ?_
  · have h1 := (flush0_2 t).mp h
    show (cfg0.win 2).cut (grid0.coords t) ((dats m 0 c).after 2 t) = _
    rw [after0_2]
    refine funext fun (y : S3328x512.Idx) => ?_
    obtain ⟨k, f, rfl⟩ : ∃ (k : Fin 3328) (f : Fin 512), y = ix2 k f := ⟨y 0, y 1, by funext i; fin_cases i <;> rfl⟩
    have hN : t.val < 8 := Nat.lt_of_lt_of_eq t.isLt N_0
    refine Eq.trans ?_ (read2 _ t k f (ix2 k ⟨512 * (t.val / 4) + f.val, by have := f.isLt; omega⟩) rfl rfl).symm
    exact out_at m c t h1 k f
  · have h0 : (i 1).val < 1024 := (i 1).isLt
    have hN : cfg0.N = 8 := N_0
    have ht : 4 * ((i 1).val / 512) + 3 < cfg0.N := by omega
    exact ⟨⟨_, ht⟩, (flush0_2 _).mpr (by show (4 * ((i 1).val / 512) + 3) % 4 = 3; omega),
      mem2 _ _ (by show (i 1).val / 512 = (4 * ((i 1).val / 512) + 3) / 4; omega)⟩

/-! ## What the host prepares -/

/-- The rows of the tokens, in the kernel's format. -/
def rowsOf (x : FVec Ideal S2x4096x1024 .f32) : FVec Ideal S8192x1024 .bf16 :=
  truncf .bf16 (shapeCast S8192x1024 x shapeCasts_S2x4096x1024_S8192x1024) bitsLt_bf16_f32

/-- The columns in the step's order. -/
def ordered (x : FVec Ideal S2x4096x3248 .f32) : FVec Ideal S2x4096x3328 .f32 :=
  concatenate S2x4096x3328 2 [
    ⟨S2x4096x2560, extractStridedSlice S2x4096x2560 ![0, 0, 0] x slices_S2x4096x3248_S2x4096x2560_0_0_0⟩,
    ⟨S2x4096x640, extractStridedSlice S2x4096x640 ![0, 0, 2576] x slices_S2x4096x3248_S2x4096x640_0_0_2576⟩,
    ⟨S2x4096x16, extractStridedSlice S2x4096x16 ![0, 0, 2560] x slices_S2x4096x3248_S2x4096x16_0_0_2560⟩,
    ⟨S2x4096x48, broadcastInDim S2x4096x48 ![] bcast_S_S2x4096x48 (constant S_ .f32 0x00000000#32)⟩,
    ⟨S2x4096x32, extractStridedSlice S2x4096x32 ![0, 0, 3216] x slices_S2x4096x3248_S2x4096x32_0_0_3216⟩,
    ⟨S2x4096x32, broadcastInDim S2x4096x32 ![] bcast_S_S2x4096x32 (constant S_ .f32 0x00000000#32)⟩]
    concatenates_S2x4096x2560_S2x4096x640_S2x4096x16_S2x4096x48_S2x4096x32_S2x4096x32_S2x4096x3328_d2

/-- The rows of the ordered columns, in the kernel's format. -/
def colsOf (x : FVec Ideal S2x4096x3248 .f32) : FVec Ideal S8192x3328 .bf16 :=
  truncf .bf16 (shapeCast S8192x3328 (ordered x) shapeCasts_S2x4096x3328_S8192x3328) bitsLt_bf16_f32

theorem rowsOf_at (x : FVec Ideal S2x4096x1024 .f32) (T : Fin 8192) (d : Fin 1024) :
    rowsOf x (ix2 T d) = x (ix3 ⟨T.val / 4096, by have := T.isLt; omega⟩ ⟨T.val % 4096, Nat.mod_lt _ (by omega)⟩ d) := by
  pointwise [rowsOf]

theorem ordered_at (x : FVec Ideal S2x4096x3248 .f32) (b : Fin 2) (s : Fin 4096) (k : Fin 3328) :
    ordered x (ix3 b s k) = catCol (fun j => x (ix3 b s j)) k := by
  pointwise [ordered]
  have hk := k.isLt
  by_cases h1 : k.val < 2560
  · rw [dif_pos h1, catCol_1 _ _ h1]
  rw [dif_neg h1]
  by_cases h2 : k.val - 2560 < 640
  · rw [dif_pos h2, catCol_2 _ _ h1 (by omega)]
    exact congrArg (fun j : Fin 3248 => x (ix3 b s j)) (Fin.ext (by show 2576 + (k.val - 2560) = k.val + 16; omega))
  rw [dif_neg h2]
  by_cases h3 : k.val - 2560 - 640 < 16
  · rw [dif_pos h3, catCol_3 _ _ (by omega) (by omega)]
    exact congrArg (fun j : Fin 3248 => x (ix3 b s j)) (Fin.ext (by show 2560 + (k.val - 2560 - 640) = k.val - 640; omega))
  rw [dif_neg h3]
  by_cases h4 : k.val - 2560 - 640 - 16 < 48
  · rw [dif_pos h4, catCol_4 _ _ (by omega) (by omega)]
  rw [dif_neg h4]
  by_cases h5 : k.val - 2560 - 640 - 16 - 48 < 32
  · rw [dif_pos h5, catCol_5 _ _ (by omega) (by omega)]
    exact congrArg (fun j : Fin 3248 => x (ix3 b s j)) (Fin.ext (by show 3216 + (k.val - 2560 - 640 - 16 - 48) = k.val - 48; omega))
  rw [dif_neg h5, catCol_6 _ _ (by omega)]

theorem colsOf_at (x : FVec Ideal S2x4096x3248 .f32) (T : Fin 8192) (k : Fin 3328) :
    colsOf x (ix2 T k) = catCol (fun j => x (ix3 ⟨T.val / 4096, by have := T.isLt; omega⟩ ⟨T.val % 4096, Nat.mod_lt _ (by omega)⟩ j)) k := by
  refine Eq.trans ?_ (ordered_at x ⟨T.val / 4096, by have := T.isLt; omega⟩ ⟨T.val % 4096, Nat.mod_lt _ (by omega)⟩ k)
  pointwise [colsOf]

theorem V_v10 : V m c main_v10 = rowsOf (m ((c : Thread nD τ).loc main_arg1)) := by
  unfold rowsOf
  after_reads_simp
  rfl

theorem V_v8 : V m c main_v8 = colsOf (m ((c : Thread nD τ).loc main_arg0)) := by
  unfold colsOf ordered
  after_reads_simp
  rfl

/-- The gradient as one sum over the batch and the rows. -/
theorem sum_tokens (x : FVec Ideal S2x4096x3248 .f32) (y : FVec Ideal S2x4096x1024 .f32) (k : Fin 3328) (d : Fin 1024) :
    sumTo (colsOf x) (rowsOf y) k d.val 8192
      = ∑ b : Fin 2, ∑ s : Fin 4096, catCol (fun j => x (ix3 b s j)) k * y (ix3 b s d) := by
  have hd := d.isLt
  have hb : ∀ b : ℕ, ∀ hb : b < 2, ∀ s : Fin 4096, prodAt (colsOf x) (rowsOf y) k d.val (4096 * b + s.val)
      = catCol (fun j => x (ix3 ⟨b, hb⟩ s j)) k * y (ix3 ⟨b, hb⟩ s d) := by
    intro b hb s
    have hs := s.isLt
    rw [prodAt, colsOf_at, rowsOf_at]
    have e1 : (⟨(4096 * b + s.val) % 8192 / 4096, by omega⟩ : Fin 2) = ⟨b, hb⟩ := Fin.ext (by show (4096 * b + s.val) % 8192 / 4096 = b; omega)
    have e2 : (⟨(4096 * b + s.val) % 8192 % 4096, by omega⟩ : Fin 4096) = s := Fin.ext (by show (4096 * b + s.val) % 8192 % 4096 = s.val; omega)
    have e3 : (⟨d.val % 1024, by omega⟩ : Fin 1024) = d := Fin.ext (by show d.val % 1024 = d.val; omega)
    dsimp only
    rw [e1, e2, e3]
  rw [sumTo, show (8192 : ℕ) = 4096 + 4096 from rfl, Finset.sum_range_add, Fin.sum_univ_two,
    ← Fin.sum_univ_eq_sum_range (fun T => prodAt (colsOf x) (rowsOf y) k d.val T),
    ← Fin.sum_univ_eq_sum_range (fun T => prodAt (colsOf x) (rowsOf y) k d.val (4096 + T))]
  refine congrArg₂ (fun a b : EReal => a + b) (Finset.sum_congr rfl fun s _ => ?_) (Finset.sum_congr rfl fun s _ => ?_)
  · have := hb 0 (by omega) s
    rw [Nat.mul_zero, Nat.zero_add] at this
    exact this
  · exact hb 1 (by omega) s

end Cert.Kernel4Ideal.Dwin
end
-- ==== Proof.DwinRef.lean ====
/-
  The gradient of the input projection's weight: the reference's result at an index.
-/
module

public import proofs.«01_k».proof.Proof.DwinMaths
public import proofs.«01_k».proof.Proof.Gen.Reference4Ideal.Read
public import Idealize.ShloMosaic.Lib.Pointwise

@[expose] public section

set_option maxRecDepth 16384

noncomputable section

namespace Cert.Reference4Ideal.Dwin

open Cert.Reference4Ideal Cert.Reference4Ideal.Gen Cert.Reference4Ideal.Read
open Idealize.ShloMosaic Idealize.ShloMosaic.TcCoe Idealize.ShloMosaic.Tactic
open Cert.Dwin (catCol catCol_1 catCol_2 catCol_3 catCol_4 catCol_5 catCol_6)

variable (x : FVec Ideal S2x4096x3248 .f32) (y : FVec Ideal S2x4096x1024 .f32)

theorem v5_at (j : Fin 3248) (d : Fin 1024) :
    val_main_v5 (F := Ideal) x y (ix2 j d) = ∑ b : Fin 2, ∑ s : Fin 4096, x (ix3 b s j) * y (ix3 b s d) := by
  pointwise [val_main_v5, val_main_v4, val_main_v3, val_main_v2]

theorem v12_cat (k : Fin 3328) (d : Fin 1024) :
    val_main_v12 (F := Ideal) x y (ix2 k d) = catCol (fun j => val_main_v5 (F := Ideal) x y (ix2 j d)) k := by
  pointwise [val_main_v12, val_main_v6, val_main_v7, val_main_v8, val_main_v9, val_main_v10, val_main_v11, val_main_cst_0, val_main_cst_1]
  have hk := k.isLt
  by_cases h1 : k.val < 2560
  · rw [dif_pos h1, catCol_1 _ _ h1]
  rw [dif_neg h1]
  by_cases h2 : k.val - 2560 < 640
  · rw [dif_pos h2, catCol_2 _ _ h1 (by omega)]
    exact congrArg (fun j : Fin 3248 => val_main_v5 (F := Ideal) x y (ix2 j d)) (Fin.ext (by show 2576 + (k.val - 2560) = k.val + 16; omega))
  rw [dif_neg h2]
  by_cases h3 : k.val - 2560 - 640 < 16
  · rw [dif_pos h3, catCol_3 _ _ (by omega) (by omega)]
    exact congrArg (fun j : Fin 3248 => val_main_v5 (F := Ideal) x y (ix2 j d)) (Fin.ext (by show 2560 + (k.val - 2560 - 640) = k.val - 640; omega))
  rw [dif_neg h3]
  by_cases h4 : k.val - 2560 - 640 - 16 < 48
  · rw [dif_pos h4, catCol_4 _ _ (by omega) (by omega)]
  rw [dif_neg h4]
  by_cases h5 : k.val - 2560 - 640 - 16 - 48 < 32
  · rw [dif_pos h5, catCol_5 _ _ (by omega) (by omega)]
    exact congrArg (fun j : Fin 3248 => val_main_v5 (F := Ideal) x y (ix2 j d)) (Fin.ext (by show 3216 + (k.val - 2560 - 640 - 16 - 48) = k.val - 48; omega))
  rw [dif_neg h5, catCol_6 _ _ (by omega)]

theorem v12_at (k : Fin 3328) (d : Fin 1024) :
    val_main_v12 (F := Ideal) x y (ix2 k d) = ∑ b : Fin 2, ∑ s : Fin 4096, catCol (fun j => x (ix3 b s j)) k * y (ix3 b s d) := by
  rw [v12_cat]
  simp only [v5_at]
  unfold catCol
  split_ifs <;> first | rfl | simp only [zero_mul, Finset.sum_const_zero]

end Cert.Reference4Ideal.Dwin
end
-- ==== Proof.DwinClaim.lean ====
/-
  The gradient of the input projection's weight: the frames, and the equality of the kernel's result and the reference's.
-/
module

public import proofs.«01_k».proof.Defs
public import proofs.«01_k».proof.Proof.Gen.Kernel4Ideal.Value
public import proofs.«01_k».proof.Proof.Gen.Reference4Ideal.Run
public import proofs.«01_k».proof.Proof.DwinArray
public import proofs.«01_k».proof.Proof.DwinRef
public import Idealize.ShloMosaic.Adequacy
public import Idealize.ShloMosaic.Init

@[expose] public section

set_option maxRecDepth 16384

noncomputable section

namespace Cert.Dwin

open Idealize.ShloMosaic Idealize.SL.Sem

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ) (c : Dev Cert.Kernel4Ideal.nD)

/-- The reference's result over the kernel's arguments. -/
def ref := Cert.Reference4Ideal.Read.val_main_v12 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))

theorem same : (Cert.Kernel4Ideal.Gen.dats m 0 c).arrAt 2 Cert.Kernel4Ideal.cfg0.N = ref m c := by
  rw [Cert.Kernel4Ideal.Dwin.final, Cert.Kernel4Ideal.Dwin.V_v8, Cert.Kernel4Ideal.Dwin.V_v10]
  funext i
  obtain ⟨k, d, rfl⟩ : ∃ (k : Fin 3328) (d : Fin 1024), i = ix2 k d := ⟨i 0, i 1, by funext a; fin_cases a <;> rfl⟩
  exact (Cert.Kernel4Ideal.Dwin.sum_tokens _ _ k d).trans (Cert.Reference4Ideal.Dwin.v12_at (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) k d).symm

/-- The kernel's gradient is the reference's. -/
theorem algebraic : Cert.algebraic_Kernel4Ideal_Reference4Ideal := by
  intro m g m' g' _ hm
  refine ⟨ref m, ?_, ?_⟩
  · refine (θ_run Cert.Kernel4Ideal.defs _ _).mono (fun r h c => ?_) (Cert.Kernel4Ideal.Value.run_blocks (F := Ideal) m g)
    obtain ⟨k0, ka⟩ := h c
    exact ⟨k0.trans (same m c), ka⟩
  · refine (θ_run Cert.Reference4Ideal.defs _ _).mono (fun r h c => ?_) (Cert.Reference4Ideal.Value.run (F := Ideal) m' g')
    obtain ⟨h0, h1⟩ := hm c
    obtain ⟨r0, ra⟩ := h c
    exact ⟨r0.trans ((Cert.Reference4Ideal.Read.val_main_v12_eq _ _).trans (by rw [ref, h0, h1])), ra⟩

end Cert.Dwin
end
-- ==== Proof.InprojMaths.lean ====
/-
  The forward pass of the input projection: the functions both sides compute.
-/
module

public import proofs.«01_k».proof.Proof.FfnMaths
public import proofs.«01_k».proof.Proof.DwinMaths

@[expose] public section

set_option maxRecDepth 16384

noncomputable section

namespace Cert.Inproj

open Idealize.ShloMosaic
open Cert.Ffn (modRow dotRow)
open Cert.Dwin (catCol)

/-- The arguments of the projection. -/
structure Inp where
  x : Fin 2 → Fin 4096 → Fin 1024 → EReal
  n : Fin 1024 → EReal
  sh : Fin 2 → Fin 1024 → EReal
  sc : Fin 2 → Fin 1024 → EReal
  w : Fin 1024 → Fin 3248 → EReal

variable (I : Inp)

/-- The modulated row. -/
def Inp.hid (b : Fin 2) (s : Fin 4096) : Fin 1024 → EReal := modRow (I.x b s) I.n (I.sc b) (I.sh b)

/-- The projected row. -/
def Inp.p (b : Fin 2) (s : Fin 4096) (j : Fin 3248) : EReal := dotRow (I.hid b s) fun e => I.w e j

/-- The projected row in the step's order. -/
def Inp.q (b : Fin 2) (s : Fin 4096) (k : Fin 3328) : EReal := catCol (I.p b s) k

/-- The product with the ordered weight is the ordered product. -/
theorem dotRow_catCol (h : Fin 1024 → EReal) (w : Fin 1024 → Fin 3248 → EReal) (k : Fin 3328) :
    dotRow h (fun e => catCol (w e) k) = catCol (fun j => dotRow h fun e => w e j) k := by
  unfold dotRow catCol
  split_ifs <;> first | rfl | simp only [mul_zero, Finset.sum_const_zero]

end Cert.Inproj
end
-- ==== Proof.InprojArray.lean ====
/-
  The forward pass of the input projection: what one block of rows leaves, and the arrays of results over the kernel's arguments.
-/
module

public import proofs.«01_k».proof.Proof.InprojMaths
public import proofs.«01_k».proof.Proof.Gen.Kernel5Ideal.Frame
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Cert.Ffn (modRow dotRow bat tok)
open Cert.Inproj (Inp)
open Cert.Dwin (catCol catCol_1 catCol_2 catCol_3 catCol_4 catCol_5 catCol_6)

open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stored vectors at an index -/

theorem pay4_at (x : Vec Ideal S1024x1024 .f32) (n : Vec Ideal S1x1024 .f32) (sc sh : Vec Ideal S1x1x1024 .f32) (w : Vec Ideal S3328x1024 .bf16) (r : Fin 1024) (k : Fin 3328) :
    k0_pay4 x n sc sh w (ix2 r k)
      = dotRow (modRow (fun e => x (ix2 r e)) (fun e => n (ix2 0 e)) (fun e => sc (ix3 0 0 e)) (fun e => sh (ix3 0 0 e))) (fun e => w (ix2 k e)) := by
  unfold dotRow modRow
  pointwise [k0_pay4]

theorem pay5_at (x : Vec Ideal S1024x1024 .f32) (n : Vec Ideal S1x1024 .f32) (sc sh : Vec Ideal S1x1x1024 .f32) (w : Vec Ideal S3328x1024 .bf16) (r : Fin 1024) (l : Fin 1024) :
    k0_pay5 x n sc sh w (ix2 r l) = k0_pay4 x n sc sh w (ix2 r ⟨0 + l.val, by have := l.isLt; omega⟩) := by
  unfold k0_pay5
  generalize k0_pay4 x n sc sh w = y
  pointwise []

theorem pay6_at (x : Vec Ideal S1024x1024 .f32) (n : Vec Ideal S1x1024 .f32) (sc sh : Vec Ideal S1x1x1024 .f32) (w : Vec Ideal S3328x1024 .bf16) (r : Fin 1024) (l : Fin 1536) :
    k0_pay6 x n sc sh w (ix2 r l) = k0_pay4 x n sc sh w (ix2 r ⟨1024 + l.val, by have := l.isLt; omega⟩) := by
  unfold k0_pay6
  generalize k0_pay4 x n sc sh w = y
  pointwise []

theorem pay1_at (y : FVec Ideal S1024x3328 .f32) (r : Fin 1024) (l : Fin 384) :
    k0_pay1 y (ix2 r l) = y (ix2 r ⟨2560 + l.val, by have := l.isLt; omega⟩) := by
  pointwise [k0_pay1]

theorem pay2_at (y : FVec Ideal S1024x3328 .f32) (r : Fin 1024) (l : Fin 256) :
    k0_pay2 y (ix2 r l) = y (ix2 r ⟨2944 + l.val, by have := l.isLt; omega⟩) := by
  pointwise [k0_pay2]

theorem pay3_at (y : FVec Ideal S1024x3328 .f32) (r : Fin 1024) (l : Fin 128) :
    k0_pay3 y (ix2 r l) = y (ix2 r ⟨3200 + l.val, by have := l.isLt; omega⟩) := by
  pointwise [k0_pay3]

variable (x0 : Vec Ideal S1024x1024 .f32) (x1 : Vec Ideal S1x1024 .f32) (x2 x3 : Vec Ideal S1x1x1024 .f32) (x4 : Vec Ideal S3328x1024 .bf16)

theorem out5_at (r : Fin 1024) (l : Fin 1024) :
    out0_5 x0 x1 x2 x3 x4 (ix2 r l) = k0_pay4 x0 x1 x3 x2 x4 (ix2 r ⟨0 + l.val, by have := l.isLt; omega⟩) := by
  unfold out0_5
  rw [View.canon_unit_zero (S := S1024x1024) hz2, pay5_at, View.ld_unit_zero (S := S1024x1024) hz2, View.ld_unit_zero (S := S1x1024) hz2,
    View.ld_unit_zero (S := S1x1x1024) hz3, View.ld_unit_zero (S := S1x1x1024) hz3, View.ld_unit_zero (S := S3328x1024) hz2]

theorem out6_at (r : Fin 1024) (l : Fin 1536) :
    out0_6 x0 x1 x2 x3 x4 (ix2 r l) = k0_pay4 x0 x1 x3 x2 x4 (ix2 r ⟨1024 + l.val, by have := l.isLt; omega⟩) := by
  unfold out0_6
  rw [View.canon_unit_zero (S := S1024x1536) hz2, pay6_at, View.ld_unit_zero (S := S1024x1024) hz2, View.ld_unit_zero (S := S1x1024) hz2,
    View.ld_unit_zero (S := S1x1x1024) hz3, View.ld_unit_zero (S := S1x1x1024) hz3, View.ld_unit_zero (S := S3328x1024) hz2]

theorem out7_at (r : Fin 1024) (l : Fin 384) :
    out0_7 x0 x1 x2 x3 x4 (ix2 r l) = k0_pay4 x0 x1 x3 x2 x4 (ix2 r ⟨2560 + l.val, by have := l.isLt; omega⟩) := by
  unfold out0_7 k0_pay7
  rw [View.canon_unit_zero (S := S1024x384) hz2, pay1_at, View.ld_unit_zero (S := S1024x1024) hz2, View.ld_unit_zero (S := S1x1024) hz2,
    View.ld_unit_zero (S := S1x1x1024) hz3, View.ld_unit_zero (S := S1x1x1024) hz3, View.ld_unit_zero (S := S3328x1024) hz2]

theorem out8_at (r : Fin 1024) (l : Fin 256) :
    out0_8 x0 x1 x2 x3 x4 (ix2 r l) = k0_pay4 x0 x1 x3 x2 x4 (ix2 r ⟨2944 + l.val, by have := l.isLt; omega⟩) := by
  unfold out0_8 k0_pay7
  rw [View.canon_unit_zero (S := S1024x256) hz2, pay2_at, View.ld_unit_zero (S := S1024x1024) hz2, View.ld_unit_zero (S := S1x1024) hz2,
    View.ld_unit_zero (S := S1x1x1024) hz3, View.ld_unit_zero (S := S1x1x1024) hz3, View.ld_unit_zero (S := S3328x1024) hz2]

theorem out9_at (r : Fin 1024) (l : Fin 128) :
    out0_9 x0 x1 x2 x3 x4 (ix2 r l) = k0_pay4 x0 x1 x3 x2 x4 (ix2 r ⟨3200 + l.val, by have := l.isLt; omega⟩) := by
  unfold out0_9 k0_pay7
  rw [View.canon_unit_zero (S := S1024x128) hz2, pay3_at, View.ld_unit_zero (S := S1024x1024) hz2, View.ld_unit_zero (S := S1x1024) hz2,
    View.ld_unit_zero (S := S1x1x1024) hz3, View.ld_unit_zero (S := S1x1x1024) hz3, View.ld_unit_zero (S := S3328x1024) hz2]

/-! ## Where the blocks lie -/

theorem place0 : ∀ t : Fin cfg0.N, win0_0.index t 0 = t.val ∧ win0_0.index t 1 = 0 := by
  decide +kernel

theorem place5 : ∀ t : Fin cfg0.N, win0_5.index t 0 = t.val ∧ win0_5.index t 1 = 0 := by
  decide +kernel

theorem place6 : ∀ t : Fin cfg0.N, win0_6.index t 0 = t.val ∧ win0_6.index t 1 = 0 := by
  decide +kernel

theorem place7 : ∀ t : Fin cfg0.N, win0_7.index t 0 = t.val ∧ win0_7.index t 1 = 0 := by
  decide +kernel

theorem place8 : ∀ t : Fin cfg0.N, win0_8.index t 0 = t.val ∧ win0_8.index t 1 = 0 := by
  decide +kernel

theorem place9 : ∀ t : Fin cfg0.N, win0_9.index t 0 = t.val ∧ win0_9.index t 1 = 0 := by
  decide +kernel

theorem place1 : ∀ t : Fin cfg0.N, win0_1.index t 0 = 0 ∧ win0_1.index t 1 = 0 := by
  decide +kernel

theorem place4 : ∀ t : Fin cfg0.N, win0_4.index t 0 = 0 ∧ win0_4.index t 1 = 0 := by
  decide +kernel

theorem place2 : ∀ t : Fin cfg0.N, win0_2.index t 0 = t.val / 4 ∧ win0_2.index t 1 = 0 ∧ win0_2.index t 2 = 0 := by
  decide +kernel

theorem place3 : ∀ t : Fin cfg0.N, win0_3.index t 0 = t.val / 4 ∧ win0_3.index t 1 = 0 ∧ win0_3.index t 2 = 0 := by
  decide +kernel

theorem read0 (A : S8192x1024.Idx → Elt Ideal .f32) (t : Fin cfg0.N) (r : Fin 1024) (d : Fin 1024) (i : S8192x1024.Idx)
    (h0 : (i 0).val = 1024 * t.val + r.val) (h1 : (i 1).val = d.val) :
    ((cfg0.win 0).blk t).view.read (Elt Ideal) A (ix2 r d : S1024x1024.Idx) = A i := by
  obtain ⟨e0, e1⟩ := place0 t
  blk_ext [e0, e1, h0, h1]

theorem read5 (A : S8192x1024.Idx → Elt Ideal .bf16) (t : Fin cfg0.N) (r : Fin 1024) (d : Fin 1024) (i : S8192x1024.Idx)
    (h0 : (i 0).val = 1024 * t.val + r.val) (h1 : (i 1).val = d.val) :
    ((cfg0.win 5).blk t).view.read (Elt Ideal) A (ix2 r d : S1024x1024.Idx) = A i := by
  obtain ⟨e0, e1⟩ := place5 t
  blk_ext [e0, e1, h0, h1]

theorem read6 (A : S8192x1536.Idx → Elt Ideal .bf16) (t : Fin cfg0.N) (r : Fin 1024) (d : Fin 1536) (i : S8192x1536.Idx)
    (h0 : (i 0).val = 1024 * t.val + r.val) (h1 : (i 1).val = d.val) :
    ((cfg0.win 6).blk t).view.read (Elt Ideal) A (ix2 r d : S1024x1536.Idx) = A i := by
  obtain ⟨e0, e1⟩ := place6 t
  blk_ext [e0, e1, h0, h1]

theorem read7 (A : S8192x384.Idx → Elt Ideal .f32) (t : Fin cfg0.N) (r : Fin 1024) (d : Fin 384) (i : S8192x384.Idx)
    (h0 : (i 0).val = 1024 * t.val + r.val) (h1 : (i 1).val = d.val) :
    ((cfg0.win 7).blk t).view.read (Elt Ideal) A (ix2 r d : S1024x384.Idx) = A i := by
  obtain ⟨e0, e1⟩ := place7 t
  blk_ext [e0, e1, h0, h1]

theorem read8 (A : S8192x256.Idx → Elt Ideal .f32) (t : Fin cfg0.N) (r : Fin 1024) (d : Fin 256) (i : S8192x256.Idx)
    (h0 : (i 0).val = 1024 * t.val + r.val) (h1 : (i 1).val = d.val) :
    ((cfg0.win 8).blk t).view.read (Elt Ideal) A (ix2 r d : S1024x256.Idx) = A i := by
  obtain ⟨e0, e1⟩ := place8 t
  blk_ext [e0, e1, h0, h1]

theorem read9 (A : S8192x128.Idx → Elt Ideal .f32) (t : Fin cfg0.N) (r : Fin 1024) (d : Fin 128) (i : S8192x128.Idx)
    (h0 : (i 0).val = 1024 * t.val + r.val) (h1 : (i 1).val = d.val) :
    ((cfg0.win 9).blk t).view.read (Elt Ideal) A (ix2 r d : S1024x128.Idx) = A i := by
  obtain ⟨e0, e1⟩ := place9 t
  blk_ext [e0, e1, h0, h1]

theorem read1 (A : S1x1024.Idx → Elt Ideal .f32) (t : Fin cfg0.N) (d : Fin 1024) :
    ((cfg0.win 1).blk t).view.read (Elt Ideal) A (ix2 0 d : S1x1024.Idx) = A (ix2 0 d) := by
  obtain ⟨e0, e1⟩ := place1 t
  blk_ext [e0, e1]

theorem read4 (A : S3328x1024.Idx → Elt Ideal .bf16) (t : Fin cfg0.N) (k : Fin 3328) (d : Fin 1024) :
    ((cfg0.win 4).blk t).view.read (Elt Ideal) A (ix2 k d : S3328x1024.Idx) = A (ix2 k d) := by
  obtain ⟨e0, e1⟩ := place4 t
  blk_ext [e0, e1]

theorem read2 (A : S2x1x1024.Idx → Elt Ideal .f32) (t : Fin cfg0.N) (d : Fin 1024) (i : S2x1x1024.Idx)
    (h0 : (i 0).val = t.val / 4) (h1 : (i 1).val = 0) (h2 : (i 2).val = d.val) :
    ((cfg0.win 2).blk t).view.read (Elt Ideal) A (ix3 0 0 d : S1x1x1024.Idx) = A i := by
  obtain ⟨e0, e1, e2⟩ := place2 t
  blk_ext [e0, e1, e2, h0, h1, h2]

theorem read3 (A : S2x1x1024.Idx → Elt Ideal .f32) (t : Fin cfg0.N) (d : Fin 1024) (i : S2x1x1024.Idx)
    (h0 : (i 0).val = t.val / 4) (h1 : (i 1).val = 0) (h2 : (i 2).val = d.val) :
    ((cfg0.win 3).blk t).view.read (Elt Ideal) A (ix3 0 0 d : S1x1x1024.Idx) = A i := by
  obtain ⟨e0, e1, e2⟩ := place3 t
  blk_ext [e0, e1, e2, h0, h1, h2]

theorem flush5 : ∀ t : Fin cfg0.N, (cfg0.win 5).flush t = true := by
  decide +kernel

theorem mem5 (t : Fin cfg0.N) (i : S8192x1024.Idx) (h0 : (i 0).val / 1024 = t.val) : i ∈ ((cfg0.win 5).blk t).view.set := by
  show i ∈ ((View.whole main_v13_0).slice (win0_5.rect t)).set
  rw [View.set_slice_whole, Rect.mem_set_unit]
  obtain ⟨e0, e1⟩ := place5 t
  intro a
  match a with
  | ⟨0, _⟩ =>
    show win0_5.index t 0 * 1024 ≤ (i 0).val ∧ (i 0).val < win0_5.index t 0 * 1024 + 1024
    omega
  | ⟨1, _⟩ =>
    have : (i 1).val < 1024 := (i 1).isLt
    show win0_5.index t 1 * 1024 ≤ (i 1).val ∧ (i 1).val < win0_5.index t 1 * 1024 + 1024
    omega

theorem flush6 : ∀ t : Fin cfg0.N, (cfg0.win 6).flush t = true := by
  decide +kernel

theorem mem6 (t : Fin cfg0.N) (i : S8192x1536.Idx) (h0 : (i 0).val / 1024 = t.val) : i ∈ ((cfg0.win 6).blk t).view.set := by
  show i ∈ ((View.whole main_v13_1).slice (win0_6.rect t)).set
  rw [View.set_slice_whole, Rect.mem_set_unit]
  obtain ⟨e0, e1⟩ := place6 t
  intro a
  match a with
  | ⟨0, _⟩ =>
    show win0_6.index t 0 * 1024 ≤ (i 0).val ∧ (i 0).val < win0_6.index t 0 * 1024 + 1024
    omega
  | ⟨1, _⟩ =>
    have : (i 1).val < 1536 := (i 1).isLt
    show win0_6.index t 1 * 1536 ≤ (i 1).val ∧ (i 1).val < win0_6.index t 1 * 1536 + 1536
    omega

theorem flush7 : ∀ t : Fin cfg0.N, (cfg0.win 7).flush t = true := by
  decide +kernel

theorem mem7 (t : Fin cfg0.N) (i : S8192x384.Idx) (h0 : (i 0).val / 1024 = t.val) : i ∈ ((cfg0.win 7).blk t).view.set := by
  show i ∈ ((View.whole main_v13_2).slice (win0_7.rect t)).set
  rw [View.set_slice_whole, Rect.mem_set_unit]
  obtain ⟨e0, e1⟩ := place7 t
  intro a
  match a with
  | ⟨0, _⟩ =>
    show win0_7.index t 0 * 1024 ≤ (i 0).val ∧ (i 0).val < win0_7.index t 0 * 1024 + 1024
    omega
  | ⟨1, _⟩ =>
    have : (i 1).val < 384 := (i 1).isLt
    show win0_7.index t 1 * 384 ≤ (i 1).val ∧ (i 1).val < win0_7.index t 1 * 384 + 384
    omega

theorem flush8 : ∀ t : Fin cfg0.N, (cfg0.win 8).flush t = true := by
  decide +kernel

theorem mem8 (t : Fin cfg0.N) (i : S8192x256.Idx) (h0 : (i 0).val / 1024 = t.val) : i ∈ ((cfg0.win 8).blk t).view.set := by
  show i ∈ ((View.whole main_v13_3).slice (win0_8.rect t)).set
  rw [View.set_slice_whole, Rect.mem_set_unit]
  obtain ⟨e0, e1⟩ := place8 t
  intro a
  match a with
  | ⟨0, _⟩ =>
    show win0_8.index t 0 * 1024 ≤ (i 0).val ∧ (i 0).val < win0_8.index t 0 * 1024 + 1024
    omega
  | ⟨1, _⟩ =>
    have : (i 1).val < 256 := (i 1).isLt
    show win0_8.index t 1 * 256 ≤ (i 1).val ∧ (i 1).val < win0_8.index t 1 * 256 + 256
    omega

theorem flush9 : ∀ t : Fin cfg0.N, (cfg0.win 9).flush t = true := by
  decide +kernel

theorem mem9 (t : Fin cfg0.N) (i : S8192x128.Idx) (h0 : (i 0).val / 1024 = t.val) : i ∈ ((cfg0.win 9).blk t).view.set := by
  show i ∈ ((View.whole main_v13_4).slice (win0_9.rect t)).set
  rw [View.set_slice_whole, Rect.mem_set_unit]
  obtain ⟨e0, e1⟩ := place9 t
  intro a
  match a with
  | ⟨0, _⟩ =>
    show win0_9.index t 0 * 1024 ≤ (i 0).val ∧ (i 0).val < win0_9.index t 0 * 1024 + 1024
    omega
  | ⟨1, _⟩ =>
    have : (i 1).val < 128 := (i 1).isLt
    show win0_9.index t 1 * 128 ≤ (i 1).val ∧ (i 1).val < win0_9.index t 1 * 128 + 128
    omega

/-! ## What the host prepares -/

/-- The rows of the tokens. -/
def rowsOf (x : FVec Ideal S2x4096x1024 .f32) : FVec Ideal S8192x1024 .f32 := shapeCast S8192x1024 x shapeCasts_S2x4096x1024_S8192x1024

/-- The norm's weight as one row. -/
def oneRow (x : FVec Ideal S1024 .f32) : FVec Ideal S1x1024 .f32 := broadcastInDim S1x1024 ![1] bcast_S1024_S1x1024_1 x

/-- A vector of each batch as one row. -/
def batchRow (x : FVec Ideal S2x1024 .f32) : FVec Ideal S2x1x1024 .f32 := broadcastInDim S2x1x1024 ![0, 2] bcast_S2x1024_S2x1x1024_0_2 x

/-- The weight's rows in the step's order. -/
def ordered (x : FVec Ideal S3248x1024 .f32) : FVec Ideal S3328x1024 .f32 :=
  concatenate S3328x1024 0 [
    ⟨S2560x1024, extractStridedSlice S2560x1024 ![0, 0] x slices_S3248x1024_S2560x1024_0_0⟩,
    ⟨S640x1024, extractStridedSlice S640x1024 ![2576, 0] x slices_S3248x1024_S640x1024_2576_0⟩,
    ⟨S16x1024, extractStridedSlice S16x1024 ![2560, 0] x slices_S3248x1024_S16x1024_2560_0⟩,
    ⟨S48x1024, broadcastInDim S48x1024 ![] bcast_S_S48x1024 (constant S_ .f32 0x00000000#32)⟩,
    ⟨S32x1024, extractStridedSlice S32x1024 ![3216, 0] x slices_S3248x1024_S32x1024_3216_0⟩,
    ⟨S32x1024, broadcastInDim S32x1024 ![] bcast_S_S32x1024 (constant S_ .f32 0x00000000#32)⟩]
    concatenates_S2560x1024_S640x1024_S16x1024_S48x1024_S32x1024_S32x1024_S3328x1024_d0

/-- The weight in the kernel's format. -/
def weightOf (w : FVec Ideal S1024x3248 .f32) : FVec Ideal S3328x1024 .bf16 :=
  truncf .bf16 (ordered (transpose S3248x1024 [1, 0] w transposes_S1024x3248_S3248x1024_1_0)) bitsLt_bf16_f32

theorem rowsOf_at (x : FVec Ideal S2x4096x1024 .f32) (T : Fin 8192) (d : Fin 1024) : rowsOf x (ix2 T d) = x (ix3 (bat T) (tok T) d) := by
  unfold bat tok
  pointwise [rowsOf]

theorem oneRow_at (x : FVec Ideal S1024 .f32) (d : Fin 1024) : oneRow x (ix2 0 d) = x (ix1 d) := by
  pointwise [oneRow]

theorem batchRow_at (x : FVec Ideal S2x1024 .f32) (b : Fin 2) (d : Fin 1024) : batchRow x (ix3 b 0 d) = x (ix2 b d) := by
  pointwise [batchRow]

theorem ordered_at (x : FVec Ideal S3248x1024 .f32) (k : Fin 3328) (d : Fin 1024) :
    ordered x (ix2 k d) = catCol (fun j => x (ix2 j d)) k := by
  pointwise [ordered]
  have hk := k.isLt
  by_cases h1 : k.val < 2560
  · rw [dif_pos h1, catCol_1 _ _ h1]
  rw [dif_neg h1]
  by_cases h2 : k.val - 2560 < 640
  · rw [dif_pos h2, catCol_2 _ _ h1 (by omega)]
    exact congrArg (fun j : Fin 3248 => x (ix2 j d)) (Fin.ext (by show 2576 + (k.val - 2560) = k.val + 16; omega))
  rw [dif_neg h2]
  by_cases h3 : k.val - 2560 - 640 < 16
  · rw [dif_pos h3, catCol_3 _ _ (by omega) (by omega)]
    exact congrArg (fun j : Fin 3248 => x (ix2 j d)) (Fin.ext (by show 2560 + (k.val - 2560 - 640) = k.val - 640; omega))
  rw [dif_neg h3]
  by_cases h4 : k.val - 2560 - 640 - 16 < 48
  · rw [dif_pos h4, catCol_4 _ _ (by omega) (by omega)]
  rw [dif_neg h4]
  by_cases h5 : k.val - 2560 - 640 - 16 - 48 < 32
  · rw [dif_pos h5, catCol_5 _ _ (by omega) (by omega)]
    exact congrArg (fun j : Fin 3248 => x (ix2 j d)) (Fin.ext (by show 3216 + (k.val - 2560 - 640 - 16 - 48) = k.val - 48; omega))
  rw [dif_neg h5, catCol_6 _ _ (by omega)]

theorem weightOf_at (w : FVec Ideal S1024x3248 .f32) (k : Fin 3328) (d : Fin 1024) :
    weightOf w (ix2 k d) = catCol (fun j => w (ix2 d j)) k := by
  refine Eq.trans (b := ordered (transpose S3248x1024 [1, 0] w transposes_S1024x3248_S3248x1024_1_0) (ix2 k d)) (by pointwise [weightOf]) ?_
  rw [ordered_at]
  refine congrArg (fun g => catCol g k) (funext fun j => ?_)
  pointwise []

variable (m : (ℓ : Loc nD τ sig) → Buf (Elt Ideal) ℓ) (c : Dev nD)

theorem V_v0 : V m c main_v0 = rowsOf (m ((c : Thread nD τ).loc main_arg0)) := by
  unfold rowsOf
  after_reads_simp
  rfl

theorem V_v1 : V m c main_v1 = oneRow (m ((c : Thread nD τ).loc main_arg1)) := by
  unfold oneRow
  after_reads_simp

theorem V_v2 : V m c main_v2 = batchRow (m ((c : Thread nD τ).loc main_arg2)) := by
  unfold batchRow
  after_reads_simp

theorem V_v3 : V m c main_v3 = batchRow (m ((c : Thread nD τ).loc main_arg3)) := by
  unfold batchRow
  after_reads_simp

theorem V_v12 : V m c main_v12 = weightOf (m ((c : Thread nD τ).loc main_arg4)) := by
  unfold weightOf ordered
  after_reads_simp
  rfl

/-! ## The blocks over the arguments -/

/-- The projection's arguments. -/
def inp : Inp where
  x := fun b s d => (m ((c : Thread nD τ).loc main_arg0) : FVec Ideal S2x4096x1024 .f32) (ix3 b s d)
  n := fun d => (m ((c : Thread nD τ).loc main_arg1) : FVec Ideal S1024 .f32) (ix1 d)
  sh := fun b d => (m ((c : Thread nD τ).loc main_arg2) : FVec Ideal S2x1024 .f32) (ix2 b d)
  sc := fun b d => (m ((c : Thread nD τ).loc main_arg3) : FVec Ideal S2x1024 .f32) (ix2 b d)
  w := fun e j => (m ((c : Thread nD τ).loc main_arg4) : FVec Ideal S1024x3248 .f32) (ix2 e j)

section

variable (t : Fin cfg0.N) (r : Fin 1024) (T : Fin 8192) (hT : T.val = 1024 * t.val + r.val)

include hT in
theorem blk0 (d : Fin 1024) : (iblk m c 0 t : Vec Ideal S1024x1024 .f32) (ix2 r d) = (inp m c).x (bat T) (tok T) d :=
  (read0 (V m c main_v0) t r d (ix2 T d) hT rfl).trans (by rw [V_v0, rowsOf_at]; rfl)

theorem blk1 (d : Fin 1024) : (iblk m c 1 t : Vec Ideal S1x1024 .f32) (ix2 0 d) = (inp m c).n d :=
  (read1 (V m c main_v1) t d).trans (by rw [V_v1, oneRow_at]; rfl)

include hT in
theorem blk2 (d : Fin 1024) : (iblk m c 2 t : Vec Ideal S1x1x1024 .f32) (ix3 0 0 d) = (inp m c).sh (bat T) d :=
  (read2 (V m c main_v2) t d (ix3 (bat T) 0 d) (by have := r.isLt; show T.val / 4096 = t.val / 4; omega) rfl rfl).trans (by rw [V_v2, batchRow_at]; rfl)

include hT in
theorem blk3 (d : Fin 1024) : (iblk m c 3 t : Vec Ideal S1x1x1024 .f32) (ix3 0 0 d) = (inp m c).sc (bat T) d :=
  (read3 (V m c main_v3) t d (ix3 (bat T) 0 d) (by have := r.isLt; show T.val / 4096 = t.val / 4; omega) rfl rfl).trans (by rw [V_v3, batchRow_at]; rfl)

theorem blk4 (k : Fin 3328) (d : Fin 1024) : (iblk m c 4 t : Vec Ideal S3328x1024 .bf16) (ix2 k d) = catCol ((inp m c).w d) k :=
  (read4 (V m c main_v12) t k d).trans (by rw [V_v12, weightOf_at]; rfl)

include hT in
theorem row_prod (k : Fin 3328) :
    k0_pay4 (iblk m c 0 t) (iblk m c 1 t) (iblk m c 3 t) (iblk m c 2 t) (iblk m c 4 t) (ix2 r k) = (inp m c).q (bat T) (tok T) k := by
  rw [pay4_at, funext (blk0 m c t r T hT), funext (blk1 m c t), funext (blk2 m c t r T hT), funext (blk3 m c t r T hT), funext (blk4 m c t k)]
  exact Cert.Inproj.dotRow_catCol _ _ k

end

/-! ## The arrays of results -/

theorem final5 : (dats m 0 c).arrAt 5 cfg0.N = fun i : S8192x1024.Idx => (inp m c).q (bat (i 0)) (tok (i 0)) ⟨0 + (i 1).val, by have : (i 1).val < 1024 := (i 1).isLt; omega⟩ := by
  refine (dats m 0 c).arrAt_eq_of_cover 5 (fun i : S8192x1024.Idx => (inp m c).q (bat (i 0)) (tok (i 0)) ⟨0 + (i 1).val, by have : (i 1).val < 1024 := (i 1).isLt; omega⟩)
    (fun t h => ?_) fun (i : S8192x1024.Idx) => ?_
  · show (cfg0.win 5).cut (grid0.coords t) ((dats m 0 c).after 5 t) = _
    rw [after0_5]
    refine funext fun (y : S1024x1024.Idx) => ?_
    obtain ⟨r, l, rfl⟩ : ∃ (r : Fin 1024) (l : Fin 1024), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read5 _ t r l (ix2 ⟨1024 * t.val + r.val, hT⟩ l) rfl rfl).symm
    exact (out5_at (iblk m c 0 t) (iblk m c 1 t) (iblk m c 2 t) (iblk m c 3 t) (iblk m c 4 t) r l).trans
      (row_prod m c t r ⟨1024 * t.val + r.val, hT⟩ rfl _)
  · have h0 : (i 0).val < 8192 := (i 0).isLt
    have hN : cfg0.N = 8 := N_0
    exact ⟨⟨(i 0).val / 1024, by omega⟩, flush5 _, mem5 _ _ rfl⟩

theorem final6 : (dats m 0 c).arrAt 6 cfg0.N = fun i : S8192x1536.Idx => (inp m c).q (bat (i 0)) (tok (i 0)) ⟨1024 + (i 1).val, by have : (i 1).val < 1536 := (i 1).isLt; omega⟩ := by
  refine (dats m 0 c).arrAt_eq_of_cover 6 (fun i : S8192x1536.Idx => (inp m c).q (bat (i 0)) (tok (i 0)) ⟨1024 + (i 1).val, by have : (i 1).val < 1536 := (i 1).isLt; omega⟩)
    (fun t h => ?_) fun (i : S8192x1536.Idx) => ?_
  · show (cfg0.win 6).cut (grid0.coords t) ((dats m 0 c).after 6 t) = _
    rw [after0_6]
    refine funext fun (y : S1024x1536.Idx) => ?_
    obtain ⟨r, l, rfl⟩ : ∃ (r : Fin 1024) (l : Fin 1536), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read6 _ t r l (ix2 ⟨1024 * t.val + r.val, hT⟩ l) rfl rfl).symm
    exact (out6_at (iblk m c 0 t) (iblk m c 1 t) (iblk m c 2 t) (iblk m c 3 t) (iblk m c 4 t) r l).trans
      (row_prod m c t r ⟨1024 * t.val + r.val, hT⟩ rfl _)
  · have h0 : (i 0).val < 8192 := (i 0).isLt
    have hN : cfg0.N = 8 := N_0
    exact ⟨⟨(i 0).val / 1024, by omega⟩, flush6 _, mem6 _ _ rfl⟩

theorem final7 : (dats m 0 c).arrAt 7 cfg0.N = fun i : S8192x384.Idx => (inp m c).q (bat (i 0)) (tok (i 0)) ⟨2560 + (i 1).val, by have : (i 1).val < 384 := (i 1).isLt; omega⟩ := by
  refine (dats m 0 c).arrAt_eq_of_cover 7 (fun i : S8192x384.Idx => (inp m c).q (bat (i 0)) (tok (i 0)) ⟨2560 + (i 1).val, by have : (i 1).val < 384 := (i 1).isLt; omega⟩)
    (fun t h => ?_) fun (i : S8192x384.Idx) => ?_
  · show (cfg0.win 7).cut (grid0.coords t) ((dats m 0 c).after 7 t) = _
    rw [after0_7]
    refine funext fun (y : S1024x384.Idx) => ?_
    obtain ⟨r, l, rfl⟩ : ∃ (r : Fin 1024) (l : Fin 384), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read7 _ t r l (ix2 ⟨1024 * t.val + r.val, hT⟩ l) rfl rfl).symm
    exact (out7_at (iblk m c 0 t) (iblk m c 1 t) (iblk m c 2 t) (iblk m c 3 t) (iblk m c 4 t) r l).trans
      (row_prod m c t r ⟨1024 * t.val + r.val, hT⟩ rfl _)
  · have h0 : (i 0).val < 8192 := (i 0).isLt
    have hN : cfg0.N = 8 := N_0
    exact ⟨⟨(i 0).val / 1024, by omega⟩, flush7 _, mem7 _ _ rfl⟩

theorem final8 : (dats m 0 c).arrAt 8 cfg0.N = fun i : S8192x256.Idx => (inp m c).q (bat (i 0)) (tok (i 0)) ⟨2944 + (i 1).val, by have : (i 1).val < 256 := (i 1).isLt; omega⟩ := by
  refine (dats m 0 c).arrAt_eq_of_cover 8 (fun i : S8192x256.Idx => (inp m c).q (bat (i 0)) (tok (i 0)) ⟨2944 + (i 1).val, by have : (i 1).val < 256 := (i 1).isLt; omega⟩)
    (fun t h => ?_) fun (i : S8192x256.Idx) => ?_
  · show (cfg0.win 8).cut (grid0.coords t) ((dats m 0 c).after 8 t) = _
    rw [after0_8]
    refine funext fun (y : S1024x256.Idx) => ?_
    obtain ⟨r, l, rfl⟩ : ∃ (r : Fin 1024) (l : Fin 256), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read8 _ t r l (ix2 ⟨1024 * t.val + r.val, hT⟩ l) rfl rfl).symm
    exact (out8_at (iblk m c 0 t) (iblk m c 1 t) (iblk m c 2 t) (iblk m c 3 t) (iblk m c 4 t) r l).trans
      (row_prod m c t r ⟨1024 * t.val + r.val, hT⟩ rfl _)
  · have h0 : (i 0).val < 8192 := (i 0).isLt
    have hN : cfg0.N = 8 := N_0
    exact ⟨⟨(i 0).val / 1024, by omega⟩, flush8 _, mem8 _ _ rfl⟩

theorem final9 : (dats m 0 c).arrAt 9 cfg0.N = fun i : S8192x128.Idx => (inp m c).q (bat (i 0)) (tok (i 0)) ⟨3200 + (i 1).val, by have : (i 1).val < 128 := (i 1).isLt; omega⟩ := by
  refine (dats m 0 c).arrAt_eq_of_cover 9 (fun i : S8192x128.Idx => (inp m c).q (bat (i 0)) (tok (i 0)) ⟨3200 + (i 1).val, by have : (i 1).val < 128 := (i 1).isLt; omega⟩)
    (fun t h => ?_) fun (i : S8192x128.Idx) => ?_
  · show (cfg0.win 9).cut (grid0.coords t) ((dats m 0 c).after 9 t) = _
    rw [after0_9]
    refine funext fun (y : S1024x128.Idx) => ?_
    obtain ⟨r, l, rfl⟩ : ∃ (r : Fin 1024) (l : Fin 128), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read9 _ t r l (ix2 ⟨1024 * t.val + r.val, hT⟩ l) rfl rfl).symm
    exact (out9_at (iblk m c 0 t) (iblk m c 1 t) (iblk m c 2 t) (iblk m c 3 t) (iblk m c 4 t) r l).trans
      (row_prod m c t r ⟨1024 * t.val + r.val, hT⟩ rfl _)
  · have h0 : (i 0).val < 8192 := (i 0).isLt
    have hN : cfg0.N = 8 := N_0
    exact ⟨⟨(i 0).val / 1024, by omega⟩, flush9 _, mem9 _ _ rfl⟩

end Cert.Kernel5Ideal.Inproj
end
-- ==== Proof.InprojRef.lean ====
/-
  The forward pass of the input projection: the reference's results at an index.
-/
module

public import proofs.«01_k».proof.Proof.InprojMaths
public import proofs.«01_k».proof.Proof.Gen.Reference5Ideal.Read
public import Idealize.ShloMosaic.Lib.Pointwise

@[expose] public section

set_option maxRecDepth 16384

noncomputable section

namespace Cert.Reference5Ideal.Inproj

open Cert.Reference5Ideal Cert.Reference5Ideal.Gen Cert.Reference5Ideal.Read
open Idealize.ShloMosaic Idealize.ShloMosaic.TcCoe Idealize.ShloMosaic.Tactic
open Cert.Ffn (modRow dotRow bat tok)
open Cert.Inproj (Inp)
open Cert.Dwin (catCol catCol_1 catCol_2 catCol_3 catCol_4 catCol_5 catCol_6)

variable (x0 : FVec Ideal S2x4096x1024 .f32) (x1 : FVec Ideal S1024 .f32) (x2 x3 : FVec Ideal S2x1024 .f32) (x4 : FVec Ideal S1024x3248 .f32)

/-- The reference's arguments. -/
def inp : Inp where
  x := fun b s d => x0 (ix3 b s d)
  n := fun d => x1 (ix1 d)
  sh := fun b d => x2 (ix2 b d)
  sc := fun b d => x3 (ix2 b d)
  w := fun e j => x4 (ix2 e j)

theorem hid_at (b : Fin 2) (s : Fin 4096) (d : Fin 1024) :
    val_main_v20 (F := Ideal) x0 x1 x2 x3 (ix3 b s d) = (inp x0 x1 x2 x3 x4).hid b s d := by
  unfold inp Inp.hid modRow
  pointwise [val_main_v20, val_main_v17, val_main_v12, val_main_v9, val_main_v7, val_main_v6, val_main_v4, val_main_v1, val_main_v0, val_main_v2,
    val_main_v3, val_main_v5, val_main_v8, val_main_v10, val_main_v11, val_main_v13, val_main_v14, val_main_v15, val_main_v16, val_main_v18, val_main_v19,
    val_main_cst, val_main_cst_0, val_main_cst_1, val_main_cst_2]

theorem v22_at (T : Fin 8192) (j : Fin 3248) :
    val_main_v22 (F := Ideal) x0 x1 x2 x3 x4 (ix2 T j) = (inp x0 x1 x2 x3 x4).p (bat T) (tok T) j := by
  refine Eq.trans (b := val_main_v21 (F := Ideal) x0 x1 x2 x3 x4 (ix3 (bat T) (tok T) j)) (by unfold bat tok; pointwise [val_main_v22]) ?_
  refine Eq.trans (b := ∑ e : Fin 1024, val_main_v20 (F := Ideal) x0 x1 x2 x3 (ix3 (bat T) (tok T) e) * x4 (ix2 e j)) (by pointwise [val_main_v21]) ?_
  exact Finset.sum_congr rfl fun e _ => congrArg (fun z : EReal => z * x4 (ix2 e j)) (hid_at x0 x1 x2 x3 x4 (bat T) (tok T) e)

theorem v29_at (T : Fin 8192) (l : Fin 1024) :
    val_main_v29 (F := Ideal) x0 x1 x2 x3 x4 (ix2 T l) = (inp x0 x1 x2 x3 x4).q (bat T) (tok T) ⟨0 + l.val, by have := l.isLt; omega⟩ := by
  have hl := l.isLt
  rw [Inp.q, catCol_1 _ _ (by show 0 + l.val < 2560; omega), ← v22_at]
  generalize e : val_main_v22 (F := Ideal) x0 x1 x2 x3 x4 = y
  refine Eq.trans (b := y (ix2 T ⟨0 + l.val, by omega⟩)) ?_ (congrArg (fun j : Fin 3248 => y (ix2 T j)) (Fin.ext rfl))
  rw [← e]
  refine Eq.trans (b := val_main_v22 (F := Ideal) x0 x1 x2 x3 x4 (ix2 T ⟨l.val, by omega⟩)) ?_ (congrArg (fun j : Fin 3248 => val_main_v22 (F := Ideal) x0 x1 x2 x3 x4 (ix2 T j)) (Fin.ext (Nat.zero_add _).symm))
  pointwise [val_main_v29, val_main_v28]

theorem v31_at (T : Fin 8192) (l : Fin 1536) :
    val_main_v31 (F := Ideal) x0 x1 x2 x3 x4 (ix2 T l) = (inp x0 x1 x2 x3 x4).q (bat T) (tok T) ⟨1024 + l.val, by have := l.isLt; omega⟩ := by
  have hl := l.isLt
  rw [Inp.q, catCol_1 _ _ (by show 1024 + l.val < 2560; omega), ← v22_at]
  generalize e : val_main_v22 (F := Ideal) x0 x1 x2 x3 x4 = y
  refine Eq.trans (b := y (ix2 T ⟨1024 + l.val, by omega⟩)) ?_ (congrArg (fun j : Fin 3248 => y (ix2 T j)) (Fin.ext rfl))
  rw [← e]
  pointwise [val_main_v31, val_main_v30]

theorem v32_at (T : Fin 8192) (l : Fin 384) :
    val_main_v32 (F := Ideal) x0 x1 x2 x3 x4 (ix2 T l) = (inp x0 x1 x2 x3 x4).q (bat T) (tok T) ⟨2560 + l.val, by have := l.isLt; omega⟩ := by
  have hl := l.isLt
  rw [Inp.q, catCol_2 _ _ (by show ¬2560 + l.val < 2560; omega) (by show 2560 + l.val < 3200; omega), ← v22_at]
  generalize e : val_main_v22 (F := Ideal) x0 x1 x2 x3 x4 = y
  refine Eq.trans (b := y (ix2 T ⟨2576 + l.val, by omega⟩)) ?_ (congrArg (fun j : Fin 3248 => y (ix2 T j)) (Fin.ext (by dsimp only; omega)))
  rw [← e]
  pointwise [val_main_v32]

theorem v33_at (T : Fin 8192) (l : Fin 256) :
    val_main_v33 (F := Ideal) x0 x1 x2 x3 x4 (ix2 T l) = (inp x0 x1 x2 x3 x4).q (bat T) (tok T) ⟨2944 + l.val, by have := l.isLt; omega⟩ := by
  have hl := l.isLt
  rw [Inp.q, catCol_2 _ _ (by show ¬2944 + l.val < 2560; omega) (by show 2944 + l.val < 3200; omega), ← v22_at]
  generalize e : val_main_v22 (F := Ideal) x0 x1 x2 x3 x4 = y
  refine Eq.trans (b := y (ix2 T ⟨2960 + l.val, by omega⟩)) ?_ (congrArg (fun j : Fin 3248 => y (ix2 T j)) (Fin.ext (by dsimp only; omega)))
  rw [← e]
  pointwise [val_main_v33]

theorem v27_at (T : Fin 8192) (l : Fin 128) :
    val_main_v27 (F := Ideal) x0 x1 x2 x3 x4 (ix2 T l) = (inp x0 x1 x2 x3 x4).q (bat T) (tok T) ⟨3200 + l.val, by have := l.isLt; omega⟩ := by
  have hl := l.isLt
  refine Eq.trans (b := catCol (fun j => val_main_v22 (F := Ideal) x0 x1 x2 x3 x4 (ix2 T j)) ⟨3200 + l.val, by omega⟩) ?_
    (congrArg (fun g => catCol g ⟨3200 + l.val, by omega⟩) (funext fun j => v22_at x0 x1 x2 x3 x4 T j))
  pointwise [val_main_v27, val_main_v23, val_main_v24, val_main_v25, val_main_v26, val_main_cst_3, val_main_cst_4]
  by_cases h1 : l.val < 16
  · rw [dif_pos h1, catCol_3 _ _ (by show ¬3200 + l.val < 3200; omega) (by show 3200 + l.val < 3216; omega)]
    exact congrArg (fun j : Fin 3248 => val_main_v22 (F := Ideal) x0 x1 x2 x3 x4 (ix2 T j)) (Fin.ext (by show 2560 + l.val = 3200 + l.val - 640; omega))
  rw [dif_neg h1]
  by_cases h2 : l.val - 16 < 48
  · rw [dif_pos h2, catCol_4 _ _ (by show ¬3200 + l.val < 3216; omega) (by show 3200 + l.val < 3264; omega)]
  rw [dif_neg h2]
  by_cases h3 : l.val - 16 - 48 < 32
  · rw [dif_pos h3, catCol_5 _ _ (by show ¬3200 + l.val < 3264; omega) (by show 3200 + l.val < 3296; omega)]
    exact congrArg (fun j : Fin 3248 => val_main_v22 (F := Ideal) x0 x1 x2 x3 x4 (ix2 T j)) (Fin.ext (by show 3216 + (l.val - 16 - 48) = 3200 + l.val - 48; omega))
  rw [dif_neg h3, catCol_6 _ _ (by show ¬3200 + l.val < 3296; omega)]

end Cert.Reference5Ideal.Inproj
end
-- ==== Proof.InprojClaim.lean ====
/-
  The forward pass of the input projection: the frames, and the equality of the kernel's results and the reference's.
-/
module

public import proofs.«01_k».proof.Defs
public import proofs.«01_k».proof.Proof.Gen.Kernel5Ideal.Value
public import proofs.«01_k».proof.Proof.Gen.Reference5Ideal.Run
public import proofs.«01_k».proof.Proof.InprojArray
public import proofs.«01_k».proof.Proof.InprojRef
public import Idealize.ShloMosaic.Adequacy
public import Idealize.ShloMosaic.Init

@[expose] public section

set_option maxRecDepth 16384

noncomputable section

namespace Cert.Inproj

open Idealize.ShloMosaic Idealize.SL.Sem

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

variable (m : (ℓ : Loc Cert.Kernel5Ideal.nD Cert.Kernel5Ideal.τ Cert.Kernel5Ideal.sig) → Buf (Elt Ideal) ℓ) (c : Dev Cert.Kernel5Ideal.nD)

/-- The reference's result z over the kernel's arguments. -/
def refZ := Cert.Reference5Ideal.Read.val_main_v29 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))

theorem sameZ : (Cert.Kernel5Ideal.Gen.dats m 0 c).arrAt 5 Cert.Kernel5Ideal.cfg0.N = refZ m c := by
  rw [Cert.Kernel5Ideal.Inproj.final5]
  funext i
  obtain ⟨T, l, rfl⟩ : ∃ (T : Fin 8192) (l : Fin 1024), i = ix2 T l := ⟨i 0, i 1, by funext a; fin_cases a <;> rfl⟩
  exact (Cert.Reference5Ideal.Inproj.v29_at (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) T l).symm

/-- The reference's result xbc over the kernel's arguments. -/
def refXbc := Cert.Reference5Ideal.Read.val_main_v31 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))

theorem sameXbc : (Cert.Kernel5Ideal.Gen.dats m 0 c).arrAt 6 Cert.Kernel5Ideal.cfg0.N = refXbc m c := by
  rw [Cert.Kernel5Ideal.Inproj.final6]
  funext i
  obtain ⟨T, l, rfl⟩ : ∃ (T : Fin 8192) (l : Fin 1536), i = ix2 T l := ⟨i 0, i 1, by funext a; fin_cases a <;> rfl⟩
  exact (Cert.Reference5Ideal.Inproj.v31_at (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) T l).symm

/-- The reference's result cq over the kernel's arguments. -/
def refCq := Cert.Reference5Ideal.Read.val_main_v32 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))

theorem sameCq : (Cert.Kernel5Ideal.Gen.dats m 0 c).arrAt 7 Cert.Kernel5Ideal.cfg0.N = refCq m c := by
  rw [Cert.Kernel5Ideal.Inproj.final7]
  funext i
  obtain ⟨T, l, rfl⟩ : ∃ (T : Fin 8192) (l : Fin 384), i = ix2 T l := ⟨i 0, i 1, by funext a; fin_cases a <;> rfl⟩
  exact (Cert.Reference5Ideal.Inproj.v32_at (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) T l).symm

/-- The reference's result ckv over the kernel's arguments. -/
def refCkv := Cert.Reference5Ideal.Read.val_main_v33 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))

theorem sameCkv : (Cert.Kernel5Ideal.Gen.dats m 0 c).arrAt 8 Cert.Kernel5Ideal.cfg0.N = refCkv m c := by
  rw [Cert.Kernel5Ideal.Inproj.final8]
  funext i
  obtain ⟨T, l, rfl⟩ : ∃ (T : Fin 8192) (l : Fin 256), i = ix2 T l := ⟨i 0, i 1, by funext a; fin_cases a <;> rfl⟩
  exact (Cert.Reference5Ideal.Inproj.v33_at (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) T l).symm

/-- The reference's result narrow over the kernel's arguments. -/
def refNarrow := Cert.Reference5Ideal.Read.val_main_v27 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))

theorem sameNarrow : (Cert.Kernel5Ideal.Gen.dats m 0 c).arrAt 9 Cert.Kernel5Ideal.cfg0.N = refNarrow m c := by
  rw [Cert.Kernel5Ideal.Inproj.final9]
  funext i
  obtain ⟨T, l, rfl⟩ : ∃ (T : Fin 8192) (l : Fin 128), i = ix2 T l := ⟨i 0, i 1, by funext a; fin_cases a <;> rfl⟩
  exact (Cert.Reference5Ideal.Inproj.v27_at (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) T l).symm

/-- The kernel's results are the reference's. -/
theorem algebraic : Cert.algebraic_Kernel5Ideal_Reference5Ideal := by
  intro m g m' g' _ hm
  refine ⟨refZ m, refXbc m, refCq m, refCkv m, refNarrow m, ?_, ?_⟩
  · refine (θ_run Cert.Kernel5Ideal.defs _ _).mono (fun r h c => ?_) (Cert.Kernel5Ideal.Value.run_blocks (F := Ideal) m g)
    obtain ⟨k0, k1, k2, k3, k4, ka⟩ := h c
    exact ⟨k0.trans (sameZ m c), k1.trans (sameXbc m c), k2.trans (sameCq m c), k3.trans (sameCkv m c), k4.trans (sameNarrow m c), ka⟩
  · refine (θ_run Cert.Reference5Ideal.defs _ _).mono (fun r h c => ?_) (Cert.Reference5Ideal.Value.run (F := Ideal) m' g')
    obtain ⟨h0, h1, h2, h3, h4⟩ := hm c
    obtain ⟨r0, r1, r2, r3, r4, ra⟩ := h c
    exact ⟨r0.trans ((Cert.Reference5Ideal.Read.val_main_v29_eq _ _ _ _ _).trans (by rw [refZ, h0, h1, h2, h3, h4])),
      r1.trans ((Cert.Reference5Ideal.Read.val_main_v31_eq _ _ _ _ _).trans (by rw [refXbc, h0, h1, h2, h3, h4])),
      r2.trans ((Cert.Reference5Ideal.Read.val_main_v32_eq _ _ _ _ _).trans (by rw [refCq, h0, h1, h2, h3, h4])),
      r3.trans ((Cert.Reference5Ideal.Read.val_main_v33_eq _ _ _ _ _).trans (by rw [refCkv, h0, h1, h2, h3, h4])),
      r4.trans ((Cert.Reference5Ideal.Read.val_main_v27_eq _ _ _ _ _).trans (by rw [refNarrow, h0, h1, h2, h3, h4])), ra⟩

end Cert.Inproj
end
-- ==== Proof.DwoutPoint.lean ====
/-
  The gradient of the output projection's weight: what a point leaves.
-/
module

public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Dwout

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI

theorem hz2 : (![0, 0] : Fin 2 → Nat) = fun _ => 0 := funext fun a => by fin_cases a <;> rfl

variable (c : Dev nD) (i : grid0.Coords) (a2 : Memref sig .tc .vmem S2048x2048 .bf16) (h2 : a2.IsWhole)
  (a3 : Memref sig .tc .vmem S2048x512 .bf16) (h3 : a3.IsWhole) (a4 : Memref sig .tc .vmem S2048x512 .bf16) (h4 : a4.IsWhole)
  (a5 : Memref sig .tc .vmem S2048x512 .f32) (h5 : a5.IsWhole)
  (x0 : Vec Ideal S2048x2048 .bf16) (x1 : Vec Ideal S2048x512 .bf16) (y0 : Vec Ideal S2048x512 .f32)

theorem accA (hc0 : cond0_0 i) (hc1 : ¬cond0_1 i) : sout0_A_0 c i a2 h2 a3 h3 a4 h4 a5 h5 hc0 hc1 x0 x1 = k0_pay2 (k0_pay1 (F := Ideal)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x512) hz2, View.readCov_unit_zero (S := S2048x512) _ hz2]
  simp only [View.readAt_eq_ld, h2.read_unread, h3.read_unread, h5.read_unread, View.ld_unit_zero (S := S2048x2048) hz2,
    View.ld_unit_zero (S := S2048x512) hz2]

theorem accB (hc0 : ¬cond0_0 i) (hc1 : ¬cond0_1 i) : sout0_B_0 c i a2 h2 a3 h3 a4 h4 a5 h5 hc0 hc1 x0 x1 y0 = k0_pay2 y0 x0 x1 := by
  unfold sout0_B_0
  rw [View.read_writes_eq_canon _ _ _ (scover0_B_0 c i a2 h2 a3 h3 a4 h4 a5 h5 hc0 hc1 x0 x1 y0)]
  unfold kernelRun0_B
  dsimp only
  rw [View.canon_unit_zero hz2]
  simp only [View.readAt_eq_ld, h2.read_unread, h3.read_unread, h5.read_unread, View.ld_unit_zero (S := S2048x2048) hz2,
    View.ld_unit_zero (S := S2048x512) hz2]

theorem accC (hc0 : ¬cond0_0 i) (hc1 : cond0_1 i) : sout0_C_0 c i a2 h2 a3 h3 a4 h4 a5 h5 hc0 hc1 x0 x1 y0 = k0_pay2 y0 x0 x1 := by
  unfold sout0_C_0
  rw [View.read_writes_eq_canon _ _ _ (scover0_C_0 c i a2 h2 a3 h3 a4 h4 a5 h5 hc0 hc1 x0 x1 y0)]
  unfold kernelRun0_C
  dsimp only
  sl_unfold_words
  rw [View.canon_unit_zero (S := S2048x512) hz2]
  simp only [View.readAt_eq_ld, h2.read_unread, h3.read_unread, h5.read_unread, View.ld_unit_zero (S := S2048x2048) hz2,
    View.ld_unit_zero (S := S2048x512) hz2]

theorem outC (hc0 : ¬cond0_0 i) (hc1 : cond0_1 i) : out0_C_2 c i a2 h2 a3 h3 a4 h4 a5 h5 hc0 hc1 x0 x1 y0 = k0_pay3 (k0_pay2 y0 x0 x1) := by
  unfold out0_C_2
  rw [View.read_writes_eq_canon _ _ _ (cover0_C_2 c i a2 h2 a3 h3 a4 h4 a5 h5 hc0 hc1 x0 x1 y0)]
  unfold kernelRun0_C
  dsimp only
  sl_unfold_words
  rw [View.canon_unit_zero (S := S2048x512) hz2, View.readCov_unit_zero (S := S2048x512) _ hz2]
  simp only [View.readAt_eq_ld, h2.read_unread, h3.read_unread, h5.read_unread, View.ld_unit_zero (S := S2048x2048) hz2,
    View.ld_unit_zero (S := S2048x512) hz2]

theorem pay2_at (y : Vec Ideal S2048x512 .f32) (g : Vec Ideal S2048x2048 .bf16) (h : Vec Ideal S2048x512 .bf16) (k : Fin 2048) (f : Fin 512) :
    k0_pay2 y g h (ix2 k f) = y (ix2 k f) + ∑ r : Fin 2048, g (ix2 r k) * h (ix2 r f) := by
  pointwise [k0_pay2]

theorem pay1_at (k : Fin 2048) (f : Fin 512) : k0_pay1 (F := Ideal) (ix2 k f) = 0 := by
  pointwise [k0_pay1]

theorem pay3_at (y : Vec Ideal S2048x512 .f32) (k : Fin 2048) (f : Fin 512) : k0_pay3 y (ix2 k f) = y (ix2 k f) := by
  pointwise [k0_pay3]

end Cert.Kernel6Ideal.Dwout
end
-- ==== Proof.DwoutArray.lean ====
/-
  The gradient of the output projection's weight: the sums over the blocks of tokens, and the array of results.
-/
module

public import proofs.«01_k».proof.Proof.DwoutPoint
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel6Ideal.Dwout

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI

open Idealize.ShloMosaic.Pipeline (Dat)

theorem place0 : ∀ t : Fin cfg0.N, win0_0.index t 0 = t.val % 4 ∧ win0_0.index t 1 = 0 := by
  decide +kernel

theorem place1 : ∀ t : Fin cfg0.N, win0_1.index t 0 = t.val % 4 ∧ win0_1.index t 1 = t.val / 4 := by
  decide +kernel

theorem place2 : ∀ t : Fin cfg0.N, win0_2.index t 0 = 0 ∧ win0_2.index t 1 = t.val / 4 := by
  decide +kernel

theorem read0 (A : S8192x2048.Idx → Elt Ideal .bf16) (t : Fin cfg0.N) (r : Fin 2048) (k : Fin 2048) (i : S8192x2048.Idx)
    (h0 : (i 0).val = 2048 * (t.val % 4) + r.val) (h1 : (i 1).val = k.val) :
    ((cfg0.win 0).blk t).view.read (Elt Ideal) A (ix2 r k : S2048x2048.Idx) = A i := by
  obtain ⟨e0, e1⟩ := place0 t
  blk_ext [e0, e1, h0, h1]

theorem read1 (A : S8192x1024.Idx → Elt Ideal .bf16) (t : Fin cfg0.N) (r : Fin 2048) (f : Fin 512) (i : S8192x1024.Idx)
    (h0 : (i 0).val = 2048 * (t.val % 4) + r.val) (h1 : (i 1).val = 512 * (t.val / 4) + f.val) :
    ((cfg0.win 1).blk t).view.read (Elt Ideal) A (ix2 r f : S2048x512.Idx) = A i := by
  obtain ⟨e0, e1⟩ := place1 t
  blk_ext [e0, e1, h0, h1]

theorem read2 (A : S2048x1024.Idx → Elt Ideal .bf16) (t : Fin cfg0.N) (k : Fin 2048) (f : Fin 512) (i : S2048x1024.Idx)
    (h0 : (i 0).val = k.val) (h1 : (i 1).val = 512 * (t.val / 4) + f.val) :
    ((cfg0.win 2).blk t).view.read (Elt Ideal) A (ix2 k f : S2048x512.Idx) = A i := by
  obtain ⟨e0, e1⟩ := place2 t
  blk_ext [e0, e1, h0, h1]

theorem mem2 (t : Fin cfg0.N) (i : S2048x1024.Idx) (h1 : (i 1).val / 512 = t.val / 4) : i ∈ ((cfg0.win 2).blk t).view.set := by
  show i ∈ ((View.whole main_v4).slice (win0_2.rect t)).set
  rw [View.set_slice_whole, Rect.mem_set_unit]
  obtain ⟨e0, e1⟩ := place2 t
  have hi0 : (i 0).val < 2048 := (i 0).isLt
  intro a
  match a with
  | ⟨0, _⟩ => show win0_2.index t 0 * 2048 ≤ (i 0).val ∧ (i 0).val < win0_2.index t 0 * 2048 + 2048; omega
  | ⟨1, _⟩ => show win0_2.index t 1 * 512 ≤ (i 1).val ∧ (i 1).val < win0_2.index t 1 * 512 + 512; omega

/-! ## The sums over the tokens -/

/-- One token's product in the gradient. -/
def prodAt (G : S8192x2048.Idx → EReal) (H : S8192x1024.Idx → EReal) (k : Fin 2048) (d T : ℕ) : EReal :=
  G (ix2 ⟨T % 8192, Nat.mod_lt _ (by omega)⟩ k) * H (ix2 ⟨T % 8192, Nat.mod_lt _ (by omega)⟩ ⟨d % 1024, Nat.mod_lt _ (by omega)⟩)

/-- The sum of the first `n` tokens' products. -/
def sumTo (G : S8192x2048.Idx → EReal) (H : S8192x1024.Idx → EReal) (k : Fin 2048) (d n : ℕ) : EReal :=
  ∑ T ∈ Finset.range n, prodAt G H k d T

theorem sumTo_block (G : S8192x2048.Idx → EReal) (H : S8192x1024.Idx → EReal) (k : Fin 2048) (d b : ℕ)
    (g : Fin 2048 → EReal) (hg : ∀ r : Fin 2048, g r = prodAt G H k d (2048 * b + r.val)) :
    sumTo G H k d (2048 * b) + ∑ r : Fin 2048, g r = sumTo G H k d (2048 * (b + 1)) := by
  have e : 2048 * (b + 1) = 2048 * b + 2048 := by ring
  rw [sumTo, sumTo, e, Finset.sum_range_add, ← Fin.sum_univ_eq_sum_range (fun T => prodAt G H k d (2048 * b + T))]
  exact congrArg _ (Finset.sum_congr rfl fun r _ => hg r)

variable (m : (ℓ : Loc nD τ sig) → Buf (Elt Ideal) ℓ) (c : Dev nD)

/-- The token's product at point `t`, from the two blocks that the point reads. -/
theorem point_prod (t : Fin cfg0.N) (k : Fin 2048) (f : Fin 512) (r : Fin 2048) :
    @HMul.hMul EReal EReal EReal _ (iblk m c 0 t (ix2 r k : S2048x2048.Idx)) (iblk m c 1 t (ix2 r f : S2048x512.Idx))
      = prodAt (V m c main_v1) (V m c main_v3) k (512 * (t.val / 4) + f.val) (2048 * (t.val % 4) + r.val) := by
  have hN : t.val < 8 := Nat.lt_of_lt_of_eq t.isLt N_0
  have hr := r.isLt
  have hf := f.isLt
  have e1 := read0 (V m c main_v1) t r k (ix2 ⟨(2048 * (t.val % 4) + r.val) % 8192, Nat.mod_lt _ (by omega)⟩ k)
    (by show (2048 * (t.val % 4) + r.val) % 8192 = _; omega) rfl
  have e2 := read1 (V m c main_v3) t r f (ix2 ⟨(2048 * (t.val % 4) + r.val) % 8192, Nat.mod_lt _ (by omega)⟩ ⟨(512 * (t.val / 4) + f.val) % 1024, Nat.mod_lt _ (by omega)⟩)
    (by show (2048 * (t.val % 4) + r.val) % 8192 = _; omega) (by show (512 * (t.val / 4) + f.val) % 1024 = _; omega)
  exact congrArg₂ (fun a b : EReal => a * b) e1 e2

/-- The sum that point `t` leaves. -/
theorem acc_at (n : ℕ) : ∀ t : Fin cfg0.N, t.val = n → ∀ (k : Fin 2048) (f : Fin 512), (outsAt0 m c t.val t.isLt).2 (ix2 k f)
    = sumTo (V m c main_v1) (V m c main_v3) k (512 * (t.val / 4) + f.val) (2048 * (t.val % 4 + 1)) := by
  have first : ∀ t : Fin cfg0.N, t.val % 4 = 0 → ∀ (k : Fin 2048) (f : Fin 512), (outsAt0 m c t.val t.isLt).2 (ix2 k f)
      = sumTo (V m c main_v1) (V m c main_v3) k (512 * (t.val / 4) + f.val) (2048 * (t.val % 4 + 1)) := by
    intro t h0 k f
    rw [outsAt0_A m c t h0 (by omega)]
    dsimp only
    rw [accA, pay2_at, pay1_at]
    refine Eq.trans ?_ (sumTo_block _ _ _ _ (t.val % 4) _ (point_prod m c t k f))
    rw [h0]
    rfl
  induction n with
  | zero => exact fun t ht => first t (by omega)
  | succ n ih =>
    intro t ht k f
    by_cases h0 : t.val % 4 = 0
    · exact first t h0 k f
    · have hI := ih ⟨t.val - 1, Nat.lt_of_le_of_lt (Nat.sub_le _ _) t.isLt⟩ (by show t.val - 1 = n; omega) k f
      have e1 : (t.val - 1) / 4 = t.val / 4 := by omega
      have e2 : (t.val - 1) % 4 + 1 = t.val % 4 := by omega
      dsimp only at hI
      rw [e1, e2] at hI
      by_cases h1 : t.val % 4 = 3
      · rw [outsAt0_C m c t h0 h1]
        dsimp only
        rw [accC, pay2_at]
        exact (congrArg (fun z : EReal => z + _) hI).trans (sumTo_block _ _ _ _ (t.val % 4) _ (point_prod m c t k f))
      · rw [outsAt0_B m c t h0 h1]
        dsimp only
        rw [accB, pay2_at]
        exact (congrArg (fun z : EReal => z + _) hI).trans (sumTo_block _ _ _ _ (t.val % 4) _ (point_prod m c t k f))

/-- The last block of tokens writes the whole sum back. -/
theorem out_at (t : Fin cfg0.N) (h1 : t.val % 4 = 3) (k : Fin 2048) (f : Fin 512) :
    (outsAt0 m c t.val t.isLt).1 (ix2 k f) = sumTo (V m c main_v1) (V m c main_v3) k (512 * (t.val / 4) + f.val) 8192 := by
  have hI := acc_at m c _ t rfl k f
  rw [outsAt0_C m c t (by omega) h1] at hI ⊢
  dsimp only at hI ⊢
  rw [outC, pay3_at]
  rw [accC, h1] at hI
  exact hI

/-- The array of results. -/
theorem final : (dats m 0 c).arrAt 2 cfg0.N
    = fun i : S2048x1024.Idx => sumTo (V m c main_v1) (V m c main_v3) (i 0) (i 1).val 8192 := by
  refine (dats m 0 c).arrAt_eq_of_cover 2 (fun i : S2048x1024.Idx => sumTo (V m c main_v1) (V m c main_v3) (i 0) (i 1).val 8192)
    (fun t h => ?_) fun (i : S2048x1024.Idx) => ?_
  · have h1 := (flush0_2 t).mp h
    show (cfg0.win 2).cut (grid0.coords t) ((dats m 0 c).after 2 t) = _
    rw [after0_2]
    refine funext fun (y : S2048x512.Idx) => ?_
    obtain ⟨k, f, rfl⟩ : ∃ (k : Fin 2048) (f : Fin 512), y = ix2 k f := ⟨y 0, y 1, by funext i; fin_cases i <;> rfl⟩
    have hN : t.val < 8 := Nat.lt_of_lt_of_eq t.isLt N_0
    refine Eq.trans ?_ (read2 _ t k f (ix2 k ⟨512 * (t.val / 4) + f.val, by have := f.isLt; omega⟩) rfl rfl).symm
    exact out_at m c t h1 k f
  · have h0 : (i 1).val < 1024 := (i 1).isLt
    have hN : cfg0.N = 8 := N_0
    have ht : 4 * ((i 1).val / 512) + 3 < cfg0.N := by omega
    exact ⟨⟨_, ht⟩, (flush0_2 _).mpr (by show (4 * ((i 1).val / 512) + 3) % 4 = 3; omega),
      mem2 _ _ (by show (i 1).val / 512 = (4 * ((i 1).val / 512) + 3) / 4; omega)⟩

/-! ## What the host prepares -/

/-- The rows of the tokens, in the kernel's format. -/
def rowsOf (x : FVec Ideal S2x4096x1024 .f32) : FVec Ideal S8192x1024 .bf16 :=
  truncf .bf16 (shapeCast S8192x1024 x shapeCasts_S2x4096x1024_S8192x1024) bitsLt_bf16_f32

/-- The rows of the other operand, in the kernel's format. -/
def colsOf (x : FVec Ideal S2x4096x2048 .f32) : FVec Ideal S8192x2048 .bf16 :=
  truncf .bf16 (shapeCast S8192x2048 x shapeCasts_S2x4096x2048_S8192x2048) bitsLt_bf16_f32

theorem rowsOf_at (x : FVec Ideal S2x4096x1024 .f32) (T : Fin 8192) (d : Fin 1024) :
    rowsOf x (ix2 T d) = x (ix3 ⟨T.val / 4096, by have := T.isLt; omega⟩ ⟨T.val % 4096, Nat.mod_lt _ (by omega)⟩ d) := by
  pointwise [rowsOf]

theorem colsOf_at (x : FVec Ideal S2x4096x2048 .f32) (T : Fin 8192) (k : Fin 2048) :
    colsOf x (ix2 T k) = x (ix3 ⟨T.val / 4096, by have := T.isLt; omega⟩ ⟨T.val % 4096, Nat.mod_lt _ (by omega)⟩ k) := by
  pointwise [colsOf]

theorem V_v3 : V m c main_v3 = rowsOf (m ((c : Thread nD τ).loc main_arg1)) := by
  unfold rowsOf
  after_reads_simp
  rfl

theorem V_v1 : V m c main_v1 = colsOf (m ((c : Thread nD τ).loc main_arg0)) := by
  unfold colsOf
  after_reads_simp
  rfl

/-- The gradient as one sum over the batch and the rows. -/
theorem sum_tokens (x : FVec Ideal S2x4096x2048 .f32) (y : FVec Ideal S2x4096x1024 .f32) (k : Fin 2048) (d : Fin 1024) :
    sumTo (colsOf x) (rowsOf y) k d.val 8192
      = ∑ b : Fin 2, ∑ s : Fin 4096, x (ix3 b s k) * y (ix3 b s d) := by
  have hd := d.isLt
  have hb : ∀ b : ℕ, ∀ hb : b < 2, ∀ s : Fin 4096, prodAt (colsOf x) (rowsOf y) k d.val (4096 * b + s.val)
      = x (ix3 ⟨b, hb⟩ s k) * y (ix3 ⟨b, hb⟩ s d) := by
    intro b hb s
    have hs := s.isLt
    rw [prodAt, colsOf_at, rowsOf_at]
    have e1 : (⟨(4096 * b + s.val) % 8192 / 4096, by omega⟩ : Fin 2) = ⟨b, hb⟩ := Fin.ext (by show (4096 * b + s.val) % 8192 / 4096 = b; omega)
    have e2 : (⟨(4096 * b + s.val) % 8192 % 4096, by omega⟩ : Fin 4096) = s := Fin.ext (by show (4096 * b + s.val) % 8192 % 4096 = s.val; omega)
    have e3 : (⟨d.val % 1024, by omega⟩ : Fin 1024) = d := Fin.ext (by show d.val % 1024 = d.val; omega)
    dsimp only
    rw [e1, e2, e3]
  rw [sumTo, show (8192 : ℕ) = 4096 + 4096 from rfl, Finset.sum_range_add, Fin.sum_univ_two,
    ← Fin.sum_univ_eq_sum_range (fun T => prodAt (colsOf x) (rowsOf y) k d.val T),
    ← Fin.sum_univ_eq_sum_range (fun T => prodAt (colsOf x) (rowsOf y) k d.val (4096 + T))]
  refine congrArg₂ (fun a b : EReal => a + b) (Finset.sum_congr rfl fun s _ => ?_) (Finset.sum_congr rfl fun s _ => ?_)
  · have := hb 0 (by omega) s
    rw [Nat.mul_zero, Nat.zero_add] at this
    exact this
  · exact hb 1 (by omega) s

end Cert.Kernel6Ideal.Dwout
end
-- ==== Proof.DwoutRef.lean ====
/-
  The gradient of the output projection's weight: the reference's result at an index.
-/
module

public import proofs.«01_k».proof.Proof.Gen.Reference6Ideal.Read
public import Idealize.ShloMosaic.Lib.Pointwise

@[expose] public section

set_option maxRecDepth 16384

noncomputable section

namespace Cert.Reference6Ideal.Dwout

open Cert.Reference6Ideal Cert.Reference6Ideal.Gen Cert.Reference6Ideal.Read
open Idealize.ShloMosaic Idealize.ShloMosaic.TcCoe Idealize.ShloMosaic.Tactic

variable (x : FVec Ideal S2x4096x2048 .f32) (y : FVec Ideal S2x4096x1024 .f32)

theorem v4_at (k : Fin 2048) (d : Fin 1024) :
    val_main_v4 (F := Ideal) x y (ix2 k d) = ∑ b : Fin 2, ∑ s : Fin 4096, x (ix3 b s k) * y (ix3 b s d) := by
  refine Eq.trans (b := val_main_v2 (F := Ideal) x y (ix2 d k)) (by pointwise [val_main_v4, val_main_v3]) ?_
  refine Eq.trans (b := ∑ b : Fin 2, ∑ s : Fin 4096, y (ix3 b s d) * x (ix3 b s k)) (by pointwise [val_main_v2]) ?_
  exact Finset.sum_congr rfl fun b _ => Finset.sum_congr rfl fun s _ => mul_comm (G := EReal) _ _

end Cert.Reference6Ideal.Dwout
end
-- ==== Proof.DwoutClaim.lean ====
/-
  The gradient of the output projection's weight: the frames, and the equality of the kernel's result and the reference's.
-/
module

public import proofs.«01_k».proof.Defs
public import proofs.«01_k».proof.Proof.Gen.Kernel6Ideal.Value
public import proofs.«01_k».proof.Proof.Gen.Reference6Ideal.Run
public import proofs.«01_k».proof.Proof.DwoutArray
public import proofs.«01_k».proof.Proof.DwoutRef
public import Idealize.ShloMosaic.Adequacy
public import Idealize.ShloMosaic.Init

@[expose] public section

set_option maxRecDepth 16384

noncomputable section

namespace Cert.Dwout

open Idealize.ShloMosaic Idealize.SL.Sem

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

variable (m : (ℓ : Loc Cert.Kernel6Ideal.nD Cert.Kernel6Ideal.τ Cert.Kernel6Ideal.sig) → Buf (Elt Ideal) ℓ) (c : Dev Cert.Kernel6Ideal.nD)

/-- The reference's result over the kernel's arguments. -/
def ref := Cert.Reference6Ideal.Read.val_main_v4 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))

theorem same : (Cert.Kernel6Ideal.Gen.dats m 0 c).arrAt 2 Cert.Kernel6Ideal.cfg0.N = ref m c := by
  rw [Cert.Kernel6Ideal.Dwout.final, Cert.Kernel6Ideal.Dwout.V_v1, Cert.Kernel6Ideal.Dwout.V_v3]
  funext i
  obtain ⟨k, d, rfl⟩ : ∃ (k : Fin 2048) (d : Fin 1024), i = ix2 k d := ⟨i 0, i 1, by funext a; fin_cases a <;> rfl⟩
  exact (Cert.Kernel6Ideal.Dwout.sum_tokens _ _ k d).trans (Cert.Reference6Ideal.Dwout.v4_at (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) k d).symm

/-- The kernel's gradient is the reference's. -/
theorem algebraic : Cert.algebraic_Kernel6Ideal_Reference6Ideal := by
  intro m g m' g' _ hm
  refine ⟨ref m, ?_, ?_⟩
  · refine (θ_run Cert.Kernel6Ideal.defs _ _).mono (fun r h c => ?_) (Cert.Kernel6Ideal.Value.run_blocks (F := Ideal) m g)
    obtain ⟨k0, ka⟩ := h c
    exact ⟨k0.trans (same m c), ka⟩
  · refine (θ_run Cert.Reference6Ideal.defs _ _).mono (fun r h c => ?_) (Cert.Reference6Ideal.Value.run (F := Ideal) m' g')
    obtain ⟨h0, h1⟩ := hm c
    obtain ⟨r0, ra⟩ := h c
    exact ⟨r0.trans ((Cert.Reference6Ideal.Read.val_main_v4_eq _ _).trans (by rw [ref, h0, h1])), ra⟩

end Cert.Dwout
end
-- ==== Proof.MixMaths.lean ====
/-
  The output projection: the functions both sides compute.
-/
module

public import proofs.«01_k».proof.Proof.FfnMaths

@[expose] public section

set_option maxRecDepth 16384

noncomputable section

namespace Cert.Mix

open Idealize.ShloMosaic
open scoped BigOperators

/-- The normed row. -/
def normRow (x w : Fin 1024 → EReal) (d : Fin 1024) : EReal :=
  x d * Ideal.rsqrt (Ideal.div (∑ e, x e * x e) (Ideal.ofBits FTy.f32 1149239296#32) + Ideal.ofBits FTy.f32 897988541#32) * w d

/-- Two rows side by side. -/
def cat (a b : Fin 1024 → EReal) (k : Fin 2048) : EReal :=
  if h : k.val < 1024 then a ⟨k.val, h⟩ else b ⟨k.val - 1024, by have := k.isLt; omega⟩

/-- The arguments of the projection. -/
structure Inp where
  x : Fin 2 → Fin 4096 → Fin 1024 → EReal
  y : Fin 2 → Fin 4096 → Fin 1024 → EReal
  o : Fin 2 → Fin 4096 → Fin 1024 → EReal
  n : Fin 1024 → EReal
  w : Fin 2048 → Fin 1024 → EReal
  g : Fin 2 → Fin 1024 → EReal

variable (I : Inp)

/-- The two groups of heads. -/
def Inp.both (b : Fin 2) (s : Fin 4096) : Fin 2048 → EReal := cat (I.y b s) (normRow (I.o b s) I.n)

/-- The product with the weight. -/
def Inp.m (b : Fin 2) (s : Fin 4096) (d : Fin 1024) : EReal := ∑ k, I.both b s k * I.w k d

/-- The result. -/
def Inp.r (b : Fin 2) (s : Fin 4096) (d : Fin 1024) : EReal := I.x b s d + I.g b d * I.m b s d

end Cert.Mix
end
-- ==== Proof.MixArray.lean ====
/-
  The output projection: what one block of rows leaves, and the arrays of results over the kernel's arguments.
-/
module

public import proofs.«01_k».proof.Proof.MixMaths
public import proofs.«01_k».proof.Proof.Gen.Kernel7Ideal.Frame
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel7Ideal.Mix

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Cert.Ffn (bat tok)
open Cert.Mix (Inp normRow cat)

open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stored vectors at an index -/

section

variable (o y : Vec Ideal S1024x1024 .bf16) (n : Vec Ideal S1x1024 .f32) (w : Vec Ideal S2048x1024 .bf16) (x : Vec Ideal S1024x1024 .f32)
  (g : Vec Ideal S1x1x1024 .f32) (r : Fin 1024)

theorem pay1_at (k : Fin 2048) :
    k0_pay1 o y n (ix2 r k) = cat (fun e => y (ix2 r e)) (normRow (fun e => o (ix2 r e)) (fun e => n (ix2 0 e))) k := by
  unfold cat normRow
  pointwise [k0_pay1]

theorem pay2_at (d : Fin 1024) : k0_pay2 o y n w (ix2 r d) = ∑ k : Fin 2048, k0_pay1 o y n (ix2 r k) * w (ix2 k d) := by
  unfold k0_pay2
  generalize k0_pay1 o y n = z
  pointwise []

theorem pay3_at (d : Fin 1024) : k0_pay3 o y n w x g (ix2 r d) = x (ix2 r d) + g (ix3 0 0 d) * k0_pay2 o y n w (ix2 r d) := by
  unfold k0_pay3
  generalize k0_pay2 o y n w = z
  pointwise []

theorem pay4_at (d : Fin 1024) : k0_pay4 o y n w (ix2 r d) = k0_pay2 o y n w (ix2 r d) := by
  unfold k0_pay4
  generalize k0_pay2 o y n w = z
  pointwise []

end

section

variable (x0 : Vec Ideal S1024x1024 .f32) (x1 x2 : Vec Ideal S1024x1024 .bf16) (x3 : Vec Ideal S1x1024 .f32) (x4 : Vec Ideal S2048x1024 .bf16)
  (x5 : Vec Ideal S1x1x1024 .f32)

theorem out6_eq : out0_6 x0 x1 x2 x3 x4 x5 = k0_pay3 x2 x1 x3 x4 x0 x5 := by
  unfold out0_6
  rw [View.canon_unit_zero (S := S1024x1024) hz2]
  simp only [View.ld_unit_zero (S := S1024x1024) hz2, View.ld_unit_zero (S := S1x1024) hz2, View.ld_unit_zero (S := S2048x1024) hz2,
    View.ld_unit_zero (S := S1x1x1024) hz3]

theorem out7_eq : out0_7 x0 x1 x2 x3 x4 x5 = k0_pay4 x2 x1 x3 x4 := by
  unfold out0_7
  rw [View.canon_unit_zero (S := S1024x1024) hz2]
  simp only [View.ld_unit_zero (S := S1024x1024) hz2, View.ld_unit_zero (S := S1x1024) hz2, View.ld_unit_zero (S := S2048x1024) hz2]

theorem out8_eq : out0_8 x0 x1 x2 x3 x4 x5 = k0_pay1 x2 x1 x3 := by
  unfold out0_8
  rw [View.canon_unit_zero (S := S1024x2048) hz2]
  simp only [View.ld_unit_zero (S := S1024x1024) hz2, View.ld_unit_zero (S := S1x1024) hz2]

end

/-! ## Where the blocks lie -/

theorem place0 : ∀ t : Fin cfg0.N, win0_0.index t 0 = t.val ∧ win0_0.index t 1 = 0 := by
  decide +kernel

theorem place1 : ∀ t : Fin cfg0.N, win0_1.index t 0 = t.val ∧ win0_1.index t 1 = 0 := by
  decide +kernel

theorem place2 : ∀ t : Fin cfg0.N, win0_2.index t 0 = t.val ∧ win0_2.index t 1 = 0 := by
  decide +kernel

theorem place6 : ∀ t : Fin cfg0.N, win0_6.index t 0 = t.val ∧ win0_6.index t 1 = 0 := by
  decide +kernel

theorem place7 : ∀ t : Fin cfg0.N, win0_7.index t 0 = t.val ∧ win0_7.index t 1 = 0 := by
  decide +kernel

theorem place8 : ∀ t : Fin cfg0.N, win0_8.index t 0 = t.val ∧ win0_8.index t 1 = 0 := by
  decide +kernel

theorem place3 : ∀ t : Fin cfg0.N, win0_3.index t 0 = 0 ∧ win0_3.index t 1 = 0 := by
  decide +kernel

theorem place4 : ∀ t : Fin cfg0.N, win0_4.index t 0 = 0 ∧ win0_4.index t 1 = 0 := by
  decide +kernel

theorem place5 : ∀ t : Fin cfg0.N, win0_5.index t 0 = t.val / 4 ∧ win0_5.index t 1 = 0 ∧ win0_5.index t 2 = 0 := by
  decide +kernel

theorem read0 (A : S8192x1024.Idx → Elt Ideal .f32) (t : Fin cfg0.N) (r : Fin 1024) (d : Fin 1024) (i : S8192x1024.Idx)
    (h0 : (i 0).val = 1024 * t.val + r.val) (h1 : (i 1).val = d.val) :
    ((cfg0.win 0).blk t).view.read (Elt Ideal) A (ix2 r d : S1024x1024.Idx) = A i := by
  obtain ⟨e0, e1⟩ := place0 t
  blk_ext [e0, e1, h0, h1]

theorem read1 (A : S8192x1024.Idx → Elt Ideal .bf16) (t : Fin cfg0.N) (r : Fin 1024) (d : Fin 1024) (i : S8192x1024.Idx)
    (h0 : (i 0).val = 1024 * t.val + r.val) (h1 : (i 1).val = d.val) :
    ((cfg0.win 1).blk t).view.read (Elt Ideal) A (ix2 r d : S1024x1024.Idx) = A i := by
  obtain ⟨e0, e1⟩ := place1 t
  blk_ext [e0, e1, h0, h1]

theorem read2 (A : S8192x1024.Idx → Elt Ideal .bf16) (t : Fin cfg0.N) (r : Fin 1024) (d : Fin 1024) (i : S8192x1024.Idx)
    (h0 : (i 0).val = 1024 * t.val + r.val) (h1 : (i 1).val = d.val) :
    ((cfg0.win 2).blk t).view.read (Elt Ideal) A (ix2 r d : S1024x1024.Idx) = A i := by
  obtain ⟨e0, e1⟩ := place2 t
  blk_ext [e0, e1, h0, h1]

theorem read6 (A : S8192x1024.Idx → Elt Ideal .f32) (t : Fin cfg0.N) (r : Fin 1024) (d : Fin 1024) (i : S8192x1024.Idx)
    (h0 : (i 0).val = 1024 * t.val + r.val) (h1 : (i 1).val = d.val) :
    ((cfg0.win 6).blk t).view.read (Elt Ideal) A (ix2 r d : S1024x1024.Idx) = A i := by
  obtain ⟨e0, e1⟩ := place6 t
  blk_ext [e0, e1, h0, h1]

theorem read7 (A : S8192x1024.Idx → Elt Ideal .bf16) (t : Fin cfg0.N) (r : Fin 1024) (d : Fin 1024) (i : S8192x1024.Idx)
    (h0 : (i 0).val = 1024 * t.val + r.val) (h1 : (i 1).val = d.val) :
    ((cfg0.win 7).blk t).view.read (Elt Ideal) A (ix2 r d : S1024x1024.Idx) = A i := by
  obtain ⟨e0, e1⟩ := place7 t
  blk_ext [e0, e1, h0, h1]

theorem read8 (A : S8192x2048.Idx → Elt Ideal .bf16) (t : Fin cfg0.N) (r : Fin 1024) (d : Fin 2048) (i : S8192x2048.Idx)
    (h0 : (i 0).val = 1024 * t.val + r.val) (h1 : (i 1).val = d.val) :
    ((cfg0.win 8).blk t).view.read (Elt Ideal) A (ix2 r d : S1024x2048.Idx) = A i := by
  obtain ⟨e0, e1⟩ := place8 t
  blk_ext [e0, e1, h0, h1]

theorem read3 (A : S1x1024.Idx → Elt Ideal .f32) (t : Fin cfg0.N) (d : Fin 1024) :
    ((cfg0.win 3).blk t).view.read (Elt Ideal) A (ix2 0 d : S1x1024.Idx) = A (ix2 0 d) := by
  obtain ⟨e0, e1⟩ := place3 t
  blk_ext [e0, e1]

theorem read4 (A : S2048x1024.Idx → Elt Ideal .bf16) (t : Fin cfg0.N) (k : Fin 2048) (d : Fin 1024) :
    ((cfg0.win 4).blk t).view.read (Elt Ideal) A (ix2 k d : S2048x1024.Idx) = A (ix2 k d) := by
  obtain ⟨e0, e1⟩ := place4 t
  blk_ext [e0, e1]

theorem read5 (A : S2x1x1024.Idx → Elt Ideal .f32) (t : Fin cfg0.N) (d : Fin 1024) (i : S2x1x1024.Idx)
    (h0 : (i 0).val = t.val / 4) (h1 : (i 1).val = 0) (h2 : (i 2).val = d.val) :
    ((cfg0.win 5).blk t).view.read (Elt Ideal) A (ix3 0 0 d : S1x1x1024.Idx) = A i := by
  obtain ⟨e0, e1, e2⟩ := place5 t
  blk_ext [e0, e1, e2, h0, h1, h2]

theorem flush6 : ∀ t : Fin cfg0.N, (cfg0.win 6).flush t = true := by
  decide +kernel

theorem mem6 (t : Fin cfg0.N) (i : S8192x1024.Idx) (h0 : (i 0).val / 1024 = t.val) : i ∈ ((cfg0.win 6).blk t).view.set := by
  show i ∈ ((View.whole main_v8_0).slice (win0_6.rect t)).set
  rw [View.set_slice_whole, Rect.mem_set_unit]
  obtain ⟨e0, e1⟩ := place6 t
  intro a
  match a with
  | ⟨0, _⟩ =>
    show win0_6.index t 0 * 1024 ≤ (i 0).val ∧ (i 0).val < win0_6.index t 0 * 1024 + 1024
    omega
  | ⟨1, _⟩ =>
    have : (i 1).val < 1024 := (i 1).isLt
    show win0_6.index t 1 * 1024 ≤ (i 1).val ∧ (i 1).val < win0_6.index t 1 * 1024 + 1024
    omega

theorem flush7 : ∀ t : Fin cfg0.N, (cfg0.win 7).flush t = true := by
  decide +kernel

theorem mem7 (t : Fin cfg0.N) (i : S8192x1024.Idx) (h0 : (i 0).val / 1024 = t.val) : i ∈ ((cfg0.win 7).blk t).view.set := by
  show i ∈ ((View.whole main_v8_1).slice (win0_7.rect t)).set
  rw [View.set_slice_whole, Rect.mem_set_unit]
  obtain ⟨e0, e1⟩ := place7 t
  intro a
  match a with
  | ⟨0, _⟩ =>
    show win0_7.index t 0 * 1024 ≤ (i 0).val ∧ (i 0).val < win0_7.index t 0 * 1024 + 1024
    omega
  | ⟨1, _⟩ =>
    have : (i 1).val < 1024 := (i 1).isLt
    show win0_7.index t 1 * 1024 ≤ (i 1).val ∧ (i 1).val < win0_7.index t 1 * 1024 + 1024
    omega

theorem flush8 : ∀ t : Fin cfg0.N, (cfg0.win 8).flush t = true := by
  decide +kernel

theorem mem8 (t : Fin cfg0.N) (i : S8192x2048.Idx) (h0 : (i 0).val / 1024 = t.val) : i ∈ ((cfg0.win 8).blk t).view.set := by
  show i ∈ ((View.whole main_v8_2).slice (win0_8.rect t)).set
  rw [View.set_slice_whole, Rect.mem_set_unit]
  obtain ⟨e0, e1⟩ := place8 t
  intro a
  match a with
  | ⟨0, _⟩ =>
    show win0_8.index t 0 * 1024 ≤ (i 0).val ∧ (i 0).val < win0_8.index t 0 * 1024 + 1024
    omega
  | ⟨1, _⟩ =>
    have : (i 1).val < 2048 := (i 1).isLt
    show win0_8.index t 1 * 2048 ≤ (i 1).val ∧ (i 1).val < win0_8.index t 1 * 2048 + 2048
    omega

/-! ## What the host prepares -/

/-- The rows of the tokens. -/
def rowsOf (x : FVec Ideal S2x4096x1024 .f32) : FVec Ideal S8192x1024 .f32 := shapeCast S8192x1024 x shapeCasts_S2x4096x1024_S8192x1024

/-- The rows of the tokens in the kernel's format. -/
def halfRows (x : FVec Ideal S2x4096x1024 .f32) : FVec Ideal S8192x1024 .bf16 := truncf .bf16 (rowsOf x) bitsLt_bf16_f32

/-- The norm's weight as one row. -/
def oneRow (x : FVec Ideal S1024 .f32) : FVec Ideal S1x1024 .f32 := broadcastInDim S1x1024 ![1] bcast_S1024_S1x1024_1 x

/-- A vector of each batch as one row. -/
def batchRow (x : FVec Ideal S2x1024 .f32) : FVec Ideal S2x1x1024 .f32 := broadcastInDim S2x1x1024 ![0, 2] bcast_S2x1024_S2x1x1024_0_2 x

/-- The weight in the kernel's format. -/
def weightOf (w : FVec Ideal S2048x1024 .f32) : FVec Ideal S2048x1024 .bf16 := truncf .bf16 w bitsLt_bf16_f32

theorem rowsOf_at (x : FVec Ideal S2x4096x1024 .f32) (T : Fin 8192) (d : Fin 1024) : rowsOf x (ix2 T d) = x (ix3 (bat T) (tok T) d) := by
  unfold bat tok
  pointwise [rowsOf]

theorem halfRows_at (x : FVec Ideal S2x4096x1024 .f32) (T : Fin 8192) (d : Fin 1024) : halfRows x (ix2 T d) = x (ix3 (bat T) (tok T) d) :=
  rowsOf_at x T d

theorem oneRow_at (x : FVec Ideal S1024 .f32) (d : Fin 1024) : oneRow x (ix2 0 d) = x (ix1 d) := by
  pointwise [oneRow]

theorem batchRow_at (x : FVec Ideal S2x1024 .f32) (b : Fin 2) (d : Fin 1024) : batchRow x (ix3 b 0 d) = x (ix2 b d) := by
  pointwise [batchRow]

variable (m : (ℓ : Loc nD τ sig) → Buf (Elt Ideal) ℓ) (c : Dev nD)

theorem V_v0 : V m c main_v0 = rowsOf (m ((c : Thread nD τ).loc main_arg0)) := by
  unfold rowsOf
  after_reads_simp
  rfl

theorem V_v2 : V m c main_v2 = halfRows (m ((c : Thread nD τ).loc main_arg1)) := by
  unfold halfRows rowsOf
  after_reads_simp
  rfl

theorem V_v4 : V m c main_v4 = halfRows (m ((c : Thread nD τ).loc main_arg2)) := by
  unfold halfRows rowsOf
  after_reads_simp
  rfl

theorem V_v5 : V m c main_v5 = oneRow (m ((c : Thread nD τ).loc main_arg3)) := by
  unfold oneRow
  after_reads_simp

theorem V_v6 : V m c main_v6 = weightOf (m ((c : Thread nD τ).loc main_arg4)) := by
  unfold weightOf
  after_reads_simp

theorem V_v7 : V m c main_v7 = batchRow (m ((c : Thread nD τ).loc main_arg5)) := by
  unfold batchRow
  after_reads_simp

/-! ## The blocks over the arguments -/

/-- The projection's arguments. -/
def inp : Inp where
  x := fun b s d => (m ((c : Thread nD τ).loc main_arg0) : FVec Ideal S2x4096x1024 .f32) (ix3 b s d)
  y := fun b s d => (m ((c : Thread nD τ).loc main_arg1) : FVec Ideal S2x4096x1024 .f32) (ix3 b s d)
  o := fun b s d => (m ((c : Thread nD τ).loc main_arg2) : FVec Ideal S2x4096x1024 .f32) (ix3 b s d)
  n := fun d => (m ((c : Thread nD τ).loc main_arg3) : FVec Ideal S1024 .f32) (ix1 d)
  w := fun k d => (m ((c : Thread nD τ).loc main_arg4) : FVec Ideal S2048x1024 .f32) (ix2 k d)
  g := fun b d => (m ((c : Thread nD τ).loc main_arg5) : FVec Ideal S2x1024 .f32) (ix2 b d)

section

variable (t : Fin cfg0.N) (r : Fin 1024) (T : Fin 8192) (hT : T.val = 1024 * t.val + r.val)

include hT in
theorem blk0 (d : Fin 1024) : (iblk m c 0 t : Vec Ideal S1024x1024 .f32) (ix2 r d) = (inp m c).x (bat T) (tok T) d :=
  (read0 (V m c main_v0) t r d (ix2 T d) hT rfl).trans (by rw [V_v0, rowsOf_at]; rfl)

include hT in
theorem blk1 (d : Fin 1024) : (iblk m c 1 t : Vec Ideal S1024x1024 .bf16) (ix2 r d) = (inp m c).y (bat T) (tok T) d :=
  (read1 (V m c main_v2) t r d (ix2 T d) hT rfl).trans (by rw [V_v2, halfRows_at]; rfl)

include hT in
theorem blk2 (d : Fin 1024) : (iblk m c 2 t : Vec Ideal S1024x1024 .bf16) (ix2 r d) = (inp m c).o (bat T) (tok T) d :=
  (read2 (V m c main_v4) t r d (ix2 T d) hT rfl).trans (by rw [V_v4, halfRows_at]; rfl)

theorem blk3 (d : Fin 1024) : (iblk m c 3 t : Vec Ideal S1x1024 .f32) (ix2 0 d) = (inp m c).n d :=
  (read3 (V m c main_v5) t d).trans (by rw [V_v5, oneRow_at]; rfl)

theorem blk4 (k : Fin 2048) (d : Fin 1024) : (iblk m c 4 t : Vec Ideal S2048x1024 .bf16) (ix2 k d) = (inp m c).w k d :=
  (read4 (V m c main_v6) t k d).trans (by rw [V_v6]; rfl)

include hT in
theorem blk5 (d : Fin 1024) : (iblk m c 5 t : Vec Ideal S1x1x1024 .f32) (ix3 0 0 d) = (inp m c).g (bat T) d :=
  (read5 (V m c main_v7) t d (ix3 (bat T) 0 d) (by have := r.isLt; show T.val / 4096 = t.val / 4; omega) rfl rfl).trans (by rw [V_v7, batchRow_at]; rfl)

include hT in
theorem row8 (k : Fin 2048) : k0_pay1 (iblk m c 2 t) (iblk m c 1 t) (iblk m c 3 t) (ix2 r k) = (inp m c).both (bat T) (tok T) k := by
  rw [pay1_at, funext (blk1 m c t r T hT), funext (blk2 m c t r T hT), funext (blk3 m c t)]
  rfl

include hT in
theorem prod_row (d : Fin 1024) :
    k0_pay2 (iblk m c 2 t) (iblk m c 1 t) (iblk m c 3 t) (iblk m c 4 t) (ix2 r d) = (inp m c).m (bat T) (tok T) d := by
  rw [pay2_at]
  exact Finset.sum_congr rfl fun k _ => congrArg₂ (fun a b : EReal => a * b) (row8 m c t r T hT k) (blk4 m c t k d)

include hT in
theorem row7 (d : Fin 1024) :
    k0_pay4 (iblk m c 2 t) (iblk m c 1 t) (iblk m c 3 t) (iblk m c 4 t) (ix2 r d) = (inp m c).m (bat T) (tok T) d := by
  rw [pay4_at]
  exact prod_row m c t r T hT d

include hT in
theorem row6 (d : Fin 1024) :
    k0_pay3 (iblk m c 2 t) (iblk m c 1 t) (iblk m c 3 t) (iblk m c 4 t) (iblk m c 0 t) (iblk m c 5 t) (ix2 r d) = (inp m c).r (bat T) (tok T) d := by
  rw [pay3_at]
  exact congrArg₂ (fun a b : EReal => a + b) (blk0 m c t r T hT d)
    (congrArg₂ (fun a b : EReal => a * b) (blk5 m c t r T hT d) (prod_row m c t r T hT d))

end

/-! ## The arrays of results -/

theorem final6 : (dats m 0 c).arrAt 6 cfg0.N = fun i : S8192x1024.Idx => (inp m c).r (bat (i 0)) (tok (i 0)) (i 1) := by
  refine (dats m 0 c).arrAt_eq_of_cover 6 (fun i : S8192x1024.Idx => (inp m c).r (bat (i 0)) (tok (i 0)) (i 1))
    (fun t h => ?_) fun (i : S8192x1024.Idx) => ?_
  · show (cfg0.win 6).cut (grid0.coords t) ((dats m 0 c).after 6 t) = _
    rw [after0_6]
    refine funext fun (y : S1024x1024.Idx) => ?_
    obtain ⟨r, l, rfl⟩ : ∃ (r : Fin 1024) (l : Fin 1024), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read6 _ t r l (ix2 ⟨1024 * t.val + r.val, hT⟩ l) rfl rfl).symm
    exact (congrFun (out6_eq (iblk m c 0 t) (iblk m c 1 t) (iblk m c 2 t) (iblk m c 3 t) (iblk m c 4 t) (iblk m c 5 t)) (ix2 r l)).trans
      (row6 m c t r ⟨1024 * t.val + r.val, hT⟩ rfl l)
  · have h0 : (i 0).val < 8192 := (i 0).isLt
    have hN : cfg0.N = 8 := N_0
    exact ⟨⟨(i 0).val / 1024, by omega⟩, flush6 _, mem6 _ _ rfl⟩

theorem final7 : (dats m 0 c).arrAt 7 cfg0.N = fun i : S8192x1024.Idx => (inp m c).m (bat (i 0)) (tok (i 0)) (i 1) := by
  refine (dats m 0 c).arrAt_eq_of_cover 7 (fun i : S8192x1024.Idx => (inp m c).m (bat (i 0)) (tok (i 0)) (i 1))
    (fun t h => ?_) fun (i : S8192x1024.Idx) => ?_
  · show (cfg0.win 7).cut (grid0.coords t) ((dats m 0 c).after 7 t) = _
    rw [after0_7]
    refine funext fun (y : S1024x1024.Idx) => ?_
    obtain ⟨r, l, rfl⟩ : ∃ (r : Fin 1024) (l : Fin 1024), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read7 _ t r l (ix2 ⟨1024 * t.val + r.val, hT⟩ l) rfl rfl).symm
    exact (congrFun (out7_eq (iblk m c 0 t) (iblk m c 1 t) (iblk m c 2 t) (iblk m c 3 t) (iblk m c 4 t) (iblk m c 5 t)) (ix2 r l)).trans
      (row7 m c t r ⟨1024 * t.val + r.val, hT⟩ rfl l)
  · have h0 : (i 0).val < 8192 := (i 0).isLt
    have hN : cfg0.N = 8 := N_0
    exact ⟨⟨(i 0).val / 1024, by omega⟩, flush7 _, mem7 _ _ rfl⟩

theorem final8 : (dats m 0 c).arrAt 8 cfg0.N = fun i : S8192x2048.Idx => (inp m c).both (bat (i 0)) (tok (i 0)) (i 1) := by
  refine (dats m 0 c).arrAt_eq_of_cover 8 (fun i : S8192x2048.Idx => (inp m c).both (bat (i 0)) (tok (i 0)) (i 1))
    (fun t h => ?_) fun (i : S8192x2048.Idx) => ?_
  · show (cfg0.win 8).cut (grid0.coords t) ((dats m 0 c).after 8 t) = _
    rw [after0_8]
    refine funext fun (y : S1024x2048.Idx) => ?_
    obtain ⟨r, l, rfl⟩ : ∃ (r : Fin 1024) (l : Fin 2048), y = ix2 r l := ⟨y 0, y 1, by funext i; fin_cases i <;> rfl⟩
    have hN : t.val < 8 := Nat.lt_of_lt_of_eq t.isLt N_0
    have hT : 1024 * t.val + r.val < 8192 := by have := r.isLt; omega
    refine Eq.trans ?_ (read8 _ t r l (ix2 ⟨1024 * t.val + r.val, hT⟩ l) rfl rfl).symm
    exact (congrFun (out8_eq (iblk m c 0 t) (iblk m c 1 t) (iblk m c 2 t) (iblk m c 3 t) (iblk m c 4 t) (iblk m c 5 t)) (ix2 r l)).trans
      (row8 m c t r ⟨1024 * t.val + r.val, hT⟩ rfl l)
  · have h0 : (i 0).val < 8192 := (i 0).isLt
    have hN : cfg0.N = 8 := N_0
    exact ⟨⟨(i 0).val / 1024, by omega⟩, flush8 _, mem8 _ _ rfl⟩

end Cert.Kernel7Ideal.Mix
end
-- ==== Proof.MixRef.lean ====
/-
  The output projection: the reference's results at an index.
-/
module

public import proofs.«01_k».proof.Proof.MixMaths
public import proofs.«01_k».proof.Proof.Gen.Reference7Ideal.Read
public import Idealize.ShloMosaic.Lib.Pointwise

@[expose] public section

set_option maxRecDepth 16384

noncomputable section

namespace Cert.Reference7Ideal.Mix

open Cert.Reference7Ideal Cert.Reference7Ideal.Gen Cert.Reference7Ideal.Read
open Idealize.ShloMosaic Idealize.ShloMosaic.TcCoe Idealize.ShloMosaic.Tactic
open Cert.Ffn (bat tok)
open Cert.Mix (Inp normRow cat)

variable (x0 x1 x2 : FVec Ideal S2x4096x1024 .f32) (x3 : FVec Ideal S1024 .f32) (x4 : FVec Ideal S2048x1024 .f32) (x5 : FVec Ideal S2x1024 .f32)

/-- The reference's arguments. -/
def inp : Inp where
  x := fun b s d => x0 (ix3 b s d)
  y := fun b s d => x1 (ix3 b s d)
  o := fun b s d => x2 (ix3 b s d)
  n := fun d => x3 (ix1 d)
  w := fun k d => x4 (ix2 k d)
  g := fun b d => x5 (ix2 b d)

theorem v12_at (b : Fin 2) (s : Fin 4096) (d : Fin 1024) :
    val_main_v12 (F := Ideal) x2 x3 (ix3 b s d) = normRow (fun e => x2 (ix3 b s e)) (fun e => x3 (ix1 e)) d := by
  unfold normRow
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem v13_at (b : Fin 2) (s : Fin 4096) (k : Fin 2048) :
    val_main_v13 (F := Ideal) x1 x2 x3 (ix3 b s k) = (inp x0 x1 x2 x3 x4 x5).both b s k := by
  refine Eq.trans (b := cat (fun e => x1 (ix3 b s e)) (fun e => val_main_v12 (F := Ideal) x2 x3 (ix3 b s e)) k) (by unfold cat; pointwise [val_main_v13]) ?_
  rw [funext (v12_at x2 x3 b s)]
  rfl

theorem v14_at (b : Fin 2) (s : Fin 4096) (d : Fin 1024) :
    val_main_v14 (F := Ideal) x1 x2 x3 x4 (ix3 b s d) = (inp x0 x1 x2 x3 x4 x5).m b s d := by
  refine Eq.trans (b := ∑ k : Fin 2048, val_main_v13 (F := Ideal) x1 x2 x3 (ix3 b s k) * x4 (ix2 k d)) (by pointwise [val_main_v14]) ?_
  exact Finset.sum_congr rfl fun k _ => congrArg (fun z : EReal => z * x4 (ix2 k d)) (v13_at x0 x1 x2 x3 x4 x5 b s k)

theorem v19_at (T : Fin 8192) (d : Fin 1024) :
    val_main_v19 (F := Ideal) x0 x1 x2 x3 x4 x5 (ix2 T d) = (inp x0 x1 x2 x3 x4 x5).r (bat T) (tok T) d := by
  refine Eq.trans (b := x0 (ix3 (bat T) (tok T) d) + x5 (ix2 (bat T) d) * val_main_v14 (F := Ideal) x1 x2 x3 x4 (ix3 (bat T) (tok T) d))
    (by unfold bat tok; pointwise [val_main_v19, val_main_v18, val_main_v17, val_main_v16, val_main_v15]) ?_
  exact congrArg (fun z : EReal => x0 (ix3 (bat T) (tok T) d) + x5 (ix2 (bat T) d) * z) (v14_at x0 x1 x2 x3 x4 x5 (bat T) (tok T) d)

theorem v21_at (T : Fin 8192) (d : Fin 1024) :
    val_main_v21 (F := Ideal) x1 x2 x3 x4 (ix2 T d) = (inp x0 x1 x2 x3 x4 x5).m (bat T) (tok T) d := by
  refine Eq.trans (b := val_main_v14 (F := Ideal) x1 x2 x3 x4 (ix3 (bat T) (tok T) d)) (by unfold bat tok; pointwise [val_main_v21, val_main_v20]) ?_
  exact v14_at x0 x1 x2 x3 x4 x5 (bat T) (tok T) d

theorem v23_at (T : Fin 8192) (k : Fin 2048) :
    val_main_v23 (F := Ideal) x1 x2 x3 (ix2 T k) = (inp x0 x1 x2 x3 x4 x5).both (bat T) (tok T) k := by
  refine Eq.trans (b := val_main_v13 (F := Ideal) x1 x2 x3 (ix3 (bat T) (tok T) k)) (by unfold bat tok; pointwise [val_main_v23, val_main_v22]) ?_
  exact v13_at x0 x1 x2 x3 x4 x5 (bat T) (tok T) k

end Cert.Reference7Ideal.Mix
end
-- ==== Proof.MixClaim.lean ====
/-
  The output projection: the frames, and the equality of the kernel's results and the reference's.
-/
module

public import proofs.«01_k».proof.Defs
public import proofs.«01_k».proof.Proof.Gen.Kernel7Ideal.Value
public import proofs.«01_k».proof.Proof.Gen.Reference7Ideal.Run
public import proofs.«01_k».proof.Proof.MixArray
public import proofs.«01_k».proof.Proof.MixRef
public import Idealize.ShloMosaic.Adequacy
public import Idealize.ShloMosaic.Init

@[expose] public section

set_option maxRecDepth 16384

noncomputable section

namespace Cert.Mix

open Idealize.ShloMosaic Idealize.SL.Sem

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

variable (m : (ℓ : Loc Cert.Kernel7Ideal.nD Cert.Kernel7Ideal.τ Cert.Kernel7Ideal.sig) → Buf (Elt Ideal) ℓ) (c : Dev Cert.Kernel7Ideal.nD)

/-- The reference's result x over the kernel's arguments. -/
def refX := Cert.Reference7Ideal.Read.val_main_v19 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))

theorem sameX : (Cert.Kernel7Ideal.Gen.dats m 0 c).arrAt 6 Cert.Kernel7Ideal.cfg0.N = refX m c := by
  rw [Cert.Kernel7Ideal.Mix.final6]
  funext i
  obtain ⟨T, l, rfl⟩ : ∃ (T : Fin 8192) (l : Fin 1024), i = ix2 T l := ⟨i 0, i 1, by funext a; fin_cases a <;> rfl⟩
  exact (Cert.Reference7Ideal.Mix.v19_at (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) T l).symm

/-- The reference's result m over the kernel's arguments. -/
def refM := Cert.Reference7Ideal.Read.val_main_v21 (F := Ideal) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))

theorem sameM : (Cert.Kernel7Ideal.Gen.dats m 0 c).arrAt 7 Cert.Kernel7Ideal.cfg0.N = refM m c := by
  rw [Cert.Kernel7Ideal.Mix.final7]
  funext i
  obtain ⟨T, l, rfl⟩ : ∃ (T : Fin 8192) (l : Fin 1024), i = ix2 T l := ⟨i 0, i 1, by funext a; fin_cases a <;> rfl⟩
  exact (Cert.Reference7Ideal.Mix.v21_at (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) T l).symm

/-- The reference's result y over the kernel's arguments. -/
def refY := Cert.Reference7Ideal.Read.val_main_v23 (F := Ideal) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))

theorem sameY : (Cert.Kernel7Ideal.Gen.dats m 0 c).arrAt 8 Cert.Kernel7Ideal.cfg0.N = refY m c := by
  rw [Cert.Kernel7Ideal.Mix.final8]
  funext i
  obtain ⟨T, l, rfl⟩ : ∃ (T : Fin 8192) (l : Fin 2048), i = ix2 T l := ⟨i 0, i 1, by funext a; fin_cases a <;> rfl⟩
  exact (Cert.Reference7Ideal.Mix.v23_at (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) T l).symm

/-- The kernel's results are the reference's. -/
theorem algebraic : Cert.algebraic_Kernel7Ideal_Reference7Ideal := by
  intro m g m' g' _ hm
  refine ⟨refX m, refM m, refY m, ?_, ?_⟩
  · refine (θ_run Cert.Kernel7Ideal.defs _ _).mono (fun r h c => ?_) (Cert.Kernel7Ideal.Value.run_blocks (F := Ideal) m g)
    obtain ⟨k0, k1, k2, ka⟩ := h c
    exact ⟨k0.trans (sameX m c), k1.trans (sameM m c), k2.trans (sameY m c), ka⟩
  · refine (θ_run Cert.Reference7Ideal.defs _ _).mono (fun r h c => ?_) (Cert.Reference7Ideal.Value.run (F := Ideal) m' g')
    obtain ⟨h0, h1, h2, h3, h4, h5⟩ := hm c
    obtain ⟨r0, r1, r2, ra⟩ := h c
    exact ⟨r0.trans ((Cert.Reference7Ideal.Read.val_main_v19_eq _ _ _ _ _ _).trans (by rw [refX, h0, h1, h2, h3, h4, h5])),
      r1.trans ((Cert.Reference7Ideal.Read.val_main_v21_eq _ _ _ _).trans (by rw [refM, h1, h2, h3, h4])),
      r2.trans ((Cert.Reference7Ideal.Read.val_main_v23_eq _ _ _).trans (by rw [refY, h1, h2, h3])), ra⟩

end Cert.Mix
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Run
public import proofs.«01_k».proof.Proof.WordRun
public import proofs.«01_k».proof.Proof.Values
public import proofs.«01_k».proof.Proof.Finite
public import proofs.«01_k».proof.Proof.RefScores
public import proofs.«01_k».proof.Proof.WgradClaim
public import proofs.«01_k».proof.Proof.FfnClaim
public import proofs.«01_k».proof.Proof.DwinClaim
public import proofs.«01_k».proof.Proof.InprojClaim
public import proofs.«01_k».proof.Proof.DwoutClaim
public import proofs.«01_k».proof.Proof.MixClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Attn.frame_main (F := Bits) m ρ

theorem frame_p_finite : Cert.quiescent_Kernel_pre_finite := fun m ρ _ => Cert.Kernel.Attn.frame_main (F := Bits) m ρ

theorem frame_pi : Cert.quiescent_KernelIdeal := fun m ρ _ => Cert.KernelIdeal.Attn.frame_main (F := Ideal) m ρ

theorem frame_pi_finite : Cert.quiescent_KernelIdeal_pre_finite := fun m ρ _ =>
  Cert.KernelIdeal.Attn.frame_main (F := Ideal) m ρ

theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The two masks, -1e30 in the printed kernel, are the named constant at minus infinity. -/
theorem preserves : Cert.preserves_Kernel_KernelIdeal :=
  IdealRules.named_const.statement Cert.KernelIdeal.κ "mask" .f32 0xF149F2CA#32 ⊥ rfl

theorem frame_ri_finite : Cert.quiescent_ReferenceIdeal_pre_finite := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The two programs' results agree: the kernel's v48, the reference's v67. -/
theorem same_dqn (m : (ℓ : Loc Cert.KernelIdeal.nD Cert.KernelIdeal.τ Cert.KernelIdeal.sig) → Buf (Elt Ideal) ℓ) (c : Dev Cert.KernelIdeal.nD)
    (I : Cert.Attn.Inp) (hA : Cert.KernelIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    (Cert.KernelIdeal.Attn.done m c Cert.KernelIdeal.main_v48 : FVec Ideal Cert.KernelIdeal.S2x4096x8x64 .f32)
      = Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨M, hE⟩ := Cert.KernelIdeal.Attn.entry m c hA
  have hR : Cert.ReferenceIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    ⟨hA.qn, hA.qr, hA.kn, hA.kr, hA.v, hA.ct, hA.sc⟩
  funext i
  obtain ⟨a, b, d, e, rfl⟩ : ∃ (a : Fin 2) (b : Fin 4096) (d : Fin 8) (e : Fin 64), i = ix4 a b d e := ⟨i 0, i 1, i 2, i 3, by funext a; fin_cases a <;> rfl⟩
  exact (Cert.KernelIdeal.Attn.ker_dqn hE hA.sc a b d e).trans (Cert.ReferenceIdeal.Attn.ref_dqn hR a b d e).symm

/-- The two programs' results agree: the kernel's v49, the reference's v62. -/
theorem same_dqr (m : (ℓ : Loc Cert.KernelIdeal.nD Cert.KernelIdeal.τ Cert.KernelIdeal.sig) → Buf (Elt Ideal) ℓ) (c : Dev Cert.KernelIdeal.nD)
    (I : Cert.Attn.Inp) (hA : Cert.KernelIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    (Cert.KernelIdeal.Attn.done m c Cert.KernelIdeal.main_v49 : FVec Ideal Cert.KernelIdeal.S2x4096x8x32 .f32)
      = Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨M, hE⟩ := Cert.KernelIdeal.Attn.entry m c hA
  have hR : Cert.ReferenceIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    ⟨hA.qn, hA.qr, hA.kn, hA.kr, hA.v, hA.ct, hA.sc⟩
  funext i
  obtain ⟨a, b, d, e, rfl⟩ : ∃ (a : Fin 2) (b : Fin 4096) (d : Fin 8) (e : Fin 32), i = ix4 a b d e := ⟨i 0, i 1, i 2, i 3, by funext a; fin_cases a <;> rfl⟩
  exact (Cert.KernelIdeal.Attn.ker_dqr hE hA.sc a b d e).trans (Cert.ReferenceIdeal.Attn.ref_dqr hR a b d e).symm

/-- The two programs' results agree: the kernel's v50, the reference's v65. -/
theorem same_dkn (m : (ℓ : Loc Cert.KernelIdeal.nD Cert.KernelIdeal.τ Cert.KernelIdeal.sig) → Buf (Elt Ideal) ℓ) (c : Dev Cert.KernelIdeal.nD)
    (I : Cert.Attn.Inp) (hA : Cert.KernelIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    (Cert.KernelIdeal.Attn.done m c Cert.KernelIdeal.main_v50 : FVec Ideal Cert.KernelIdeal.S2x4096x8x64 .f32)
      = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨M, hE⟩ := Cert.KernelIdeal.Attn.entry m c hA
  have hR : Cert.ReferenceIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    ⟨hA.qn, hA.qr, hA.kn, hA.kr, hA.v, hA.ct, hA.sc⟩
  funext i
  obtain ⟨a, b, d, e, rfl⟩ : ∃ (a : Fin 2) (b : Fin 4096) (d : Fin 8) (e : Fin 64), i = ix4 a b d e := ⟨i 0, i 1, i 2, i 3, by funext a; fin_cases a <;> rfl⟩
  exact (Cert.KernelIdeal.Attn.ker_dkn hE a b d e).trans (Cert.ReferenceIdeal.Attn.ref_dkn hR a b d e).symm

/-- The two programs' results agree: the kernel's v52, the reference's v63. -/
theorem same_dkr (m : (ℓ : Loc Cert.KernelIdeal.nD Cert.KernelIdeal.τ Cert.KernelIdeal.sig) → Buf (Elt Ideal) ℓ) (c : Dev Cert.KernelIdeal.nD)
    (I : Cert.Attn.Inp) (hA : Cert.KernelIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    (Cert.KernelIdeal.Attn.done m c Cert.KernelIdeal.main_v52 : FVec Ideal Cert.KernelIdeal.S2x4096x32 .f32)
      = Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨M, hE⟩ := Cert.KernelIdeal.Attn.entry m c hA
  have hR : Cert.ReferenceIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    ⟨hA.qn, hA.qr, hA.kn, hA.kr, hA.v, hA.ct, hA.sc⟩
  funext i
  obtain ⟨a, b, d, rfl⟩ : ∃ (a : Fin 2) (b : Fin 4096) (d : Fin 32), i = ix3 a b d := ⟨i 0, i 1, i 2, by funext a; fin_cases a <;> rfl⟩
  exact (Cert.KernelIdeal.Attn.ker_dkr hE a b d).trans (Cert.ReferenceIdeal.Attn.ref_dkr hR a b d).symm

/-- The two programs' results agree: the kernel's v47, the reference's v45. -/
theorem same_dv (m : (ℓ : Loc Cert.KernelIdeal.nD Cert.KernelIdeal.τ Cert.KernelIdeal.sig) → Buf (Elt Ideal) ℓ) (c : Dev Cert.KernelIdeal.nD)
    (I : Cert.Attn.Inp) (hA : Cert.KernelIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    (Cert.KernelIdeal.Attn.done m c Cert.KernelIdeal.main_v47 : FVec Ideal Cert.KernelIdeal.S2x4096x8x128 .f32)
      = Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
  obtain ⟨M, hE⟩ := Cert.KernelIdeal.Attn.entry m c hA
  have hR : Cert.ReferenceIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    ⟨hA.qn, hA.qr, hA.kn, hA.kr, hA.v, hA.ct, hA.sc⟩
  funext i
  obtain ⟨a, b, d, e, rfl⟩ : ∃ (a : Fin 2) (b : Fin 4096) (d : Fin 8) (e : Fin 128), i = ix4 a b d e := ⟨i 0, i 1, i 2, i 3, by funext a; fin_cases a <;> rfl⟩
  exact (Cert.KernelIdeal.Attn.ker_dv hE a b d e).trans (Cert.ReferenceIdeal.Attn.ref_dv hR a b d e).symm

/-- The kernel's five gradients are the reference's, for finite arguments. -/
theorem algebraic : Cert.algebraic_KernelIdeal_ReferenceIdeal_pre_finite := by
  intro m g m' g' hpre hm
  have hI : ∀ c : Dev Cert.KernelIdeal.nD, ∃ I : Cert.Attn.Inp, Cert.KernelIdeal.Attn.Args I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    fun c => Cert.Pre_finite.Attn.inputs (congrFun (hpre c) ix0)
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Attn.run_main (F := Ideal) m g)
    obtain ⟨I, hA⟩ := hI c
    have hr := fun b hb => (h.1 c).2 b hb
    refine ⟨(hr Cert.KernelIdeal.main_v48 (Pipeline.mem_restRefs_of Cert.KernelIdeal.main_v48 (by decide) (by decide))).trans (same_dqn m c I hA),
      (hr Cert.KernelIdeal.main_v49 (Pipeline.mem_restRefs_of Cert.KernelIdeal.main_v49 (by decide) (by decide))).trans (same_dqr m c I hA),
      (hr Cert.KernelIdeal.main_v50 (Pipeline.mem_restRefs_of Cert.KernelIdeal.main_v50 (by decide) (by decide))).trans (same_dkn m c I hA),
      (hr Cert.KernelIdeal.main_v52 (Pipeline.mem_restRefs_of Cert.KernelIdeal.main_v52 (by decide) (by decide))).trans (same_dkr m c I hA),
      (hr Cert.KernelIdeal.main_v47 (Pipeline.mem_restRefs_of Cert.KernelIdeal.main_v47 (by decide) (by decide))).trans (same_dv m c I hA),
      (hr Cert.KernelIdeal.main_arg0 (Pipeline.mem_restRefs_of Cert.KernelIdeal.main_arg0 (by decide) (by decide))).trans (Cert.KernelIdeal.Gen.W_main_arg0 m (Cert.KernelIdeal.Attn.dats m) c),
      (hr Cert.KernelIdeal.main_arg1 (Pipeline.mem_restRefs_of Cert.KernelIdeal.main_arg1 (by decide) (by decide))).trans (Cert.KernelIdeal.Gen.W_main_arg1 m (Cert.KernelIdeal.Attn.dats m) c),
      (hr Cert.KernelIdeal.main_arg2 (Pipeline.mem_restRefs_of Cert.KernelIdeal.main_arg2 (by decide) (by decide))).trans (Cert.KernelIdeal.Gen.W_main_arg2 m (Cert.KernelIdeal.Attn.dats m) c),
      (hr Cert.KernelIdeal.main_arg3 (Pipeline.mem_restRefs_of Cert.KernelIdeal.main_arg3 (by decide) (by decide))).trans (Cert.KernelIdeal.Gen.W_main_arg3 m (Cert.KernelIdeal.Attn.dats m) c),
      (hr Cert.KernelIdeal.main_arg4 (Pipeline.mem_restRefs_of Cert.KernelIdeal.main_arg4 (by decide) (by decide))).trans (Cert.KernelIdeal.Gen.W_main_arg4 m (Cert.KernelIdeal.Attn.dats m) c),
      (hr Cert.KernelIdeal.main_arg5 (Pipeline.mem_restRefs_of Cert.KernelIdeal.main_arg5 (by decide) (by decide))).trans (Cert.KernelIdeal.Gen.W_main_arg5 m (Cert.KernelIdeal.Attn.dats m) c)⟩
  · refine (θ_run Cert.ReferenceIdeal.defs _ _).mono (fun r h c => ?_) (Cert.ReferenceIdeal.Value.run (F := Ideal) m' g')
    obtain ⟨h0, h1, h2, h3, h4, h5⟩ := hm c
    obtain ⟨r0, r1, r2, r3, r4, ra⟩ := h c
    refine ⟨r0.trans ((Cert.ReferenceIdeal.Read.val_main_v67_eq m' c).trans (by rw [h0, h1, h2, h3, h4, h5])),
      r1.trans ((Cert.ReferenceIdeal.Read.val_main_v62_eq m' c).trans (by rw [h0, h1, h2, h3, h4, h5])),
      r2.trans ((Cert.ReferenceIdeal.Read.val_main_v65_eq m' c).trans (by rw [h0, h1, h2, h3, h4, h5])),
      r3.trans ((Cert.ReferenceIdeal.Read.val_main_v63_eq m' c).trans (by rw [h0, h1, h2, h3, h4, h5])),
      r4.trans ((Cert.ReferenceIdeal.Read.val_main_v45_eq m' c).trans (by rw [h0, h1, h2, h3, h5])), ra⟩

theorem frame_p2 : Cert.quiescent_Kernel2 := fun m ρ _ => Cert.Kernel2.Gen.frame m ρ

theorem frame_p3 : Cert.quiescent_Kernel3 := fun m ρ _ => Cert.Kernel3.Gen.frame m ρ

theorem frame_p4 : Cert.quiescent_Kernel4 := fun m ρ _ => Cert.Kernel4.Gen.frame m ρ

theorem frame_p5 : Cert.quiescent_Kernel5 := fun m ρ _ => Cert.Kernel5.Gen.frame m ρ

theorem frame_p6 : Cert.quiescent_Kernel6 := fun m ρ _ => Cert.Kernel6.Gen.frame m ρ

theorem frame_p7 : Cert.quiescent_Kernel7 := fun m ρ _ => Cert.Kernel7.Gen.frame m ρ

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Pre_finite.Gen.facts,
    frame_p, frame_p_finite, frame_pi, frame_pi_finite, frame_ri, frame_ri_finite, frame_p2, Cert.Wgrad.frame_pi, Cert.Wgrad.frame_ri,
    frame_p3, Cert.Ffn.frame_pi, Cert.Ffn.frame_ri, frame_p4, Cert.Dwin.frame_pi, Cert.Dwin.frame_ri,
    frame_p5, Cert.Inproj.frame_pi, Cert.Inproj.frame_ri, frame_p6, Cert.Dwout.frame_pi, Cert.Dwout.frame_ri,
    frame_p7, Cert.Mix.frame_pi, Cert.Mix.frame_ri,
    preserves, algebraic, trivial, Cert.Wgrad.algebraic, trivial, Cert.Ffn.algebraic, trivial, Cert.Dwin.algebraic,
    trivial, Cert.Inproj.algebraic, trivial, Cert.Dwout.algebraic, trivial, Cert.Mix.algebraic⟩

end Cert.Proof

end
